-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S4x256x1024 : Shape := ⟨3, ![4, 256, 1024]⟩
abbrev S1024x1024 : Shape := ⟨2, ![1024, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_inputs_ReferenceIdeal.lean ====
abbrev S4x256x1024 : Shape := ⟨3, ![4, 256, 1024]⟩
abbrev S1024x16384 : Shape := ⟨2, ![1024, 16384]⟩
abbrev S16384x1024 : Shape := ⟨2, ![16384, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S4x256x1024 .f32) (main_arg1 : FVec F S1024x16384 .f32) (main_arg2 : FVec F S1024x16384 .f32) (main_arg3 : FVec F S1024x16384 .f32) (main_arg4 : FVec F S16384x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S8x256x512 : Shape := ⟨3, ![8, 256, 512]⟩
abbrev S8x240x512 : Shape := ⟨3, ![8, 240, 512]⟩
abbrev S64 : Shape := ⟨1, ![64]⟩
abbrev S_ : Shape := ⟨0, ![]⟩
abbrev S1x256x1024 : Shape := ⟨3, ![1, 256, 1024]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S1 : Shape := ⟨1, ![1]⟩
abbrev S1x128x512 : Shape := ⟨3, ![1, 128, 512]⟩
abbrev S128x512 : Shape := ⟨2, ![128, 512]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S1x16x512 : Shape := ⟨3, ![1, 16, 512]⟩
abbrev S16x512 : Shape := ⟨2, ![16, 512]⟩

abbrev nBuf : Space → Nat
  | .hbm => 6
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x256x512, .bf16⟩
  | .local _ .vmem, ⟨15, _⟩ => ⟨S8x256x512, .bf16⟩
  | .local _ .vmem, ⟨16, _⟩ => ⟨S8x240x512, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_8 : BitVec 32 := 1#32
  let v16 : BitVec 32 := Scalar.muli v11 c1_i32_8
  let v17 : BitVec 32 := Scalar.addi c0_i32 v16
  v17.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_10 : BitVec 32 := 1#32
  let v18 : BitVec 32 := Scalar.muli v12 c1_i32_10
  let v19 : BitVec 32 := Scalar.addi c0_i32_11 v18
  v19.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_13 : BitVec 32 := 1#32
  let v20 : BitVec 32 := Scalar.muli v13 c1_i32_13
  let v21 : BitVec 32 := Scalar.addi c0_i32_14 v20
  v21.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_16 : BitVec 32 := 1#32
  let v22 : BitVec 32 := Scalar.muli v14 c1_i32_16
  let v23 : BitVec 32 := Scalar.addi c0_i32_17 v22
  v23.toNat
def k0_off1 (d0 : Dev nD) : Fin 3 → Nat :=
  let c0_i32_165 : BitVec 32 := 0#32
  let c0_i32_164 : BitVec 32 := 0#32
  let c1_i32_163 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v251 : BitVec 32 := Scalar.subi c1_i32_163 v10
  let c128_i32 : BitVec 32 := 128#32
  let v252 : BitVec 32 := Scalar.muli v251 c128_i32
  let v253 : BitVec 32 := Scalar.addi c0_i32_164 v252
  let c0_i32_173 : BitVec 32 := 0#32
  ![0, v253.toNat, 0]
def k0_dev5 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_169 : BitVec 32 := 1#32
  let v254 : BitVec 32 := Scalar.muli v11 c1_i32_169
  let v255 : BitVec 32 := Scalar.addi c0_i32_170 v254
  v255.toNat
def k0_off2 (d0 : Dev nD) : Fin 3 → Nat :=
  let c1_i32_177 : BitVec 32 := 1#32
  let c0_i32_176 : BitVec 32 := 0#32
  let c1_i32_174 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let v264 : BitVec 32 := Scalar.subi c1_i32_174 v7
  let c128_i32_175 : BitVec 32 := 128#32
  let v265 : BitVec 32 := Scalar.muli v264 c128_i32_175
  let v266 : BitVec 32 := Scalar.addi c0_i32_176 v265
  let c0_i32_185 : BitVec 32 := 0#32
  ![1, v266.toNat, 0]
def k0_dev6 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_181 : BitVec 32 := 1#32
  let v267 : BitVec 32 := Scalar.muli v13 c1_i32_181
  let v268 : BitVec 32 := Scalar.addi c0_i32_182 v267
  v268.toNat
def k0_off3 (d0 : Dev nD) : Fin 3 → Nat :=
  let c2_i32_325 : BitVec 32 := 2#32
  let c0_i32_324 : BitVec 32 := 0#32
  let c1_i32_322 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v480 : BitVec 32 := Scalar.subi c1_i32_322 v10
  let c128_i32_323 : BitVec 32 := 128#32
  let v481 : BitVec 32 := Scalar.muli v480 c128_i32_323
  let v482 : BitVec 32 := Scalar.addi c0_i32_324 v481
  let c0_i32_333 : BitVec 32 := 0#32
  ![2, v482.toNat, 0]
def k0_dev7 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_329 : BitVec 32 := 1#32
  let v483 : BitVec 32 := Scalar.muli v11 c1_i32_329
  let v484 : BitVec 32 := Scalar.addi c0_i32_330 v483
  v484.toNat
def k0_off4 (d0 : Dev nD) : Fin 3 → Nat :=
  let c3_i32_337 : BitVec 32 := 3#32
  let c0_i32_336 : BitVec 32 := 0#32
  let c1_i32_334 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let v493 : BitVec 32 := Scalar.subi c1_i32_334 v7
  let c128_i32_335 : BitVec 32 := 128#32
  let v494 : BitVec 32 := Scalar.muli v493 c128_i32_335
  let v495 : BitVec 32 := Scalar.addi c0_i32_336 v494
  let c0_i32_344 : BitVec 32 := 0#32
  ![3, v495.toNat, 0]
def k0_dev8 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_340 : BitVec 32 := 1#32
  let v496 : BitVec 32 := Scalar.muli v13 c1_i32_340
  let v497 : BitVec 32 := Scalar.addi c0_i32_341 v496
  v497.toNat
def k0_off5 (d0 : Dev nD) : Fin 3 → Nat :=
  let c0_364 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let v522 : Index := Scalar.indexCast v521
  let c0_365 : Index := 0#32
  ![0, v522.toNat, 0]
def k0_off6 (d0 : Dev nD) : Fin 3 → Nat :=
  let c0_i32_372 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c1_i32_371 : BitVec 32 := 1#32
  let v535 : BitVec 32 := Scalar.subi c1_i32_371 v5
  let c64_i32 : BitVec 32 := 64#32
  let v536 : BitVec 32 := Scalar.muli v535 c64_i32
  let v537 : BitVec 32 := Scalar.addi v521 v536
  let c0_i32_380 : BitVec 32 := 0#32
  ![0, v537.toNat, 0]
def k0_dev9 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_376 : BitVec 32 := 1#32
  let v538 : BitVec 32 := Scalar.muli v12 c1_i32_376
  let v539 : BitVec 32 := Scalar.addi c0_i32_377 v538
  v539.toNat
def k0_off7 (d0 : Dev nD) : Fin 3 → Nat :=
  let c1_400 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let v564 : Index := Scalar.indexCast v563
  let c0_401 : Index := 0#32
  ![1, v564.toNat, 0]
def k0_off8 (d0 : Dev nD) : Fin 3 → Nat :=
  let c1_i32_409 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c1_i32_407 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v577 : BitVec 32 := Scalar.subi c1_i32_407 v9
  let c64_i32_408 : BitVec 32 := 64#32
  let v578 : BitVec 32 := Scalar.muli v577 c64_i32_408
  let v579 : BitVec 32 := Scalar.addi v563 v578
  let c0_i32_416 : BitVec 32 := 0#32
  ![1, v579.toNat, 0]
def k0_dev10 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_412 : BitVec 32 := 1#32
  let v580 : BitVec 32 := Scalar.muli v14 c1_i32_412
  let v581 : BitVec 32 := Scalar.addi c0_i32_413 v580
  v581.toNat
def k0_off9 (d0 : Dev nD) : Fin 3 → Nat :=
  let c4_i32_556 : BitVec 32 := 4#32
  let c0_i32_555 : BitVec 32 := 0#32
  let c1_i32_553 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v793 : BitVec 32 := Scalar.subi c1_i32_553 v10
  let c128_i32_554 : BitVec 32 := 128#32
  let v794 : BitVec 32 := Scalar.muli v793 c128_i32_554
  let v795 : BitVec 32 := Scalar.addi c0_i32_555 v794
  let c0_i32_563 : BitVec 32 := 0#32
  ![4, v795.toNat, 0]
def k0_dev11 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_559 : BitVec 32 := 1#32
  let v796 : BitVec 32 := Scalar.muli v11 c1_i32_559
  let v797 : BitVec 32 := Scalar.addi c0_i32_560 v796
  v797.toNat
def k0_off10 (d0 : Dev nD) : Fin 3 → Nat :=
  let c5_i32 : BitVec 32 := 5#32
  let c0_i32_566 : BitVec 32 := 0#32
  let c1_i32_564 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let v806 : BitVec 32 := Scalar.subi c1_i32_564 v7
  let c128_i32_565 : BitVec 32 := 128#32
  let v807 : BitVec 32 := Scalar.muli v806 c128_i32_565
  let v808 : BitVec 32 := Scalar.addi c0_i32_566 v807
  let c0_i32_573 : BitVec 32 := 0#32
  ![5, v808.toNat, 0]
def k0_dev12 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_569 : BitVec 32 := 1#32
  let v809 : BitVec 32 := Scalar.muli v13 c1_i32_569
  let v810 : BitVec 32 := Scalar.addi c0_i32_570 v809
  v810.toNat
def k0_off11 (d0 : Dev nD) : Fin 3 → Nat :=
  let c0_592 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let v835 : Index := Scalar.indexCast v834
  let c0_593 : Index := 0#32
  ![0, v835.toNat, 0]
def k0_off12 (d0 : Dev nD) : Fin 3 → Nat :=
  let c0_i32_601 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c1_i32_599 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v848 : BitVec 32 := Scalar.subi c1_i32_599 v7
  let c32_i32_600 : BitVec 32 := 32#32
  let v849 : BitVec 32 := Scalar.muli v848 c32_i32_600
  let v850 : BitVec 32 := Scalar.addi v834 v849
  let c0_i32_608 : BitVec 32 := 0#32
  ![0, v850.toNat, 0]
def k0_dev13 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_605 : BitVec 32 := 1#32
  let v851 : BitVec 32 := Scalar.muli v13 c1_i32_605
  let v852 : BitVec 32 := Scalar.addi c0_i32_606 v851
  v852.toNat
def k0_off13 (d0 : Dev nD) : Fin 3 → Nat :=
  let c1_627 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let v877 : Index := Scalar.indexCast v876
  let c0_628 : Index := 0#32
  ![1, v877.toNat, 0]
def k0_off14 (d0 : Dev nD) : Fin 3 → Nat :=
  let c1_i32_636 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_634 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v890 : BitVec 32 := Scalar.subi c1_i32_634 v10
  let c32_i32_635 : BitVec 32 := 32#32
  let v891 : BitVec 32 := Scalar.muli v890 c32_i32_635
  let v892 : BitVec 32 := Scalar.addi v876 v891
  let c0_i32_643 : BitVec 32 := 0#32
  ![1, v892.toNat, 0]
def k0_dev14 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_639 : BitVec 32 := 1#32
  let v893 : BitVec 32 := Scalar.muli v11 c1_i32_639
  let v894 : BitVec 32 := Scalar.addi c0_i32_640 v893
  v894.toNat
def k0_off15 (d0 : Dev nD) : Fin 3 → Nat :=
  let c2_663 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let v919 : Index := Scalar.indexCast v918
  let c0_664 : Index := 0#32
  ![2, v919.toNat, 0]
def k0_off16 (d0 : Dev nD) : Fin 3 → Nat :=
  let c2_i32_672 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c1_i32_670 : BitVec 32 := 1#32
  let v932 : BitVec 32 := Scalar.subi c1_i32_670 v5
  let c64_i32_671 : BitVec 32 := 64#32
  let v933 : BitVec 32 := Scalar.muli v932 c64_i32_671
  let v934 : BitVec 32 := Scalar.addi v918 v933
  let c0_i32_679 : BitVec 32 := 0#32
  ![2, v934.toNat, 0]
def k0_dev15 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_675 : BitVec 32 := 1#32
  let v935 : BitVec 32 := Scalar.muli v12 c1_i32_675
  let v936 : BitVec 32 := Scalar.addi c0_i32_676 v935
  v936.toNat
def k0_off17 (d0 : Dev nD) : Fin 3 → Nat :=
  let c3_699 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let v961 : Index := Scalar.indexCast v960
  let c0_700 : Index := 0#32
  ![3, v961.toNat, 0]
def k0_off18 (d0 : Dev nD) : Fin 3 → Nat :=
  let c3_i32_708 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c1_i32_706 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v974 : BitVec 32 := Scalar.subi c1_i32_706 v9
  let c64_i32_707 : BitVec 32 := 64#32
  let v975 : BitVec 32 := Scalar.muli v974 c64_i32_707
  let v976 : BitVec 32 := Scalar.addi v960 v975
  let c0_i32_715 : BitVec 32 := 0#32
  ![3, v976.toNat, 0]
def k0_dev16 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_711 : BitVec 32 := 1#32
  let v977 : BitVec 32 := Scalar.muli v14 c1_i32_711
  let v978 : BitVec 32 := Scalar.addi c0_i32_712 v977
  v978.toNat
def k0_off19 (d0 : Dev nD) : Fin 3 → Nat :=
  let c6_i32 : BitVec 32 := 6#32
  let c0_i32_854 : BitVec 32 := 0#32
  let c1_i32_852 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v1190 : BitVec 32 := Scalar.subi c1_i32_852 v10
  let c128_i32_853 : BitVec 32 := 128#32
  let v1191 : BitVec 32 := Scalar.muli v1190 c128_i32_853
  let v1192 : BitVec 32 := Scalar.addi c0_i32_854 v1191
  let c0_i32_861 : BitVec 32 := 0#32
  ![6, v1192.toNat, 0]
def k0_dev17 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_857 : BitVec 32 := 1#32
  let v1193 : BitVec 32 := Scalar.muli v11 c1_i32_857
  let v1194 : BitVec 32 := Scalar.addi c0_i32_858 v1193
  v1194.toNat
def k0_off20 (d0 : Dev nD) : Fin 3 → Nat :=
  let c7_i32 : BitVec 32 := 7#32
  let c0_i32_864 : BitVec 32 := 0#32
  let c1_i32_862 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let v1203 : BitVec 32 := Scalar.subi c1_i32_862 v7
  let c128_i32_863 : BitVec 32 := 128#32
  let v1204 : BitVec 32 := Scalar.muli v1203 c128_i32_863
  let v1205 : BitVec 32 := Scalar.addi c0_i32_864 v1204
  let c0_i32_871 : BitVec 32 := 0#32
  ![7, v1205.toNat, 0]
def k0_dev18 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_867 : BitVec 32 := 1#32
  let v1206 : BitVec 32 := Scalar.muli v13 c1_i32_867
  let v1207 : BitVec 32 := Scalar.addi c0_i32_868 v1206
  v1207.toNat
def k0_off21 (d0 : Dev nD) : Fin 3 → Nat :=
  let c0_890 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let v1232 : Index := Scalar.indexCast v1231
  let c0_891 : Index := 0#32
  ![0, v1232.toNat, 0]
def k0_off22 (d0 : Dev nD) : Fin 3 → Nat :=
  let c0_i32_898 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c1_i32_896 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v1245 : BitVec 32 := Scalar.subi c1_i32_896 v9
  let c16_i32_897 : BitVec 32 := 16#32
  let v1246 : BitVec 32 := Scalar.muli v1245 c16_i32_897
  let v1247 : BitVec 32 := Scalar.addi v1231 v1246
  let c0_i32_905 : BitVec 32 := 0#32
  ![0, v1247.toNat, 0]
def k0_dev19 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_902 : BitVec 32 := 1#32
  let v1248 : BitVec 32 := Scalar.muli v14 c1_i32_902
  let v1249 : BitVec 32 := Scalar.addi c0_i32_903 v1248
  v1249.toNat
def k0_off23 (d0 : Dev nD) : Fin 3 → Nat :=
  let c1_924 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let v1274 : Index := Scalar.indexCast v1273
  let c0_925 : Index := 0#32
  ![1, v1274.toNat, 0]
def k0_off24 (d0 : Dev nD) : Fin 3 → Nat :=
  let c1_i32_933 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c1_i32_931 : BitVec 32 := 1#32
  let v1287 : BitVec 32 := Scalar.subi c1_i32_931 v5
  let c16_i32_932 : BitVec 32 := 16#32
  let v1288 : BitVec 32 := Scalar.muli v1287 c16_i32_932
  let v1289 : BitVec 32 := Scalar.addi v1273 v1288
  let c0_i32_940 : BitVec 32 := 0#32
  ![1, v1289.toNat, 0]
def k0_dev20 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_936 : BitVec 32 := 1#32
  let v1290 : BitVec 32 := Scalar.muli v12 c1_i32_936
  let v1291 : BitVec 32 := Scalar.addi c0_i32_937 v1290
  v1291.toNat
def k0_off25 (d0 : Dev nD) : Fin 3 → Nat :=
  let c2_959 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let v1316 : Index := Scalar.indexCast v1315
  let c0_960 : Index := 0#32
  ![2, v1316.toNat, 0]
def k0_off26 (d0 : Dev nD) : Fin 3 → Nat :=
  let c2_i32_968 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c1_i32_966 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v1329 : BitVec 32 := Scalar.subi c1_i32_966 v7
  let c32_i32_967 : BitVec 32 := 32#32
  let v1330 : BitVec 32 := Scalar.muli v1329 c32_i32_967
  let v1331 : BitVec 32 := Scalar.addi v1315 v1330
  let c0_i32_975 : BitVec 32 := 0#32
  ![2, v1331.toNat, 0]
def k0_dev21 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_971 : BitVec 32 := 1#32
  let v1332 : BitVec 32 := Scalar.muli v13 c1_i32_971
  let v1333 : BitVec 32 := Scalar.addi c0_i32_972 v1332
  v1333.toNat
def k0_off27 (d0 : Dev nD) : Fin 3 → Nat :=
  let c3_994 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let v1358 : Index := Scalar.indexCast v1357
  let c0_995 : Index := 0#32
  ![3, v1358.toNat, 0]
def k0_off28 (d0 : Dev nD) : Fin 3 → Nat :=
  let c3_i32_1003 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_1001 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v1371 : BitVec 32 := Scalar.subi c1_i32_1001 v10
  let c32_i32_1002 : BitVec 32 := 32#32
  let v1372 : BitVec 32 := Scalar.muli v1371 c32_i32_1002
  let v1373 : BitVec 32 := Scalar.addi v1357 v1372
  let c0_i32_1010 : BitVec 32 := 0#32
  ![3, v1373.toNat, 0]
def k0_dev22 (d0 : Dev nD) : Nat :=
  let c0_i32_1007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_1006 : BitVec 32 := 1#32
  let v1374 : BitVec 32 := Scalar.muli v11 c1_i32_1006
  let v1375 : BitVec 32 := Scalar.addi c0_i32_1007 v1374
  v1375.toNat
def k0_off29 (d0 : Dev nD) : Fin 3 → Nat :=
  let c4_1030 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let v1400 : Index := Scalar.indexCast v1399
  let c0_1031 : Index := 0#32
  ![4, v1400.toNat, 0]
def k0_off30 (d0 : Dev nD) : Fin 3 → Nat :=
  let c4_i32_1039 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c1_i32_1037 : BitVec 32 := 1#32
  let v1413 : BitVec 32 := Scalar.subi c1_i32_1037 v5
  let c64_i32_1038 : BitVec 32 := 64#32
  let v1414 : BitVec 32 := Scalar.muli v1413 c64_i32_1038
  let v1415 : BitVec 32 := Scalar.addi v1399 v1414
  let c0_i32_1046 : BitVec 32 := 0#32
  ![4, v1415.toNat, 0]
def k0_dev23 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1042 : BitVec 32 := 1#32
  let v1416 : BitVec 32 := Scalar.muli v12 c1_i32_1042
  let v1417 : BitVec 32 := Scalar.addi c0_i32_1043 v1416
  v1417.toNat
def k0_off31 (d0 : Dev nD) : Fin 3 → Nat :=
  let c5_1066 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let v1442 : Index := Scalar.indexCast v1441
  let c0_1067 : Index := 0#32
  ![5, v1442.toNat, 0]
def k0_off32 (d0 : Dev nD) : Fin 3 → Nat :=
  let c5_i32_1075 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c1_i32_1073 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v1455 : BitVec 32 := Scalar.subi c1_i32_1073 v9
  let c64_i32_1074 : BitVec 32 := 64#32
  let v1456 : BitVec 32 := Scalar.muli v1455 c64_i32_1074
  let v1457 : BitVec 32 := Scalar.addi v1441 v1456
  let c0_i32_1082 : BitVec 32 := 0#32
  ![5, v1457.toNat, 0]
def k0_dev24 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1078 : BitVec 32 := 1#32
  let v1458 : BitVec 32 := Scalar.muli v14 c1_i32_1078
  let v1459 : BitVec 32 := Scalar.addi c0_i32_1079 v1458
  v1459.toNat
def k0_off33 (d0 : Dev nD) : Fin 3 → Nat :=
  let c6_1102 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let v1484 : Index := Scalar.indexCast v1483
  let c0_1103 : Index := 0#32
  ![6, v1484.toNat, 0]
def k0_off34 (d0 : Dev nD) : Fin 3 → Nat :=
  let c6_i32_1111 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c1_i32_1109 : BitVec 32 := 1#32
  let v1497 : BitVec 32 := Scalar.subi c1_i32_1109 v5
  let c64_i32_1110 : BitVec 32 := 64#32
  let v1498 : BitVec 32 := Scalar.muli v1497 c64_i32_1110
  let v1499 : BitVec 32 := Scalar.addi v1483 v1498
  let c0_i32_1118 : BitVec 32 := 0#32
  ![6, v1499.toNat, 0]
def k0_dev25 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1114 : BitVec 32 := 1#32
  let v1500 : BitVec 32 := Scalar.muli v12 c1_i32_1114
  let v1501 : BitVec 32 := Scalar.addi c0_i32_1115 v1500
  v1501.toNat
def k0_off35 (d0 : Dev nD) : Fin 3 → Nat :=
  let c7_1138 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let v1526 : Index := Scalar.indexCast v1525
  let c0_1139 : Index := 0#32
  ![7, v1526.toNat, 0]
def k0_off36 (d0 : Dev nD) : Fin 3 → Nat :=
  let c7_i32_1147 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c1_i32_1145 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v1539 : BitVec 32 := Scalar.subi c1_i32_1145 v9
  let c64_i32_1146 : BitVec 32 := 64#32
  let v1540 : BitVec 32 := Scalar.muli v1539 c64_i32_1146
  let v1541 : BitVec 32 := Scalar.addi v1525 v1540
  let c0_i32_1154 : BitVec 32 := 0#32
  ![7, v1541.toNat, 0]
def k0_dev26 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1150 : BitVec 32 := 1#32
  let v1542 : BitVec 32 := Scalar.muli v14 c1_i32_1150
  let v1543 : BitVec 32 := Scalar.addi c0_i32_1151 v1542
  v1543.toNat
def k0_off37 (d0 : Dev nD) : Fin 3 → Nat :=
  let c4_1173 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let v1568 : Index := Scalar.indexCast v1567
  let c0_1174 : Index := 0#32
  ![4, v1568.toNat, 0]
def k0_off38 (d0 : Dev nD) : Fin 3 → Nat :=
  let c4_i32_1182 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c1_i32_1180 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v1581 : BitVec 32 := Scalar.subi c1_i32_1180 v7
  let c32_i32_1181 : BitVec 32 := 32#32
  let v1582 : BitVec 32 := Scalar.muli v1581 c32_i32_1181
  let v1583 : BitVec 32 := Scalar.addi v1567 v1582
  let c0_i32_1189 : BitVec 32 := 0#32
  ![4, v1583.toNat, 0]
def k0_dev27 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_1185 : BitVec 32 := 1#32
  let v1584 : BitVec 32 := Scalar.muli v13 c1_i32_1185
  let v1585 : BitVec 32 := Scalar.addi c0_i32_1186 v1584
  v1585.toNat
def k0_off39 (d0 : Dev nD) : Fin 3 → Nat :=
  let c5_1208 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let v1610 : Index := Scalar.indexCast v1609
  let c0_1209 : Index := 0#32
  ![5, v1610.toNat, 0]
def k0_off40 (d0 : Dev nD) : Fin 3 → Nat :=
  let c5_i32_1217 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_1215 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v1623 : BitVec 32 := Scalar.subi c1_i32_1215 v10
  let c32_i32_1216 : BitVec 32 := 32#32
  let v1624 : BitVec 32 := Scalar.muli v1623 c32_i32_1216
  let v1625 : BitVec 32 := Scalar.addi v1609 v1624
  let c0_i32_1224 : BitVec 32 := 0#32
  ![5, v1625.toNat, 0]
def k0_dev28 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_1220 : BitVec 32 := 1#32
  let v1626 : BitVec 32 := Scalar.muli v11 c1_i32_1220
  let v1627 : BitVec 32 := Scalar.addi c0_i32_1221 v1626
  v1627.toNat
def k0_off41 (d0 : Dev nD) : Fin 3 → Nat :=
  let c2_1243 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let v1652 : Index := Scalar.indexCast v1651
  let c0_1244 : Index := 0#32
  ![2, v1652.toNat, 0]
def k0_off42 (d0 : Dev nD) : Fin 3 → Nat :=
  let c2_i32_1252 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c1_i32_1250 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v1665 : BitVec 32 := Scalar.subi c1_i32_1250 v9
  let c16_i32_1251 : BitVec 32 := 16#32
  let v1666 : BitVec 32 := Scalar.muli v1665 c16_i32_1251
  let v1667 : BitVec 32 := Scalar.addi v1651 v1666
  let c0_i32_1259 : BitVec 32 := 0#32
  ![2, v1667.toNat, 0]
def k0_dev29 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1255 : BitVec 32 := 1#32
  let v1668 : BitVec 32 := Scalar.muli v14 c1_i32_1255
  let v1669 : BitVec 32 := Scalar.addi c0_i32_1256 v1668
  v1669.toNat
def k0_off43 (d0 : Dev nD) : Fin 3 → Nat :=
  let c3_1278 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let v1694 : Index := Scalar.indexCast v1693
  let c0_1279 : Index := 0#32
  ![3, v1694.toNat, 0]
def k0_off44 (d0 : Dev nD) : Fin 3 → Nat :=
  let c3_i32_1287 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c1_i32_1285 : BitVec 32 := 1#32
  let v1707 : BitVec 32 := Scalar.subi c1_i32_1285 v5
  let c16_i32_1286 : BitVec 32 := 16#32
  let v1708 : BitVec 32 := Scalar.muli v1707 c16_i32_1286
  let v1709 : BitVec 32 := Scalar.addi v1693 v1708
  let c0_i32_1294 : BitVec 32 := 0#32
  ![3, v1709.toNat, 0]
def k0_dev30 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1290 : BitVec 32 := 1#32
  let v1710 : BitVec 32 := Scalar.muli v12 c1_i32_1290
  let v1711 : BitVec 32 := Scalar.addi c0_i32_1291 v1710
  v1711.toNat
def k0_off45 (d0 : Dev nD) : Fin 3 → Nat :=
  let c0_1313 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let v1736 : Index := Scalar.indexCast v1735
  let c0_1314 : Index := 0#32
  ![0, v1736.toNat, 0]
def k0_off46 (d0 : Dev nD) : Fin 3 → Nat :=
  let c0_i32_1324 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c0_i32_1329 : BitVec 32 := 0#32
  ![0, v1735.toNat, 0]
def k0_dev31 (d0 : Dev nD) : Nat :=
  let c0_i32_1328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1327 : BitVec 32 := 1#32
  let v1756 : BitVec 32 := Scalar.muli v14 c1_i32_1327
  let v1757 : BitVec 32 := Scalar.addi c0_i32_1328 v1756
  v1757.toNat
def k0_off47 (d0 : Dev nD) : Fin 3 → Nat :=
  let c1_1349 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let v1782 : Index := Scalar.indexCast v1781
  let c0_1350 : Index := 0#32
  ![1, v1782.toNat, 0]
def k0_off48 (d0 : Dev nD) : Fin 3 → Nat :=
  let c1_i32_1361 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c0_i32_1365 : BitVec 32 := 0#32
  ![1, v1781.toNat, 0]
def k0_dev32 (d0 : Dev nD) : Nat :=
  let c0_i32_1364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1363 : BitVec 32 := 1#32
  let v1802 : BitVec 32 := Scalar.muli v12 c1_i32_1363
  let v1803 : BitVec 32 := Scalar.addi c0_i32_1364 v1802
  v1803.toNat
def k0_off49 (d0 : Dev nD) (c0_i32_1369 : BitVec 32) : Fin 2 → Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let v1816 : BitVec 32 := Scalar.addi c0_i32_1369 v1735
  let v1817 : Index := Scalar.indexCast v1816
  let c0_1370 : Index := 0#32
  ![v1817.toNat, 0]
def k0_off50 (d0 : Dev nD) (c0_i32_1373 : BitVec 32) : Fin 2 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let v1823 : BitVec 32 := Scalar.addi c0_i32_1373 v1781
  let v1824 : Index := Scalar.indexCast v1823
  let c512_1374 : Index := 512#32
  ![v1824.toNat, 512]
def k0_off51 (d0 : Dev nD) : Fin 3 → Nat :=
  let c6_1393 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let v1842 : Index := Scalar.indexCast v1841
  let c0_1394 : Index := 0#32
  ![6, v1842.toNat, 0]
def k0_off52 (d0 : Dev nD) : Fin 3 → Nat :=
  let c6_i32_1402 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c1_i32_1400 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v1855 : BitVec 32 := Scalar.subi c1_i32_1400 v7
  let c32_i32_1401 : BitVec 32 := 32#32
  let v1856 : BitVec 32 := Scalar.muli v1855 c32_i32_1401
  let v1857 : BitVec 32 := Scalar.addi v1841 v1856
  let c0_i32_1409 : BitVec 32 := 0#32
  ![6, v1857.toNat, 0]
def k0_dev33 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_1405 : BitVec 32 := 1#32
  let v1858 : BitVec 32 := Scalar.muli v13 c1_i32_1405
  let v1859 : BitVec 32 := Scalar.addi c0_i32_1406 v1858
  v1859.toNat
def k0_off53 (d0 : Dev nD) : Fin 3 → Nat :=
  let c7_1428 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let v1884 : Index := Scalar.indexCast v1883
  let c0_1429 : Index := 0#32
  ![7, v1884.toNat, 0]
def k0_off54 (d0 : Dev nD) : Fin 3 → Nat :=
  let c7_i32_1437 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_1435 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let v1897 : BitVec 32 := Scalar.subi c1_i32_1435 v10
  let c32_i32_1436 : BitVec 32 := 32#32
  let v1898 : BitVec 32 := Scalar.muli v1897 c32_i32_1436
  let v1899 : BitVec 32 := Scalar.addi v1883 v1898
  let c0_i32_1444 : BitVec 32 := 0#32
  ![7, v1899.toNat, 0]
def k0_dev34 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_1440 : BitVec 32 := 1#32
  let v1900 : BitVec 32 := Scalar.muli v11 c1_i32_1440
  let v1901 : BitVec 32 := Scalar.addi c0_i32_1441 v1900
  v1901.toNat
def k0_off55 (d0 : Dev nD) : Fin 3 → Nat :=
  let c4_1463 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let v1926 : Index := Scalar.indexCast v1925
  let c0_1464 : Index := 0#32
  ![4, v1926.toNat, 0]
def k0_off56 (d0 : Dev nD) : Fin 3 → Nat :=
  let c4_i32_1472 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c1_i32_1470 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v1939 : BitVec 32 := Scalar.subi c1_i32_1470 v9
  let c16_i32_1471 : BitVec 32 := 16#32
  let v1940 : BitVec 32 := Scalar.muli v1939 c16_i32_1471
  let v1941 : BitVec 32 := Scalar.addi v1925 v1940
  let c0_i32_1479 : BitVec 32 := 0#32
  ![4, v1941.toNat, 0]
def k0_dev35 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1475 : BitVec 32 := 1#32
  let v1942 : BitVec 32 := Scalar.muli v14 c1_i32_1475
  let v1943 : BitVec 32 := Scalar.addi c0_i32_1476 v1942
  v1943.toNat
def k0_off57 (d0 : Dev nD) : Fin 3 → Nat :=
  let c5_1498 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let v1968 : Index := Scalar.indexCast v1967
  let c0_1499 : Index := 0#32
  ![5, v1968.toNat, 0]
def k0_off58 (d0 : Dev nD) : Fin 3 → Nat :=
  let c5_i32_1507 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c1_i32_1505 : BitVec 32 := 1#32
  let v1981 : BitVec 32 := Scalar.subi c1_i32_1505 v5
  let c16_i32_1506 : BitVec 32 := 16#32
  let v1982 : BitVec 32 := Scalar.muli v1981 c16_i32_1506
  let v1983 : BitVec 32 := Scalar.addi v1967 v1982
  let c0_i32_1514 : BitVec 32 := 0#32
  ![5, v1983.toNat, 0]
def k0_dev36 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1510 : BitVec 32 := 1#32
  let v1984 : BitVec 32 := Scalar.muli v12 c1_i32_1510
  let v1985 : BitVec 32 := Scalar.addi c0_i32_1511 v1984
  v1985.toNat
def k0_off59 (d0 : Dev nD) : Fin 3 → Nat :=
  let c2_1533 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let v2010 : Index := Scalar.indexCast v2009
  let c0_1534 : Index := 0#32
  ![2, v2010.toNat, 0]
def k0_off60 (d0 : Dev nD) : Fin 3 → Nat :=
  let c2_i32_1545 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c0_i32_1549 : BitVec 32 := 0#32
  ![2, v2009.toNat, 0]
def k0_dev37 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1547 : BitVec 32 := 1#32
  let v2030 : BitVec 32 := Scalar.muli v14 c1_i32_1547
  let v2031 : BitVec 32 := Scalar.addi c0_i32_1548 v2030
  v2031.toNat
def k0_off61 (d0 : Dev nD) : Fin 3 → Nat :=
  let c3_1569 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let v2056 : Index := Scalar.indexCast v2055
  let c0_1570 : Index := 0#32
  ![3, v2056.toNat, 0]
def k0_off62 (d0 : Dev nD) : Fin 3 → Nat :=
  let c3_i32_1581 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c0_i32_1585 : BitVec 32 := 0#32
  ![3, v2055.toNat, 0]
def k0_dev38 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1583 : BitVec 32 := 1#32
  let v2076 : BitVec 32 := Scalar.muli v12 c1_i32_1583
  let v2077 : BitVec 32 := Scalar.addi c0_i32_1584 v2076
  v2077.toNat
def k0_off63 (d0 : Dev nD) : Fin 3 → Nat :=
  let c0_i32_1607 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c0_i32_1612 : BitVec 32 := 0#32
  ![0, v2105.toNat, 0]
def k0_dev39 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_1610 : BitVec 32 := 1#32
  let v2106 : BitVec 32 := Scalar.muli v13 c1_i32_1610
  let v2107 : BitVec 32 := Scalar.addi c0_i32_1611 v2106
  v2107.toNat
def k0_off64 (d0 : Dev nD) : Fin 3 → Nat :=
  let c1_i32_1634 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c0_i32_1638 : BitVec 32 := 0#32
  ![1, v2135.toNat, 0]
def k0_dev40 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_1636 : BitVec 32 := 1#32
  let v2136 : BitVec 32 := Scalar.muli v11 c1_i32_1636
  let v2137 : BitVec 32 := Scalar.addi c0_i32_1637 v2136
  v2137.toNat
def k0_off65 (d0 : Dev nD) : Fin 3 → Nat :=
  let c0_1647 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c1_i32_1603 : BitVec 32 := 1#32
  let c2_i32_1602 : BitVec 32 := 2#32
  let v2100 : BitVec 32 := Scalar.muli c2_i32_1602 v9
  let v2101 : BitVec 32 := Scalar.subi c1_i32_1603 v2100
  let c16_i32_1604 : BitVec 32 := 16#32
  let v2102 : BitVec 32 := Scalar.muli v2101 c16_i32_1604
  let v2103 : BitVec 32 := Scalar.addi v1735 v2102
  let v2160 : Index := Scalar.indexCast v2103
  let c0_1648 : Index := 0#32
  ![0, v2160.toNat, 0]
def k0_off66 (d0 : Dev nD) (c0_i32_1649 : BitVec 32) : Fin 2 → Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c1_i32_1603 : BitVec 32 := 1#32
  let c2_i32_1602 : BitVec 32 := 2#32
  let v2100 : BitVec 32 := Scalar.muli c2_i32_1602 v9
  let v2101 : BitVec 32 := Scalar.subi c1_i32_1603 v2100
  let c16_i32_1604 : BitVec 32 := 16#32
  let v2102 : BitVec 32 := Scalar.muli v2101 c16_i32_1604
  let v2103 : BitVec 32 := Scalar.addi v1735 v2102
  let v2164 : BitVec 32 := Scalar.addi c0_i32_1649 v2103
  let v2165 : Index := Scalar.indexCast v2164
  let c0_1650 : Index := 0#32
  ![v2165.toNat, 0]
def k0_off67 (d0 : Dev nD) : Fin 3 → Nat :=
  let c1_1651 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c1_i32_1630 : BitVec 32 := 1#32
  let c2_i32_1629 : BitVec 32 := 2#32
  let v2130 : BitVec 32 := Scalar.muli c2_i32_1629 v5
  let v2131 : BitVec 32 := Scalar.subi c1_i32_1630 v2130
  let c16_i32_1631 : BitVec 32 := 16#32
  let v2132 : BitVec 32 := Scalar.muli v2131 c16_i32_1631
  let v2133 : BitVec 32 := Scalar.addi v1781 v2132
  let v2167 : Index := Scalar.indexCast v2133
  let c0_1652 : Index := 0#32
  ![1, v2167.toNat, 0]
def k0_off68 (d0 : Dev nD) (c0_i32_1653 : BitVec 32) : Fin 2 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c1_i32_1630 : BitVec 32 := 1#32
  let c2_i32_1629 : BitVec 32 := 2#32
  let v2130 : BitVec 32 := Scalar.muli c2_i32_1629 v5
  let v2131 : BitVec 32 := Scalar.subi c1_i32_1630 v2130
  let c16_i32_1631 : BitVec 32 := 16#32
  let v2132 : BitVec 32 := Scalar.muli v2131 c16_i32_1631
  let v2133 : BitVec 32 := Scalar.addi v1781 v2132
  let v2171 : BitVec 32 := Scalar.addi c0_i32_1653 v2133
  let v2172 : Index := Scalar.indexCast v2171
  let c512_1654 : Index := 512#32
  ![v2172.toNat, 512]
def k0_off69 (d0 : Dev nD) : Fin 3 → Nat :=
  let c6_1673 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let v2190 : Index := Scalar.indexCast v2189
  let c0_1674 : Index := 0#32
  ![6, v2190.toNat, 0]
def k0_off70 (d0 : Dev nD) : Fin 3 → Nat :=
  let c6_i32_1682 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c1_i32_1680 : BitVec 32 := 1#32
  let c3_i32 : BitVec 32 := 3#32
  let v8 : BitVec 32 := Scalar.shrsi v2 c3_i32
  let c1_i32_4 : BitVec 32 := 1#32
  let v9 : BitVec 32 := Scalar.andi v8 c1_i32_4
  let v2203 : BitVec 32 := Scalar.subi c1_i32_1680 v9
  let c16_i32_1681 : BitVec 32 := 16#32
  let v2204 : BitVec 32 := Scalar.muli v2203 c16_i32_1681
  let v2205 : BitVec 32 := Scalar.addi v2189 v2204
  let c0_i32_1689 : BitVec 32 := 0#32
  ![6, v2205.toNat, 0]
def k0_dev41 (d0 : Dev nD) : Nat :=
  let c0_i32_1686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1685 : BitVec 32 := 1#32
  let v2206 : BitVec 32 := Scalar.muli v14 c1_i32_1685
  let v2207 : BitVec 32 := Scalar.addi c0_i32_1686 v2206
  v2207.toNat
def k0_off71 (d0 : Dev nD) : Fin 3 → Nat :=
  let c7_1708 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let v2232 : Index := Scalar.indexCast v2231
  let c0_1709 : Index := 0#32
  ![7, v2232.toNat, 0]
def k0_off72 (d0 : Dev nD) : Fin 3 → Nat :=
  let c7_i32_1717 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c1_i32_1715 : BitVec 32 := 1#32
  let v2245 : BitVec 32 := Scalar.subi c1_i32_1715 v5
  let c16_i32_1716 : BitVec 32 := 16#32
  let v2246 : BitVec 32 := Scalar.muli v2245 c16_i32_1716
  let v2247 : BitVec 32 := Scalar.addi v2231 v2246
  let c0_i32_1724 : BitVec 32 := 0#32
  ![7, v2247.toNat, 0]
def k0_dev42 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1720 : BitVec 32 := 1#32
  let v2248 : BitVec 32 := Scalar.muli v12 c1_i32_1720
  let v2249 : BitVec 32 := Scalar.addi c0_i32_1721 v2248
  v2249.toNat
def k0_off73 (d0 : Dev nD) : Fin 3 → Nat :=
  let c4_1743 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let v2274 : Index := Scalar.indexCast v2273
  let c0_1744 : Index := 0#32
  ![4, v2274.toNat, 0]
def k0_off74 (d0 : Dev nD) : Fin 3 → Nat :=
  let c4_i32_1755 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c0_i32_1759 : BitVec 32 := 0#32
  ![4, v2273.toNat, 0]
def k0_dev43 (d0 : Dev nD) : Nat :=
  let c0_i32_1758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1757 : BitVec 32 := 1#32
  let v2294 : BitVec 32 := Scalar.muli v14 c1_i32_1757
  let v2295 : BitVec 32 := Scalar.addi c0_i32_1758 v2294
  v2295.toNat
def k0_off75 (d0 : Dev nD) : Fin 3 → Nat :=
  let c5_1779 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let v2320 : Index := Scalar.indexCast v2319
  let c0_1780 : Index := 0#32
  ![5, v2320.toNat, 0]
def k0_off76 (d0 : Dev nD) : Fin 3 → Nat :=
  let c5_i32_1791 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c0_i32_1795 : BitVec 32 := 0#32
  ![5, v2319.toNat, 0]
def k0_dev44 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1793 : BitVec 32 := 1#32
  let v2340 : BitVec 32 := Scalar.muli v12 c1_i32_1793
  let v2341 : BitVec 32 := Scalar.addi c0_i32_1794 v2340
  v2341.toNat
def k0_off77 (d0 : Dev nD) : Fin 3 → Nat :=
  let c2_i32_1817 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c0_i32_1821 : BitVec 32 := 0#32
  ![2, v2369.toNat, 0]
def k0_dev45 (d0 : Dev nD) : Nat :=
  let c0_i32_1820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_1819 : BitVec 32 := 1#32
  let v2370 : BitVec 32 := Scalar.muli v13 c1_i32_1819
  let v2371 : BitVec 32 := Scalar.addi c0_i32_1820 v2370
  v2371.toNat
def k0_off78 (d0 : Dev nD) : Fin 3 → Nat :=
  let c3_i32_1843 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c0_i32_1847 : BitVec 32 := 0#32
  ![3, v2399.toNat, 0]
def k0_dev46 (d0 : Dev nD) : Nat :=
  let c0_i32_1846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_1845 : BitVec 32 := 1#32
  let v2400 : BitVec 32 := Scalar.muli v11 c1_i32_1845
  let v2401 : BitVec 32 := Scalar.addi c0_i32_1846 v2400
  v2401.toNat
def k0_off79 (d0 : Dev nD) : Fin 3 → Nat :=
  let c0_i32_1869 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c0_i32_1874 : BitVec 32 := 0#32
  ![0, v2429.toNat, 0]
def k0_dev47 (d0 : Dev nD) : Nat :=
  let c0_i32_1873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1872 : BitVec 32 := 1#32
  let v2430 : BitVec 32 := Scalar.muli v12 c1_i32_1872
  let v2431 : BitVec 32 := Scalar.addi c0_i32_1873 v2430
  v2431.toNat
def k0_off80 (d0 : Dev nD) : Fin 3 → Nat :=
  let c1_i32_1896 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c0_i32_1900 : BitVec 32 := 0#32
  ![1, v2459.toNat, 0]
def k0_dev48 (d0 : Dev nD) : Nat :=
  let c0_i32_1899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1898 : BitVec 32 := 1#32
  let v2460 : BitVec 32 := Scalar.muli v14 c1_i32_1898
  let v2461 : BitVec 32 := Scalar.addi c0_i32_1899 v2460
  v2461.toNat
def k0_off81 (d0 : Dev nD) : Fin 3 → Nat :=
  let c2_1909 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c1_i32_1813 : BitVec 32 := 1#32
  let c2_i32_1812 : BitVec 32 := 2#32
  let v2364 : BitVec 32 := Scalar.muli c2_i32_1812 v9
  let v2365 : BitVec 32 := Scalar.subi c1_i32_1813 v2364
  let c16_i32_1814 : BitVec 32 := 16#32
  let v2366 : BitVec 32 := Scalar.muli v2365 c16_i32_1814
  let v2367 : BitVec 32 := Scalar.addi v2009 v2366
  let v2484 : Index := Scalar.indexCast v2367
  let c0_1910 : Index := 0#32
  ![2, v2484.toNat, 0]
def k0_off82 (d0 : Dev nD) : Fin 3 → Nat :=
  let c3_1913 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c1_i32_1839 : BitVec 32 := 1#32
  let c2_i32_1838 : BitVec 32 := 2#32
  let v2394 : BitVec 32 := Scalar.muli c2_i32_1838 v5
  let v2395 : BitVec 32 := Scalar.subi c1_i32_1839 v2394
  let c16_i32_1840 : BitVec 32 := 16#32
  let v2396 : BitVec 32 := Scalar.muli v2395 c16_i32_1840
  let v2397 : BitVec 32 := Scalar.addi v2055 v2396
  let v2491 : Index := Scalar.indexCast v2397
  let c0_1914 : Index := 0#32
  ![3, v2491.toNat, 0]
def k0_off83 (d0 : Dev nD) : Fin 3 → Nat :=
  let c0_1917 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c1_i32_1865 : BitVec 32 := 1#32
  let c2_i32_1864 : BitVec 32 := 2#32
  let v2424 : BitVec 32 := Scalar.muli c2_i32_1864 v7
  let v2425 : BitVec 32 := Scalar.subi c1_i32_1865 v2424
  let c32_i32_1866 : BitVec 32 := 32#32
  let v2426 : BitVec 32 := Scalar.muli v2425 c32_i32_1866
  let v2427 : BitVec 32 := Scalar.addi v2105 v2426
  let v2498 : Index := Scalar.indexCast v2427
  let c0_1918 : Index := 0#32
  ![0, v2498.toNat, 0]
def k0_off84 (d0 : Dev nD) (c0_i32_1919 : BitVec 32) : Fin 2 → Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c1_i32_1865 : BitVec 32 := 1#32
  let c2_i32_1864 : BitVec 32 := 2#32
  let v2424 : BitVec 32 := Scalar.muli c2_i32_1864 v7
  let v2425 : BitVec 32 := Scalar.subi c1_i32_1865 v2424
  let c32_i32_1866 : BitVec 32 := 32#32
  let v2426 : BitVec 32 := Scalar.muli v2425 c32_i32_1866
  let v2427 : BitVec 32 := Scalar.addi v2105 v2426
  let v2502 : BitVec 32 := Scalar.addi c0_i32_1919 v2427
  let v2503 : Index := Scalar.indexCast v2502
  let c0_1920 : Index := 0#32
  ![v2503.toNat, 0]
def k0_off85 (d0 : Dev nD) : Fin 3 → Nat :=
  let c1_1921 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c1_i32_1892 : BitVec 32 := 1#32
  let c2_i32_1891 : BitVec 32 := 2#32
  let v2454 : BitVec 32 := Scalar.muli c2_i32_1891 v10
  let v2455 : BitVec 32 := Scalar.subi c1_i32_1892 v2454
  let c32_i32_1893 : BitVec 32 := 32#32
  let v2456 : BitVec 32 := Scalar.muli v2455 c32_i32_1893
  let v2457 : BitVec 32 := Scalar.addi v2135 v2456
  let v2505 : Index := Scalar.indexCast v2457
  let c0_1922 : Index := 0#32
  ![1, v2505.toNat, 0]
def k0_off86 (d0 : Dev nD) (c0_i32_1923 : BitVec 32) : Fin 2 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c1_i32_1892 : BitVec 32 := 1#32
  let c2_i32_1891 : BitVec 32 := 2#32
  let v2454 : BitVec 32 := Scalar.muli c2_i32_1891 v10
  let v2455 : BitVec 32 := Scalar.subi c1_i32_1892 v2454
  let c32_i32_1893 : BitVec 32 := 32#32
  let v2456 : BitVec 32 := Scalar.muli v2455 c32_i32_1893
  let v2457 : BitVec 32 := Scalar.addi v2135 v2456
  let v2509 : BitVec 32 := Scalar.addi c0_i32_1923 v2457
  let v2510 : Index := Scalar.indexCast v2509
  let c512_1924 : Index := 512#32
  ![v2510.toNat, 512]
def k0_off87 (d0 : Dev nD) : Fin 3 → Nat :=
  let c6_1943 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let v2528 : Index := Scalar.indexCast v2527
  let c0_1944 : Index := 0#32
  ![6, v2528.toNat, 0]
def k0_off88 (d0 : Dev nD) : Fin 3 → Nat :=
  let c6_i32_1955 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c0_i32_1959 : BitVec 32 := 0#32
  ![6, v2527.toNat, 0]
def k0_dev49 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_1957 : BitVec 32 := 1#32
  let v2548 : BitVec 32 := Scalar.muli v14 c1_i32_1957
  let v2549 : BitVec 32 := Scalar.addi c0_i32_1958 v2548
  v2549.toNat
def k0_off89 (d0 : Dev nD) : Fin 3 → Nat :=
  let c7_1979 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let v2574 : Index := Scalar.indexCast v2573
  let c0_1980 : Index := 0#32
  ![7, v2574.toNat, 0]
def k0_off90 (d0 : Dev nD) : Fin 3 → Nat :=
  let c7_i32_1991 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c0_i32_1995 : BitVec 32 := 0#32
  ![7, v2573.toNat, 0]
def k0_dev50 (d0 : Dev nD) : Nat :=
  let c0_i32_1994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_1993 : BitVec 32 := 1#32
  let v2594 : BitVec 32 := Scalar.muli v12 c1_i32_1993
  let v2595 : BitVec 32 := Scalar.addi c0_i32_1994 v2594
  v2595.toNat
def k0_off91 (d0 : Dev nD) : Fin 3 → Nat :=
  let c4_i32_2017 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c0_i32_2021 : BitVec 32 := 0#32
  ![4, v2623.toNat, 0]
def k0_dev51 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2019 : BitVec 32 := 1#32
  let v2624 : BitVec 32 := Scalar.muli v13 c1_i32_2019
  let v2625 : BitVec 32 := Scalar.addi c0_i32_2020 v2624
  v2625.toNat
def k0_off92 (d0 : Dev nD) : Fin 3 → Nat :=
  let c5_i32_2043 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c0_i32_2047 : BitVec 32 := 0#32
  ![5, v2653.toNat, 0]
def k0_dev52 (d0 : Dev nD) : Nat :=
  let c0_i32_2046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2045 : BitVec 32 := 1#32
  let v2654 : BitVec 32 := Scalar.muli v11 c1_i32_2045
  let v2655 : BitVec 32 := Scalar.addi c0_i32_2046 v2654
  v2655.toNat
def k0_off93 (d0 : Dev nD) : Fin 3 → Nat :=
  let c2_i32_2069 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c32_i32_2067 : BitVec 32 := 32#32
  let v2682 : BitVec 32 := Scalar.muli v7 c32_i32_2067
  let v2683 : BitVec 32 := Scalar.subi v2369 v2682
  let c0_i32_2073 : BitVec 32 := 0#32
  ![2, v2683.toNat, 0]
def k0_dev53 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_2071 : BitVec 32 := 1#32
  let v2684 : BitVec 32 := Scalar.muli v12 c1_i32_2071
  let v2685 : BitVec 32 := Scalar.addi c0_i32_2072 v2684
  v2685.toNat
def k0_off94 (d0 : Dev nD) : Fin 3 → Nat :=
  let c3_i32_2095 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c32_i32_2093 : BitVec 32 := 32#32
  let v2712 : BitVec 32 := Scalar.muli v10 c32_i32_2093
  let v2713 : BitVec 32 := Scalar.subi v2399 v2712
  let c0_i32_2099 : BitVec 32 := 0#32
  ![3, v2713.toNat, 0]
def k0_dev54 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_2097 : BitVec 32 := 1#32
  let v2714 : BitVec 32 := Scalar.muli v14 c1_i32_2097
  let v2715 : BitVec 32 := Scalar.addi c0_i32_2098 v2714
  v2715.toNat
def k0_off95 (d0 : Dev nD) : Fin 3 → Nat :=
  let c0_i32_2121 : BitVec 32 := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c64_i32_2119 : BitVec 32 := 64#32
  let v2742 : BitVec 32 := Scalar.muli v5 c64_i32_2119
  let v2743 : BitVec 32 := Scalar.subi v2429 v2742
  let c0_i32_2126 : BitVec 32 := 0#32
  ![0, v2743.toNat, 0]
def k0_dev55 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2124 : BitVec 32 := 1#32
  let v2744 : BitVec 32 := Scalar.muli v11 c1_i32_2124
  let v2745 : BitVec 32 := Scalar.addi c0_i32_2125 v2744
  v2745.toNat
def k0_off96 (d0 : Dev nD) : Fin 3 → Nat :=
  let c1_i32_2148 : BitVec 32 := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c64_i32_2146 : BitVec 32 := 64#32
  let v2772 : BitVec 32 := Scalar.muli v9 c64_i32_2146
  let v2773 : BitVec 32 := Scalar.subi v2459 v2772
  let c0_i32_2152 : BitVec 32 := 0#32
  ![1, v2773.toNat, 0]
def k0_dev56 (d0 : Dev nD) : Nat :=
  let c0_i32_2151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2150 : BitVec 32 := 1#32
  let v2774 : BitVec 32 := Scalar.muli v13 c1_i32_2150
  let v2775 : BitVec 32 := Scalar.addi c0_i32_2151 v2774
  v2775.toNat
def k0_off97 (d0 : Dev nD) : Fin 3 → Nat :=
  let c4_2161 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c1_i32_2013 : BitVec 32 := 1#32
  let c2_i32_2012 : BitVec 32 := 2#32
  let v2618 : BitVec 32 := Scalar.muli c2_i32_2012 v9
  let v2619 : BitVec 32 := Scalar.subi c1_i32_2013 v2618
  let c16_i32_2014 : BitVec 32 := 16#32
  let v2620 : BitVec 32 := Scalar.muli v2619 c16_i32_2014
  let v2621 : BitVec 32 := Scalar.addi v2273 v2620
  let v2798 : Index := Scalar.indexCast v2621
  let c0_2162 : Index := 0#32
  ![4, v2798.toNat, 0]
def k0_off98 (d0 : Dev nD) : Fin 3 → Nat :=
  let c5_2165 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c1_i32_2039 : BitVec 32 := 1#32
  let c2_i32_2038 : BitVec 32 := 2#32
  let v2648 : BitVec 32 := Scalar.muli c2_i32_2038 v5
  let v2649 : BitVec 32 := Scalar.subi c1_i32_2039 v2648
  let c16_i32_2040 : BitVec 32 := 16#32
  let v2650 : BitVec 32 := Scalar.muli v2649 c16_i32_2040
  let v2651 : BitVec 32 := Scalar.addi v2319 v2650
  let v2805 : Index := Scalar.indexCast v2651
  let c0_2166 : Index := 0#32
  ![5, v2805.toNat, 0]
def k0_off99 (d0 : Dev nD) : Fin 3 → Nat :=
  let c2_2169 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c1_i32_2065 : BitVec 32 := 1#32
  let c2_i32_2064 : BitVec 32 := 2#32
  let v2678 : BitVec 32 := Scalar.muli c2_i32_2064 v7
  let v2679 : BitVec 32 := Scalar.subi c1_i32_2065 v2678
  let c32_i32_2066 : BitVec 32 := 32#32
  let v2680 : BitVec 32 := Scalar.muli v2679 c32_i32_2066
  let v2681 : BitVec 32 := Scalar.addi v2369 v2680
  let v2812 : Index := Scalar.indexCast v2681
  let c0_2170 : Index := 0#32
  ![2, v2812.toNat, 0]
def k0_off100 (d0 : Dev nD) : Fin 3 → Nat :=
  let c3_2173 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c1_i32_2091 : BitVec 32 := 1#32
  let c2_i32_2090 : BitVec 32 := 2#32
  let v2708 : BitVec 32 := Scalar.muli c2_i32_2090 v10
  let v2709 : BitVec 32 := Scalar.subi c1_i32_2091 v2708
  let c32_i32_2092 : BitVec 32 := 32#32
  let v2710 : BitVec 32 := Scalar.muli v2709 c32_i32_2092
  let v2711 : BitVec 32 := Scalar.addi v2399 v2710
  let v2819 : Index := Scalar.indexCast v2711
  let c0_2174 : Index := 0#32
  ![3, v2819.toNat, 0]
def k0_off101 (d0 : Dev nD) : Fin 3 → Nat :=
  let c0_2177 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c1_i32_2117 : BitVec 32 := 1#32
  let c2_i32_2116 : BitVec 32 := 2#32
  let v2738 : BitVec 32 := Scalar.muli c2_i32_2116 v5
  let v2739 : BitVec 32 := Scalar.subi c1_i32_2117 v2738
  let c64_i32_2118 : BitVec 32 := 64#32
  let v2740 : BitVec 32 := Scalar.muli v2739 c64_i32_2118
  let v2741 : BitVec 32 := Scalar.addi v2429 v2740
  let v2826 : Index := Scalar.indexCast v2741
  let c0_2178 : Index := 0#32
  ![0, v2826.toNat, 0]
def k0_off102 (d0 : Dev nD) (c0_i32_2179 : BitVec 32) : Fin 2 → Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c1_i32_2117 : BitVec 32 := 1#32
  let c2_i32_2116 : BitVec 32 := 2#32
  let v2738 : BitVec 32 := Scalar.muli c2_i32_2116 v5
  let v2739 : BitVec 32 := Scalar.subi c1_i32_2117 v2738
  let c64_i32_2118 : BitVec 32 := 64#32
  let v2740 : BitVec 32 := Scalar.muli v2739 c64_i32_2118
  let v2741 : BitVec 32 := Scalar.addi v2429 v2740
  let v2830 : BitVec 32 := Scalar.addi c0_i32_2179 v2741
  let v2831 : Index := Scalar.indexCast v2830
  let c0_2180 : Index := 0#32
  ![v2831.toNat, 0]
def k0_off103 (d0 : Dev nD) : Fin 3 → Nat :=
  let c1_2181 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c1_i32_2144 : BitVec 32 := 1#32
  let c2_i32_2143 : BitVec 32 := 2#32
  let v2768 : BitVec 32 := Scalar.muli c2_i32_2143 v9
  let v2769 : BitVec 32 := Scalar.subi c1_i32_2144 v2768
  let c64_i32_2145 : BitVec 32 := 64#32
  let v2770 : BitVec 32 := Scalar.muli v2769 c64_i32_2145
  let v2771 : BitVec 32 := Scalar.addi v2459 v2770
  let v2833 : Index := Scalar.indexCast v2771
  let c0_2182 : Index := 0#32
  ![1, v2833.toNat, 0]
def k0_off104 (d0 : Dev nD) (c0_i32_2183 : BitVec 32) : Fin 2 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c1_i32_2144 : BitVec 32 := 1#32
  let c2_i32_2143 : BitVec 32 := 2#32
  let v2768 : BitVec 32 := Scalar.muli c2_i32_2143 v9
  let v2769 : BitVec 32 := Scalar.subi c1_i32_2144 v2768
  let c64_i32_2145 : BitVec 32 := 64#32
  let v2770 : BitVec 32 := Scalar.muli v2769 c64_i32_2145
  let v2771 : BitVec 32 := Scalar.addi v2459 v2770
  let v2837 : BitVec 32 := Scalar.addi c0_i32_2183 v2771
  let v2838 : Index := Scalar.indexCast v2837
  let c512_2184 : Index := 512#32
  ![v2838.toNat, 512]
def k0_off105 (d0 : Dev nD) : Fin 3 → Nat :=
  let c6_i32_2205 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c0_i32_2209 : BitVec 32 := 0#32
  ![6, v2859.toNat, 0]
def k0_dev57 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2207 : BitVec 32 := 1#32
  let v2860 : BitVec 32 := Scalar.muli v13 c1_i32_2207
  let v2861 : BitVec 32 := Scalar.addi c0_i32_2208 v2860
  v2861.toNat
def k0_off106 (d0 : Dev nD) : Fin 3 → Nat :=
  let c7_i32_2231 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c0_i32_2235 : BitVec 32 := 0#32
  ![7, v2889.toNat, 0]
def k0_dev58 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2233 : BitVec 32 := 1#32
  let v2890 : BitVec 32 := Scalar.muli v11 c1_i32_2233
  let v2891 : BitVec 32 := Scalar.addi c0_i32_2234 v2890
  v2891.toNat
def k0_off107 (d0 : Dev nD) : Fin 3 → Nat :=
  let c4_i32_2257 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c32_i32_2255 : BitVec 32 := 32#32
  let v2918 : BitVec 32 := Scalar.muli v7 c32_i32_2255
  let v2919 : BitVec 32 := Scalar.subi v2623 v2918
  let c0_i32_2261 : BitVec 32 := 0#32
  ![4, v2919.toNat, 0]
def k0_dev59 (d0 : Dev nD) : Nat :=
  let c0_i32_2260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_2259 : BitVec 32 := 1#32
  let v2920 : BitVec 32 := Scalar.muli v12 c1_i32_2259
  let v2921 : BitVec 32 := Scalar.addi c0_i32_2260 v2920
  v2921.toNat
def k0_off108 (d0 : Dev nD) : Fin 3 → Nat :=
  let c5_i32_2283 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c32_i32_2281 : BitVec 32 := 32#32
  let v2948 : BitVec 32 := Scalar.muli v10 c32_i32_2281
  let v2949 : BitVec 32 := Scalar.subi v2653 v2948
  let c0_i32_2287 : BitVec 32 := 0#32
  ![5, v2949.toNat, 0]
def k0_dev60 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_2285 : BitVec 32 := 1#32
  let v2950 : BitVec 32 := Scalar.muli v14 c1_i32_2285
  let v2951 : BitVec 32 := Scalar.addi c0_i32_2286 v2950
  v2951.toNat
def k0_off109 (d0 : Dev nD) : Fin 3 → Nat :=
  let c2_i32_2309 : BitVec 32 := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c32_i32_2067 : BitVec 32 := 32#32
  let v2682 : BitVec 32 := Scalar.muli v7 c32_i32_2067
  let v2683 : BitVec 32 := Scalar.subi v2369 v2682
  let c64_i32_2307 : BitVec 32 := 64#32
  let v2978 : BitVec 32 := Scalar.muli v5 c64_i32_2307
  let v2979 : BitVec 32 := Scalar.subi v2683 v2978
  let c0_i32_2313 : BitVec 32 := 0#32
  ![2, v2979.toNat, 0]
def k0_dev61 (d0 : Dev nD) : Nat :=
  let c0_i32_2312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2311 : BitVec 32 := 1#32
  let v2980 : BitVec 32 := Scalar.muli v11 c1_i32_2311
  let v2981 : BitVec 32 := Scalar.addi c0_i32_2312 v2980
  v2981.toNat
def k0_off110 (d0 : Dev nD) : Fin 3 → Nat :=
  let c3_i32_2335 : BitVec 32 := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c32_i32_2093 : BitVec 32 := 32#32
  let v2712 : BitVec 32 := Scalar.muli v10 c32_i32_2093
  let v2713 : BitVec 32 := Scalar.subi v2399 v2712
  let c64_i32_2333 : BitVec 32 := 64#32
  let v3008 : BitVec 32 := Scalar.muli v9 c64_i32_2333
  let v3009 : BitVec 32 := Scalar.subi v2713 v3008
  let c0_i32_2339 : BitVec 32 := 0#32
  ![3, v3009.toNat, 0]
def k0_dev62 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2337 : BitVec 32 := 1#32
  let v3010 : BitVec 32 := Scalar.muli v13 c1_i32_2337
  let v3011 : BitVec 32 := Scalar.addi c0_i32_2338 v3010
  v3011.toNat
def k0_off111 (d0 : Dev nD) : Fin 3 → Nat :=
  let c6_2377 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c1_i32_2201 : BitVec 32 := 1#32
  let c2_i32_2200 : BitVec 32 := 2#32
  let v2854 : BitVec 32 := Scalar.muli c2_i32_2200 v9
  let v2855 : BitVec 32 := Scalar.subi c1_i32_2201 v2854
  let c16_i32_2202 : BitVec 32 := 16#32
  let v2856 : BitVec 32 := Scalar.muli v2855 c16_i32_2202
  let v2857 : BitVec 32 := Scalar.addi v2527 v2856
  let v3056 : Index := Scalar.indexCast v2857
  let c0_2378 : Index := 0#32
  ![6, v3056.toNat, 0]
def k0_off112 (d0 : Dev nD) : Fin 3 → Nat :=
  let c7_2381 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c1_i32_2227 : BitVec 32 := 1#32
  let c2_i32_2226 : BitVec 32 := 2#32
  let v2884 : BitVec 32 := Scalar.muli c2_i32_2226 v5
  let v2885 : BitVec 32 := Scalar.subi c1_i32_2227 v2884
  let c16_i32_2228 : BitVec 32 := 16#32
  let v2886 : BitVec 32 := Scalar.muli v2885 c16_i32_2228
  let v2887 : BitVec 32 := Scalar.addi v2573 v2886
  let v3063 : Index := Scalar.indexCast v2887
  let c0_2382 : Index := 0#32
  ![7, v3063.toNat, 0]
def k0_off113 (d0 : Dev nD) : Fin 3 → Nat :=
  let c4_2385 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c1_i32_2253 : BitVec 32 := 1#32
  let c2_i32_2252 : BitVec 32 := 2#32
  let v2914 : BitVec 32 := Scalar.muli c2_i32_2252 v7
  let v2915 : BitVec 32 := Scalar.subi c1_i32_2253 v2914
  let c32_i32_2254 : BitVec 32 := 32#32
  let v2916 : BitVec 32 := Scalar.muli v2915 c32_i32_2254
  let v2917 : BitVec 32 := Scalar.addi v2623 v2916
  let v3070 : Index := Scalar.indexCast v2917
  let c0_2386 : Index := 0#32
  ![4, v3070.toNat, 0]
def k0_off114 (d0 : Dev nD) : Fin 3 → Nat :=
  let c5_2389 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c1_i32_2279 : BitVec 32 := 1#32
  let c2_i32_2278 : BitVec 32 := 2#32
  let v2944 : BitVec 32 := Scalar.muli c2_i32_2278 v10
  let v2945 : BitVec 32 := Scalar.subi c1_i32_2279 v2944
  let c32_i32_2280 : BitVec 32 := 32#32
  let v2946 : BitVec 32 := Scalar.muli v2945 c32_i32_2280
  let v2947 : BitVec 32 := Scalar.addi v2653 v2946
  let v3077 : Index := Scalar.indexCast v2947
  let c0_2390 : Index := 0#32
  ![5, v3077.toNat, 0]
def k0_off115 (d0 : Dev nD) : Fin 3 → Nat :=
  let c2_2393 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c32_i32_2067 : BitVec 32 := 32#32
  let v2682 : BitVec 32 := Scalar.muli v7 c32_i32_2067
  let v2683 : BitVec 32 := Scalar.subi v2369 v2682
  let c1_i32_2305 : BitVec 32 := 1#32
  let c2_i32_2304 : BitVec 32 := 2#32
  let v2974 : BitVec 32 := Scalar.muli c2_i32_2304 v5
  let v2975 : BitVec 32 := Scalar.subi c1_i32_2305 v2974
  let c64_i32_2306 : BitVec 32 := 64#32
  let v2976 : BitVec 32 := Scalar.muli v2975 c64_i32_2306
  let v2977 : BitVec 32 := Scalar.addi v2683 v2976
  let v3084 : Index := Scalar.indexCast v2977
  let c0_2394 : Index := 0#32
  ![2, v3084.toNat, 0]
def k0_off116 (d0 : Dev nD) : Fin 3 → Nat :=
  let c3_2397 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c32_i32_2093 : BitVec 32 := 32#32
  let v2712 : BitVec 32 := Scalar.muli v10 c32_i32_2093
  let v2713 : BitVec 32 := Scalar.subi v2399 v2712
  let c1_i32_2331 : BitVec 32 := 1#32
  let c2_i32_2330 : BitVec 32 := 2#32
  let v3004 : BitVec 32 := Scalar.muli c2_i32_2330 v9
  let v3005 : BitVec 32 := Scalar.subi c1_i32_2331 v3004
  let c64_i32_2332 : BitVec 32 := 64#32
  let v3006 : BitVec 32 := Scalar.muli v3005 c64_i32_2332
  let v3007 : BitVec 32 := Scalar.addi v2713 v3006
  let v3091 : Index := Scalar.indexCast v3007
  let c0_2398 : Index := 0#32
  ![3, v3091.toNat, 0]
def k0_off117 (d0 : Dev nD) : Fin 3 → Nat :=
  let c0_2401 : Index := 0#32
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c64_i32_2119 : BitVec 32 := 64#32
  let v2742 : BitVec 32 := Scalar.muli v5 c64_i32_2119
  let v2743 : BitVec 32 := Scalar.subi v2429 v2742
  let c1_i32_2357 : BitVec 32 := 1#32
  let c2_i32_2356 : BitVec 32 := 2#32
  let v3034 : BitVec 32 := Scalar.muli c2_i32_2356 v10
  let v3035 : BitVec 32 := Scalar.subi c1_i32_2357 v3034
  let c128_i32_2358 : BitVec 32 := 128#32
  let v3036 : BitVec 32 := Scalar.muli v3035 c128_i32_2358
  let v3037 : BitVec 32 := Scalar.addi v2743 v3036
  let v3098 : Index := Scalar.indexCast v3037
  let c0_2402 : Index := 0#32
  ![0, v3098.toNat, 0]
def k0_off118 (d0 : Dev nD) (c0_i32_2403 : BitVec 32) : Fin 2 → Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_362 : BitVec 32 := 128#32
  let v520 : BitVec 32 := Scalar.muli v10 c128_i32_362
  let v521 : BitVec 32 := Scalar.addi c0_i32_363 v520
  let c64_i32_591 : BitVec 32 := 64#32
  let v833 : BitVec 32 := Scalar.muli v5 c64_i32_591
  let v834 : BitVec 32 := Scalar.addi v521 v833
  let c2_i32 : BitVec 32 := 2#32
  let v6 : BitVec 32 := Scalar.shrsi v2 c2_i32
  let c1_i32_3 : BitVec 32 := 1#32
  let v7 : BitVec 32 := Scalar.andi v6 c1_i32_3
  let c32_i32_889 : BitVec 32 := 32#32
  let v1230 : BitVec 32 := Scalar.muli v7 c32_i32_889
  let v1231 : BitVec 32 := Scalar.addi v834 v1230
  let c3_i32 : BitVec 32 := 3#32
  let v8 : BitVec 32 := Scalar.shrsi v2 c3_i32
  let c1_i32_4 : BitVec 32 := 1#32
  let v9 : BitVec 32 := Scalar.andi v8 c1_i32_4
  let c16_i32_1312 : BitVec 32 := 16#32
  let v1734 : BitVec 32 := Scalar.muli v9 c16_i32_1312
  let v1735 : BitVec 32 := Scalar.addi v1231 v1734
  let c16_i32_1605 : BitVec 32 := 16#32
  let v2104 : BitVec 32 := Scalar.muli v9 c16_i32_1605
  let v2105 : BitVec 32 := Scalar.subi v1735 v2104
  let c32_i32_1867 : BitVec 32 := 32#32
  let v2428 : BitVec 32 := Scalar.muli v7 c32_i32_1867
  let v2429 : BitVec 32 := Scalar.subi v2105 v2428
  let c64_i32_2119 : BitVec 32 := 64#32
  let v2742 : BitVec 32 := Scalar.muli v5 c64_i32_2119
  let v2743 : BitVec 32 := Scalar.subi v2429 v2742
  let c1_i32_2357 : BitVec 32 := 1#32
  let c2_i32_2356 : BitVec 32 := 2#32
  let v3034 : BitVec 32 := Scalar.muli c2_i32_2356 v10
  let v3035 : BitVec 32 := Scalar.subi c1_i32_2357 v3034
  let c128_i32_2358 : BitVec 32 := 128#32
  let v3036 : BitVec 32 := Scalar.muli v3035 c128_i32_2358
  let v3037 : BitVec 32 := Scalar.addi v2743 v3036
  let v3102 : BitVec 32 := Scalar.addi c0_i32_2403 v3037
  let v3103 : Index := Scalar.indexCast v3102
  let c0_2404 : Index := 0#32
  ![v3103.toNat, 0]
def k0_off119 (d0 : Dev nD) : Fin 3 → Nat :=
  let c1_2405 : Index := 1#32
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c64_i32_2146 : BitVec 32 := 64#32
  let v2772 : BitVec 32 := Scalar.muli v9 c64_i32_2146
  let v2773 : BitVec 32 := Scalar.subi v2459 v2772
  let c1_i32_2375 : BitVec 32 := 1#32
  let c2_i32_2374 : BitVec 32 := 2#32
  let v3052 : BitVec 32 := Scalar.muli c2_i32_2374 v7
  let v3053 : BitVec 32 := Scalar.subi c1_i32_2375 v3052
  let c128_i32_2376 : BitVec 32 := 128#32
  let v3054 : BitVec 32 := Scalar.muli v3053 c128_i32_2376
  let v3055 : BitVec 32 := Scalar.addi v2773 v3054
  let v3105 : Index := Scalar.indexCast v3055
  let c0_2406 : Index := 0#32
  ![1, v3105.toNat, 0]
def k0_off120 (d0 : Dev nD) (c0_i32_2407 : BitVec 32) : Fin 2 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_398 : BitVec 32 := 128#32
  let v562 : BitVec 32 := Scalar.muli v7 c128_i32_398
  let v563 : BitVec 32 := Scalar.addi c0_i32_399 v562
  let c3_i32 : BitVec 32 := 3#32
  let v8 : BitVec 32 := Scalar.shrsi v2 c3_i32
  let c1_i32_4 : BitVec 32 := 1#32
  let v9 : BitVec 32 := Scalar.andi v8 c1_i32_4
  let c64_i32_626 : BitVec 32 := 64#32
  let v875 : BitVec 32 := Scalar.muli v9 c64_i32_626
  let v876 : BitVec 32 := Scalar.addi v563 v875
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_923 : BitVec 32 := 32#32
  let v1272 : BitVec 32 := Scalar.muli v10 c32_i32_923
  let v1273 : BitVec 32 := Scalar.addi v876 v1272
  let c16_i32_1348 : BitVec 32 := 16#32
  let v1780 : BitVec 32 := Scalar.muli v5 c16_i32_1348
  let v1781 : BitVec 32 := Scalar.addi v1273 v1780
  let c16_i32_1632 : BitVec 32 := 16#32
  let v2134 : BitVec 32 := Scalar.muli v5 c16_i32_1632
  let v2135 : BitVec 32 := Scalar.subi v1781 v2134
  let c32_i32_1894 : BitVec 32 := 32#32
  let v2458 : BitVec 32 := Scalar.muli v10 c32_i32_1894
  let v2459 : BitVec 32 := Scalar.subi v2135 v2458
  let c64_i32_2146 : BitVec 32 := 64#32
  let v2772 : BitVec 32 := Scalar.muli v9 c64_i32_2146
  let v2773 : BitVec 32 := Scalar.subi v2459 v2772
  let c1_i32_2375 : BitVec 32 := 1#32
  let c2_i32_2374 : BitVec 32 := 2#32
  let v3052 : BitVec 32 := Scalar.muli c2_i32_2374 v7
  let v3053 : BitVec 32 := Scalar.subi c1_i32_2375 v3052
  let c128_i32_2376 : BitVec 32 := 128#32
  let v3054 : BitVec 32 := Scalar.muli v3053 c128_i32_2376
  let v3055 : BitVec 32 := Scalar.addi v2773 v3054
  let v3109 : BitVec 32 := Scalar.addi c0_i32_2407 v3055
  let v3110 : Index := Scalar.indexCast v3109
  let c512_2408 : Index := 512#32
  ![v3110.toNat, 512]
def k0_off121 (d0 : Dev nD) : Fin 3 → Nat :=
  let c6_i32_2429 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c32_i32_2427 : BitVec 32 := 32#32
  let v3130 : BitVec 32 := Scalar.muli v7 c32_i32_2427
  let v3131 : BitVec 32 := Scalar.subi v2859 v3130
  let c0_i32_2433 : BitVec 32 := 0#32
  ![6, v3131.toNat, 0]
def k0_dev63 (d0 : Dev nD) : Nat :=
  let c0_i32_2432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_2431 : BitVec 32 := 1#32
  let v3132 : BitVec 32 := Scalar.muli v12 c1_i32_2431
  let v3133 : BitVec 32 := Scalar.addi c0_i32_2432 v3132
  v3133.toNat
def k0_off122 (d0 : Dev nD) : Fin 3 → Nat :=
  let c7_i32_2455 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c32_i32_2453 : BitVec 32 := 32#32
  let v3160 : BitVec 32 := Scalar.muli v10 c32_i32_2453
  let v3161 : BitVec 32 := Scalar.subi v2889 v3160
  let c0_i32_2459 : BitVec 32 := 0#32
  ![7, v3161.toNat, 0]
def k0_dev64 (d0 : Dev nD) : Nat :=
  let c0_i32_2458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_2457 : BitVec 32 := 1#32
  let v3162 : BitVec 32 := Scalar.muli v14 c1_i32_2457
  let v3163 : BitVec 32 := Scalar.addi c0_i32_2458 v3162
  v3163.toNat
def k0_off123 (d0 : Dev nD) : Fin 3 → Nat :=
  let c4_i32_2481 : BitVec 32 := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c32_i32_2255 : BitVec 32 := 32#32
  let v2918 : BitVec 32 := Scalar.muli v7 c32_i32_2255
  let v2919 : BitVec 32 := Scalar.subi v2623 v2918
  let c64_i32_2479 : BitVec 32 := 64#32
  let v3190 : BitVec 32 := Scalar.muli v5 c64_i32_2479
  let v3191 : BitVec 32 := Scalar.subi v2919 v3190
  let c0_i32_2485 : BitVec 32 := 0#32
  ![4, v3191.toNat, 0]
def k0_dev65 (d0 : Dev nD) : Nat :=
  let c0_i32_2484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2483 : BitVec 32 := 1#32
  let v3192 : BitVec 32 := Scalar.muli v11 c1_i32_2483
  let v3193 : BitVec 32 := Scalar.addi c0_i32_2484 v3192
  v3193.toNat
def k0_off124 (d0 : Dev nD) : Fin 3 → Nat :=
  let c5_i32_2507 : BitVec 32 := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c32_i32_2281 : BitVec 32 := 32#32
  let v2948 : BitVec 32 := Scalar.muli v10 c32_i32_2281
  let v2949 : BitVec 32 := Scalar.subi v2653 v2948
  let c64_i32_2505 : BitVec 32 := 64#32
  let v3220 : BitVec 32 := Scalar.muli v9 c64_i32_2505
  let v3221 : BitVec 32 := Scalar.subi v2949 v3220
  let c0_i32_2511 : BitVec 32 := 0#32
  ![5, v3221.toNat, 0]
def k0_dev66 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2509 : BitVec 32 := 1#32
  let v3222 : BitVec 32 := Scalar.muli v13 c1_i32_2509
  let v3223 : BitVec 32 := Scalar.addi c0_i32_2510 v3222
  v3223.toNat
def k0_off125 (d0 : Dev nD) : Fin 3 → Nat :=
  let c6_2549 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c1_i32_2425 : BitVec 32 := 1#32
  let c2_i32_2424 : BitVec 32 := 2#32
  let v3126 : BitVec 32 := Scalar.muli c2_i32_2424 v7
  let v3127 : BitVec 32 := Scalar.subi c1_i32_2425 v3126
  let c32_i32_2426 : BitVec 32 := 32#32
  let v3128 : BitVec 32 := Scalar.muli v3127 c32_i32_2426
  let v3129 : BitVec 32 := Scalar.addi v2859 v3128
  let v3268 : Index := Scalar.indexCast v3129
  let c0_2550 : Index := 0#32
  ![6, v3268.toNat, 0]
def k0_off126 (d0 : Dev nD) : Fin 3 → Nat :=
  let c7_2553 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c1_i32_2451 : BitVec 32 := 1#32
  let c2_i32_2450 : BitVec 32 := 2#32
  let v3156 : BitVec 32 := Scalar.muli c2_i32_2450 v10
  let v3157 : BitVec 32 := Scalar.subi c1_i32_2451 v3156
  let c32_i32_2452 : BitVec 32 := 32#32
  let v3158 : BitVec 32 := Scalar.muli v3157 c32_i32_2452
  let v3159 : BitVec 32 := Scalar.addi v2889 v3158
  let v3275 : Index := Scalar.indexCast v3159
  let c0_2554 : Index := 0#32
  ![7, v3275.toNat, 0]
def k0_off127 (d0 : Dev nD) : Fin 3 → Nat :=
  let c4_2557 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c32_i32_2255 : BitVec 32 := 32#32
  let v2918 : BitVec 32 := Scalar.muli v7 c32_i32_2255
  let v2919 : BitVec 32 := Scalar.subi v2623 v2918
  let c1_i32_2477 : BitVec 32 := 1#32
  let c2_i32_2476 : BitVec 32 := 2#32
  let v3186 : BitVec 32 := Scalar.muli c2_i32_2476 v5
  let v3187 : BitVec 32 := Scalar.subi c1_i32_2477 v3186
  let c64_i32_2478 : BitVec 32 := 64#32
  let v3188 : BitVec 32 := Scalar.muli v3187 c64_i32_2478
  let v3189 : BitVec 32 := Scalar.addi v2919 v3188
  let v3282 : Index := Scalar.indexCast v3189
  let c0_2558 : Index := 0#32
  ![4, v3282.toNat, 0]
def k0_off128 (d0 : Dev nD) : Fin 3 → Nat :=
  let c5_2561 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c32_i32_2281 : BitVec 32 := 32#32
  let v2948 : BitVec 32 := Scalar.muli v10 c32_i32_2281
  let v2949 : BitVec 32 := Scalar.subi v2653 v2948
  let c1_i32_2503 : BitVec 32 := 1#32
  let c2_i32_2502 : BitVec 32 := 2#32
  let v3216 : BitVec 32 := Scalar.muli c2_i32_2502 v9
  let v3217 : BitVec 32 := Scalar.subi c1_i32_2503 v3216
  let c64_i32_2504 : BitVec 32 := 64#32
  let v3218 : BitVec 32 := Scalar.muli v3217 c64_i32_2504
  let v3219 : BitVec 32 := Scalar.addi v2949 v3218
  let v3289 : Index := Scalar.indexCast v3219
  let c0_2562 : Index := 0#32
  ![5, v3289.toNat, 0]
def k0_off129 (d0 : Dev nD) : Fin 3 → Nat :=
  let c2_2565 : Index := 2#32
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_661 : BitVec 32 := 128#32
  let v917 : BitVec 32 := Scalar.muli v10 c128_i32_661
  let v918 : BitVec 32 := Scalar.addi c0_i32_662 v917
  let c64_i32_958 : BitVec 32 := 64#32
  let v1314 : BitVec 32 := Scalar.muli v5 c64_i32_958
  let v1315 : BitVec 32 := Scalar.addi v918 v1314
  let c2_i32 : BitVec 32 := 2#32
  let v6 : BitVec 32 := Scalar.shrsi v2 c2_i32
  let c1_i32_3 : BitVec 32 := 1#32
  let v7 : BitVec 32 := Scalar.andi v6 c1_i32_3
  let c32_i32_1242 : BitVec 32 := 32#32
  let v1650 : BitVec 32 := Scalar.muli v7 c32_i32_1242
  let v1651 : BitVec 32 := Scalar.addi v1315 v1650
  let c3_i32 : BitVec 32 := 3#32
  let v8 : BitVec 32 := Scalar.shrsi v2 c3_i32
  let c1_i32_4 : BitVec 32 := 1#32
  let v9 : BitVec 32 := Scalar.andi v8 c1_i32_4
  let c16_i32_1532 : BitVec 32 := 16#32
  let v2008 : BitVec 32 := Scalar.muli v9 c16_i32_1532
  let v2009 : BitVec 32 := Scalar.addi v1651 v2008
  let c16_i32_1815 : BitVec 32 := 16#32
  let v2368 : BitVec 32 := Scalar.muli v9 c16_i32_1815
  let v2369 : BitVec 32 := Scalar.subi v2009 v2368
  let c32_i32_2067 : BitVec 32 := 32#32
  let v2682 : BitVec 32 := Scalar.muli v7 c32_i32_2067
  let v2683 : BitVec 32 := Scalar.subi v2369 v2682
  let c64_i32_2307 : BitVec 32 := 64#32
  let v2978 : BitVec 32 := Scalar.muli v5 c64_i32_2307
  let v2979 : BitVec 32 := Scalar.subi v2683 v2978
  let c1_i32_2529 : BitVec 32 := 1#32
  let c2_i32_2528 : BitVec 32 := 2#32
  let v3246 : BitVec 32 := Scalar.muli c2_i32_2528 v10
  let v3247 : BitVec 32 := Scalar.subi c1_i32_2529 v3246
  let c128_i32_2530 : BitVec 32 := 128#32
  let v3248 : BitVec 32 := Scalar.muli v3247 c128_i32_2530
  let v3249 : BitVec 32 := Scalar.addi v2979 v3248
  let v3296 : Index := Scalar.indexCast v3249
  let c0_2566 : Index := 0#32
  ![2, v3296.toNat, 0]
def k0_off130 (d0 : Dev nD) : Fin 3 → Nat :=
  let c3_2569 : Index := 3#32
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_697 : BitVec 32 := 128#32
  let v959 : BitVec 32 := Scalar.muli v7 c128_i32_697
  let v960 : BitVec 32 := Scalar.addi c0_i32_698 v959
  let c3_i32 : BitVec 32 := 3#32
  let v8 : BitVec 32 := Scalar.shrsi v2 c3_i32
  let c1_i32_4 : BitVec 32 := 1#32
  let v9 : BitVec 32 := Scalar.andi v8 c1_i32_4
  let c64_i32_993 : BitVec 32 := 64#32
  let v1356 : BitVec 32 := Scalar.muli v9 c64_i32_993
  let v1357 : BitVec 32 := Scalar.addi v960 v1356
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1277 : BitVec 32 := 32#32
  let v1692 : BitVec 32 := Scalar.muli v10 c32_i32_1277
  let v1693 : BitVec 32 := Scalar.addi v1357 v1692
  let c16_i32_1568 : BitVec 32 := 16#32
  let v2054 : BitVec 32 := Scalar.muli v5 c16_i32_1568
  let v2055 : BitVec 32 := Scalar.addi v1693 v2054
  let c16_i32_1841 : BitVec 32 := 16#32
  let v2398 : BitVec 32 := Scalar.muli v5 c16_i32_1841
  let v2399 : BitVec 32 := Scalar.subi v2055 v2398
  let c32_i32_2093 : BitVec 32 := 32#32
  let v2712 : BitVec 32 := Scalar.muli v10 c32_i32_2093
  let v2713 : BitVec 32 := Scalar.subi v2399 v2712
  let c64_i32_2333 : BitVec 32 := 64#32
  let v3008 : BitVec 32 := Scalar.muli v9 c64_i32_2333
  let v3009 : BitVec 32 := Scalar.subi v2713 v3008
  let c1_i32_2547 : BitVec 32 := 1#32
  let c2_i32_2546 : BitVec 32 := 2#32
  let v3264 : BitVec 32 := Scalar.muli c2_i32_2546 v7
  let v3265 : BitVec 32 := Scalar.subi c1_i32_2547 v3264
  let c128_i32_2548 : BitVec 32 := 128#32
  let v3266 : BitVec 32 := Scalar.muli v3265 c128_i32_2548
  let v3267 : BitVec 32 := Scalar.addi v3009 v3266
  let v3303 : Index := Scalar.indexCast v3267
  let c0_2570 : Index := 0#32
  ![3, v3303.toNat, 0]
def k0_off131 (d0 : Dev nD) : Fin 3 → Nat :=
  let c6_i32_2593 : BitVec 32 := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c32_i32_2427 : BitVec 32 := 32#32
  let v3130 : BitVec 32 := Scalar.muli v7 c32_i32_2427
  let v3131 : BitVec 32 := Scalar.subi v2859 v3130
  let c64_i32_2591 : BitVec 32 := 64#32
  let v3328 : BitVec 32 := Scalar.muli v5 c64_i32_2591
  let v3329 : BitVec 32 := Scalar.subi v3131 v3328
  let c0_i32_2597 : BitVec 32 := 0#32
  ![6, v3329.toNat, 0]
def k0_dev67 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_2595 : BitVec 32 := 1#32
  let v3330 : BitVec 32 := Scalar.muli v11 c1_i32_2595
  let v3331 : BitVec 32 := Scalar.addi c0_i32_2596 v3330
  v3331.toNat
def k0_off132 (d0 : Dev nD) : Fin 3 → Nat :=
  let c7_i32_2619 : BitVec 32 := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c32_i32_2453 : BitVec 32 := 32#32
  let v3160 : BitVec 32 := Scalar.muli v10 c32_i32_2453
  let v3161 : BitVec 32 := Scalar.subi v2889 v3160
  let c64_i32_2617 : BitVec 32 := 64#32
  let v3358 : BitVec 32 := Scalar.muli v9 c64_i32_2617
  let v3359 : BitVec 32 := Scalar.subi v3161 v3358
  let c0_i32_2623 : BitVec 32 := 0#32
  ![7, v3359.toNat, 0]
def k0_dev68 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_2621 : BitVec 32 := 1#32
  let v3360 : BitVec 32 := Scalar.muli v13 c1_i32_2621
  let v3361 : BitVec 32 := Scalar.addi c0_i32_2622 v3360
  v3361.toNat
def k0_off133 (d0 : Dev nD) : Fin 3 → Nat :=
  let c6_2661 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c32_i32_2427 : BitVec 32 := 32#32
  let v3130 : BitVec 32 := Scalar.muli v7 c32_i32_2427
  let v3131 : BitVec 32 := Scalar.subi v2859 v3130
  let c1_i32_2589 : BitVec 32 := 1#32
  let c2_i32_2588 : BitVec 32 := 2#32
  let v3324 : BitVec 32 := Scalar.muli c2_i32_2588 v5
  let v3325 : BitVec 32 := Scalar.subi c1_i32_2589 v3324
  let c64_i32_2590 : BitVec 32 := 64#32
  let v3326 : BitVec 32 := Scalar.muli v3325 c64_i32_2590
  let v3327 : BitVec 32 := Scalar.addi v3131 v3326
  let v3406 : Index := Scalar.indexCast v3327
  let c0_2662 : Index := 0#32
  ![6, v3406.toNat, 0]
def k0_off134 (d0 : Dev nD) : Fin 3 → Nat :=
  let c7_2665 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c32_i32_2453 : BitVec 32 := 32#32
  let v3160 : BitVec 32 := Scalar.muli v10 c32_i32_2453
  let v3161 : BitVec 32 := Scalar.subi v2889 v3160
  let c1_i32_2615 : BitVec 32 := 1#32
  let c2_i32_2614 : BitVec 32 := 2#32
  let v3354 : BitVec 32 := Scalar.muli c2_i32_2614 v9
  let v3355 : BitVec 32 := Scalar.subi c1_i32_2615 v3354
  let c64_i32_2616 : BitVec 32 := 64#32
  let v3356 : BitVec 32 := Scalar.muli v3355 c64_i32_2616
  let v3357 : BitVec 32 := Scalar.addi v3161 v3356
  let v3413 : Index := Scalar.indexCast v3357
  let c0_2666 : Index := 0#32
  ![7, v3413.toNat, 0]
def k0_off135 (d0 : Dev nD) : Fin 3 → Nat :=
  let c4_2669 : Index := 4#32
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1028 : BitVec 32 := 128#32
  let v1398 : BitVec 32 := Scalar.muli v10 c128_i32_1028
  let v1399 : BitVec 32 := Scalar.addi c0_i32_1029 v1398
  let c64_i32_1172 : BitVec 32 := 64#32
  let v1566 : BitVec 32 := Scalar.muli v5 c64_i32_1172
  let v1567 : BitVec 32 := Scalar.addi v1399 v1566
  let c2_i32 : BitVec 32 := 2#32
  let v6 : BitVec 32 := Scalar.shrsi v2 c2_i32
  let c1_i32_3 : BitVec 32 := 1#32
  let v7 : BitVec 32 := Scalar.andi v6 c1_i32_3
  let c32_i32_1462 : BitVec 32 := 32#32
  let v1924 : BitVec 32 := Scalar.muli v7 c32_i32_1462
  let v1925 : BitVec 32 := Scalar.addi v1567 v1924
  let c3_i32 : BitVec 32 := 3#32
  let v8 : BitVec 32 := Scalar.shrsi v2 c3_i32
  let c1_i32_4 : BitVec 32 := 1#32
  let v9 : BitVec 32 := Scalar.andi v8 c1_i32_4
  let c16_i32_1742 : BitVec 32 := 16#32
  let v2272 : BitVec 32 := Scalar.muli v9 c16_i32_1742
  let v2273 : BitVec 32 := Scalar.addi v1925 v2272
  let c16_i32_2015 : BitVec 32 := 16#32
  let v2622 : BitVec 32 := Scalar.muli v9 c16_i32_2015
  let v2623 : BitVec 32 := Scalar.subi v2273 v2622
  let c32_i32_2255 : BitVec 32 := 32#32
  let v2918 : BitVec 32 := Scalar.muli v7 c32_i32_2255
  let v2919 : BitVec 32 := Scalar.subi v2623 v2918
  let c64_i32_2479 : BitVec 32 := 64#32
  let v3190 : BitVec 32 := Scalar.muli v5 c64_i32_2479
  let v3191 : BitVec 32 := Scalar.subi v2919 v3190
  let c1_i32_2641 : BitVec 32 := 1#32
  let c2_i32_2640 : BitVec 32 := 2#32
  let v3384 : BitVec 32 := Scalar.muli c2_i32_2640 v10
  let v3385 : BitVec 32 := Scalar.subi c1_i32_2641 v3384
  let c128_i32_2642 : BitVec 32 := 128#32
  let v3386 : BitVec 32 := Scalar.muli v3385 c128_i32_2642
  let v3387 : BitVec 32 := Scalar.addi v3191 v3386
  let v3420 : Index := Scalar.indexCast v3387
  let c0_2670 : Index := 0#32
  ![4, v3420.toNat, 0]
def k0_off136 (d0 : Dev nD) : Fin 3 → Nat :=
  let c5_2673 : Index := 5#32
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1064 : BitVec 32 := 128#32
  let v1440 : BitVec 32 := Scalar.muli v7 c128_i32_1064
  let v1441 : BitVec 32 := Scalar.addi c0_i32_1065 v1440
  let c3_i32 : BitVec 32 := 3#32
  let v8 : BitVec 32 := Scalar.shrsi v2 c3_i32
  let c1_i32_4 : BitVec 32 := 1#32
  let v9 : BitVec 32 := Scalar.andi v8 c1_i32_4
  let c64_i32_1207 : BitVec 32 := 64#32
  let v1608 : BitVec 32 := Scalar.muli v9 c64_i32_1207
  let v1609 : BitVec 32 := Scalar.addi v1441 v1608
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1497 : BitVec 32 := 32#32
  let v1966 : BitVec 32 := Scalar.muli v10 c32_i32_1497
  let v1967 : BitVec 32 := Scalar.addi v1609 v1966
  let c16_i32_1778 : BitVec 32 := 16#32
  let v2318 : BitVec 32 := Scalar.muli v5 c16_i32_1778
  let v2319 : BitVec 32 := Scalar.addi v1967 v2318
  let c16_i32_2041 : BitVec 32 := 16#32
  let v2652 : BitVec 32 := Scalar.muli v5 c16_i32_2041
  let v2653 : BitVec 32 := Scalar.subi v2319 v2652
  let c32_i32_2281 : BitVec 32 := 32#32
  let v2948 : BitVec 32 := Scalar.muli v10 c32_i32_2281
  let v2949 : BitVec 32 := Scalar.subi v2653 v2948
  let c64_i32_2505 : BitVec 32 := 64#32
  let v3220 : BitVec 32 := Scalar.muli v9 c64_i32_2505
  let v3221 : BitVec 32 := Scalar.subi v2949 v3220
  let c1_i32_2659 : BitVec 32 := 1#32
  let c2_i32_2658 : BitVec 32 := 2#32
  let v3402 : BitVec 32 := Scalar.muli c2_i32_2658 v7
  let v3403 : BitVec 32 := Scalar.subi c1_i32_2659 v3402
  let c128_i32_2660 : BitVec 32 := 128#32
  let v3404 : BitVec 32 := Scalar.muli v3403 c128_i32_2660
  let v3405 : BitVec 32 := Scalar.addi v3221 v3404
  let v3427 : Index := Scalar.indexCast v3405
  let c0_2674 : Index := 0#32
  ![5, v3427.toNat, 0]
def k0_off137 (d0 : Dev nD) : Fin 3 → Nat :=
  let c6_2713 : Index := 6#32
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c128_i32_1100 : BitVec 32 := 128#32
  let v1482 : BitVec 32 := Scalar.muli v10 c128_i32_1100
  let v1483 : BitVec 32 := Scalar.addi c0_i32_1101 v1482
  let c64_i32_1392 : BitVec 32 := 64#32
  let v1840 : BitVec 32 := Scalar.muli v5 c64_i32_1392
  let v1841 : BitVec 32 := Scalar.addi v1483 v1840
  let c2_i32 : BitVec 32 := 2#32
  let v6 : BitVec 32 := Scalar.shrsi v2 c2_i32
  let c1_i32_3 : BitVec 32 := 1#32
  let v7 : BitVec 32 := Scalar.andi v6 c1_i32_3
  let c32_i32_1672 : BitVec 32 := 32#32
  let v2188 : BitVec 32 := Scalar.muli v7 c32_i32_1672
  let v2189 : BitVec 32 := Scalar.addi v1841 v2188
  let c3_i32 : BitVec 32 := 3#32
  let v8 : BitVec 32 := Scalar.shrsi v2 c3_i32
  let c1_i32_4 : BitVec 32 := 1#32
  let v9 : BitVec 32 := Scalar.andi v8 c1_i32_4
  let c16_i32_1942 : BitVec 32 := 16#32
  let v2526 : BitVec 32 := Scalar.muli v9 c16_i32_1942
  let v2527 : BitVec 32 := Scalar.addi v2189 v2526
  let c16_i32_2203 : BitVec 32 := 16#32
  let v2858 : BitVec 32 := Scalar.muli v9 c16_i32_2203
  let v2859 : BitVec 32 := Scalar.subi v2527 v2858
  let c32_i32_2427 : BitVec 32 := 32#32
  let v3130 : BitVec 32 := Scalar.muli v7 c32_i32_2427
  let v3131 : BitVec 32 := Scalar.subi v2859 v3130
  let c64_i32_2591 : BitVec 32 := 64#32
  let v3328 : BitVec 32 := Scalar.muli v5 c64_i32_2591
  let v3329 : BitVec 32 := Scalar.subi v3131 v3328
  let c1_i32_2693 : BitVec 32 := 1#32
  let c2_i32_2692 : BitVec 32 := 2#32
  let v3448 : BitVec 32 := Scalar.muli c2_i32_2692 v10
  let v3449 : BitVec 32 := Scalar.subi c1_i32_2693 v3448
  let c128_i32_2694 : BitVec 32 := 128#32
  let v3450 : BitVec 32 := Scalar.muli v3449 c128_i32_2694
  let v3451 : BitVec 32 := Scalar.addi v3329 v3450
  let v3470 : Index := Scalar.indexCast v3451
  let c0_2714 : Index := 0#32
  ![6, v3470.toNat, 0]
def k0_off138 (d0 : Dev nD) : Fin 3 → Nat :=
  let c7_2717 : Index := 7#32
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v6 : BitVec 32 := Scalar.shrsi v2 c2_i32
  let c1_i32_3 : BitVec 32 := 1#32
  let v7 : BitVec 32 := Scalar.andi v6 c1_i32_3
  let c128_i32_1136 : BitVec 32 := 128#32
  let v1524 : BitVec 32 := Scalar.muli v7 c128_i32_1136
  let v1525 : BitVec 32 := Scalar.addi c0_i32_1137 v1524
  let c3_i32 : BitVec 32 := 3#32
  let v8 : BitVec 32 := Scalar.shrsi v2 c3_i32
  let c1_i32_4 : BitVec 32 := 1#32
  let v9 : BitVec 32 := Scalar.andi v8 c1_i32_4
  let c64_i32_1427 : BitVec 32 := 64#32
  let v1882 : BitVec 32 := Scalar.muli v9 c64_i32_1427
  let v1883 : BitVec 32 := Scalar.addi v1525 v1882
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v10 : BitVec 32 := Scalar.xori v3 v5
  let c32_i32_1707 : BitVec 32 := 32#32
  let v2230 : BitVec 32 := Scalar.muli v10 c32_i32_1707
  let v2231 : BitVec 32 := Scalar.addi v1883 v2230
  let c16_i32_1978 : BitVec 32 := 16#32
  let v2572 : BitVec 32 := Scalar.muli v5 c16_i32_1978
  let v2573 : BitVec 32 := Scalar.addi v2231 v2572
  let c16_i32_2229 : BitVec 32 := 16#32
  let v2888 : BitVec 32 := Scalar.muli v5 c16_i32_2229
  let v2889 : BitVec 32 := Scalar.subi v2573 v2888
  let c32_i32_2453 : BitVec 32 := 32#32
  let v3160 : BitVec 32 := Scalar.muli v10 c32_i32_2453
  let v3161 : BitVec 32 := Scalar.subi v2889 v3160
  let c64_i32_2617 : BitVec 32 := 64#32
  let v3358 : BitVec 32 := Scalar.muli v9 c64_i32_2617
  let v3359 : BitVec 32 := Scalar.subi v3161 v3358
  let c1_i32_2711 : BitVec 32 := 1#32
  let c2_i32_2710 : BitVec 32 := 2#32
  let v3466 : BitVec 32 := Scalar.muli c2_i32_2710 v7
  let v3467 : BitVec 32 := Scalar.subi c1_i32_2711 v3466
  let c128_i32_2712 : BitVec 32 := 128#32
  let v3468 : BitVec 32 := Scalar.muli v3467 c128_i32_2712
  let v3469 : BitVec 32 := Scalar.addi v3359 v3468
  let v3477 : Index := Scalar.indexCast v3469
  let c0_2718 : Index := 0#32
  ![7, v3477.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x16384 : Shape := ⟨2, ![1024, 16384]⟩
abbrev S16384x1024 : Shape := ⟨2, ![16384, 1024]⟩
abbrev S4x256x16384 : Shape := ⟨3, ![4, 256, 16384]⟩
abbrev S4x256x128x128 : Shape := ⟨4, ![4, 256, 128, 128]⟩
abbrev S_ : Shape := ⟨0, ![]⟩
abbrev S4x128x256x1 : Shape := ⟨4, ![4, 128, 256, 1]⟩
abbrev S4x128x256x256 : Shape := ⟨4, ![4, 128, 256, 256]⟩
abbrev S4x128x256 : Shape := ⟨3, ![4, 128, 256]⟩
abbrev S4x256x128x1 : Shape := ⟨4, ![4, 256, 128, 1]⟩
abbrev S4x128x128x256 : Shape := ⟨4, ![4, 128, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S4x256x16384, .f32⟩
  | .hbm, ⟨6, _⟩ => ⟨S4x256x128x128, .f32⟩
  | .hbm, ⟨7, _⟩ => ⟨S4x256x16384, .f32⟩
  | .hbm, ⟨8, _⟩ => ⟨S4x256x128x128, .f32⟩
  | .hbm, ⟨9, _⟩ => ⟨S4x256x16384, .f32⟩
  | .hbm, ⟨10, _⟩ => ⟨S4x256x128x128, .f32⟩
  | .hbm, ⟨11, _⟩ => ⟨S_, .f32⟩
  | .hbm, ⟨12, _⟩ => ⟨S4x256x128x128, .f32⟩
  | .hbm, ⟨13, _⟩ => ⟨S_, .f32⟩
  | .hbm, ⟨14, _⟩ => ⟨S4x128x256x1, .f32⟩
  | .hbm, ⟨15, _⟩ => ⟨S_, .f32⟩
  | .hbm, ⟨16, _⟩ => ⟨S4x128x256x1, .f32⟩
  | .hbm, ⟨17, _⟩ => ⟨S4x128x256x256, .f32⟩
  | .hbm, ⟨18, _⟩ => ⟨S_, .f32⟩
  | .hbm, ⟨19, _⟩ => ⟨S4x128x256x256, .f32⟩
  | .hbm, ⟨20, _⟩ => ⟨S4x128x256x256, .f32⟩
  | .hbm, ⟨21, _⟩ => ⟨S_, .f32⟩
  | .hbm, ⟨22, _⟩ => ⟨S4x128x256, .f32⟩
  | .hbm, ⟨23, _⟩ => ⟨S4x128x256x1, .f32⟩
  | .hbm, ⟨24, _⟩ => ⟨S4x128x256x1, .f32⟩
  | .hbm, ⟨25, _⟩ => ⟨S4x128x256x1, .f32⟩
  | .hbm, ⟨26, _⟩ => ⟨S4x128x256x1, .f32⟩
  | .hbm, ⟨27, _⟩ => ⟨S4x128x256x256, .f32⟩
  | .hbm, ⟨28, _⟩ => ⟨S4x128x256x256, .f32⟩
  | .hbm, ⟨29, _⟩ => ⟨S4x128x256x256, .f32⟩
  | .hbm, ⟨30, _⟩ => ⟨S4x128x256x1, .f32⟩
  | .hbm, ⟨31, _⟩ => ⟨S_, .f32⟩
  | .hbm, ⟨32, _⟩ => ⟨S4x128x256, .f32⟩
  | .hbm, ⟨33, _⟩ => ⟨S4x128x256x1, .f32⟩
  | .hbm, ⟨34, _⟩ => ⟨S4x128x256x1, .f32⟩
  | .hbm, ⟨35, _⟩ => ⟨S4x256x128x1, .f32⟩
  | .hbm, ⟨36, _⟩ => ⟨S4x256x128x128, .f32⟩
  | .hbm, ⟨37, _⟩ => ⟨S4x256x128x128, .f32⟩
  | .hbm, ⟨38, _⟩ => ⟨S4x128x128x256, .f32⟩
  | .hbm, ⟨39, _⟩ => ⟨S4x256x128x128, .f32⟩
  | .hbm, ⟨40, _⟩ => ⟨S4x256x128x128, .f32⟩
  | .hbm, ⟨41, _⟩ => ⟨S4x256x128x1, .f32⟩
  | .hbm, ⟨42, _⟩ => ⟨S4x256x128x128, .f32⟩
  | .hbm, ⟨43, _⟩ => ⟨S4x256x128x128, .f32⟩
  | .hbm, ⟨44, _⟩ => ⟨S4x256x16384, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Mesh.lean ====
/-
# The exchange pattern of the kernel

The sixteen devices form a hypercube of four directions. Each of the eight slabs of the workspace (four batches, two column
halves) is reduced and gathered by recursive halving and doubling: at level `n` a slab's device pair splits the rows it still
holds in two halves. This module has the arithmetic: which direction a slab uses at a level, which rows a device keeps,
which rows it sends, and where they land.
-/
module

public import proofs.«01_k».proof.Proof.Gen.KernelIdeal

@[expose] public section

namespace Cert.Ring

open Cert.KernelIdeal Cert.KernelIdeal.Gen
open Idealize.ShloMosaic

/-- The direction slab `i` uses at level `n`: the second column half starts with the directions the first half ends with. -/
def dir (i n : ℕ) : Fin 4 := ⟨(n + 2 * (i % 2)) % 4, Nat.mod_lt _ (by decide)⟩
/-- The bits a direction flips. -/
def maskOf : Fin 4 → ℕ := ![1, 3, 4, 8]
/-- Which of the two sides of a direction a device is on. -/
def sideOf : Fin 4 → ℕ → ℕ := ![fun c => (c % 2 + c / 2 % 2) % 2, fun c => c / 2 % 2, fun c => c / 4 % 2, fun c => c / 8 % 2]
/-- The device across direction `j`. -/
def via (j : Fin 4) (c : Dev nD) : Dev nD := ⟨(c.val ^^^ maskOf j) % 16, Nat.mod_lt _ (by decide)⟩
/-- The side of device `c` at level `n` of slab `i`. -/
def side (i n : ℕ) (c : Dev nD) : ℕ := sideOf (dir i n) c.val
/-- The device slab `i` is exchanged with at level `n`. -/
def ptr (i n : ℕ) (c : Dev nD) : Dev nD := via (dir i n) c
/-- The number of rows held after `n` levels. -/
def sz (n : ℕ) : ℕ := 256 / 2 ^ n
/-- The first row kept after `n` levels. -/
def klo (i : ℕ) : ℕ → Dev nD → ℕ
  | 0, _ => 0
  | n + 1, c => klo i n c + side i n c * sz (n + 1)
/-- The first row of the half given away at level `n`. -/
def slo (i n : ℕ) (c : Dev nD) : ℕ := klo i n c + (1 - side i n c) * sz (n + 1)
/-- The first row of the landing region of level `n` in the receive buffer. -/
def roff (n : ℕ) : ℕ := 256 - sz n

/-- The level of exchange `s` of a slab: four halving exchanges, then four doubling exchanges. -/
def lvl (s : ℕ) : ℕ := if s < 4 then s else 7 - s
/-- The number of rows exchange `s` moves. -/
def len (s : ℕ) : ℕ := sz (lvl s + 1)
/-- The device exchange `s` of slab `i` is made with. -/
def peer (i s : ℕ) (c : Dev nD) : Dev nD := ptr i (lvl s) c
/-- The first row exchange `s` sends. -/
def srow (i s : ℕ) (c : Dev nD) : ℕ := if s < 4 then slo i s c else klo i (lvl s + 1) c
/-- The first row exchange `s` lands at, on the device it lands on. -/
def drow (i s : ℕ) (c : Dev nD) : ℕ := if s < 4 then roff s else slo i (lvl s) c

theorem via_via : ∀ (j : Fin 4) (c : Dev nD), via j (via j c) = c := by decide +kernel
theorem ptr_ptr (i n : ℕ) (c : Dev nD) : ptr i n (ptr i n c) = c := via_via _ _
theorem peer_peer (i s : ℕ) (c : Dev nD) : peer i s (peer i s c) = c := via_via _ _
/-- Across direction `j`, as a bijection of the devices. -/
def viaEquiv (j : Fin 4) : Dev nD ≃ Dev nD := ⟨via j, via j, via_via j, via_via j⟩

theorem slo_ptr' : ∀ (i : Fin 8) (n : Fin 4) (c : Dev nD), slo i n (ptr i n c) = klo i (n + 1) c := by decide +kernel
theorem klo_succ_ptr' : ∀ (i : Fin 8) (n : Fin 4) (c : Dev nD), klo i (n + 1) (ptr i n c) = slo i n c := by decide +kernel
theorem halves' : ∀ (i : Fin 8) (n : Fin 4) (c : Dev nD),
    (klo i (n + 1) c = klo i n c ∧ slo i n c = klo i n c + sz (n + 1)) ∨ (slo i n c = klo i n c ∧ klo i (n + 1) c = klo i n c + sz (n + 1)) := by
  decide +kernel
theorem klo_le' : ∀ (i : Fin 8) (n : Fin 5) (c : Dev nD), klo i n c + sz n ≤ 256 := by decide +kernel
theorem sz_succ' : ∀ n : Fin 4, sz n = 2 * sz (n + 1) := by decide
theorem roff_add' : ∀ n : Fin 4, roff (n + 1) = roff n + sz (n + 1) := by decide

theorem slo_ptr (i : Fin 8) {n : ℕ} (hn : n < 4) (c : Dev nD) : slo i n (ptr i n c) = klo i (n + 1) c := slo_ptr' i ⟨n, hn⟩ c
theorem klo_succ_ptr (i : Fin 8) {n : ℕ} (hn : n < 4) (c : Dev nD) : klo i (n + 1) (ptr i n c) = slo i n c := klo_succ_ptr' i ⟨n, hn⟩ c
theorem halves (i : Fin 8) {n : ℕ} (hn : n < 4) (c : Dev nD) :
    (klo i (n + 1) c = klo i n c ∧ slo i n c = klo i n c + sz (n + 1)) ∨ (slo i n c = klo i n c ∧ klo i (n + 1) c = klo i n c + sz (n + 1)) :=
  halves' i ⟨n, hn⟩ c
theorem klo_le (i : Fin 8) {n : ℕ} (hn : n ≤ 4) (c : Dev nD) : klo i n c + sz n ≤ 256 := klo_le' i ⟨n, by omega⟩ c
theorem sz_succ {n : ℕ} (hn : n < 4) : sz n = 2 * sz (n + 1) := sz_succ' ⟨n, hn⟩

/-- The device that keeps row `r` of slab `i` to the last level. -/
def owner (i r : ℕ) : Dev nD :=
  let b (j : ℕ) : ℕ := r / sz (dir i j + 1) % 2
  ⟨((b 0 + b 1) % 2 + 2 * b 1 + 4 * b 2 + 8 * b 3) % 16, Nat.mod_lt _ (by decide)⟩
theorem owner_klo' : ∀ (i : Fin 8) (c : Dev nD) (t : Fin 16), owner i (klo i 4 c + t) = c := by decide +kernel
theorem owner_klo (i : Fin 8) (c : Dev nD) {r : ℕ} (h : klo i 4 c ≤ r) (h' : r < klo i 4 c + sz 4) : owner i r = c := by
  have h4 : sz 4 = 16 := by decide
  have := owner_klo' i c ⟨r - klo i 4 c, by omega⟩
  rwa [show klo i 4 c + (⟨r - klo i 4 c, by omega⟩ : Fin 16).val = r by simp; omega] at this

/-- The sixteen devices two-by-two across four directions: the devices that end a halving tree at `c` level by level. -/
theorem dir_dir : ∀ (i : Fin 8) (j : Fin 4), dir i (dir i j) = j := by decide

/-! ## Row regions -/

/-- Rows `[lo, lo + n)` of slab `i` of the workspace. -/
def rows (i lo n : ℕ) : Finset S8x256x512.Idx := Finset.univ.filter fun x => (x 0).val = i ∧ lo ≤ (x 1).val ∧ (x 1).val < lo + n
/-- Rows `[lo, lo + n)` of slab `i` of the receive buffer. -/
def rrows (i lo n : ℕ) : Finset S8x240x512.Idx := Finset.univ.filter fun x => (x 0).val = i ∧ lo ≤ (x 1).val ∧ (x 1).val < lo + n

theorem mem_rows {i lo n : ℕ} {x : S8x256x512.Idx} : x ∈ rows i lo n ↔ (x 0).val = i ∧ lo ≤ (x 1).val ∧ (x 1).val < lo + n := by
  simp [rows]
theorem mem_rrows {i lo n : ℕ} {x : S8x240x512.Idx} : x ∈ rrows i lo n ↔ (x 0).val = i ∧ lo ≤ (x 1).val ∧ (x 1).val < lo + n := by
  simp [rrows]

/-- A device's rows at level `n` are the half it keeps and the half it gives away; -/
theorem rows_split (i : Fin 8) {n : ℕ} (hn : n < 4) (c : Dev nD) :
    rows i (klo i n c) (sz n) = rows i (klo i (n + 1) c) (sz (n + 1)) ∪ rows i (slo i n c) (sz (n + 1)) := by
  ext x; rw [Finset.mem_union, mem_rows, mem_rows, mem_rows]
  have h1 := halves i hn c; have h2 := sz_succ hn
  omega
/-- the two halves have no row in common. -/
theorem rows_disj (i : Fin 8) {n : ℕ} (hn : n < 4) (c : Dev nD) :
    Disjoint (rows i (klo i (n + 1) c) (sz (n + 1))) (rows i (slo i n c) (sz (n + 1))) := by
  rw [Finset.disjoint_left]; intro x; rw [mem_rows, mem_rows]
  have h1 := halves i hn c; have h2 := sz_succ hn
  omega
theorem slo_subset (i : Fin 8) {n : ℕ} (hn : n < 4) (c : Dev nD) : rows i (slo i n c) (sz (n + 1)) ⊆ rows i (klo i n c) (sz n) := by
  rw [rows_split i hn c]; exact Finset.subset_union_right
theorem klo_subset (i : Fin 8) {n : ℕ} (hn : n < 4) (c : Dev nD) : rows i (klo i (n + 1) c) (sz (n + 1)) ⊆ rows i (klo i n c) (sz n) := by
  rw [rows_split i hn c]; exact Finset.subset_union_left
theorem rows_slab (i n : ℕ) (lo : ℕ) : rows i lo n ⊆ rows i 0 256 := by
  intro x; rw [mem_rows, mem_rows]; intro h
  have : (x 1).val < 256 := (x 1).isLt
  omega

end Cert.Ring
-- ==== Proof.Sched.lean ====
/-
# What the kernel computes, and the schedule of its semaphores

First the contents: what every buffer of every device holds at the points of the run where another device or a later step
reads it. Then the semaphores under the rounds library. Every cell has one round.

* The barrier cell of a device has four duties, one per direction, each of one unit. The device across direction `j` pays
  duty `j`; with it the payer hands over all the landing regions that the owner's exchanges along direction `j` write to:
  the owner may write into the payer's buffers once the payer has entered the kernel.
* Exchange `s` of slab `i` has a send cell and a receive cell on every device, each with one duty of the transfer's credit.
  The send cell gives back the rows that were read. The receive cell gives the landing region with the peer's rows in it.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchanges' (duties named by a direction) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Indices -/

/-- Row `r`, column `k` of slab `i` of the workspace. -/
def ix (i r : ℕ) (k : Fin 512) : S8x256x512.Idx := fun
  | 0 => (⟨i % 8, Nat.mod_lt _ (by decide)⟩ : Fin 8)
  | 1 => (⟨r % 256, Nat.mod_lt _ (by decide)⟩ : Fin 256)
  | 2 => k
/-- Row `r`, column `k` of a square matrix. -/
def sq (r k : ℕ) : S1024x1024.Idx := fun
  | 0 => (⟨r % 1024, Nat.mod_lt _ (by decide)⟩ : Fin 1024)
  | 1 => (⟨k % 1024, Nat.mod_lt _ (by decide)⟩ : Fin 1024)

/-- An index of a rank-two shape from its coordinates. -/
def pr {a b : ℕ} (r : Fin a) (k : Fin b) : (⟨2, ![a, b]⟩ : Shape).Idx := fun
  | 0 => r
  | 1 => k
/-- An index of a rank-three shape from its coordinates. -/
def tr3 {a b c : ℕ} (p : Fin a) (r : Fin b) (k : Fin c) : (⟨3, ![a, b, c]⟩ : Shape).Idx := fun
  | 0 => p
  | 1 => r
  | 2 => k

/-! ## Contents -/

/-- What the kernel reads on every device: the activations, and the device's blocks of the four weights. -/
structure Ins (F : FTy → Type) where
  x : Dev nD → S4x256x1024.Idx → Elt F .f32
  wq : Dev nD → S1024x1024.Idx → Elt F .f32
  wk : Dev nD → S1024x1024.Idx → Elt F .f32
  wv : Dev nD → S1024x1024.Idx → Elt F .f32
  wo : Dev nD → S1024x1024.Idx → Elt F .f32

/-- The `256` rows from row `256 b` of a square matrix. -/
def rowBlk {e : EltTy} (A : S1024x1024.Idx → Elt F e) (b : ℕ) : S256x1024.Idx → Elt F e := fun j => A (sq (256 * b + (j 0).val) (j 1).val)
/-- The `256 × 128` block at row block `b`, column block `h`. -/
def headBlk {e : EltTy} (A : S1024x1024.Idx → Elt F e) (b h : ℕ) : S256x128.Idx → Elt F e :=
  fun j => A (sq (256 * b + (j 0).val) (128 * h + (j 1).val))
/-- The `512` columns from column `512 t`. -/
def colBlk {e : EltTy} (A : S1024x1024.Idx → Elt F e) (t : ℕ) : S1024x512.Idx → Elt F e := fun j => A (sq (j 0).val (512 * t + (j 1).val))
/-- Batch `b` of the activations. -/
def xBlk (X : S4x256x1024.Idx → Elt F .f32) (b : ℕ) : S1x256x1024.Idx → Elt F .f32 :=
  fun j => X (tr3 (⟨b % 4, Nat.mod_lt _ (by decide)⟩ : Fin 4) (j 1) (j 2))

/-- A weight block rounded. -/
def wB (W : S1024x1024.Idx → Elt F .f32) : S1024x1024.Idx → Elt F .bf16 := k0_pay3 (F := F) W
/-- A projection of one batch. -/
def projB (X : S1x256x1024.Idx → Elt F .f32) (W : S1024x1024.Idx → Elt F .bf16) : S256x1024.Idx → Elt F .bf16 := k0_pay8 (F := F) X W
/-- One head's attention of one batch. -/
def attB (q k v : S256x128.Idx → Elt F .bf16) : S256x128.Idx → Elt F .bf16 := k0_pay11 (F := F) q k v
/-- One batch and column half of the output projection. -/
def oprojB (o : S256x1024.Idx → Elt F .bf16) (w : S1024x512.Idx → Elt F .bf16) : S1x256x512.Idx → Elt F .bf16 := k0_pay23 (F := F) o w

/-- A projection of all four batches. -/
def proj (X : S4x256x1024.Idx → Elt F .f32) (W : S1024x1024.Idx → Elt F .f32) : S1024x1024.Idx → Elt F .bf16 :=
  fun x => projB (xBlk X ((x 0).val / 256)) (wB W) (pr (⟨(x 0).val % 256, Nat.mod_lt _ (by decide)⟩ : Fin 256) (x 1))
/-- The attention of all heads and batches. -/
def att (q k v : S1024x1024.Idx → Elt F .bf16) : S1024x1024.Idx → Elt F .bf16 := fun x =>
  attB (headBlk q ((x 0).val / 256) ((x 1).val / 128)) (headBlk k ((x 0).val / 256) ((x 1).val / 128)) (headBlk v ((x 0).val / 256) ((x 1).val / 128))
    (pr (⟨(x 0).val % 256, Nat.mod_lt _ (by decide)⟩ : Fin 256) (⟨(x 1).val % 128, Nat.mod_lt _ (by decide)⟩ : Fin 128))

variable (I : Ins F)

def qC (c : Dev nD) : S1024x1024.Idx → Elt F .bf16 := proj (I.x c) (I.wq c)
def kC (c : Dev nD) : S1024x1024.Idx → Elt F .bf16 := proj (I.x c) (I.wk c)
def vC (c : Dev nD) : S1024x1024.Idx → Elt F .bf16 := proj (I.x c) (I.wv c)
def oC (c : Dev nD) : S1024x1024.Idx → Elt F .bf16 := att (qC I c) (kC I c) (vC I c)
/-- Device `c`'s own partial result, slab by slab. -/
def partC (c : Dev nD) : S8x256x512.Idx → Elt F .bf16 := fun x =>
  oprojB (rowBlk (oC I c) ((x 0).val / 2)) (colBlk (wB (I.wo c)) ((x 0).val % 2)) (tr3 (0 : Fin 1) (x 1) (x 2))

/-- Two rounded values added and rounded. -/
def addE (a b : Elt F .bf16) : Elt F .bf16 := FloatOps.truncf .bf16 bitsLt_bf16_f32 (FloatOps.addf (FloatOps.extf .f32 bitsLt_bf16_f32 (a : F .bf16)) (FloatOps.extf .f32 bitsLt_bf16_f32 (b : F .bf16)))
/-- What device `c` holds after `n` halving levels, on the rows it then keeps. -/
def accC : ℕ → Dev nD → S8x256x512.Idx → Elt F .bf16
  | 0, c => partC I c
  | n + 1, c => fun x => addE (accC n c x) (accC n (ptr (x 0).val n c) x)
/-- The level a row of the receive buffer belongs to. -/
def rlvl (r : ℕ) : ℕ := if r < 128 then 0 else if r < 192 then 1 else if r < 224 then 2 else 3
/-- What lands in device `c`'s receive buffer. -/
def recC (c : Dev nD) : S8x240x512.Idx → Elt F .bf16 := fun x =>
  accC I (rlvl (x 1).val) (ptr (x 0).val (rlvl (x 1).val) c)
    (ix (x 0).val (klo (x 0).val (rlvl (x 1).val + 1) c + ((x 1).val - roff (rlvl (x 1).val))) (x 2))
/-- The sum over all devices: each row's value is the one its last keeper holds. -/
def sumC : S8x256x512.Idx → Elt F .bf16 := fun x => accC I 4 (owner (x 0).val (x 1).val) x
/-- A rounded value widened. -/
def extE (a : Elt F .bf16) : Elt F .f32 := FloatOps.extf .f32 bitsLt_bf16_f32 (a : F .bf16)
/-- The result. -/
def outC : S1024x1024.Idx → Elt F .f32 := fun x =>
  extE (sumC I (ix (2 * ((x 0).val / 256) + (x 1).val / 512) ((x 0).val % 256) ⟨(x 1).val % 512, Nat.mod_lt _ (by decide)⟩))

/-! ## Memory regions -/

abbrev accM : Memref sig .tc .vmem S8x256x512 .bf16 := Memref.whole cc0_scratch8
abbrev agM : Memref sig .tc .vmem S8x256x512 .bf16 := Memref.whole cc0_scratch9
abbrev recM : Memref sig .tc .vmem S8x240x512 .bf16 := Memref.whole cc0_scratch10

/-- Rows of the reduction workspace. -/
def accP (c : Dev nD) (S : Finset S8x256x512.Idx) (f : S8x256x512.Idx → Elt F .bf16) : sProp 𝕄 :=
  ((c : Thread nD τ).loc cc0_scratch8) ↦[S]{fullShare} f
/-- Rows of the gather workspace. -/
def agP (c : Dev nD) (S : Finset S8x256x512.Idx) (q : PosShare TreeShare) (f : S8x256x512.Idx → Elt F .bf16) : sProp 𝕄 :=
  ((c : Thread nD τ).loc cc0_scratch9) ↦[S]{q} f
/-- Rows of the receive buffer. -/
def recP (c : Dev nD) (S : Finset S8x240x512.Idx) (f : S8x240x512.Idx → Elt F .bf16) : sProp 𝕄 :=
  ((c : Thread nD τ).loc cc0_scratch10) ↦[S]{fullShare} f

instance accP_storable (c : Dev nD) (S) (f) : BI.Storable (upEmb : UEmb _ 𝕄) (accP (F := F) c S f) := by unfold accP; infer_instance
instance agP_storable (c : Dev nD) (S) (q) (f) : BI.Storable (upEmb : UEmb _ 𝕄) (agP (F := F) c S q f) := by unfold agP; infer_instance
instance recP_storable (c : Dev nD) (S) (f) : BI.Storable (upEmb : UEmb _ 𝕄) (recP (F := F) c S f) := by unfold recP; infer_instance

/-- The landing region on device `d` of exchange `s` of slab `i`, at any contents; -/
def landE (d : Dev nD) (i s : ℕ) : sProp 𝕄 :=
  if s < 4 then iprop(∃ f, recP d (rrows i (drow i s d) (len s)) f) else iprop(∃ f, agP d (rows i (drow i s d) (len s)) fullShare f)
/-- and with the peer's rows in it. -/
def landP (d : Dev nD) (i s : ℕ) : sProp 𝕄 :=
  if s < 4 then recP d (rrows i (drow i s d) (len s)) (recC I d) else agP d (rows i (drow i s d) (len s)) fullShare (sumC I)
/-- The rows device `c` lends to exchange `s` of slab `i`: rows it no longer needs to halve, and a share of the rows it goes
    on reading to double. -/
def srcP (c : Dev nD) (i s : ℕ) : sProp 𝕄 :=
  if s < 4 then accP c (rows i (srow i s c) (len s)) (accC I s c) else agP c (rows i (srow i s c) (len s)) fullShare.right (sumC I)

instance landE_storable (d : Dev nD) (i s : ℕ) : BI.Storable (upEmb : UEmb _ 𝕄) (landE (F := F) d i s) := by unfold landE; split <;> infer_instance
instance landP_storable (d : Dev nD) (i s : ℕ) : BI.Storable (upEmb : UEmb _ 𝕄) (landP (F := F) I d i s) := by unfold landP; split <;> infer_instance
instance srcP_storable (c : Dev nD) (i s : ℕ) : BI.Storable (upEmb : UEmb _ 𝕄) (srcP (F := F) I c i s) := by unfold srcP; split <;> infer_instance

/-! ## Cells -/

abbrev barS : Sem sig := (SemArray.scalar (sig.barrier 0 rfl) : Sems sig S_).sem
/-- The semaphores of exchange `s` of slab `i`. -/
def sendS (i s : Fin 8) : DmaSem sig := (⟨6 + 8 * i.val + s.val, by omega⟩ : Fin 134)
def recvS (i s : Fin 8) : DmaSem sig := (⟨70 + 8 * i.val + s.val, by omega⟩ : Fin 134)

abbrev barCell (c : Dev nD) : GSem nD τ sig := ((c : Thread nD τ), .reg barS)
abbrev sendCell (c : Dev nD) (i s : Fin 8) : GSem nD τ sig := ((c : Thread nD τ), .dma (sendS i s))
abbrev recvCell (c : Dev nD) (i s : Fin 8) : GSem nD τ sig := ((c : Thread nD τ), .dma (recvS i s))

/-- The credit of exchange `s`. -/
def amt (s : ℕ) : ℕ := 32 * len s
theorem amt_pos (s : ℕ) : 0 < amt s := by
  unfold amt len lvl sz
  split
  · have : s = 0 ∨ s = 1 ∨ s = 2 ∨ s = 3 := by omega
    rcases this with rfl | rfl | rfl | rfl <;> decide
  · have : 7 - s = 0 ∨ 7 - s = 1 ∨ 7 - s = 2 ∨ 7 - s = 3 := by omega
    rcases this with h | h | h | h <;> rw [h] <;> decide

/-! ## The schedule -/

/-- What the device across direction `j` hands device `c` on entry: its landing regions for `c`'s exchanges along `j`. -/
def barPay (c : Dev nD) (j : Fin 4) : sProp 𝕄 :=
  bigSep (Finset.univ : Finset (Fin 8 × Fin 8)) fun p => if dir p.1 (lvl p.2) = j then landE (via j c) p.1 p.2 else iprop(emp)

instance barPay_storable (c : Dev nD) (j : Fin 4) : BI.Storable (upEmb : UEmb _ 𝕄) (barPay (F := F) c j) := by
  unfold barPay
  haveI : ∀ p : Fin 8 × Fin 8, BI.Storable (upEmb : UEmb _ 𝕄) (if dir p.1 (lvl p.2) = j then landE (F := F) (via j c) p.1 p.2 else iprop(emp)) := by
    intro p; split <;> infer_instance
  infer_instance

def dutiesOf : SemLoc sig → Finset (Fin 4)
  | .reg _ => Finset.univ
  | .dma q => if 6 ≤ q.val then {0} else ∅
def amountOf : SemLoc sig → ℕ
  | .reg _ => 1
  | .dma q => if q.val < 70 then amt ((q.val - 6) % 8) else amt ((q.val - 70) % 8)
def payOf (c : Dev nD) (d : Fin 4) : SemLoc sig → sProp 𝕄
  | .reg _ => barPay c d
  | .dma q => if q.val < 70 then srcP I c ((q.val - 6) / 8) ((q.val - 6) % 8) else landP I c ((q.val - 70) / 8) ((q.val - 70) % 8)

def Rd : Rounds.Schedule (GSem nD τ sig) (Fin 4) 𝕄 where
  duties g r := if r = 0 ∧ g.1.2 = .tc then dutiesOf g.2 else ∅
  unitless _ := False
  amount g _ _ := amountOf g.2
  payload g _ d := payOf I g.1.1 d g.2
  amount_pos g _ _ _ := by
    rcases g with ⟨t, q | q⟩
    · exact Nat.one_pos
    · show 0 < if q.val < 70 then _ else _
      split <;> exact amt_pos _

instance Rd_payload_storable (g : GSem nD τ sig) (r : ℕ) (d : Fin 4) : BI.Storable (upEmb : UEmb _ 𝕄) ((Rd (F := F) I).payload g r d) := by
  rcases g with ⟨t, q | q⟩
  · show BI.Storable upEmb (barPay t.1 d); infer_instance
  · show BI.Storable upEmb (if q.val < 70 then _ else _)
    split <;> infer_instance

section Sched
variable (c : Dev nD) (i s : Fin 8)

theorem duties_bar : (Rd I).duties (barCell c) 0 = Finset.univ := by
  dsimp only [Rd]; exact if_pos ⟨rfl, rfl⟩
theorem duties_send : (Rd I).duties (sendCell c i s) 0 = {0} := by
  dsimp only [Rd]; refine (if_pos ⟨rfl, rfl⟩).trans (if_pos ?_); show 6 ≤ 6 + 8 * i.val + s.val; exact Nat.le_trans (Nat.le_add_right _ _) (Nat.le_add_right _ _)
theorem duties_recv : (Rd I).duties (recvCell c i s) 0 = {0} := by
  dsimp only [Rd]; refine (if_pos ⟨rfl, rfl⟩).trans (if_pos ?_); show 6 ≤ 70 + 8 * i.val + s.val; omega
theorem duties_later (g : GSem nD τ sig) : ∀ r, 1 ≤ r → (Rd I).duties g r = ∅ := fun r hr => if_neg fun h => by omega

theorem amount_bar (d : Fin 4) : (Rd I).amount (barCell c) 0 d = 1 := rfl
theorem amount_send (d : Fin 4) : (Rd I).amount (sendCell c i s) 0 d = amt s := by
  refine (if_pos (?_ : 6 + 8 * i.val + s.val < 70)).trans (congrArg amt (?_ : (6 + 8 * i.val + s.val - 6) % 8 = s.val)) <;> omega
theorem amount_recv (d : Fin 4) : (Rd I).amount (recvCell c i s) 0 d = amt s := by
  refine (if_neg (?_ : ¬ 70 + 8 * i.val + s.val < 70)).trans (congrArg amt (?_ : (70 + 8 * i.val + s.val - 70) % 8 = s.val)) <;> omega

theorem expect_bar : (Rd I).expect (barCell c) 0 = 4 := by
  unfold Schedule.expect Schedule.amountOf
  rw [duties_bar, Finset.sum_congr rfl fun d _ => amount_bar I c d]; rfl
theorem expect_send : (Rd I).expect (sendCell c i s) 0 = amt s := by
  unfold Schedule.expect Schedule.amountOf; rw [duties_send, Finset.sum_singleton, amount_send]
theorem expect_recv : (Rd I).expect (recvCell c i s) 0 = amt s := by
  unfold Schedule.expect Schedule.amountOf; rw [duties_recv, Finset.sum_singleton, amount_recv]

theorem payload_bar (d : Fin 4) : (Rd I).payload (barCell c) 0 d = barPay c d := rfl
theorem payload_send (d : Fin 4) : (Rd I).payload (sendCell c i s) 0 d = srcP I c i s := by
  refine (if_pos (?_ : 6 + 8 * i.val + s.val < 70)).trans ?_
  · omega
  · show srcP I c ((6 + 8 * i.val + s.val - 6) / 8) ((6 + 8 * i.val + s.val - 6) % 8) = _
    rw [show (6 + 8 * i.val + s.val - 6) / 8 = i.val by omega, show (6 + 8 * i.val + s.val - 6) % 8 = s.val by omega]
theorem payload_recv (d : Fin 4) : (Rd I).payload (recvCell c i s) 0 d = landP I c i s := by
  refine (if_neg (?_ : ¬ 70 + 8 * i.val + s.val < 70)).trans ?_
  · omega
  · show landP I c ((70 + 8 * i.val + s.val - 70) / 8) ((70 + 8 * i.val + s.val - 70) % 8) = _
    rw [show (70 + 8 * i.val + s.val - 70) / 8 = i.val by omega, show (70 + 8 * i.val + s.val - 70) % 8 = s.val by omega]

theorem rest_bar : bigSep ((Rd I).duties (barCell c) 0 \ ∅) (fun d => (Rd I).payload (barCell c) 0 d) = bigSep Finset.univ (fun d => barPay (F := F) c d) := by
  rw [Finset.sdiff_empty, duties_bar]; rfl
theorem rest_send : bigSep ((Rd I).duties (sendCell c i s) 0 \ ∅) (fun d => (Rd I).payload (sendCell c i s) 0 d) = srcP I c i s := by
  rw [Finset.sdiff_empty, duties_send, bigSep_singleton, payload_send]
theorem rest_recv : bigSep ((Rd I).duties (recvCell c i s) 0 \ ∅) (fun d => (Rd I).payload (recvCell c i s) 0 d) = landP I c i s := by
  rw [Finset.sdiff_empty, duties_recv, bigSep_singleton, payload_recv]

end Sched

/-! ## Levels -/

/-- The round of exchange `s` of slab `i`: the order in which all devices make their exchanges. -/
def rnd (i s : ℕ) : ℕ := i / 2 + s

def L (g : GSem nD τ sig) : Finset Unit := if g.1.2 = .tc then {()} else ∅
def lvOf : SemLoc sig → ℕ
  | .reg _ => 1
  | .dma q => if q.val < 70 then 0 else 2 + rnd ((q.val - 70) / 8) ((q.val - 70) % 8)
/-- Send and staging cells at level 0, barrier cells at 1, receive cells above, by their round. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_send (c : Dev nD) (i s : Fin 8) : lv (sendCell c i s) () = 0 := if_pos (by show 6 + 8 * i.val + s.val < 70; omega)
theorem lv_recv (c : Dev nD) (i s : Fin 8) : lv (recvCell c i s) () = 2 + rnd i s := by
  refine (if_neg (?_ : ¬ 70 + 8 * i.val + s.val < 70)).trans ?_
  · omega
  · show 2 + rnd ((70 + 8 * i.val + s.val - 70) / 8) ((70 + 8 * i.val + s.val - 70) % 8) = _
    rw [show (70 + 8 * i.val + s.val - 70) / 8 = i.val by omega, show (70 + 8 * i.val + s.val - 70) % 8 = s.val by omega]

end Cert.Ring

end
-- ==== Proof.State.lean ====
/-
# The state of a device between two operations

`St` counts what a device has done: how far each buffer is filled, which phase each slab is in, and how many pieces of each
slab are in the result. `Sm` is the assertion a device holds in a state, and `Tr` says that a program takes one state to
another. Every operation of the kernel moves one counter.

The phases of a slab: phase 0 before its partial result is stored. Exchange `s` starts at phase `base s`; sending, waiting for
the send, and waiting for the receive are one phase each. A halving exchange has one more, the addition of what was received.
Between the last addition and the first doubling exchange the sum is copied to the gather workspace.
-/
module

public import proofs.«01_k».proof.Proof.Sched
public import Idealize.ShloMosaic.Lib.MemrefSat

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

structure St where
  /-- How far each compute buffer is filled: the four rounded weights, the three projections, the heads. -/
  cs : Fin 8 → ℕ
  /-- The phase of each slab. -/
  ph : Fin 8 → ℕ
  /-- The number of pieces of each slab copied to the result. -/
  fl : Fin 8 → ℕ

def St.setC (σ : St) (j : Fin 8) (n : ℕ) : St := { σ with cs := Function.update σ.cs j n }
def St.setP (σ : St) (i : Fin 8) (p : ℕ) : St := { σ with ph := Function.update σ.ph i p }
def St.setF (σ : St) (i : Fin 8) (n : ℕ) : St := { σ with fl := Function.update σ.fl i n }

theorem St.eq {σ σ' : St} (h₁ : ∀ j, σ.cs j = σ'.cs j) (h₂ : ∀ j, σ.ph j = σ'.ph j) (h₃ : ∀ j, σ.fl j = σ'.fl j) : σ = σ' := by
  obtain ⟨a, b, c⟩ := σ; obtain ⟨a', b', c'⟩ := σ'
  obtain rfl : a = a' := funext h₁; obtain rfl : b = b' := funext h₂; obtain rfl : c = c' := funext h₃
  rfl
theorem St.setC_self (σ : St) (j : Fin 8) : σ.setC j (σ.cs j) = σ := by unfold St.setC; rw [Function.update_eq_self]
theorem St.setP_self (σ : St) (j : Fin 8) : σ.setP j (σ.ph j) = σ := by unfold St.setP; rw [Function.update_eq_self]

/-- The phase exchange `s` starts in. -/
def base (s : ℕ) : ℕ := if s < 4 then 1 + 4 * s else 18 + 3 * (s - 4)
/-- How far exchange `s` is in phase `p`: not begun, sent, send awaited, receive awaited. -/
def stg (s p : ℕ) : ℕ := if p ≤ base s then 0 else min 3 (p - base s)

theorem stg_base : ∀ s : Fin 8, stg s (base s) = 0 := by decide
theorem stg_base1 : ∀ s : Fin 8, stg s (base s + 1) = 1 := by decide
theorem stg_base2 : ∀ s : Fin 8, stg s (base s + 2) = 2 := by decide
theorem stg_base3 : ∀ s : Fin 8, stg s (base s + 3) = 3 := by decide
theorem stg_ne : ∀ s s' : Fin 8, s' ≠ s → ∀ k : Fin 4, stg s' (base s + k) = stg s' (base s) := by decide

/-! ## Cells and the records of them -/

def csem (k : Fin 129) : SemLoc sig := if h : k.val = 0 then .reg barS else .dma (⟨5 + k.val, by omega⟩ : Fin 134)
abbrev kcell (ck : Dev nD × Fin 129) : GSem nD τ sig := ((ck.1 : Thread nD τ), csem ck.2)
def kSend (i s : Fin 8) : Fin 129 := ⟨1 + 8 * i.val + s.val, by omega⟩
def kRecv (i s : Fin 8) : Fin 129 := ⟨65 + 8 * i.val + s.val, by omega⟩
theorem kcell_bar (c : Dev nD) : kcell (c, 0) = barCell c := rfl
theorem csem_send (i s : Fin 8) : csem (kSend i s) = .dma (sendS i s) := by
  unfold csem; rw [dif_neg (by simp only [kSend]; omega)]; unfold kSend sendS; congr 2; simp only; omega
theorem csem_recv (i s : Fin 8) : csem (kRecv i s) = .dma (recvS i s) := by
  unfold csem; rw [dif_neg (by simp only [kRecv]; omega)]; unfold kRecv recvS; congr 2; simp only; omega
theorem kcell_send (c : Dev nD) (i s : Fin 8) : kcell (c, kSend i s) = sendCell c i s := by unfold kcell; rw [csem_send]
theorem kcell_recv (c : Dev nD) (i s : Fin 8) : kcell (c, kRecv i s) = recvCell c i s := by unfold kcell; rw [csem_recv]

variable (I : Ins F) (K : Dev nD × Fin 129 → ℕ)

/-- Every cell's invariant, and that every cell has reached its round. -/
def Recs : sProp 𝕄 :=
  iprop(bigSep Finset.univ (fun ck : Dev nD × Fin 129 => iprop(cellInv ER (Rd I) (K ck) (kcell ck) ∗ reached ER (kcell ck) 0)))
instance Recs_persistent : BI.Persistent (Recs (F := F) I K) := by unfold Recs; infer_instance

theorem Recs_at (ck : Dev nD × Fin 129) : Recs (F := F) I K ⊢ iprop(cellInv ER (Rd I) (K ck) (kcell ck) ∗ reached ER (kcell ck) 0) :=
  bigSep_elim (Finset.mem_univ ck)
theorem Recs_bar (c : Dev nD) : Recs (F := F) I K ⊢ iprop(cellInv ER (Rd I) (K (c, 0)) (barCell c) ∗ reached ER (barCell c) 0) := Recs_at I K (c, 0)
theorem Recs_send (c : Dev nD) (i s : Fin 8) :
    Recs (F := F) I K ⊢ iprop(cellInv ER (Rd I) (K (c, kSend i s)) (sendCell c i s) ∗ reached ER (sendCell c i s) 0) := by
  have := Recs_at I K (c, kSend i s); rwa [kcell_send] at this
theorem Recs_recv (c : Dev nD) (i s : Fin 8) :
    Recs (F := F) I K ⊢ iprop(cellInv ER (Rd I) (K (c, kRecv i s)) (recvCell c i s) ∗ reached ER (recvCell c i s) 0) := by
  have := Recs_at I K (c, kRecv i s); rwa [kcell_recv] at this

/-! ## What a device owes -/

/-- The receive credits of the exchanges a device has not begun. -/
def owedOf (c : Dev nD) (ph : Fin 8 → ℕ) : CellTallies nD τ sig Unit :=
  ∑ q : Fin 8 × Fin 8, if stg q.2 (ph q.1) = 0 then tallyAt (recvCell (peer q.1 q.2 c) q.1 q.2) () (amt q.2) else 0

theorem owedOf_congr (c : Dev nD) {ph ph' : Fin 8 → ℕ} (h : ∀ i s : Fin 8, stg s (ph i) = 0 ↔ stg s (ph' i) = 0) : owedOf c ph = owedOf c ph' :=
  Finset.sum_congr rfl fun q _ => by simp only [h q.1 q.2]
theorem owedOf_send (c : Dev nD) {ph ph' : Fin 8 → ℕ} (i s : Fin 8) (h0 : stg s (ph i) = 0) (h1 : stg s (ph' i) ≠ 0)
    (h : ∀ i' s' : Fin 8, (i', s') ≠ (i, s) → (stg s' (ph i') = 0 ↔ stg s' (ph' i') = 0)) :
    owedOf c ph = owedOf c ph' + tallyAt (recvCell (peer i s c) i s) () (amt s) := by
  unfold owedOf
  rw [← Finset.sum_erase_add _ _ (Finset.mem_univ (i, s)), ← Finset.sum_erase_add (f := fun q : Fin 8 × Fin 8 => if stg q.2 (ph' q.1) = 0 then _ else _) _ (Finset.mem_univ (i, s))]
  dsimp only
  rw [if_pos h0, if_neg h1, add_zero]
  congr 1
  exact Finset.sum_congr rfl fun q hq => by simp only [h q.1 q.2 (Finset.ne_of_mem_erase hq)]
theorem owedOf_pos {c : Dev nD} {ph : Fin 8 → ℕ} {g : GSem nD τ sig} {u : Unit} (h : 0 < owedOf c ph g u) :
    ∃ i s : Fin 8, g = recvCell (peer i s c) i s ∧ stg s (ph i) = 0 := by
  unfold owedOf at h
  rw [Finset.sum_apply, Finsupp.finset_sum_apply] at h
  obtain ⟨q, _, hq⟩ := Finset.exists_ne_zero_of_sum_ne_zero (Nat.pos_iff_ne_zero.mp h)
  refine ⟨q.1, q.2, ?_⟩
  by_cases h0 : stg q.2 (ph q.1) = 0
  · rw [if_pos h0, tallyAt_apply] at hq
    by_cases hg : g = recvCell (peer q.1 q.2 c) q.1 q.2 ∧ u = ()
    · exact ⟨hg.1, h0⟩
    · rw [if_neg hg] at hq; exact absurd rfl hq
  · rw [if_neg h0] at hq; exact absurd rfl hq

/-! ## The pieces of a state -/

/-- Exchange `s` of slab `i` on device `c`, by its stage. -/
def X (c : Dev nD) (i s : Fin 8) : ℕ → sProp 𝕄
  | 0 => iprop(dutyTok ER (sendCell c i s) 0 0 ∗ dutyTok ER (recvCell (peer i s c) i s) 0 0 ∗ landE (peer i s c) i s
      ∗ atPos ER (sendCell c i s) 0 ∅ 0 ∗ atPos ER (recvCell c i s) 0 ∅ 0 ∗ cred (tallyAt (recvCell c i s) () (amt s)))
  | 1 => iprop(cred (tallyAt (sendCell c i s) () (amt s)) ∗ atPos ER (sendCell c i s) 0 ∅ 0 ∗ atPos ER (recvCell c i s) 0 ∅ 0
      ∗ cred (tallyAt (recvCell c i s) () (amt s)))
  | 2 => iprop(semVal (sendCell c i s) 0 ∗ atPos ER (recvCell c i s) 0 ∅ 0 ∗ cred (tallyAt (recvCell c i s) () (amt s)))
  | _ => iprop(semVal (sendCell c i s) 0 ∗ semVal (recvCell c i s) 0)

/-- The halving level a phase is at. -/
def hlv (p : ℕ) : ℕ := min 4 ((p - 1) / 4)
/-- The rows of slab `i` of the reduction workspace a device holds: all, less those being read by a transfer. -/
def accS (c : Dev nD) (i p : ℕ) : Finset S8x256x512.Idx :=
  if p ≤ 16 ∧ p % 4 = 2 then rows i 0 256 \ rows i (slo i (hlv p) c) (sz (hlv p + 1)) else rows i 0 256
def MA (c : Dev nD) (i p : ℕ) : sProp 𝕄 :=
  iprop(∃ f, ⌜0 < p → ∀ x ∈ accS c i p, x ∈ rows i (klo i (hlv p) c) (sz (hlv p)) → f x = accC I (hlv p) c x⌝ ∗ accP c (accS c i p) f)
/-- The level the gather workspace is filled to. -/
def glv (p : ℕ) : ℕ := 4 - (p - 18) / 3
def gsh (p : ℕ) : PosShare TreeShare := if (p - 18) % 3 = 1 then fullShare.left else fullShare
def MG (c : Dev nD) (i p : ℕ) : sProp 𝕄 :=
  if p < 18 then iprop(∃ f, agP c (rows i (klo i 4 c) (sz 4)) fullShare f) else agP c (rows i (klo i (glv p) c) (sz (glv p))) (gsh p) (sumC I)
/-- The regions of the receive buffer that have landed. -/
def MR (c : Dev nD) (i p : ℕ) : sProp 𝕄 :=
  bigSep (Finset.univ : Finset (Fin 4)) fun n => if 4 + 4 * n.val ≤ p then recP c (rrows i (roff n) (sz (n.val + 1))) (recC I c) else iprop(emp)

/-- A slab on device `c` in phase `p`. -/
def Ch (c : Dev nD) (i : Fin 8) (p : ℕ) : sProp 𝕄 :=
  iprop(bigSep Finset.univ (fun s : Fin 8 => X c i s (stg s p)) ∗ MA I c i p ∗ MG I c i p ∗ MR I c i p)

/-- A buffer that holds `G` where `T` says so. -/
abbrev AgB (c : Dev nD) {sh : Shape} {e : EltTy} (M : Memref sig .tc .vmem sh e) (T : sh.Idx → Prop) (G : sh.Idx → Elt F e) : sProp 𝕄 :=
  ownsSat (c : Thread nD τ) M fullShare (fun X => ∀ x, T x → X x = G x)

def bufM : ℕ → Memref sig .tc .vmem S1024x1024 .bf16
  | 0 => Memref.whole cc0_scratch4 | 1 => Memref.whole cc0_scratch5 | 2 => Memref.whole cc0_scratch6 | 3 => Memref.whole cc0_scratch7
  | 4 => Memref.whole cc0_scratch0 | 5 => Memref.whole cc0_scratch1 | 6 => Memref.whole cc0_scratch2 | _ => Memref.whole cc0_scratch3
def bufT (j n : ℕ) (x : S1024x1024.Idx) : Prop :=
  if j < 4 then 0 < n else if j < 7 then (x 0).val / 256 < n else (x 0).val / 256 * 8 + (x 1).val / 128 < n
def bufG (c : Dev nD) : ℕ → S1024x1024.Idx → Elt F .bf16
  | 0 => wB (I.wq c) | 1 => wB (I.wk c) | 2 => wB (I.wv c) | 3 => wB (I.wo c)
  | 4 => qC I c | 5 => kC I c | 6 => vC I c | _ => oC I c
/-- A compute buffer filled to `n`. -/
def Cb (c : Dev nD) (j : Fin 8) (n : ℕ) : sProp 𝕄 := AgB c (bufM j) (bufT j n) (bufG I c j)

/-- The staged inputs. -/
def Inp (c : Dev nD) : sProp 𝕄 :=
  iprop(AgB c (Memref.whole cc0_stg0_0) (fun _ => True) (I.x c) ∗ AgB c (Memref.whole cc0_stg1_0) (fun _ => True) (I.wq c)
    ∗ AgB c (Memref.whole cc0_stg2_0) (fun _ => True) (I.wk c) ∗ AgB c (Memref.whole cc0_stg3_0) (fun _ => True) (I.wv c)
    ∗ AgB c (Memref.whole cc0_stg4_0) (fun _ => True) (I.wo c))

/-- The slab and the row of an element of the result. -/
def oslab (x : S1024x1024.Idx) : Fin 8 := ⟨2 * ((x 0).val / 256) + (x 1).val / 512, by
  have h0 : (x 0).val < 1024 := (x 0).isLt; have h1 : (x 1).val < 1024 := (x 1).isLt; omega⟩
def orow (x : S1024x1024.Idx) : ℕ := (x 0).val % 256
/-- The elements of the result that are final. -/
def outT (c : Dev nD) (fl : Fin 8 → ℕ) (x : S1024x1024.Idx) : Prop :=
  0 < fl (oslab x) ∧ klo (oslab x) (5 - fl (oslab x)) c ≤ orow x ∧ orow x < klo (oslab x) (5 - fl (oslab x)) c + sz (5 - fl (oslab x))
def Out (c : Dev nD) (fl : Fin 8 → ℕ) : sProp 𝕄 := AgB c (Memref.whole cc0_stg5_0) (outT c fl) (outC I)

/-- What device `c` holds in state `σ`. -/
def Sm (c : Dev nD) (σ : St) : sProp 𝕄 :=
  iprop(Recs I K ∗ levAts L lv ∗ (∃ W, owes (c : Thread nD τ) (owedOf c σ.ph) W) ∗ bigSep Finset.univ (fun i => Ch I c i (σ.ph i))
    ∗ bigSep Finset.univ (fun j => Cb I c j (σ.cs j)) ∗ Inp I c ∗ Out I c σ.fl)

/-! ## Taking one piece out -/

theorem bigSep_focus {J : Type} [Fintype J] [DecidableEq J] {Φ Ψ : J → sProp 𝕄} (i : J) (h : ∀ i', i' ≠ i → Φ i' = Ψ i') :
    bigSep Finset.univ Φ ⊢ iprop(Φ i ∗ (Ψ i -∗ bigSep Finset.univ Ψ)) := by
  rw [bigSep_univ_at Φ i, bigSep_univ_at Ψ i, bigSep_congr (s := Finset.univ.erase i) (Ψ := Ψ) fun i' hi => h i' (Finset.ne_of_mem_erase hi)]
  iintro ⟨H1, H2⟩
  isplitl [H1]; · iexact H1
  iintro H; isplitl [H]; · iexact H
  iexact H2

theorem Sm_ch (c : Dev nD) (σ : St) (i : Fin 8) (p' : ℕ) :
    Sm I K c σ ⊢ iprop(Recs I K ∗ levAts L lv ∗ (∃ W, owes (c : Thread nD τ) (owedOf c σ.ph) W) ∗ Ch I c i (σ.ph i)
      ∗ ((∃ W, owes (c : Thread nD τ) (owedOf c (σ.setP i p').ph) W) -∗ Ch I c i p' -∗ Sm I K c (σ.setP i p'))) := by
  have hf := bigSep_focus (Φ := fun i => Ch I c i (σ.ph i)) (Ψ := fun i' => Ch I c i' ((σ.setP i p').ph i')) i
    (fun i' hi => by simp only [St.setP, Function.update_of_ne hi])
  have hi : (σ.setP i p').ph i = p' := Function.update_self ..
  unfold Sm
  iintro ⟨#HR, #HL, HO, HC, Hrest⟩
  ihave H := hf $$ HC
  icases H with ⟨H1, H2⟩
  isplitr; · iexact HR
  isplitr; · iexact HL
  isplitl [HO]; · iexact HO
  isplitl [H1]; · iexact H1
  iintro HO HC
  isplitr; · iexact HR
  isplitr; · iexact HL
  isplitl [HO]; · iexact HO
  isplitl [H2 HC]
  · iapply H2; rw [hi]; iexact HC
  iexact Hrest

theorem Sm_mem (c : Dev nD) (σ : St) (i : Fin 8) (p' : ℕ) (h : ∀ s : Fin 8, stg s p' = stg s (σ.ph i)) :
    Sm I K c σ ⊢ iprop(MA I c i (σ.ph i) ∗ MG I c i (σ.ph i) ∗ MR I c i (σ.ph i)
      ∗ (MA I c i p' -∗ MG I c i p' -∗ MR I c i p' -∗ Sm I K c (σ.setP i p'))) := by
  have ho : owedOf c σ.ph = owedOf c (σ.setP i p').ph := owedOf_congr c fun i' s => by
    by_cases hi : i' = i
    · subst hi; simp only [St.setP, Function.update_self, h]
    · simp only [St.setP, Function.update_of_ne hi]
  iintro H
  ihave H := Sm_ch I K c σ i p' $$ H
  icases H with ⟨-, -, HO, HC, Hk⟩
  unfold Ch
  icases HC with ⟨HX, HA, HG, HR⟩
  isplitl [HA]; · iexact HA
  isplitl [HG]; · iexact HG
  isplitl [HR]; · iexact HR
  iintro HA HG HR
  iapply Hk $$ [HO]
  · rw [← ho]; iexact HO
  isplitl [HX]; · simp only [h]; iexact HX
  isplitl [HA]; · iexact HA
  isplitl [HG]; · iexact HG
  iexact HR

theorem Sm_cb (c : Dev nD) (σ : St) (j : Fin 8) (n' : ℕ) :
    Sm I K c σ ⊢ iprop(Cb I c j (σ.cs j) ∗ (Cb I c j n' -∗ Sm I K c (σ.setC j n'))) := by
  have hf := bigSep_focus (Φ := fun i => Cb I c i (σ.cs i)) (Ψ := fun i' => Cb I c i' ((σ.setC j n').cs i')) j
    (fun i' hi => by simp only [St.setC, Function.update_of_ne hi])
  have hi : (σ.setC j n').cs j = n' := Function.update_self ..
  unfold Sm
  iintro ⟨#HR, #HL, HO, HC, HB, Hrest⟩
  ihave H := hf $$ HB
  icases H with ⟨H1, H2⟩
  isplitl [H1]; · iexact H1
  iintro HB
  isplitr; · iexact HR
  isplitr; · iexact HL
  isplitl [HO]; · iexact HO
  isplitl [HC]; · iexact HC
  isplitl [H2 HB]
  · iapply H2; rw [hi]; iexact HB
  iexact Hrest

theorem Sm_out (c : Dev nD) (σ σ' : St) (hc : σ'.cs = σ.cs) (hp : σ'.ph = σ.ph) :
    Sm I K c σ ⊢ iprop(Out I c σ.fl ∗ (Out I c σ'.fl -∗ Sm I K c σ')) := by
  unfold Sm; rw [hc, hp]
  iintro ⟨#HR, #HL, HO, HC, HB, HI, HT⟩
  isplitl [HT]; · iexact HT
  iintro HT
  isplitr; · iexact HR
  isplitr; · iexact HL
  isplitl [HO]; · iexact HO
  isplitl [HC]; · iexact HC
  isplitl [HB]; · iexact HB
  isplitl [HI]; · iexact HI
  iexact HT

theorem Sm_inp (c : Dev nD) (σ : St) : Sm I K c σ ⊢ iprop(Inp I c ∗ (Inp I c -∗ Sm I K c σ)) := by
  unfold Sm
  iintro ⟨#HR, #HL, HO, HC, HB, HI, HT⟩
  isplitl [HI]; · iexact HI
  iintro HI
  isplitr; · iexact HR
  isplitr; · iexact HL
  isplitl [HO]; · iexact HO
  isplitl [HC]; · iexact HC
  isplitl [HB]; · iexact HB
  isplitl [HI]; · iexact HI
  iexact HT

/-! ## Programs between states -/

/-- From state `σ`, program `p` ends in state `σ'` with a value that satisfies `R`. -/
def Tr (c : Dev nD) (σ σ' : St) {α : Type} (p : Prog (TpuEff nD τ sig (Elt F) Λ₀ .tc) α) (R : α → Prop) : Prop :=
  Sm I K c σ ⊢ wp frame (wpE (defs₀ (F := F)) 𝒱₀ (c : Thread nD τ) none) Set.univ p (fun r => iprop(⌜R r⌝ ∗ Sm I K c σ'))

section Tr
variable {I K} {c : Dev nD} {σ σ₁ σ' : St} {α β : Type}

theorem Tr.bind {p : Prog (TpuEff nD τ sig (Elt F) Λ₀ .tc) α} {k : α → Prog (TpuEff nD τ sig (Elt F) Λ₀ .tc) β} {P : α → Prop} {R : β → Prop}
    (h : Tr I K c σ σ₁ p P) (hk : ∀ v, P v → Tr I K c σ₁ σ' (k v) R) : Tr I K c σ σ' (p >>= k) R := by
  unfold Tr at *; rw [wp_bind]
  refine BIBase.Entails.trans h (wp_mono _ _ _ fun a => ?_)
  iintro ⟨%ha, H⟩
  iapply (hk a ha) $$ H
/-- After an operation whose value is known; -/
theorem Tr.bindv {p : Prog (TpuEff nD τ sig (Elt F) Λ₀ .tc) α} {k : α → Prog (TpuEff nD τ sig (Elt F) Λ₀ .tc) β} {v : α} {R : β → Prop}
    (h : Tr I K c σ σ₁ p (fun r => r = v)) (hk : Tr I K c σ₁ σ' (k v) R) : Tr I K c σ σ' (p >>= k) R :=
  Tr.bind h fun _ e => e ▸ hk
/-- after one whose value does not matter; -/
theorem Tr.bindu {p : Prog (TpuEff nD τ sig (Elt F) Λ₀ .tc) α} {k : α → Prog (TpuEff nD τ sig (Elt F) Λ₀ .tc) β} {R : β → Prop}
    (h : Tr I K c σ σ₁ p (fun _ => True)) (hk : ∀ v, Tr I K c σ₁ σ' (k v) R) : Tr I K c σ σ' (p >>= k) R :=
  Tr.bind h fun v _ => hk v
/-- and the end. -/
theorem Tr.ret {a : α} {R : α → Prop} (hR : R a) (hσ : σ = σ') : Tr I K c σ σ' (pure a : Prog (TpuEff nD τ sig (Elt F) Λ₀ .tc) α) R := by
  subst hσ; unfold Tr; rw [Prog.pure_eq_ret, wp_ret]
  iintro H; imodintro; isplitr; · ipureintro; exact hR
  iexact H
theorem Tr.last {p : Prog (TpuEff nD τ sig (Elt F) Λ₀ .tc) α} {R R' : α → Prop} (h : Tr I K c σ σ₁ p R) (hR : ∀ v, R v → R' v) (hσ : σ₁ = σ') :
    Tr I K c σ σ' p R' := by
  subst hσ; unfold Tr at *
  refine BIBase.Entails.trans h (wp_mono _ _ _ fun a => ?_)
  iintro ⟨%ha, H⟩; isplitr; · ipureintro; exact hR a ha
  iexact H

theorem Tr.load {s : Shape} {e : EltTy} {m : Memref sig .tc .vmem s e} {r : LoadRect s} {hl : m.view.LoadsAt r} (Φ : (r.shape.Idx → Elt F e) → Prop)
    (h : Sm I K c σ ⊢ iprop(∃ S q f, ⌜m.view.setOn r.set ⊆ S ∧ Φ (m.view.readAt (Elt F) r f)⌝ ∗ (m.view.loc (c : Thread nD τ) ↦[S]{q} f)
      ∗ ((m.view.loc (c : Thread nD τ) ↦[S]{q} f) -∗ Sm I K c σ'))) :
    Tr I K c σ σ' (Prog.lift (.load m r hl)) Φ := by
  unfold Tr
  simp only [Prog.lift]
  iintro H
  ihave H := h $$ H
  icases H with ⟨%S, %q, %f, ⟨%hS, %hΦ⟩, Hp, Hk⟩
  iapply (wp_load 𝒱₀ (c : Thread nD τ) none Set.univ (m := m) hS) $$ Hp
  iintro Hp
  rw [wp_ret]; imodintro
  isplitr; · ipureintro; exact hΦ
  iapply Hk $$ Hp

theorem Tr.store {s : Shape} {e : EltTy} {m : Memref sig .tc .vmem s e} {r : Rect s} {w : r.shape.Idx → Elt F e}
    {hx : (m.access r).Stores Finset.univ} {hm}
    (h : Sm I K c σ ⊢ iprop(∃ S f, ⌜(m.access r).setOn Finset.univ ⊆ S⌝ ∗ ((m.access r).loc (c : Thread nD τ) ↦[S]{fullShare} f)
      ∗ (((m.access r).loc (c : Thread nD τ) ↦[S]{fullShare} View.write (Elt F) (m.access r) f w Finset.univ) -∗ Sm I K c σ'))) :
    Tr I K c σ σ' (Prog.lift (.store m r w Finset.univ hx hm)) (fun _ => True) := by
  unfold Tr
  simp only [Prog.lift]
  iintro H
  ihave H := h $$ H
  icases H with ⟨%S, %f, %hS, Hp, Hk⟩
  iapply (wp_store 𝒱₀ (c : Thread nD τ) none Set.univ (m := m) (r := r) (Mk := Finset.univ) hS) $$ Hp
  iintro Hp
  rw [wp_ret]; imodintro
  isplitr; · ipureintro; exact trivial
  iapply Hk $$ Hp

end Tr

end Cert.Ring

end
-- ==== Proof.Steps.lean ====
/-
# The memory operations as steps between states

Each load and store of the kernel, in the general position it occurs at: the slab, the rows and the phase are parameters.
-/
module

public import proofs.«01_k».proof.Proof.State

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing at a rectangle -/

section Rect
variable {sh : Shape} {e : EltTy} (M : Memref sig .tc .vmem sh e) (r : Rect sh)

theorem setOn_sub : M.view.setOn r.set ⊆ M.view.set := Finset.map_subset_map.2 (Finset.subset_univ _)
theorem access_sub : (M.access r).setOn Finset.univ ⊆ M.view.set := by
  rw [View.setOn_univ]; show (M.view.slice r).set ⊆ _; rw [View.set_slice]; exact setOn_sub M r
theorem read_wr_mem (f : M.view.ty.Contents (Elt F)) (w : r.shape.Idx → Elt F e) (k : r.shape.Idx) :
    M.view.read (Elt F) (View.write (Elt F) (M.access r) f w Finset.univ) (r.emb k) = w k :=
  congrFun (View.read_write_univ (v := M.access r) f w) k
theorem read_wr_not_mem (f : M.view.ty.Contents (Elt F)) (w : r.shape.Idx → Elt F e) {x : sh.Idx} (hx : x ∉ r.set) :
    M.view.read (Elt F) (View.write (Elt F) (M.access r) f w Finset.univ) x = M.view.read (Elt F) f x := by
  rw [View.read_apply, View.read_apply]
  congr 1
  refine View.write_of_not_mem _ _ _ fun h => hx ?_
  rw [View.setOn_univ] at h
  have h' : M.view.emb x ∈ (M.view.slice r).set := h
  rw [View.set_slice] at h'
  exact (Finset.mem_map' _).1 h'
theorem mem_set_emb {x : sh.Idx} (hx : x ∈ r.set) : ∃ k, r.emb k = x := r.toLoadRect.exists_idx_of_mem hx
theorem emb_mem (k : r.shape.Idx) : r.emb k ∈ r.set := r.toLoadRect.idx_mem k
end Rect

variable {I : Ins F} {K : Dev nD × Fin 129 → ℕ} {c : Dev nD} {σ : St}

/-! ## Loads and stores of a filled buffer -/

section AgB
variable {sh : Shape} {e : EltTy} {M : Memref sig .tc .vmem sh e} {T : sh.Idx → Prop} {G : sh.Idx → Elt F e}

/-- A load from a filled part. -/
theorem ld_AgB {σ : St} {r : Rect sh} {hl : M.view.LoadsAt r.toLoadRect} {v : r.shape.Idx → Elt F e}
    (hfoc : Sm I K c σ ⊢ iprop(AgB c M T G ∗ (AgB c M T G -∗ Sm I K c σ)))
    (hT : ∀ k, T (r.emb k)) (hv : ∀ k, G (r.emb k) = v k) : Tr I K c σ σ (Prog.lift (.load M r.toLoadRect hl)) (fun x => x = v) := by
  refine Tr.load _ ?_
  iintro H
  ihave H := hfoc $$ H
  icases H with ⟨HA, Hk⟩
  unfold AgB ownsSat
  icases HA with ⟨%f, %hf, Hp⟩
  iexists M.view.set, fullShare, f
  isplitr
  · ipureintro; exact ⟨setOn_sub M r, funext fun k => (hf _ (hT k)).trans (hv k)⟩
  isplitl [Hp]; · iexact Hp
  iintro Hp
  iapply Hk
  iexists f; isplitr; · ipureintro; exact hf
  iexact Hp

/-- A load whose value is not used. -/
theorem dead_AgB {σ : St} {r : Rect sh} {hl : M.view.LoadsAt r.toLoadRect}
    (hfoc : Sm I K c σ ⊢ iprop(AgB c M T G ∗ (AgB c M T G -∗ Sm I K c σ))) : Tr I K c σ σ (Prog.lift (.load M r.toLoadRect hl)) (fun _ => True) := by
  refine Tr.load _ ?_
  iintro H
  ihave H := hfoc $$ H
  icases H with ⟨HA, Hk⟩
  unfold AgB ownsSat
  icases HA with ⟨%f, %hf, Hp⟩
  iexists M.view.set, fullShare, f
  isplitr
  · ipureintro; exact ⟨setOn_sub M r, trivial⟩
  isplitl [Hp]; · iexact Hp
  iintro Hp
  iapply Hk
  iexists f; isplitr; · ipureintro; exact hf
  iexact Hp

/-- A store that fills more. -/
theorem st_AgB {σ σ' : St} {T' : sh.Idx → Prop} {r : Rect sh} {w : r.shape.Idx → Elt F e} {hx : (M.access r).Stores Finset.univ} {hm}
    (hfoc : Sm I K c σ ⊢ iprop(AgB c M T G ∗ (AgB c M T' G -∗ Sm I K c σ')))
    (hw : ∀ k, w k = G (r.emb k)) (hT : ∀ x, T' x → x ∉ r.set → T x) :
    Tr I K c σ σ' (Prog.lift (.store M r w Finset.univ hx hm)) (fun _ => True) := by
  refine Tr.store ?_
  iintro H
  ihave H := hfoc $$ H
  icases H with ⟨HA, Hk⟩
  unfold AgB ownsSat
  icases HA with ⟨%f, %hf, Hp⟩
  iexists M.view.set, f
  isplitr
  · ipureintro; exact access_sub M r
  isplitl [Hp]; · iexact Hp
  iintro Hp
  iapply Hk
  iexists _; isplitr
  rotate_left
  · iexact Hp
  · ipureintro
    intro x hx
    by_cases hr : x ∈ r.set
    · obtain ⟨k, rfl⟩ := mem_set_emb r hr
      rw [read_wr_mem, hw]
    · rw [read_wr_not_mem M r _ _ hr]; exact hf x (hT x hx hr)

end AgB

/-! ## The compute buffers -/

section Compute

variable {M : Memref sig .tc .vmem S1024x1024 .bf16} (j : Fin 8)

theorem foc_cb (σ : St) (j : Fin 8) (n' : ℕ) (hM : M = bufM j) :
    Sm I K c σ ⊢ iprop(AgB c M (bufT j (σ.cs j)) (bufG I c j) ∗ (AgB c M (bufT j n') (bufG I c j) -∗ Sm I K c (σ.setC j n'))) := by
  subst hM; exact Sm_cb I K c σ j n'
theorem foc_cb0 (σ : St) (j : Fin 8) (hM : M = bufM j) :
    Sm I K c σ ⊢ iprop(AgB c M (bufT j (σ.cs j)) (bufG I c j) ∗ (AgB c M (bufT j (σ.cs j)) (bufG I c j) -∗ Sm I K c σ)) := by
  have := foc_cb (I := I) (K := K) (c := c) σ j (σ.cs j) hM; rwa [St.setC_self] at this

/-- A dead load of a compute buffer. -/
theorem tr_deadC (hM : M = bufM j) {r : Rect S1024x1024} {hl : M.view.LoadsAt r.toLoadRect} :
    Tr I K c σ σ (Prog.lift (.load M r.toLoadRect hl)) (fun _ => True) := dead_AgB (foc_cb0 σ j hM)

/-- A unit rectangle of a square matrix puts `k` at `off + k`. -/
theorem emb_sq {off size : Fin 2 → ℕ} {inb} {a b : ℕ} (hoff : off = ![a, b]) (k : (Rect.unit (s := S1024x1024) off size inb).shape.Idx) :
    (Rect.unit (s := S1024x1024) off size inb).emb k = sq (a + (k 0).val) (b + (k 1).val) := by
  subst hoff
  have h (d) := Rect.emb_apply (Rect.unit (s := S1024x1024) ![a, b] size inb) k d
  have hl (d : Fin 2) : ((Rect.unit (s := S1024x1024) ![a, b] size inb).emb k d).val < 1024 := by
    refine lt_of_lt_of_le ((Rect.unit (s := S1024x1024) ![a, b] size inb).emb k d).isLt ?_; fin_cases d <;> exact le_refl _
  funext d; apply Fin.ext
  have hd := h d; have hld := hl d
  fin_cases d
  · have e : ((Rect.unit (s := S1024x1024) ![a, b] size inb).emb k 0).val = a + (k 0).val := by rw [h 0]; show a + 1 * _ = _; rw [one_mul]
    have l := hl 0
    show ((Rect.unit (s := S1024x1024) ![a, b] size inb).emb k 0).val = (a + (k 0).val) % 1024
    rw [Nat.mod_eq_of_lt (by omega)]; exact e
  · have e : ((Rect.unit (s := S1024x1024) ![a, b] size inb).emb k 1).val = b + (k 1).val := by rw [h 1]; show b + 1 * _ = _; rw [one_mul]
    have l := hl 1
    show ((Rect.unit (s := S1024x1024) ![a, b] size inb).emb k 1).val = (b + (k 1).val) % 1024
    rw [Nat.mod_eq_of_lt (by omega)]; exact e
theorem sq_self (x : S1024x1024.Idx) : sq (x 0).val (x 1).val = x := by
  have h0 : (x 0).val < 1024 := (x 0).isLt; have h1 : (x 1).val < 1024 := (x 1).isLt
  funext d; apply Fin.ext; fin_cases d
  · exact Nat.mod_eq_of_lt h0
  · exact Nat.mod_eq_of_lt h1
theorem sq_val0 {r k : ℕ} (h : r < 1024) : ((sq r k) 0).val = r := Nat.mod_eq_of_lt h
theorem sq_val1 {r k : ℕ} (h : k < 1024) : ((sq r k) 1).val = k := Nat.mod_eq_of_lt h

/-- The whole of a rounded weight. -/
theorem tr_ldW (hM : M = bufM j) {off inb} {hl : M.view.LoadsAt (Rect.unit (s := S1024x1024) off S1024x1024.size inb).toLoadRect}
    (hoff : off = ![0, 0]) (hj : j.val < 4) (hn : σ.cs j = 1) :
    Tr I K c σ σ (Prog.lift (.load M (Rect.unit (s := S1024x1024) off S1024x1024.size inb).toLoadRect hl)) (fun x => x = bufG I c j) := by
  refine ld_AgB (foc_cb0 σ j hM) (fun k => ?_) fun k => ?_
  · unfold bufT; rw [if_pos hj, hn]; exact Nat.one_pos
  · rw [emb_sq hoff, Nat.zero_add, Nat.zero_add]; exact congrArg _ (sq_self k)
/-- A column half of the output weight. -/
theorem tr_ldWo (t : ℕ) (ht : t < 2) (hM : M = bufM 3) {off inb} {hl : M.view.LoadsAt (Rect.unit (s := S1024x1024) off S1024x512.size inb).toLoadRect}
    (hoff : off = ![0, 512 * t]) (hn : σ.cs 3 = 1) :
    Tr I K c σ σ (Prog.lift (.load M (Rect.unit (s := S1024x1024) off S1024x512.size inb).toLoadRect hl)) (fun x => x = colBlk (wB (I.wo c)) t) := by
  refine ld_AgB (foc_cb0 σ 3 hM) (fun k => ?_) fun k => ?_
  · unfold bufT; rw [if_pos (by decide), hn]; exact Nat.one_pos
  · rw [emb_sq hoff, Nat.zero_add]; rfl
/-- One head of a projection. -/
theorem tr_ldH (b h : ℕ) (hb : b < 4) (hh : h < 8) (hM : M = bufM j) {off inb}
    {hl : M.view.LoadsAt (Rect.unit (s := S1024x1024) off S256x128.size inb).toLoadRect}
    (hoff : off = ![256 * b, 128 * h]) (hj : 4 ≤ j.val ∧ j.val < 7) (hn : b < σ.cs j) :
    Tr I K c σ σ (Prog.lift (.load M (Rect.unit (s := S1024x1024) off S256x128.size inb).toLoadRect hl)) (fun x => x = headBlk (bufG I c j) b h) := by
  refine ld_AgB (foc_cb0 σ j hM) (fun k => ?_) fun k => ?_
  · have h0 : (k 0).val < 256 := (k 0).isLt
    rw [emb_sq hoff]; unfold bufT; rw [if_neg (by omega), if_pos hj.2, sq_val0 (by omega)]; omega
  · rw [emb_sq hoff]; rfl
/-- All heads of a batch. -/
theorem tr_ldO (b : ℕ) (hb : b < 4) (hM : M = bufM 7) {off inb} {hl : M.view.LoadsAt (Rect.unit (s := S1024x1024) off S256x1024.size inb).toLoadRect}
    (hoff : off = ![256 * b, 0]) (hn : 8 * b + 8 ≤ σ.cs 7) :
    Tr I K c σ σ (Prog.lift (.load M (Rect.unit (s := S1024x1024) off S256x1024.size inb).toLoadRect hl)) (fun x => x = rowBlk (oC I c) b) := by
  refine ld_AgB (foc_cb0 σ 7 hM) (fun k => ?_) fun k => ?_
  · have h0 : (k 0).val < 256 := (k 0).isLt; have h1 : (k 1).val < 1024 := (k 1).isLt
    rw [emb_sq hoff]; unfold bufT; rw [if_neg (by decide), if_neg (by decide), sq_val0 (by omega), sq_val1 (by omega)]; omega
  · rw [emb_sq hoff, Nat.zero_add]; rfl

/-- A weight is rounded. -/
theorem tr_stW (hM : M = bufM j) {off inb} {w : S1024x1024.Idx → Elt F .bf16} {hx : (M.access (Rect.unit (s := S1024x1024) off S1024x1024.size inb)).Stores Finset.univ} {hm}
    (hoff : off = ![0, 0]) (hw : w = bufG I c j) :
    Tr I K c σ (σ.setC j 1) (Prog.lift (.store M (Rect.unit (s := S1024x1024) off S1024x1024.size inb) w Finset.univ hx hm)) (fun _ => True) := by
  refine st_AgB (foc_cb σ j 1 hM) (fun k => ?_) fun x _ hx => absurd ?_ hx
  · rw [emb_sq hoff, Nat.zero_add, Nat.zero_add, hw]; exact congrArg _ (sq_self k).symm
  · subst hoff; rw [Rect.mem_set_unit]; intro d
    have := (x d).isLt
    fin_cases d <;> exact ⟨Nat.zero_le _, by simpa using this⟩

theorem mem_sq {off size : Fin 2 → ℕ} {inb} {a b : ℕ} (hoff : off = ![a, b]) {x : S1024x1024.Idx} :
    x ∈ (Rect.unit (s := S1024x1024) off size inb).set ↔ (a ≤ (x 0).val ∧ (x 0).val < a + size 0) ∧ b ≤ (x 1).val ∧ (x 1).val < b + size 1 := by
  subst hoff; rw [Rect.mem_set_unit]
  exact Fin.forall_fin_two

theorem rowBlk_proj (X : S4x256x1024.Idx → Elt F .f32) (W : S1024x1024.Idx → Elt F .f32) {b : ℕ} (hb : b < 4) :
    rowBlk (proj X W) b = projB (xBlk X b) (wB W) := by
  funext k
  have h0 : (k 0).val < 256 := (k 0).isLt; have h1 : (k 1).val < 1024 := (k 1).isLt
  have e0 : ((sq (256 * b + (k 0).val) (k 1).val) 0).val = 256 * b + (k 0).val := sq_val0 (by omega)
  have hk : (pr (⟨((sq (256 * b + (k 0).val) (k 1).val) 0).val % 256, Nat.mod_lt _ (by decide)⟩ : Fin 256) ((sq (256 * b + (k 0).val) (k 1).val) 1) : S256x1024.Idx) = k := by
    funext d; apply Fin.ext; fin_cases d
    · show ((sq (256 * b + (k 0).val) (k 1).val) 0).val % 256 = (k 0).val; rw [e0]; omega
    · exact sq_val1 (r := 256 * b + (k 0).val) h1
  show projB (xBlk X (((sq (256 * b + (k 0).val) (k 1).val) 0).val / 256)) (wB W) (pr _ _) = _
  rw [hk, e0, show (256 * b + (k 0).val) / 256 = b by omega]
theorem headBlk_att (q k v : S1024x1024.Idx → Elt F .bf16) {b h : ℕ} (hb : b < 4) (hh : h < 8) :
    headBlk (att q k v) b h = attB (headBlk q b h) (headBlk k b h) (headBlk v b h) := by
  funext x
  have h0 : (x 0).val < 256 := (x 0).isLt; have h1 : (x 1).val < 128 := (x 1).isLt
  have e0 : ((sq (256 * b + (x 0).val) (128 * h + (x 1).val)) 0).val = 256 * b + (x 0).val := sq_val0 (by omega)
  have e1 : ((sq (256 * b + (x 0).val) (128 * h + (x 1).val)) 1).val = 128 * h + (x 1).val := sq_val1 (by omega)
  unfold headBlk att
  have hk : (pr (⟨((sq (256 * b + (x 0).val) (128 * h + (x 1).val)) 0).val % 256, Nat.mod_lt _ (by decide)⟩ : Fin 256)
      (⟨((sq (256 * b + (x 0).val) (128 * h + (x 1).val)) 1).val % 128, Nat.mod_lt _ (by decide)⟩ : Fin 128) : S256x128.Idx) = x := by
    funext d; apply Fin.ext; fin_cases d
    · show ((sq (256 * b + (x 0).val) (128 * h + (x 1).val)) 0).val % 256 = (x 0).val; rw [e0]; omega
    · show ((sq (256 * b + (x 0).val) (128 * h + (x 1).val)) 1).val % 128 = (x 1).val; rw [e1]; omega
  rw [hk, e0, e1, show (256 * b + (x 0).val) / 256 = b by omega, show (128 * h + (x 1).val) / 128 = h by omega]
  rfl

/-- The projection of one batch is stored. -/
theorem tr_stP (b : ℕ) (hb : b < 4) (hM : M = bufM j) {off inb} {w : S256x1024.Idx → Elt F .bf16}
    {hx : (M.access (Rect.unit (s := S1024x1024) off S256x1024.size inb)).Stores Finset.univ} {hm}
    (hoff : off = ![256 * b, 0]) (hj : 4 ≤ j.val ∧ j.val < 7) (hn : σ.cs j = b) (hw : w = rowBlk (bufG I c j) b) :
    Tr I K c σ (σ.setC j (b + 1)) (Prog.lift (.store M (Rect.unit (s := S1024x1024) off S256x1024.size inb) w Finset.univ hx hm)) (fun _ => True) := by
  refine st_AgB (foc_cb σ j (b + 1) hM) (fun k => ?_) fun x hT hx => ?_
  · rw [emb_sq hoff, Nat.zero_add, hw]; rfl
  · have h1 : (x 1).val < 1024 := (x 1).isLt
    rw [mem_sq hoff] at hx; change ¬ ((_ ∧ _ < _ + 256) ∧ _ ∧ _ < 0 + 1024) at hx
    unfold bufT at *; rw [if_neg (by omega), if_pos hj.2] at *; omega
/-- One head of one batch is stored. -/
theorem tr_stO (b h : ℕ) (hb : b < 4) (hh : h < 8) (hM : M = bufM 7) {off inb} {w : S256x128.Idx → Elt F .bf16}
    {hx : (M.access (Rect.unit (s := S1024x1024) off S256x128.size inb)).Stores Finset.univ} {hm}
    (hoff : off = ![256 * b, 128 * h]) (hn : σ.cs 7 = 8 * b + h) (hw : w = attB (headBlk (qC I c) b h) (headBlk (kC I c) b h) (headBlk (vC I c) b h)) :
    Tr I K c σ (σ.setC 7 (8 * b + h + 1)) (Prog.lift (.store M (Rect.unit (s := S1024x1024) off S256x128.size inb) w Finset.univ hx hm)) (fun _ => True) := by
  refine st_AgB (foc_cb σ 7 (8 * b + h + 1) hM) (fun k => ?_) fun x hT hx => ?_
  · rw [emb_sq hoff, hw, ← headBlk_att _ _ _ hb hh]; rfl
  · have h1 : (x 1).val < 1024 := (x 1).isLt
    rw [mem_sq hoff] at hx; change ¬ ((_ ∧ _ < _ + 256) ∧ _ ∧ _ < _ + 128) at hx
    unfold bufT at *; rw [if_neg (by decide), if_neg (by decide)] at *; omega

end Compute

end Cert.Ring

end
-- ==== Proof.Slab.lean ====
/-
# The loads and stores of a slab

The reduction workspace, the receive buffer, the gather workspace and the result.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Ins F} {K : Dev nD × Fin 129 → ℕ} {c : Dev nD} {σ : St}

/-! ## Rectangles of rows -/

/-- One slab's rows from `lo` as a vector with a leading unit axis. -/
abbrev Sl (L : ℕ) : Shape := ⟨3, ![1, L, 512]⟩
/-- The same without the unit axis. -/
abbrev Sf (L : ℕ) : Shape := ⟨2, ![L, 512]⟩

/-- Row `r`, column `k` of slab `i` of the receive buffer. -/
def rix (i r : ℕ) (k : Fin 512) : S8x240x512.Idx := fun
  | 0 => (⟨i % 8, Nat.mod_lt _ (by decide)⟩ : Fin 8)
  | 1 => (⟨r % 240, Nat.mod_lt _ (by decide)⟩ : Fin 240)
  | 2 => k

/-- Rows of a slab, read as a vector. -/
def slab {e : EltTy} (A : S8x256x512.Idx → Elt F e) (i lo L : ℕ) : (Sl L).Idx → Elt F e := fun k => A (ix i (lo + (k 1).val) (k 2))
def rslab {e : EltTy} (A : S8x240x512.Idx → Elt F e) (i lo L : ℕ) : (Sl L).Idx → Elt F e := fun k => A (rix i (lo + (k 1).val) (k 2))

section Rects
variable {i : Fin 8} {lo L : ℕ} {off : Fin 3 → ℕ}

theorem emb_slab {inb} (hoff : off = ![i.val, lo, 0]) (k : (Rect.unit (s := S8x256x512) off (Sl L).size inb).shape.Idx) :
    (Rect.unit (s := S8x256x512) off (Sl L).size inb).emb k = ix i (lo + (k 1).val) (k 2) := by
  subst hoff
  have h (d) := Rect.emb_apply (Rect.unit (s := S8x256x512) ![i.val, lo, 0] (Sl L).size inb) k d
  have h0 : (k 0).val < 1 := (k 0).isLt
  have h1 : ((Rect.unit (s := S8x256x512) ![i.val, lo, 0] (Sl L).size inb).emb k 1).val < 256 := ((Rect.unit (s := S8x256x512) ![i.val, lo, 0] (Sl L).size inb).emb k 1).isLt
  have e1 : ((Rect.unit (s := S8x256x512) ![i.val, lo, 0] (Sl L).size inb).emb k 1).val = lo + (k 1).val := by rw [h 1]; show lo + 1 * _ = _; rw [one_mul]
  funext d; apply Fin.ext
  fin_cases d
  · have e0 : ((Rect.unit (s := S8x256x512) ![i.val, lo, 0] (Sl L).size inb).emb k 0).val = i.val + (k 0).val := by rw [h 0]; show i.val + 1 * _ = _; rw [one_mul]
    show ((Rect.unit (s := S8x256x512) ![i.val, lo, 0] (Sl L).size inb).emb k 0).val = i.val % 8
    rw [e0]; omega
  · show ((Rect.unit (s := S8x256x512) ![i.val, lo, 0] (Sl L).size inb).emb k 1).val = (lo + (k 1).val) % 256
    rw [Nat.mod_eq_of_lt (by omega)]; exact e1
  · show ((Rect.unit (s := S8x256x512) ![i.val, lo, 0] (Sl L).size inb).emb k 2).val = (k 2).val
    rw [h 2]; show 0 + 1 * _ = _; rw [one_mul, Nat.zero_add]
theorem set_slab {inb} (hoff : off = ![i.val, lo, 0]) : (Rect.unit (s := S8x256x512) off (Sl L).size inb).set = rows i lo L := by
  subst hoff; ext x; rw [Rect.mem_set_unit, mem_rows]
  have h2 : (x 2).val < 512 := (x 2).isLt
  constructor
  · intro h
    have h0 : i.val ≤ (x 0).val ∧ (x 0).val < i.val + 1 := h 0
    have h1 : lo ≤ (x 1).val ∧ (x 1).val < lo + L := h 1
    omega
  · rintro ⟨h0, h1⟩ d
    fin_cases d
    · show i.val ≤ (x 0).val ∧ (x 0).val < i.val + 1; omega
    · exact h1
    · exact ⟨Nat.zero_le _, by show (x 2).val < 0 + 512; omega⟩
theorem emb_rslab {inb} (hoff : off = ![i.val, lo, 0]) (k : (Rect.unit (s := S8x240x512) off (Sl L).size inb).shape.Idx) :
    (Rect.unit (s := S8x240x512) off (Sl L).size inb).emb k = rix i (lo + (k 1).val) (k 2) := by
  subst hoff
  have h (d) := Rect.emb_apply (Rect.unit (s := S8x240x512) ![i.val, lo, 0] (Sl L).size inb) k d
  have h0 : (k 0).val < 1 := (k 0).isLt
  have h1 : ((Rect.unit (s := S8x240x512) ![i.val, lo, 0] (Sl L).size inb).emb k 1).val < 240 := ((Rect.unit (s := S8x240x512) ![i.val, lo, 0] (Sl L).size inb).emb k 1).isLt
  have e1 : ((Rect.unit (s := S8x240x512) ![i.val, lo, 0] (Sl L).size inb).emb k 1).val = lo + (k 1).val := by rw [h 1]; show lo + 1 * _ = _; rw [one_mul]
  funext d; apply Fin.ext
  fin_cases d
  · have e0 : ((Rect.unit (s := S8x240x512) ![i.val, lo, 0] (Sl L).size inb).emb k 0).val = i.val + (k 0).val := by rw [h 0]; show i.val + 1 * _ = _; rw [one_mul]
    show ((Rect.unit (s := S8x240x512) ![i.val, lo, 0] (Sl L).size inb).emb k 0).val = i.val % 8
    rw [e0]; omega
  · show ((Rect.unit (s := S8x240x512) ![i.val, lo, 0] (Sl L).size inb).emb k 1).val = (lo + (k 1).val) % 240
    rw [Nat.mod_eq_of_lt (by omega)]; exact e1
  · show ((Rect.unit (s := S8x240x512) ![i.val, lo, 0] (Sl L).size inb).emb k 2).val = (k 2).val
    rw [h 2]; show 0 + 1 * _ = _; rw [one_mul, Nat.zero_add]
theorem set_rslab {inb} (hoff : off = ![i.val, lo, 0]) : (Rect.unit (s := S8x240x512) off (Sl L).size inb).set = rrows i lo L := by
  subst hoff; ext x; rw [Rect.mem_set_unit, mem_rrows]
  have h2 : (x 2).val < 512 := (x 2).isLt
  constructor
  · intro h
    have h0 : i.val ≤ (x 0).val ∧ (x 0).val < i.val + 1 := h 0
    have h1 : lo ≤ (x 1).val ∧ (x 1).val < lo + L := h 1
    omega
  · rintro ⟨h0, h1⟩ d
    fin_cases d
    · show i.val ≤ (x 0).val ∧ (x 0).val < i.val + 1; omega
    · exact h1
    · exact ⟨Nat.zero_le _, by show (x 2).val < 0 + 512; omega⟩
end Rects

theorem setOn_whole (b : Ref sig .tc) (S : Finset b.ty.shape.Idx) : (Memref.whole b).view.setOn S = S := by
  show S.map (Function.Embedding.refl _) = S; exact Finset.map_refl
theorem wr_whole (b : Ref sig .tc) (r : Rect b.ty.shape) (f : b.ty.Contents (Elt F)) (w : r.shape.Idx → Elt F b.ty.elt) (k : r.shape.Idx) :
    View.write (Elt F) ((Memref.whole b).access r) f w Finset.univ (r.emb k) = w k :=
  congrFun (View.read_write_univ (v := (Memref.whole b).access r) f w) k
theorem access_whole (b : Ref sig .tc) (r : Rect b.ty.shape) : ((Memref.whole b).access r).setOn Finset.univ = r.set := by
  rw [View.setOn_univ]; exact View.set_slice_whole b r

/-! ## Shape casts that only drop or add the unit axis -/

theorem cast_cast_id {s t : Shape} {α : Type} (x : s.Idx → α) (h : s.ShapeCasts t) (h' : t.ShapeCasts s) (k : s.Idx) :
    shapeCast s (shapeCast t x h) h' k = x k := by
  unfold shapeCast; rw [Shape.reshapeEquiv_reshapeEquiv, Shape.reshapeEquiv_self]; first | done | rfl

theorem ix_congr {i i' r r' : ℕ} {k k' : Fin 512} (hi : i = i') (hr : r = r') (hk : k.val = k'.val) : ix i r k = ix i' r' k' := by
  subst hi hr; rw [Fin.ext hk]
theorem ix_val (i : Fin 8) {r : ℕ} (hr : r < 256) (k : Fin 512) {x : S8x256x512.Idx} (h0 : (x 0).val = i) (h1 : (x 1).val = r) (h2 : (x 2) = k) : ix i r k = x := by
  funext d; apply Fin.ext; fin_cases d
  · show i.val % 8 = (x 0).val; omega
  · show r % 256 = (x 1).val; omega
  · show k.val = (x 2).val; rw [h2]

/-! ## Loads and stores of held cells -/

theorem f0 {α : Type} {P Q R : sProp 𝕄} {A B : α → sProp 𝕄} (h : P ⊢ iprop(∃ f, A f ∗ (Q -∗ R))) (hB : ∀ f, B f ⊢ Q) : P ⊢ iprop(∃ f, A f ∗ (B f -∗ R)) := by
  iintro H
  ihave H := h $$ H
  icases H with ⟨%f, Hp, Hk⟩
  iexists f
  isplitl [Hp]; · iexact Hp
  iintro Hp
  iapply Hk
  iapply hB f $$ Hp

section Pts
variable {sh : Shape} {e : EltTy} {M : Memref sig .tc .vmem sh e} {r : Rect sh}

theorem ld_pts {S q f} {hl : M.view.LoadsAt r.toLoadRect} (Φ : (r.shape.Idx → Elt F e) → Prop)
    (hfoc : Sm I K c σ ⊢ iprop((M.view.loc (c : Thread nD τ) ↦[S]{q} f) ∗ ((M.view.loc (c : Thread nD τ) ↦[S]{q} f) -∗ Sm I K c σ)))
    (hS : M.view.setOn r.set ⊆ S) (hv : Φ (M.view.readAt (Elt F) r.toLoadRect f)) : Tr I K c σ σ (Prog.lift (.load M r.toLoadRect hl)) Φ := by
  refine Tr.load _ ?_
  iintro H
  ihave H := hfoc $$ H
  icases H with ⟨Hp, Hk⟩
  iexists S, q, f
  isplitr; · ipureintro; exact ⟨hS, hv⟩
  isplitl [Hp]; · iexact Hp
  iexact Hk
theorem ld_ptsV {S q} {hl : M.view.LoadsAt r.toLoadRect} (Φ : (r.shape.Idx → Elt F e) → Prop) (P : Buf (Elt F) (M.view.loc (c : Thread nD τ)) → Prop)
    (hfoc : Sm I K c σ ⊢ iprop(∃ f, ⌜P f⌝ ∗ (M.view.loc (c : Thread nD τ) ↦[S]{q} f) ∗ ((M.view.loc (c : Thread nD τ) ↦[S]{q} f) -∗ Sm I K c σ)))
    (hS : M.view.setOn r.set ⊆ S) (hv : ∀ f, P f → Φ (M.view.readAt (Elt F) r.toLoadRect f)) : Tr I K c σ σ (Prog.lift (.load M r.toLoadRect hl)) Φ := by
  refine Tr.load _ ?_
  iintro H
  ihave H := hfoc $$ H
  icases H with ⟨%f, %hP, Hp, Hk⟩
  iexists S, q, f
  isplitr; · ipureintro; exact ⟨hS, hv f hP⟩
  isplitl [Hp]; · iexact Hp
  iexact Hk
theorem ld_ptsE {S q} {hl : M.view.LoadsAt r.toLoadRect}
    (hfoc : Sm I K c σ ⊢ iprop(∃ f, (M.view.loc (c : Thread nD τ) ↦[S]{q} f) ∗ ((M.view.loc (c : Thread nD τ) ↦[S]{q} f) -∗ Sm I K c σ)))
    (hS : M.view.setOn r.set ⊆ S) : Tr I K c σ σ (Prog.lift (.load M r.toLoadRect hl)) (fun _ => True) := by
  refine Tr.load _ ?_
  iintro H
  ihave H := hfoc $$ H
  icases H with ⟨%f, Hp, Hk⟩
  iexists S, q, f
  isplitr; · ipureintro; exact ⟨hS, trivial⟩
  isplitl [Hp]; · iexact Hp
  iexact Hk
theorem st_ptsE {σ' : St} {S} {w : r.shape.Idx → Elt F e} {hx : (M.access r).Stores Finset.univ} {hm}
    (hfoc : Sm I K c σ ⊢ iprop(∃ f, ((M.access r).loc (c : Thread nD τ) ↦[S]{fullShare} f) ∗
      (((M.access r).loc (c : Thread nD τ) ↦[S]{fullShare} View.write (Elt F) (M.access r) f w Finset.univ) -∗ Sm I K c σ')))
    (hS : (M.access r).setOn Finset.univ ⊆ S) : Tr I K c σ σ' (Prog.lift (.store M r w Finset.univ hx hm)) (fun _ => True) := by
  refine Tr.store ?_
  iintro H
  ihave H := hfoc $$ H
  icases H with ⟨%f, Hp, Hk⟩
  iexists S, f
  isplitr; · ipureintro; exact hS
  isplitl [Hp]; · iexact Hp
  iexact Hk
end Pts

/-! ## The reduction workspace -/

section Acc
variable (i : Fin 8) {off : Fin 3 → ℕ}

variable (I K σ c) in
theorem foc_A : Sm I K c σ ⊢ iprop(∃ f, ⌜0 < σ.ph i → ∀ x ∈ accS c i (σ.ph i), x ∈ rows i (klo i (hlv (σ.ph i)) c) (sz (hlv (σ.ph i))) → f x = accC I (hlv (σ.ph i)) c x⌝ ∗
    accP c (accS c i (σ.ph i)) f ∗ (accP c (accS c i (σ.ph i)) f -∗ Sm I K c σ)) := by
  iintro H
  ihave H := Sm_mem I K c σ i (σ.ph i) (fun _ => rfl) $$ H
  icases H with ⟨HA, HG, HR, Hk⟩
  unfold MA
  icases HA with ⟨%f, %hf, Hp⟩
  iexists f
  isplitr; · ipureintro; exact hf
  isplitl [Hp]; · iexact Hp
  iintro Hp
  rw [St.setP_self]
  iapply Hk $$ [Hp] HG HR
  iexists f; isplitr; · ipureintro; exact hf
  iexact Hp

variable (I K σ c) in
theorem foc_A' (p' : ℕ) (hstg : ∀ s : Fin 8, stg s p' = stg s (σ.ph i))
    (hG : MG (F := F) I c i (σ.ph i) = MG I c i p') (hR : MR (F := F) I c i (σ.ph i) = MR I c i p') :
    Sm I K c σ ⊢ iprop(∃ f, accP c (accS c i (σ.ph i)) f ∗ (MA I c i p' -∗ Sm I K c (σ.setP i p'))) := by
  iintro H
  ihave H := Sm_mem I K c σ i p' hstg $$ H
  icases H with ⟨HA, HG, HR, Hk⟩
  unfold MA
  icases HA with ⟨%f, %hf, Hp⟩
  iexists f
  isplitl [Hp]; · iexact Hp
  iintro Hp
  iapply Hk $$ Hp [HG] [HR]
  · iapply (Entails.of_eq hG) $$ HG
  · iapply (Entails.of_eq hR) $$ HR

/-- A load of rows of the reduction workspace, with what the rows hold. -/
theorem tr_ldA_gen (n lo L : ℕ) {inb hl} (hoff : off = ![i.val, lo, 0]) (hsub : rows i lo L ⊆ accS c i (σ.ph i)) (hp : 0 < σ.ph i) (hn : hlv (σ.ph i) = n)
    (hk : rows i lo L ⊆ rows i (klo i n c) (sz n)) :
    Tr I K c σ σ (Prog.lift (.load accM (Rect.unit (s := S8x256x512) off (Sl L).size inb).toLoadRect hl)) (fun v => v = slab (accC I n c) i lo L) := by
  refine ld_ptsV (M := accM) _ _ (foc_A I K c σ i) ?_ (fun f hf => funext fun k => ?_)
  · rw [setOn_whole, set_slab hoff]; exact hsub
  · have hm : (Rect.unit (s := S8x256x512) off (Sl L).size inb).emb k ∈ rows i lo L := by rw [← set_slab hoff]; exact emb_mem _ k
    have := hf hp _ (hsub hm) (by rw [hn]; exact hk hm)
    rw [hn] at this
    exact this.trans (by rw [emb_slab hoff]; rfl)

/-- A dead load of rows of the reduction workspace. -/
theorem tr_deadA (lo L : ℕ) {inb hl} (hoff : off = ![i.val, lo, 0]) (hp : ¬ (σ.ph i ≤ 16 ∧ σ.ph i % 4 = 2)) :
    Tr I K c σ σ (Prog.lift (.load accM (Rect.unit (s := S8x256x512) off (Sl L).size inb).toLoadRect hl)) (fun _ => True) := by
  have hS : accS c i (σ.ph i) = rows i 0 256 := if_neg hp
  refine ld_ptsV (M := accM) _ _ (foc_A I K c σ i) ?_ (fun _ _ => trivial)
  rw [setOn_whole, set_slab hoff, hS]; exact rows_slab _ _ _

theorem hlv3 : ∀ s : Fin 4, hlv (base s + 3) = s := by decide
theorem nfly3 : ∀ s : Fin 4, ¬ (base s + 3 ≤ 16 ∧ (base s + 3) % 4 = 2) := by decide
theorem hlv4 : ∀ s : Fin 4, hlv (base s + 4) = s + 1 := by decide
theorem nfly4 : ∀ s : Fin 4, ¬ (base s + 4 ≤ 16 ∧ (base s + 4) % 4 = 2) := by decide
theorem base_lt4 : ∀ s : Fin 4, base s = 1 + 4 * s.val := by decide
theorem stg34 : ∀ s : Fin 4, ∀ s' : Fin 8, stg s' (base s + 4) = stg s' (base s + 3) := by decide

/-- The rows a device keeps, read before the addition of exchange `s`. -/
theorem tr_ldA (s : Fin 4) (L : ℕ) {inb hl} (hL : L = sz (s.val + 1)) (hoff : off = ![i.val, klo i (s.val + 1) c, 0]) (hp : σ.ph i = base s + 3) :
    Tr I K c σ σ (Prog.lift (.load accM (Rect.unit (s := S8x256x512) off (Sl L).size inb).toLoadRect hl))
      (fun v => v = slab (accC I s.val c) i (klo i (s.val + 1) c) L) := by
  subst hL
  refine tr_ldA_gen i s.val _ _ hoff ?_ (by rw [hp]; omega) (by rw [hp]; exact hlv3 s) (klo_subset i s.isLt c)
  rw [hp]; unfold accS; rw [if_neg (nfly3 s)]; exact rows_slab _ _ _
/-- The rows a device keeps to the last, read for the copy to the gather workspace. -/
theorem tr_ldA4 {inb hl} (hoff : off = ![i.val, klo i 4 c, 0]) (hp : σ.ph i = 17) :
    Tr I K c σ σ (Prog.lift (.load accM (Rect.unit (s := S8x256x512) off (Sl 16).size inb).toLoadRect hl))
      (fun v => v = slab (accC I 4 c) i (klo i 4 c) 16) := by
  refine tr_ldA_gen i 4 _ _ hoff ?_ (by rw [hp]; omega) (by rw [hp]; decide) (subset_refl _)
  rw [hp]; unfold accS; rw [if_neg (by decide)]; exact rows_slab _ _ _

/-- Storing into rows of the reduction workspace, in general. -/
theorem tr_stA_gen (p' n lo L : ℕ) {inb hx hm} {w : (Sl L).Idx → Elt F .bf16} (hoff : off = ![i.val, lo, 0])
    (hstg : ∀ s : Fin 8, stg s p' = stg s (σ.ph i)) (hS : accS c i (σ.ph i) = rows i 0 256) (hS' : accS c i p' = rows i 0 256) (hn : hlv p' = n)
    (hk : rows i (klo i n c) (sz n) ⊆ rows i lo L) (hw : ∀ k, w k = slab (accC I n c) i lo L k)
    (hG : MG (F := F) I c i (σ.ph i) = MG I c i p') (hR : MR (F := F) I c i (σ.ph i) = MR I c i p') :
    Tr I K c σ (σ.setP i p') (Prog.lift (.store accM (Rect.unit (s := S8x256x512) off (Sl L).size inb) w Finset.univ hx hm)) (fun _ => True) := by
  have hA (f) : accP (F := F) c (accS c i (σ.ph i)) (View.write (Elt F) (accM.access (Rect.unit (s := S8x256x512) off (Sl L).size inb)) f w Finset.univ) ⊢ MA I c i p' := by
    rw [hS, ← hS']
    unfold MA
    iintro H
    iexists _; isplitr
    rotate_left
    · iexact H
    · ipureintro
      intro _ x _ hx
      rw [hn] at hx ⊢
      have hr : x ∈ (Rect.unit (s := S8x256x512) off (Sl L).size inb).set := by rw [set_slab hoff]; exact hk hx
      obtain ⟨k, rfl⟩ := mem_set_emb _ hr
      refine (wr_whole cc0_scratch8 _ f w k).trans ((hw k).trans ?_)
      rw [emb_slab hoff]; rfl
  refine st_ptsE (c := c) (M := accM) (r := Rect.unit (s := S8x256x512) off (Sl L).size inb) (S := accS c i (σ.ph i)) (f0 (foc_A' I K c σ i p' hstg hG hR) hA) ?_
  rw [hS, access_whole, set_slab hoff]; exact rows_slab _ _ _

theorem MR_congr {p p' : ℕ} (h : ∀ n : Fin 4, 4 + 4 * n.val ≤ p ↔ 4 + 4 * n.val ≤ p') : MR (F := F) I c i p = MR I c i p' := by
  unfold MR; exact bigSep_congr fun n _ => by simp only [h n]
theorem MG_early {p p' : ℕ} (h : p < 18) (h' : p' < 18) : MG (F := F) I c i p = MG I c i p' := by unfold MG; rw [if_pos h, if_pos h']

/-- A slab's partial result is stored. -/
theorem tr_stA0 {inb hx hm} {w : (Sl 256).Idx → Elt F .bf16} (hoff : off = ![i.val, 0, 0]) (hp : σ.ph i = 0)
    (hw : w = oprojB (rowBlk (oC I c) (i.val / 2)) (colBlk (wB (I.wo c)) (i.val % 2))) :
    Tr I K c σ (σ.setP i 1) (Prog.lift (.store accM (Rect.unit (s := S8x256x512) off (Sl 256).size inb) w Finset.univ hx hm)) (fun _ => True) := by
  refine tr_stA_gen i 1 0 0 256 hoff (fun s => by rw [hp]; revert s; decide) (by rw [hp]; exact if_neg (by decide)) (if_neg (by decide)) (by decide) (subset_refl _)
    (fun k => ?_) (by rw [hp]; exact MG_early i (by decide) (by decide)) (by rw [hp]; exact MR_congr i (by decide))
  have h1 : (k 1).val < 256 := (k 1).isLt; have h0 : (k 0).val < 1 := (k 0).isLt
  subst hw
  show oprojB _ _ k = oprojB (rowBlk (oC I c) (i.val % 8 / 2)) (colBlk (wB (I.wo c)) (i.val % 8 % 2)) (tr3 0 ((ix i (0 + (k 1).val) (k 2)) 1) (k 2))
  rw [Nat.mod_eq_of_lt i.isLt]
  congr 1
  funext d; apply Fin.ext; fin_cases d
  · show (k 0).val = 0; omega
  · show (k 1).val = (0 + (k 1).val) % 256; omega
  · rfl

/-- The addition of exchange `s`, as the kernel writes it. -/
def addW {L : ℕ} (a b : (Sl L).Idx → Elt F .bf16) (h : (Sl L).ShapeCasts (Sf L)) (h' : (Sf L).ShapeCasts (Sl L)) : (Sl L).Idx → Elt F .bf16 :=
  shapeCast (Sl L) (truncf .bf16 (addf (extf .f32 (shapeCast (Sf L) a h : FVec F (Sf L) .bf16) bitsLt_bf16_f32)
    (extf .f32 (shapeCast (Sf L) b h : FVec F (Sf L) .bf16) bitsLt_bf16_f32)) bitsLt_bf16_f32) h'
theorem addW_eq {L : ℕ} (a b : (Sl L).Idx → Elt F .bf16) (h h') (k : (Sl L).Idx) : addW a b h h' k = addE (a k) (b k) := by
  have e (x : (Sl L).Idx → Elt F .bf16) : shapeCast (Sf L) x h (Shape.reshapeEquiv h' k) = x k := cast_cast_id x h h' k
  show addE (shapeCast (Sf L) a h (Shape.reshapeEquiv h' k)) (shapeCast (Sf L) b h (Shape.reshapeEquiv h' k)) = _
  rw [e, e]

/-- What was received for the row a kept row pairs with. -/
theorem recC_eq (s : Fin 4) {t : ℕ} (ht : t < sz (s.val + 1)) (k : Fin 512) :
    recC I c (rix i (roff s + t) k) = accC I s.val (ptr i s.val c) (ix i (klo i (s.val + 1) c + t) k) := by
  have hr : (∀ s : Fin 4, ∀ t : Fin 128, t.val < sz (s.val + 1) → (roff s + t.val) % 240 = roff s + t.val ∧ rlvl (roff s + t.val) = s.val) := by decide
  have h128 : t < 128 := lt_of_lt_of_le ht ((show ∀ s : Fin 4, sz (s.val + 1) ≤ 128 by decide) s)
  obtain ⟨e1, e2⟩ := hr s ⟨t, h128⟩ ht
  dsimp only at e1 e2
  show accC I (rlvl ((roff s + t) % 240)) (ptr (i.val % 8) (rlvl ((roff s + t) % 240)) c)
    (ix (i.val % 8) (klo (i.val % 8) (rlvl ((roff s + t) % 240) + 1) c + ((roff s + t) % 240 - roff (rlvl ((roff s + t) % 240)))) k) = _
  rw [e1, e2, Nat.mod_eq_of_lt i.isLt, Nat.add_sub_cancel_left]

/-- The addition of exchange `s` is stored. -/
theorem tr_stA (s : Fin 4) (L : ℕ) {inb hx hm} {w : (Sl L).Idx → Elt F .bf16} (h h') (hL : L = sz (s.val + 1)) (hoff : off = ![i.val, klo i (s.val + 1) c, 0]) (hp : σ.ph i = base s + 3)
    (hw : w = addW (slab (accC I s.val c) i (klo i (s.val + 1) c) L) (rslab (recC I c) i (roff s) L) h h') :
    Tr I K c σ (σ.setP i (base s + 4)) (Prog.lift (.store accM (Rect.unit (s := S8x256x512) off (Sl L).size inb) w Finset.univ hx hm)) (fun _ => True) := by
  subst hL hw
  have hb := base_lt4 s
  refine tr_stA_gen i (base s + 4) (s.val + 1) _ _ hoff (fun s' => by rw [hp]; exact stg34 s s') (by rw [hp]; exact if_neg (nfly3 s)) (if_neg (nfly4 s)) (hlv4 s) (subset_refl _)
    (fun k => ?_) (by rw [hp]; exact MG_early i (by omega) (by omega)) (by rw [hp]; exact MR_congr i fun n => by omega)
  have ht : (k 1).val < sz (s.val + 1) := (k 1).isLt
  have hm : ptr (i.val % 8) s.val c = ptr i.val s.val c := by rw [Nat.mod_eq_of_lt i.isLt]
  refine (addW_eq _ _ h h' k).trans ?_
  refine (congrArg (addE _) (recC_eq i s ht (k 2))).trans ?_
  refine (congrArg (fun d => addE (accC I s.val c (ix i (klo i (s.val + 1) c + (k 1).val) (k 2))) (accC I s.val d (ix i (klo i (s.val + 1) c + (k 1).val) (k 2)))) hm.symm).trans ?_
  rfl

/-! ## The receive buffer -/

variable (I K σ) in
theorem foc_R (s : Fin 4) (hp : base s + 3 ≤ σ.ph i) :
    Sm I K c σ ⊢ iprop(recP c (rrows i (roff s) (sz (s.val + 1))) (recC I c) ∗ (recP c (rrows i (roff s) (sz (s.val + 1))) (recC I c) -∗ Sm I K c σ)) := by
  have hb := base_lt4 s
  iintro H
  ihave H := Sm_mem I K c σ i (σ.ph i) (fun _ => rfl) $$ H
  icases H with ⟨HA, HG, HR, Hk⟩
  have hfoc : MR (F := F) I c i (σ.ph i) ⊢ iprop(recP c (rrows i (roff s) (sz (s.val + 1))) (recC I c) ∗ (recP c (rrows i (roff s) (sz (s.val + 1))) (recC I c) -∗ MR I c i (σ.ph i))) := by
    unfold MR
    rw [bigSep_univ_at _ s, if_pos (by omega)]
    iintro ⟨H1, H2⟩
    isplitl [H1]; · iexact H1
    iintro H; isplitl [H]; · iexact H
    iexact H2
  ihave HR := hfoc $$ HR
  icases HR with ⟨Hp, HR⟩
  isplitl [Hp]; · iexact Hp
  iintro Hp
  rw [St.setP_self]
  iapply Hk $$ HA HG
  iapply HR $$ Hp

/-- What exchange `s` brought is read. -/
theorem tr_ldR (s : Fin 4) (L : ℕ) {inb hl} (hL : L = sz (s.val + 1)) (hoff : off = ![i.val, roff s, 0]) (hp : σ.ph i = base s + 3) :
    Tr I K c σ σ (Prog.lift (.load recM (Rect.unit (s := S8x240x512) off (Sl L).size inb).toLoadRect hl)) (fun v => v = rslab (recC I c) i (roff s) L) := by
  subst hL
  have hb := base_lt4 s
  refine ld_pts (M := recM) _ (foc_R I K σ i s (by omega)) ?_ (funext fun k => ?_)
  · rw [setOn_whole, set_rslab hoff]
  · show recC I c ((Rect.unit (s := S8x240x512) off (Sl _).size inb).emb k) = _
    rw [emb_rslab hoff]; rfl

/-! ## The gather workspace -/

variable (I K σ) in
theorem foc_G0 (p' : ℕ) (hp : σ.ph i < 18) (hstg : ∀ s : Fin 8, stg s p' = stg s (σ.ph i)) (hA : MA (F := F) I c i (σ.ph i) ⊢ MA I c i p') (hR : MR (F := F) I c i (σ.ph i) = MR I c i p') :
    Sm I K c σ ⊢ iprop(∃ f, agP c (rows i (klo i 4 c) (sz 4)) fullShare f ∗ (MG I c i p' -∗ Sm I K c (σ.setP i p'))) := by
  have hG : MG (F := F) I c i (σ.ph i) = iprop(∃ f, agP c (rows i (klo i 4 c) (sz 4)) fullShare f) := by unfold MG; rw [if_pos hp]
  iintro H
  ihave H := Sm_mem I K c σ i p' hstg $$ H
  icases H with ⟨HA, HG, HR, Hk⟩
  ihave HG := (Entails.of_eq hG) $$ HG
  icases HG with ⟨%f, Hp⟩
  iexists f
  isplitl [Hp]; · iexact Hp
  iintro Hp
  iapply Hk $$ [HA] Hp [HR]
  · iapply hA $$ HA
  · iapply (Entails.of_eq hR) $$ HR

/-- A dead load of the rows about to be copied. -/
theorem tr_deadG {inb hl} (hoff : off = ![i.val, klo i 4 c, 0]) (hp : σ.ph i = 17) :
    Tr I K c σ σ (Prog.lift (.load agM (Rect.unit (s := S8x256x512) off (Sl 16).size inb).toLoadRect hl)) (fun _ => True) := by
  have hfoc := foc_G0 I K σ i (c := c) (σ.ph i) (by omega) (fun _ => rfl) BIBase.Entails.rfl rfl
  rw [St.setP_self] at hfoc
  have hG (f) : agP (F := F) c (rows i (klo i 4 c) (sz 4)) fullShare f ⊢ MG I c i (σ.ph i) := by
    unfold MG; rw [if_pos (by omega)]
    iintro H; iexists f; iexact H
  refine ld_ptsE (M := agM) (S := rows i (klo i 4 c) (sz 4)) (q := fullShare) (f0 hfoc hG) ?_
  rw [setOn_whole, set_slab hoff]; exact subset_refl _

theorem sumC_keep {r : ℕ} (h : klo i 4 c ≤ r) (h' : r < klo i 4 c + sz 4) (k : Fin 512) : sumC I (ix i r k) = accC I 4 c (ix i r k) := by
  have hle := klo_le i (n := 4) (le_refl _) c
  have e : owner (i.val % 8) (r % 256) = c := by
    rw [Nat.mod_eq_of_lt i.isLt, Nat.mod_eq_of_lt (by omega)]; exact owner_klo i c h h'
  show accC I 4 (owner (i.val % 8) (r % 256)) _ = _
  rw [e]

/-- The rows a device kept to the last are copied to the gather workspace. -/
theorem tr_stG (L : ℕ) {inb hx hm} {w : (Sl L).Idx → Elt F .bf16} (h h') (hL : L = 16) (hoff : off = ![i.val, klo i 4 c, 0]) (hp : σ.ph i = 17)
    (hw : w = shapeCast (Sl L) (shapeCast (Sf L) (slab (accC I 4 c) i (klo i 4 c) L) h) h') :
    Tr I K c σ (σ.setP i 18) (Prog.lift (.store agM (Rect.unit (s := S8x256x512) off (Sl L).size inb) w Finset.univ hx hm)) (fun _ => True) := by
  have hA : MA (F := F) I c i (σ.ph i) ⊢ MA I c i 18 := by
    rw [hp]; unfold MA
    rw [show hlv 17 = 4 from rfl, show hlv 18 = 4 from rfl, show accS c i 17 = rows i 0 256 from if_neg (by decide), show accS c i 18 = rows i 0 256 from if_neg (by decide)]
    iintro ⟨%f, %hf, HA⟩
    iexists f; isplitr; · ipureintro; exact fun _ => hf (by decide)
    iexact HA
  have hfoc := foc_G0 I K σ i (c := c) 18 (by omega) (fun s => by rw [hp]; revert s; decide) hA (by rw [hp]; exact MR_congr i (by decide))
  have key (f) : ∀ x ∈ rows i (klo i 4 c) (sz 4), View.write (Elt F) (agM.access (Rect.unit (s := S8x256x512) off (Sl L).size inb)) f w Finset.univ x = sumC I x := by
    intro x hx
    have hr : x ∈ (Rect.unit (s := S8x256x512) off (Sl L).size inb).set := by rw [set_slab hoff, hL]; exact hx
    obtain ⟨k, rfl⟩ := mem_set_emb _ hr
    have ht : (k 1).val < L := (k 1).isLt
    have hs : sz 4 = 16 := by decide
    have h1 : w k = accC I 4 c (ix i (klo i 4 c + (k 1).val) (k 2)) := by rw [hw, cast_cast_id]; rfl
    refine (wr_whole cc0_scratch9 _ f w k).trans (h1.trans ?_)
    rw [emb_slab hoff]; exact (sumC_keep i (by omega) (by omega) _).symm
  have hG (f) : agP (F := F) c (rows i (klo i 4 c) (sz 4)) fullShare (View.write (Elt F) (agM.access (Rect.unit (s := S8x256x512) off (Sl L).size inb)) f w Finset.univ) ⊢ MG I c i 18 := by
    unfold MG; rw [if_neg (by decide), show glv 18 = 4 from rfl, show gsh 18 = fullShare from rfl]
    exact Entails.of_eq (pointsTo_congr (key f))
  refine st_ptsE (c := c) (M := agM) (r := Rect.unit (s := S8x256x512) off (Sl L).size inb) (S := rows i (klo i 4 c) (sz 4)) (f0 hfoc hG) ?_
  rw [access_whole, set_slab hoff]; exact le_of_eq (congrArg (rows i (klo i 4 c)) hL)

/-- The first row and the number of rows of a piece of the result: first the rows kept to the last, then what each doubling exchange brings. -/
def wlo (i k : ℕ) (c : Dev nD) : ℕ := if k = 0 then klo i 4 c else slo i (4 - k) c
def wlen (k : ℕ) : ℕ := if k = 0 then 16 else sz (5 - k)

theorem piece_sub (k : Fin 5) : rows i (wlo i k c) (wlen k) ⊆ rows i (klo i (4 - k) c) (sz (4 - k)) := by
  unfold wlo wlen
  by_cases hk : k.val = 0
  · rw [if_pos hk, if_pos hk, hk]; exact subset_refl _
  · rw [if_neg hk, if_neg hk, show 5 - k.val = 4 - k.val + 1 by omega]
    exact slo_subset i (by omega) c

variable (I K σ) in
theorem foc_G {n : ℕ} (h18 : 18 ≤ σ.ph i) (hg : glv (σ.ph i) = n) :
    Sm I K c σ ⊢ iprop(agP c (rows i (klo i n c) (sz n)) (gsh (σ.ph i)) (sumC I) ∗ (agP c (rows i (klo i n c) (sz n)) (gsh (σ.ph i)) (sumC I) -∗ Sm I K c σ)) := by
  have hG : MG (F := F) I c i (σ.ph i) = agP c (rows i (klo i n c) (sz n)) (gsh (σ.ph i)) (sumC I) := by
    unfold MG; rw [if_neg (by omega), hg]
  iintro H
  ihave H := Sm_mem I K c σ i (σ.ph i) (fun _ => rfl) $$ H
  icases H with ⟨HA, HG, HR, Hk⟩
  isplitl [HG]; · iapply (Entails.of_eq hG) $$ HG
  iintro Hp
  rw [St.setP_self]
  iapply Hk $$ HA [Hp] HR
  iapply (Entails.of_eq hG.symm) $$ Hp

/-- A piece of the sum is read from the gather workspace. -/
theorem tr_ldG (k : Fin 5) (L : ℕ) {inb hl} (hL : L = wlen k) (hoff : off = ![i.val, wlo i k c, 0]) (h18 : 18 ≤ σ.ph i) (hg : glv (σ.ph i) = 4 - k.val) :
    Tr I K c σ σ (Prog.lift (.load agM (Rect.unit (s := S8x256x512) off (Sl L).size inb).toLoadRect hl)) (fun v => v = slab (sumC I) i (wlo i k c) L) := by
  subst hL
  refine ld_pts (M := agM) _ (foc_G I K σ i h18 hg) ?_ (funext fun k => ?_)
  · rw [setOn_whole, set_slab hoff]; exact piece_sub i k
  · show sumC I ((Rect.unit (s := S8x256x512) off (Sl _).size inb).emb k) = _
    rw [emb_slab hoff]; rfl

/-! ## The result -/

variable (I K) in
theorem foc_out (σ : St) (i : Fin 8) (n' : ℕ) :
    Sm I K c σ ⊢ iprop(AgB c (Memref.whole cc0_stg5_0) (outT c σ.fl) (outC I) ∗ (AgB c (Memref.whole cc0_stg5_0) (outT c (σ.setF i n').fl) (outC I) -∗ Sm I K c (σ.setF i n'))) :=
  Sm_out I K c σ (σ.setF i n') rfl rfl

/-- A dead load of the result's buffer. -/
theorem tr_deadT {r : Rect S1024x1024} {hl} : Tr I K c σ σ (Prog.lift (.load (Memref.whole cc0_stg5_0) r.toLoadRect hl)) (fun _ => True) :=
  dead_AgB (T := outT c σ.fl) (G := outC I) (Sm_out I K c σ σ rfl rfl)

/-- A piece of the sum is widened and stored in the result. -/
theorem tr_stT (k : Fin 5) (L : ℕ) {off : Fin 2 → ℕ} {inb hx hm} {w : (Sf L).Idx → Elt F .f32} (h) (hL : L = wlen k)
    (hoff : off = ![256 * (i.val / 2) + wlo i k c, 512 * (i.val % 2)]) (hf : σ.fl i = k.val)
    (hw : w = extf .f32 (shapeCast (Sf L) (slab (sumC I) i (wlo i k c) L) h : FVec F (Sf L) .bf16) bitsLt_bf16_f32) :
    Tr I K c σ (σ.setF i (k.val + 1)) (Prog.lift (.store (Memref.whole cc0_stg5_0) (Rect.unit (s := S1024x1024) off (Sf L).size inb) w Finset.univ hx hm)) (fun _ => True) := by
  subst hL hw
  have hwl : wlo i k c + wlen k ≤ 256 := by
    unfold wlo wlen
    by_cases hk : k.val = 0
    · rw [if_pos hk, if_pos hk]; exact klo_le i (n := 4) (le_refl _) c
    · rw [if_neg hk, if_neg hk, show 5 - k.val = 4 - k.val + 1 by omega]
      have h1 := halves i (n := 4 - k.val) (by omega) c; have h2 := klo_le i (n := 4 - k.val) (by omega) c; have h3 := sz_succ (n := 4 - k.val) (by omega)
      omega
  refine st_AgB (foc_out I K σ i (k.val + 1)) (fun x => ?_) fun x hT hx => ?_
  · have h0 : (x 0).val < wlen k := (x 0).isLt; have h1 : (x 1).val < 512 := (x 1).isLt
    have hi := i.isLt
    rw [emb_sq hoff]
    have s0 := sq_val0 (r := 256 * (i.val / 2) + wlo i k c + (x 0).val) (k := 512 * (i.val % 2) + (x 1).val) (by omega)
    have s1 := sq_val1 (r := 256 * (i.val / 2) + wlo i k c + (x 0).val) (k := 512 * (i.val % 2) + (x 1).val) (by omega)
    show extE (slab (sumC I) i (wlo i k c) (wlen k) (Shape.reshapeEquiv h x)) = extE (sumC I (ix _ _ _))
    rw [Shape.reshapeEquiv_cons_one]
    unfold slab
    refine congrArg (fun y => extE (sumC I y)) (ix_congr ?_ ?_ ?_)
    · rw [s0, s1]; omega
    · rw [s0]; show wlo i k c + (x 0).val = _; omega
    · show (x 1).val = _ % 512; rw [s1]; omega
  · have h0 : (x 0).val < 1024 := (x 0).isLt; have h1 : (x 1).val < 1024 := (x 1).isLt
    have hr : ¬ ((256 * (i.val / 2) + wlo i k c ≤ (x 0).val ∧ (x 0).val < 256 * (i.val / 2) + wlo i k c + wlen k) ∧ 512 * (i.val % 2) ≤ (x 1).val ∧ (x 1).val < 512 * (i.val % 2) + 512) := by
      rw [mem_sq hoff] at hx; exact hx
    unfold outT at hT ⊢
    by_cases ho : oslab x = i
    · rw [ho] at hT ⊢
      have hv : 2 * ((x 0).val / 256) + (x 1).val / 512 = i.val := congrArg Fin.val ho
      simp only [St.setF, Function.update_self] at hT
      rw [hf]
      unfold orow at *
      obtain ⟨_, hT1, hT2⟩ := hT
      rw [show 5 - (k.val + 1) = 4 - k.val by omega] at hT1 hT2
      unfold wlo wlen at hr
      by_cases hk : k.val = 0
      · rw [if_pos hk, if_pos hk] at hr
        rw [hk] at hT1 hT2
        have : sz (4 - 0) = 16 := by decide
        rw [this] at hT2
        exfalso; apply hr
        have : klo i (4 - 0) c = klo i 4 c := rfl
        omega
      · rw [if_neg hk, if_neg hk] at hr
        have e5 : 5 - k.val = 4 - k.val + 1 := by omega
        rw [e5] at hr ⊢
        have h1 := halves i (n := 4 - k.val) (by omega) c; have h3 := sz_succ (n := 4 - k.val) (by omega)
        refine ⟨by omega, ?_⟩
        omega
    · have : (σ.setF i (k.val + 1)).fl (oslab x) = σ.fl (oslab x) := Function.update_of_ne ho _ _
      rwa [this] at hT

end Acc

end Cert.Ring

end
-- ==== Proof.Comm.lean ====
/-
# The exchanges

Sending, awaiting a send, awaiting what comes.
-/
module

public import proofs.«01_k».proof.Proof.Slab

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Ins F} {K : Dev nD × Fin 129 → ℕ} {c : Dev nD} {σ : St}

/-! ## One exchange, whatever memory it moves -/

theorem X_0 (c : Dev nD) (i s : Fin 8) : X (F := F) c i s 0 = iprop(dutyTok ER (sendCell c i s) 0 0 ∗ dutyTok ER (recvCell (peer i s c) i s) 0 0 ∗ landE (peer i s c) i s
      ∗ atPos ER (sendCell c i s) 0 ∅ 0 ∗ atPos ER (recvCell c i s) 0 ∅ 0 ∗ cred (tallyAt (recvCell c i s) () (amt s))) := rfl
theorem X_1 (c : Dev nD) (i s : Fin 8) : X (F := F) c i s 1 = iprop(cred (tallyAt (sendCell c i s) () (amt s)) ∗ atPos ER (sendCell c i s) 0 ∅ 0 ∗ atPos ER (recvCell c i s) 0 ∅ 0
      ∗ cred (tallyAt (recvCell c i s) () (amt s))) := rfl
theorem X_2 (c : Dev nD) (i s : Fin 8) : X (F := F) c i s 2 = iprop(semVal (sendCell c i s) 0 ∗ atPos ER (recvCell c i s) 0 ∅ 0 ∗ cred (tallyAt (recvCell c i s) () (amt s))) := rfl
theorem X_3 (c : Dev nD) (i s : Fin 8) : X (F := F) c i s 3 = iprop(semVal (sendCell c i s) 0 ∗ semVal (recvCell c i s) 0) := rfl

theorem X_focus (c : Dev nD) (i s : Fin 8) (k k' : Fin 4) :
    bigSep Finset.univ (fun s' : Fin 8 => X (F := F) c i s' (stg s' (base s + k.val)))
      ⊢ iprop(X c i s (stg s (base s + k.val)) ∗ (X c i s (stg s (base s + k'.val)) -∗ bigSep Finset.univ (fun s' : Fin 8 => X c i s' (stg s' (base s + k'.val))))) :=
  bigSep_focus (Φ := fun s' : Fin 8 => X (F := F) c i s' (stg s' (base s + k.val))) (Ψ := fun s' : Fin 8 => X c i s' (stg s' (base s + k'.val))) s
    (fun s' h => by rw [stg_ne s s' h k, stg_ne s s' h k'])

theorem owed_begin (i s : Fin 8) (hp : σ.ph i = base s) :
    owedOf c σ.ph = owedOf c (σ.setP i (base s + 1)).ph + tallyAt (recvCell (peer i s c) i s) () (amt s) := by
  refine owedOf_send c i s (by rw [hp]; exact stg_base s) ?_ ?_
  · rw [show (σ.setP i (base s + 1)).ph i = base s + 1 from Function.update_self ..]; rw [stg_base1]; decide
  · intro i' s' h
    by_cases hi : i' = i
    · subst hi
      rw [show (σ.setP i' (base s + 1)).ph i' = base s + 1 from Function.update_self .., hp]
      have := stg_ne s s' (fun e => h (by rw [e])) 1
      rw [show stg s' (base s + 1) = stg s' (base s) from this]
    · rw [show (σ.setP i (base s + 1)).ph i' = σ.ph i' from Function.update_of_ne hi ..]
theorem owed_same (i s : Fin 8) (k : ℕ) (hk : k = 1 ∨ k = 2) (hp : σ.ph i = base s + k) : owedOf c σ.ph = owedOf c (σ.setP i (base s + (k + 1))).ph := by
  refine owedOf_congr c fun i' s' => ?_
  by_cases hi : i' = i
  · subst hi
    rw [show (σ.setP i' (base s + (k + 1))).ph i' = base s + (k + 1) from Function.update_self .., hp]
    rcases hk with rfl | rfl
    · exact (show ∀ s s' : Fin 8, stg s' (base s + 1) = 0 ↔ stg s' (base s + (1 + 1)) = 0 by decide) s s'
    · exact (show ∀ s s' : Fin 8, stg s' (base s + 2) = 0 ↔ stg s' (base s + (2 + 1)) = 0 by decide) s s'
  · rw [show (σ.setP i (base s + (k + 1))).ph i' = σ.ph i' from Function.update_of_ne hi ..]

section Core
variable {n : ℕ} {src dst : Memref sig .tc .vmem (Sf n) .bf16} (i s : Fin 8)

theorem send_core {d : Dev nD} (hn : d = peer i s c) {sS rS : DmaSem sig} (hsS : sS = sendS i s) (hrS : rS = recvS i s)
    {hsc : dst.view.ref.isScScratch = false} {hsrc : src.view.WordExact} {hdst : dst.view.WordExact}
    {hsem : DmaTarget.Typed .vmem (.dma rS) (.remote (d : Thread nD τ) dst (.dma sS) hsc)}
    (hN : dst.view.amount (.dma (recvS i s)) = amt s) (hp : σ.ph i = base s)
    {q : PosShare TreeShare} {fs : Buf (Elt F) (src.view.loc (c : Thread nD τ))}
    (hsplit : iprop(MA I c i (base s) ∗ MG I c i (base s)) ⊢ iprop((src.view.loc (c : Thread nD τ) ↦[src.view.set]{q} fs) ∗ MA I c i (base s + 1) ∗ MG I c i (base s + 1)))
    (hpay₁ : (src.view.loc (c : Thread nD τ) ↦[src.view.set]{q} fs) ⊢ srcP I c i s)
    (hland : landE (peer i s c) i s ⊢ iprop(∃ fd : Buf (Elt F) (dst.view.loc (peer i s c : Thread nD τ)), dst.view.loc (peer i s c : Thread nD τ) ↦[dst.view.set]{fullShare} fd))
    (hpay₂ : ∀ fd : Buf (Elt F) (dst.view.loc (peer i s c : Thread nD τ)), (dst.view.loc (peer i s c : Thread nD τ) ↦[dst.view.set]{fullShare} (dst.view.write (Elt F) fd (src.view.read (Elt F) fs) Finset.univ))
      ⊢ landP I (peer i s c) i s)
    (hR : MR (F := F) I c i (base s) = MR I c i (base s + 1)) :
    Tr I K c σ (σ.setP i (base s + 1)) (Prog.lift (.enqueueDma src (.remote (d : Thread nD τ) dst (.dma sS) hsc) (.dma rS) hsrc hdst hsem)) (fun _ => True) := by
  subst hn hsS hrS
  have hO := owed_begin (c := c) i s hp
  have hX := X_focus (F := F) c i s 0 1
  rw [show base s + (0 : Fin 4).val = base s from rfl, show base s + (1 : Fin 4).val = base s + 1 from rfl, stg_base, stg_base1, X_0, X_1] at hX
  unfold Tr
  simp only [Prog.lift]
  iintro H
  ihave H := Sm_ch I K c σ i (base s + 1) $$ H
  icases H with ⟨#HR, #HL, ⟨%W, HO⟩, HC, Hk⟩
  rw [hp]
  unfold Ch
  icases HC with ⟨HX, HA, HG, HM⟩
  ihave HX := hX $$ HX
  icases HX with ⟨HX, HXk⟩
  icases HX with ⟨HtS, HtR, Hland, HaS, HaR, HcR⟩
  ihave Hland := hland $$ Hland
  icases Hland with ⟨%fd, Hd⟩
  ihave HS := hsplit $$ [HA HG]
  · isplitl [HA]; · iexact HA
    iexact HG
  icases HS with ⟨Hs, HA, HG⟩
  ihave Hs1 := Recs_send I K c i s $$ HR
  icases Hs1 with ⟨#HIs, #Hrs⟩
  ihave Hr1 := Recs_recv I K (peer i s c) i s $$ HR
  icases Hr1 with ⟨#HIr, #Hrr⟩
  iapply (Rounds.wp_send_pointsTo 𝒱₀ ER (Rd I) (c : Thread nD τ) none (src := src) (dst := dst) (c' := (peer i s c : Thread nD τ)) (κ₁ := K (c, kSend i s)) (κ₂ := K (peer i s c, kRecv i s)) (r₁ := 0) (r₂ := 0)
      (d₁ := 0) (d₂ := 0) (q := q) (fs := fs) (fd := fd) (by rw [duties_send]; exact Finset.mem_singleton_self _) (by rw [duties_recv]; exact Finset.mem_singleton_self _) () () (amt s) hN
      (amount_send I c i s 0) (amount_recv I (peer i s c) i s 0) (owedOf c (σ.setP i (base s + 1)).ph) hO (W := W)
      (by rw [payload_send]; exact hpay₁) (by rw [payload_recv]; exact hpay₂ fd)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨HcS, HO⟩
  rw [wp_ret]; imodintro
  isplitr; · ipureintro; exact trivial
  iapply Hk $$ [HO]
  · iexists W; iexact HO
  isplitl [HXk HcS HaS HaR HcR]
  · iapply HXk
    isplitl [HcS]; · iexact HcS
    isplitl [HaS]; · iexact HaS
    isplitl [HaR]; · iexact HaR
    iexact HcR
  isplitl [HA]; · iexact HA
  isplitl [HG]; · iexact HG
  iapply (Entails.of_eq hR) $$ HM

theorem mayWait_send (ph : Fin 8 → ℕ) : (levAts L lv : sProp 𝕄) ⊢ MayWait (c : Thread nD τ) (.dma (sendS i s)) () (owedOf c ph) :=
  MayOwe.of_cut (L := Cert.Ring.L) (lev := lv) 0 (fun p hp => by rw [Finset.mem_singleton.mp hp, L_tc]; exact Finset.mem_singleton_self _)
    (fun g u hg => by obtain ⟨i', s', rfl, _⟩ := owedOf_pos hg; rw [L_tc]; exact Finset.mem_singleton_self _)
    (fun p hp => by rw [Finset.mem_singleton.mp hp]; exact le_of_eq (lv_send c i s))
    (fun g u hg => by obtain ⟨i', s', rfl, _⟩ := owedOf_pos hg; rw [lv_recv]; omega)
theorem mayWait_recv (ph : Fin 8 → ℕ) (hord : ∀ i' s' : Fin 8, stg s' (ph i') = 0 → rnd i s < rnd i' s') :
    (levAts L lv : sProp 𝕄) ⊢ MayWait (c : Thread nD τ) (.dma (recvS i s)) () (owedOf c ph) :=
  MayOwe.of_cut (L := Cert.Ring.L) (lev := lv) (2 + rnd i s) (fun p hp => by rw [Finset.mem_singleton.mp hp, L_tc]; exact Finset.mem_singleton_self _)
    (fun g u hg => by obtain ⟨i', s', rfl, _⟩ := owedOf_pos hg; rw [L_tc]; exact Finset.mem_singleton_self _)
    (fun p hp => by rw [Finset.mem_singleton.mp hp]; exact le_of_eq (lv_recv c i s))
    (fun g u hg => by obtain ⟨i', s', rfl, h0⟩ := owedOf_pos hg; rw [lv_recv]; have := hord i' s' h0; omega)

theorem swait_core {sS : DmaSem sig} (hsS : sS = sendS i s) {h1 : src.view.WordExact} {h2 : dst.view.WordExact} (hN : dst.view.dmaCredit = amt s) (hp : σ.ph i = base s + 1)
    (hjoin : iprop(srcP I c i s ∗ MA I c i (base s + 1) ∗ MG I c i (base s + 1)) ⊢ iprop(MA I c i (base s + 2) ∗ MG I c i (base s + 2)))
    (hR : MR (F := F) I c i (base s + 1) = MR I c i (base s + 2)) :
    Tr I K c σ (σ.setP i (base s + 2)) (Prog.lift (.waitDma2 sS src dst h1 h2)) (fun _ => True) := by
  subst hsS
  have hO := owed_same (c := c) i s 1 (Or.inl rfl) hp
  have hX := X_focus (F := F) c i s 1 2
  rw [show base s + (1 : Fin 4).val = base s + 1 from rfl, show base s + (2 : Fin 4).val = base s + 2 from rfl, stg_base1, stg_base2, X_1, X_2] at hX
  unfold Tr
  simp only [Prog.lift]
  iintro H
  ihave H := Sm_ch I K c σ i (base s + 2) $$ H
  icases H with ⟨#HR, #HL, ⟨%W, HO⟩, HC, Hk⟩
  rw [hp]
  unfold Ch
  icases HC with ⟨HX, HA, HG, HM⟩
  ihave HX := hX $$ HX
  icases HX with ⟨HX, HXk⟩
  icases HX with ⟨HcS, HaS, HaR, HcR⟩
  ihave Hs1 := Recs_send I K c i s $$ HR
  icases Hs1 with ⟨#HIs, #Hrs⟩
  ihave HMW := mayWait_send (F := F) (c := c) i s σ.ph $$ HL
  iapply (Rounds.wp_wait_rest_token 𝒱₀ ER (Rd I) (c : Thread nD τ) none (wpE_waitDma2_eq 𝒱₀ (c : Thread nD τ) none Set.univ) (Set.mem_univ (K (c, kSend i s))) () (m := 0) (R := 0)
      (by rw [Nat.zero_add, expect_send]; exact hN)) $$ [HcS HO HMW HaS]
  · isplitr; · iexact HIs
    isplitl [HcS]; · rw [hN]; iexact HcS
    isplitl [HO]; · iexact HO
    isplitl [HMW]; · iexact HMW
    iexact HaS
  iintro ⟨HO, HaS, -, Hpay⟩
  ihave Hpay := (Entails.of_eq (rest_send I c i s)) $$ Hpay
  imod (Rounds.cell_close ER (Rd I) (Set.mem_univ (K (c, kSend i s))) (fun h => h) (R := 0 + 1) (duties_later I (sendCell c i s))) $$ [HaS] with HvS
  · isplitr; · iexact HIs
    iexact HaS
  ihave HS := hjoin $$ [Hpay HA HG]
  · isplitl [Hpay]; · iexact Hpay
    isplitl [HA]; · iexact HA
    iexact HG
  icases HS with ⟨HA, HG⟩
  rw [wp_ret]; imodintro
  isplitr; · ipureintro; exact trivial
  iapply Hk $$ [HO]
  · rw [← hO]; iexists _; iexact HO
  isplitl [HXk HvS HaR HcR]
  · iapply HXk
    isplitl [HvS]; · iexact HvS
    isplitl [HaR]; · iexact HaR
    iexact HcR
  isplitl [HA]; · iexact HA
  isplitl [HG]; · iexact HG
  iapply (Entails.of_eq hR) $$ HM

theorem rwait_core {rS : DmaSem sig} (hrS : rS = recvS i s) {h1 : src.view.WordExact} {h2 : dst.view.WordExact} (hN : dst.view.dmaCredit = amt s) (hp : σ.ph i = base s + 2)
    (hord : ∀ i' s' : Fin 8, stg s' (σ.ph i') = 0 → rnd i s < rnd i' s')
    (hA : MA (F := F) I c i (base s + 2) ⊢ MA I c i (base s + 3))
    (hjoin : iprop(landP I c i s ∗ MG I c i (base s + 2) ∗ MR I c i (base s + 2)) ⊢ iprop(MG I c i (base s + 3) ∗ MR I c i (base s + 3))) :
    Tr I K c σ (σ.setP i (base s + 3)) (Prog.lift (.waitDma2 rS src dst h1 h2)) (fun _ => True) := by
  subst hrS
  have hO := owed_same (c := c) i s 2 (Or.inr rfl) hp
  have hX := X_focus (F := F) c i s 2 3
  rw [show base s + (2 : Fin 4).val = base s + 2 from rfl, show base s + (3 : Fin 4).val = base s + 3 from rfl, stg_base2, stg_base3, X_2, X_3] at hX
  unfold Tr
  simp only [Prog.lift]
  iintro H
  ihave H := Sm_ch I K c σ i (base s + 3) $$ H
  icases H with ⟨#HR, #HL, ⟨%W, HO⟩, HC, Hk⟩
  rw [hp]
  unfold Ch
  icases HC with ⟨HX, HA, HG, HM⟩
  ihave HX := hX $$ HX
  icases HX with ⟨HX, HXk⟩
  icases HX with ⟨HvS, HaR, HcR⟩
  ihave Hs1 := Recs_recv I K c i s $$ HR
  icases Hs1 with ⟨#HIr, #Hrr⟩
  ihave HMW := mayWait_recv (F := F) (c := c) i s σ.ph hord $$ HL
  iapply (Rounds.wp_wait_rest_token 𝒱₀ ER (Rd I) (c : Thread nD τ) none (wpE_waitDma2_eq 𝒱₀ (c : Thread nD τ) none Set.univ) (Set.mem_univ (K (c, kRecv i s))) () (m := 0) (R := 0)
      (by rw [Nat.zero_add, expect_recv]; exact hN)) $$ [HcR HO HMW HaR]
  · isplitr; · iexact HIr
    isplitl [HcR]; · rw [hN]; iexact HcR
    isplitl [HO]; · iexact HO
    isplitl [HMW]; · iexact HMW
    iexact HaR
  iintro ⟨HO, HaR, -, Hpay⟩
  ihave Hpay := (Entails.of_eq (rest_recv I c i s)) $$ Hpay
  imod (Rounds.cell_close ER (Rd I) (Set.mem_univ (K (c, kRecv i s))) (fun h => h) (R := 0 + 1) (duties_later I (recvCell c i s))) $$ [HaR] with HvR
  · isplitr; · iexact HIr
    iexact HaR
  ihave HS := hjoin $$ [Hpay HM HG]
  · isplitl [Hpay]; · iexact Hpay
    isplitl [HG]; · iexact HG
    iexact HM
  icases HS with ⟨HG, HM⟩
  rw [wp_ret]; imodintro
  isplitr; · ipureintro; exact trivial
  iapply Hk $$ [HO]
  · rw [← hO]; iexists _; iexact HO
  isplitl [HXk HvS HvR]
  · iapply HXk
    isplitl [HvS]; · iexact HvS
    iexact HvR
  isplitl [HA]; · iapply hA $$ HA
  isplitl [HG]; · iexact HG
  iexact HM
end Core

end Cert.Ring

end
-- ==== Proof.Send.lean ====
/-
# The exchanges as the kernel makes them

Halving exchanges move rows of the reduction workspace into a peer's receive buffer; doubling exchanges move rows of the
gather workspace to the same rows of a peer's.
-/
module

public import proofs.«01_k».proof.Proof.Comm

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Ins F} {K : Dev nD × Fin 129 → ℕ} {c : Dev nD} {σ : St}

/-! ## Views of rows -/

section View
variable (b : Ref sig .tc) (r : Rect b.ty.shape) {t : Shape} {hr : ∀ a, r.stride a = 1} {h : r.shape.Squeezes t}

theorem set_sqz : (((Memref.whole b).slice r hr).squeeze t h).view.set = r.set :=
  (View.set_reshape _ _).trans (View.set_slice_whole b r)
theorem read_sqz (f : b.ty.Contents (Elt F)) (k : t.Idx) :
    (((Memref.whole b).slice r hr).squeeze t h).view.read (Elt F) f k = f (r.emb (Shape.reshapeEquiv h.numel_eq k)) := rfl
theorem pts_sqz (c : Dev nD) (q : PosShare TreeShare) (f : b.ty.Contents (Elt F)) {S : Finset b.ty.Idx} (hS : r.set = S) :
    (((((Memref.whole b).slice r hr).squeeze t h).view.loc (c : Thread nD τ) ↦[(((Memref.whole b).slice r hr).squeeze t h).view.set]{q} f) : sProp 𝕄)
      = (((c : Thread nD τ).loc b) ↦[S]{q} f) :=
  congrArg (fun S => (((c : Thread nD τ).loc b ↦[S]{q} f) : sProp 𝕄)) ((set_sqz b r).trans hS)
theorem write_sqz {f w} {G : b.ty.Contents (Elt F)}
    (hw : ∀ k, w k = G (r.emb (Shape.reshapeEquiv h.numel_eq k))) :
    ∀ x ∈ r.set, (((Memref.whole b).slice r hr).squeeze t h).view.write (Elt F) f w Finset.univ x = G x := by
  intro x hx
  obtain ⟨k, rfl⟩ := mem_set_emb r hx
  have e : k = Shape.reshapeEquiv h.numel_eq ((Shape.reshapeEquiv h.numel_eq).symm k) := (Equiv.apply_symm_apply _ _).symm
  rw [e]
  refine (View.write_emb_of_mem (v := (((Memref.whole b).slice r hr).squeeze t h).view) f w (x := (Shape.reshapeEquiv h.numel_eq).symm k) (Finset.mem_univ _)).trans ?_
  exact hw _
theorem pts_write (c : Dev nD) {f w} {G : b.ty.Contents (Elt F)} {S : Finset b.ty.Idx} (hS : r.set = S)
    (hw : ∀ k, w k = G (r.emb (Shape.reshapeEquiv h.numel_eq k))) :
    (((((Memref.whole b).slice r hr).squeeze t h).view.loc (c : Thread nD τ) ↦[(((Memref.whole b).slice r hr).squeeze t h).view.set]{fullShare}
      ((((Memref.whole b).slice r hr).squeeze t h).view.write (Elt F) f w Finset.univ)) : sProp 𝕄) = (((c : Thread nD τ).loc b) ↦[S]{fullShare} G) :=
  (pts_sqz b r c fullShare _ hS).trans (pointsTo_congr (by rw [← hS]; exact write_sqz b r hw))
end View

theorem ex_mono {α : Type} {A B : α → sProp 𝕄} (h : ∀ f, A f ⊢ B f) : iprop(∃ f, A f) ⊢ iprop(∃ f, B f) := by
  iintro ⟨%f, H⟩
  iexists f
  iapply h f $$ H

theorem agP_share (c : Dev nD) (S) (f) : agP (F := F) c S fullShare f ⊣⊢ iprop(agP c S fullShare.left f ∗ agP c S fullShare.right f) :=
  pointsTo_share (PosShare.mem_left_op_right fullShare)
theorem agP_union (c : Dev nD) {S S'} (f) (h : Disjoint S S') : agP (F := F) c (S ∪ S') fullShare f ⊣⊢ iprop(agP c S fullShare f ∗ agP c S' fullShare f) :=
  pointsTo_union h

theorem re3 {n : ℕ} (h : (Sf n).numel = (Sl n).numel) (k : (Sf n).Idx) : (((Shape.reshapeEquiv h k) 1).val = (k 0).val) ∧ ((Shape.reshapeEquiv h k) 2 = k 1) := by
  rw [Shape.reshapeEquiv_cons_one]; exact ⟨rfl, rfl⟩

section
variable {i s : Fin 8}

theorem lo_num : ∀ s : Fin 8, s.val < 4 → lvl s = s ∧ hlv (base s) = s ∧ hlv (base s + 1) = s ∧ hlv (base s + 2) = s ∧ hlv (base s + 3) = s ∧ base s = 1 + 4 * s.val := by decide
theorem hi_num : ∀ s : Fin 8, 4 ≤ s.val → lvl s < 4 ∧ lvl s = 7 - s.val ∧ glv (base s) = lvl s + 1 ∧ glv (base s + 1) = lvl s + 1 ∧ glv (base s + 2) = lvl s + 1 ∧ glv (base s + 3) = lvl s ∧ 18 ≤ base s := by decide
theorem gsh_num : ∀ s : Fin 8, 4 ≤ s.val → (base s - 18) % 3 = 0 ∧ (base s + 1 - 18) % 3 = 1 ∧ (base s + 2 - 18) % 3 = 2 ∧ (base s + 3 - 18) % 3 = 0 := by decide

theorem MA_late {p p' : ℕ} (h : 17 ≤ p) (h' : 17 ≤ p') : MA (F := F) I c i p = MA I c i p' := by
  have e (p) (h : 17 ≤ p) : hlv p = 4 := by unfold hlv; omega
  have e' (p) (h : 17 ≤ p) : accS c i p = rows i 0 256 := if_neg (by omega)
  unfold MA; rw [e p h, e p' h', e' p h, e' p' h']
  simp only [show 0 < p by omega, show 0 < p' by omega]

/-! ## Halving -/

theorem lo_split (hs : s.val < 4) :
    iprop(MA (F := F) I c i (base s) ∗ MG I c i (base s)) ⊢ iprop(accP c (rows i (srow i s c) (len s)) (accC I s c) ∗ MA I c i (base s + 1) ∗ MG I c i (base s + 1)) := by
  obtain ⟨e1, e2, e3, e4, e5, e6⟩ := lo_num s hs
  have hrow : srow i s c = slo i s c := if_pos hs
  have hlen : len s = sz (s.val + 1) := by unfold len; rw [e1]
  have hS : accS c i (base s) = rows i 0 256 := if_neg (by omega)
  have hS' : accS c i (base s + 1) = rows i 0 256 \ rows i (slo i s c) (sz (s.val + 1)) := by unfold accS; rw [if_pos (by omega), e3]
  have hsub := rows_slab i (sz (s.val + 1)) (slo i s c)
  rw [hrow, hlen, MG_early i (p := base s) (p' := base s + 1) (by omega) (by omega)]
  unfold MA
  rw [hS, hS', e2, e3]
  iintro ⟨⟨%f, %hf, HA⟩, HG⟩
  have hsp : accP (F := F) c (rows i 0 256) f ⊢ iprop(accP c (rows i (slo i s c) (sz (s.val + 1))) f ∗ accP c (rows i 0 256 \ rows i (slo i s c) (sz (s.val + 1))) f) :=
    (pointsTo_split_subset hsub).1
  have hc : accP (F := F) c (rows i (slo i s c) (sz (s.val + 1))) f = accP c (rows i (slo i s c) (sz (s.val + 1))) (accC I s c) :=
    pointsTo_congr fun x hx => hf (by omega) x (hsub hx) (slo_subset i hs c hx)
  ihave HA := hsp $$ HA
  icases HA with ⟨H1, H2⟩
  isplitl [H1]; · iapply (Entails.of_eq hc) $$ H1
  isplitl [H2]
  · iexists f; isplitr
    · ipureintro; exact fun _ x hx => hf (by omega) x (Finset.sdiff_subset hx)
    iexact H2
  iexact HG
theorem lo_join (hs : s.val < 4) :
    iprop(accP c (rows i (srow i s c) (len s)) (accC I s c) ∗ MA (F := F) I c i (base s + 1) ∗ MG I c i (base s + 1)) ⊢ iprop(MA I c i (base s + 2) ∗ MG I c i (base s + 2)) := by
  obtain ⟨e1, e2, e3, e4, e5, e6⟩ := lo_num s hs
  have hrow : srow i s c = slo i s c := if_pos hs
  have hlen : len s = sz (s.val + 1) := by unfold len; rw [e1]
  have hS : accS c i (base s + 2) = rows i 0 256 := if_neg (by omega)
  have hS' : accS c i (base s + 1) = rows i 0 256 \ rows i (slo i s c) (sz (s.val + 1)) := by unfold accS; rw [if_pos (by omega), e3]
  have hsub := rows_slab i (sz (s.val + 1)) (slo i s c)
  rw [hrow, hlen, MG_early i (p := base s + 1) (p' := base s + 2) (by omega) (by omega)]
  unfold MA
  rw [hS, hS', e3, e4]
  iintro ⟨H1, ⟨%f, %hf, HA⟩, HG⟩
  have hj : iprop(accP (F := F) c (rows i (slo i s c) (sz (s.val + 1))) (accC I s c) ∗ accP c (rows i 0 256 \ rows i (slo i s c) (sz (s.val + 1))) f) ⊢
      accP c (rows i 0 256) ((rows i (slo i s c) (sz (s.val + 1))).piecewise (accC I s c) f) := pointsTo_join_subset hsub
  ihave HA := hj $$ [H1 HA]
  · isplitl [H1]; · iexact H1
    iexact HA
  isplitl [HA]
  · iexists _; isplitr
    rotate_left
    · iexact HA
    · ipureintro
      intro _ x hx hk
      by_cases hxs : x ∈ rows i (slo i s c) (sz (s.val + 1))
      · exact Finset.piecewise_eq_of_mem _ _ _ hxs
      · rw [Finset.piecewise_eq_of_notMem _ _ _ hxs]
        exact hf (by omega) x (Finset.mem_sdiff.2 ⟨hx, hxs⟩) hk
  iexact HG
theorem lo_land (hs : s.val < 4) :
    iprop(landP (F := F) I c i s ∗ MG I c i (base s + 2) ∗ MR I c i (base s + 2)) ⊢ iprop(MG I c i (base s + 3) ∗ MR I c i (base s + 3)) := by
  obtain ⟨e1, e2, e3, e4, e5, e6⟩ := lo_num s hs
  have hlen : len s = sz (s.val + 1) := by unfold len; rw [e1]
  have hP : landP (F := F) I c i s = recP c (rrows i (roff s) (sz (s.val + 1))) (recC I c) := by
    unfold landP; rw [if_pos hs, hlen, show drow i s c = roff s from if_pos hs]
  rw [hP, MG_early i (p := base s + 2) (p' := base s + 3) (by omega) (by omega)]
  have hM : iprop(recP (F := F) c (rrows i (roff s) (sz (s.val + 1))) (recC I c) ∗ MR I c i (base s + 2)) ⊢ MR I c i (base s + 3) := by
    unfold MR
    rw [bigSep_univ_at _ (⟨s.val, hs⟩ : Fin 4), bigSep_univ_at (fun n : Fin 4 => if 4 + 4 * n.val ≤ base s + 3 then _ else _) (⟨s.val, hs⟩ : Fin 4)]
    dsimp only
    rw [if_neg (show ¬ 4 + 4 * s.val ≤ base s + 2 by omega), if_pos (show 4 + 4 * s.val ≤ base s + 3 by omega)]
    rw [bigSep_congr (s := Finset.univ.erase (⟨s.val, hs⟩ : Fin 4)) (Φ := fun n : Fin 4 => if 4 + 4 * n.val ≤ base s + 2 then recP (F := F) c (rrows i (roff n) (sz (n.val + 1))) (recC I c) else iprop(emp))
      (Ψ := fun n : Fin 4 => if 4 + 4 * n.val ≤ base s + 3 then recP c (rrows i (roff n) (sz (n.val + 1))) (recC I c) else iprop(emp)) fun n hn => ?_]
    · iintro ⟨H, -, Hr⟩
      isplitl [H]; · iexact H
      iexact Hr
    · have hne : n.val ≠ s.val := fun e => Finset.ne_of_mem_erase hn (Fin.ext e)
      by_cases h : 4 + 4 * n.val ≤ base s + 2
      · rw [if_pos h, if_pos (by omega)]
      · rw [if_neg h, if_neg (by omega)]
  iintro ⟨H, HG, HM⟩
  isplitl [HG]; · iexact HG
  iapply hM
  isplitl [H]; · iexact H
  iexact HM

/-! ## Doubling -/

theorem MG_hi {k n : ℕ} {q : PosShare TreeShare} (h18 : 18 ≤ k) (hg : glv k = n) (hq : gsh k = q) : MG (F := F) I c i k = agP c (rows i (klo i n c) (sz n)) q (sumC I) := by
  unfold MG; rw [if_neg (by omega), hg, hq]
theorem MR_hi {p p' : ℕ} (h : 16 ≤ p) (h' : 16 ≤ p') : MR (F := F) I c i p = MR I c i p' := MR_congr i fun n => by omega

theorem hi_split (hs : 4 ≤ s.val) :
    iprop(MA (F := F) I c i (base s) ∗ MG I c i (base s)) ⊢ iprop(agP c (rows i (srow i s c) (len s)) fullShare.right (sumC I) ∗ MA I c i (base s + 1) ∗ MG I c i (base s + 1)) := by
  obtain ⟨e1, e2, e3, e4, e5, e6, e7⟩ := hi_num s hs
  obtain ⟨g0, g1, g2, g3⟩ := gsh_num s hs
  have hrow : srow i s c = klo i (lvl s + 1) c := if_neg (by omega)
  rw [hrow, MA_late (p := base s) (p' := base s + 1) (by omega) (by omega), MG_hi (by omega) e3 (q := fullShare) (if_neg (by omega)),
    MG_hi (by omega) e4 (q := fullShare.left) (if_pos g1)]
  iintro ⟨HA, HG⟩
  ihave HG := (agP_share c _ (sumC I)).1 $$ HG
  icases HG with ⟨Hl, Hr⟩
  isplitl [Hr]; · iexact Hr
  isplitl [HA]; · iexact HA
  iexact Hl
theorem hi_join (hs : 4 ≤ s.val) :
    iprop(agP c (rows i (srow i s c) (len s)) fullShare.right (sumC I) ∗ MA (F := F) I c i (base s + 1) ∗ MG I c i (base s + 1)) ⊢ iprop(MA I c i (base s + 2) ∗ MG I c i (base s + 2)) := by
  obtain ⟨e1, e2, e3, e4, e5, e6, e7⟩ := hi_num s hs
  obtain ⟨g0, g1, g2, g3⟩ := gsh_num s hs
  have hrow : srow i s c = klo i (lvl s + 1) c := if_neg (by omega)
  rw [hrow, MA_late (p := base s + 1) (p' := base s + 2) (by omega) (by omega), MG_hi (k := base s + 2) (by omega) e5 (q := fullShare) (if_neg (by omega)),
    MG_hi (k := base s + 1) (by omega) e4 (q := fullShare.left) (if_pos g1)]
  iintro ⟨Hr, HA, Hl⟩
  isplitl [HA]; · iexact HA
  iapply (agP_share c _ (sumC I)).2
  isplitl [Hl]; · iexact Hl
  iexact Hr
theorem hi_land (hs : 4 ≤ s.val) :
    iprop(landP (F := F) I c i s ∗ MG I c i (base s + 2) ∗ MR I c i (base s + 2)) ⊢ iprop(MG I c i (base s + 3) ∗ MR I c i (base s + 3)) := by
  obtain ⟨e1, e2, e3, e4, e5, e6, e7⟩ := hi_num s hs
  obtain ⟨g0, g1, g2, g3⟩ := gsh_num s hs
  have hP : landP (F := F) I c i s = agP c (rows i (slo i (lvl s) c) (sz (lvl s + 1))) fullShare (sumC I) := by
    unfold landP; rw [if_neg (by omega), show drow i s c = slo i (lvl s) c from if_neg (by omega)]; rfl
  rw [hP, MR_hi (p := base s + 2) (p' := base s + 3) (by omega) (by omega), MG_hi (k := base s + 2) (by omega) e5 (q := fullShare) (if_neg (by omega)),
    MG_hi (k := base s + 3) (by omega) e6 (q := fullShare) (if_neg (by omega)), rows_split i e1 c]
  iintro ⟨H, HG, HM⟩
  isplitl [H HG]
  · iapply (agP_union c (sumC I) (rows_disj i e1 c)).2
    isplitl [HG]; · iexact HG
    iexact H
  iexact HM
end

/-! ## The operations -/

section Ops
variable (i s : Fin 8) {n : ℕ} {off off' : Fin 3 → ℕ}
  {inb : ∀ a, off a + (Sl n).size a ≤ S8x256x512.size a} {inb' : ∀ a, off' a + (Sl n).size a ≤ S8x240x512.size a} {inb'' : ∀ a, off' a + (Sl n).size a ≤ S8x256x512.size a}
  {hr hr'} {hq hq' : (Sl n).Squeezes (Sf n)}

/-- A halving exchange is begun. -/
theorem tr_sendL (hs : s.val < 4) (hn : n = len s) (hoff : off = ![i.val, srow i s c, 0]) (hoff' : off' = ![i.val, roff s, 0]) {d : Dev nD} (hd : d = peer i s c) {sS rS : DmaSem sig} (hsS : sS = sendS i s) (hrS : rS = recvS i s)
    (hN : 32 * n = ((recM.slice (Rect.unit (s := S8x240x512) off' (Sl n).size inb') hr').squeeze (Sf n) hq').view.amount (.dma (recvS i s)))
    (hp : σ.ph i = base s) {hsc hsrc hdst hsem} :
    Tr I K c σ (σ.setP i (base s + 1)) (Prog.lift (.enqueueDma ((accM.slice (Rect.unit (s := S8x256x512) off (Sl n).size inb) hr).squeeze (Sf n) hq)
      (.remote (d : Thread nD τ) ((recM.slice (Rect.unit (s := S8x240x512) off' (Sl n).size inb') hr').squeeze (Sf n) hq') (.dma sS) hsc) (.dma rS) hsrc hdst hsem)) (fun _ => True) := by
  obtain ⟨e1, e2, e3, e4, e5, e6⟩ := lo_num s hs
  have hlen : n = sz (s.val + 1) := by rw [hn]; unfold len; rw [e1]
  have hset : (Rect.unit (s := S8x256x512) off (Sl n).size inb).set = rows i (srow i s c) (len s) := by rw [set_slab hoff]; exact congrArg _ hn
  have hset' : (Rect.unit (s := S8x240x512) off' (Sl n).size inb').set = rrows i (roff s) (len s) := by rw [set_rslab hoff']; exact congrArg _ hn
  have hdr (d : Dev nD) : drow i s d = roff s := if_pos hs
  have hsrcE (f) := pts_sqz (F := F) cc0_scratch8 (Rect.unit (s := S8x256x512) off (Sl n).size inb) (hr := hr) (h := hq) c fullShare f hset
  have hdstE (f) := pts_sqz (F := F) cc0_scratch10 (Rect.unit (s := S8x240x512) off' (Sl n).size inb') (hr := hr') (h := hq') (peer i s c) fullShare f hset'
  refine send_core (fs := accC I s c) (q := fullShare) i s hd hsS hrS (hN.symm.trans (congrArg (32 * ·) hn)) hp ?_ ?_ ?_ ?_ (MR_congr i fun n => by omega)
  · refine BIBase.Entails.trans (lo_split hs) ?_
    exact sep_mono_left (Entails.of_eq (hsrcE _).symm)
  · refine BIBase.Entails.trans (Entails.of_eq (hsrcE _)) (Entails.of_eq ?_)
    unfold srcP; rw [if_pos hs]; rfl
  · unfold landE; rw [if_pos hs, hdr]
    exact ex_mono fun f => Entails.of_eq (hdstE f).symm
  · intro fd
    unfold landP; rw [if_pos hs, hdr]
    refine Entails.of_eq (pts_write cc0_scratch10 (Rect.unit (s := S8x240x512) off' (Sl n).size inb') (peer i s c) hset' (G := recC I (peer i s c)) fun k => ?_)
    refine (read_sqz cc0_scratch8 (Rect.unit (s := S8x256x512) off (Sl n).size inb) (accC I s c) k).trans ?_
    rw [emb_slab hoff, emb_rslab hoff']
    obtain ⟨r1, r2⟩ := re3 hq.numel_eq k
    have hk : (k 0).val < sz (s.val + 1) := hlen ▸ (k 0).isLt
    have hR := recC_eq (I := I) (c := peer i s c) i ⟨s.val, hs⟩ hk (k 1)
    have hp' : ptr i s.val (peer i s c) = c := by unfold peer; rw [e1]; exact ptr_ptr _ _ _
    have hk' : klo i (s.val + 1) (peer i s c) = srow i s c := by unfold peer; rw [e1, klo_succ_ptr i hs]; exact (if_pos hs).symm
    dsimp only at hR
    rw [hp', hk'] at hR
    refine Eq.trans ?_ (hR.symm.trans ?_)
    · exact congrArg (accC I s c) (ix_congr rfl (by rw [r1]) (congrArg Fin.val r2))
    · refine congrArg (recC I (peer i s c)) ?_
      obtain ⟨r1', r2'⟩ := re3 hq'.numel_eq k
      show rix i (roff s + (k 0).val) (k 1) = rix i (roff s + _) _
      rw [r1', r2']

/-- A doubling exchange is begun. -/
theorem tr_sendH (hs : 4 ≤ s.val) (hn : n = len s) (hoff : off = ![i.val, srow i s c, 0]) (hoff' : off' = ![i.val, srow i s c, 0]) {d : Dev nD} (hd : d = peer i s c) {sS rS : DmaSem sig} (hsS : sS = sendS i s) (hrS : rS = recvS i s)
    (hN : 32 * n = ((agM.slice (Rect.unit (s := S8x256x512) off' (Sl n).size inb'') hr').squeeze (Sf n) hq').view.amount (.dma (recvS i s)))
    (hp : σ.ph i = base s) {hsc hsrc hdst hsem} :
    Tr I K c σ (σ.setP i (base s + 1)) (Prog.lift (.enqueueDma ((agM.slice (Rect.unit (s := S8x256x512) off (Sl n).size inb) hr).squeeze (Sf n) hq)
      (.remote (d : Thread nD τ) ((agM.slice (Rect.unit (s := S8x256x512) off' (Sl n).size inb'') hr').squeeze (Sf n) hq') (.dma sS) hsc) (.dma rS) hsrc hdst hsem)) (fun _ => True) := by
  obtain ⟨e1, e2, e3, e4, e5, e6, e7⟩ := hi_num s hs
  have hset : (Rect.unit (s := S8x256x512) off (Sl n).size inb).set = rows i (srow i s c) (len s) := by rw [set_slab hoff]; exact congrArg _ hn
  have hset' : (Rect.unit (s := S8x256x512) off' (Sl n).size inb'').set = rows i (srow i s c) (len s) := by rw [set_slab hoff']; exact congrArg _ hn
  have hdr : drow i s (peer i s c) = srow i s c := by
    unfold drow srow peer; rw [if_neg (by omega), if_neg (by omega)]; exact slo_ptr i e1 c
  have hsrcE (f) := pts_sqz (F := F) cc0_scratch9 (Rect.unit (s := S8x256x512) off (Sl n).size inb) (hr := hr) (h := hq) c fullShare.right f hset
  have hdstE (f) := pts_sqz (F := F) cc0_scratch9 (Rect.unit (s := S8x256x512) off' (Sl n).size inb'') (hr := hr') (h := hq') (peer i s c) fullShare f hset'
  refine send_core (fs := sumC I) (q := fullShare.right) i s hd hsS hrS (hN.symm.trans (congrArg (32 * ·) hn)) hp ?_ ?_ ?_ ?_ (MR_hi (by omega) (by omega))
  · refine BIBase.Entails.trans (hi_split hs) ?_
    exact sep_mono_left (Entails.of_eq (hsrcE _).symm)
  · refine BIBase.Entails.trans (Entails.of_eq (hsrcE _)) (Entails.of_eq ?_)
    unfold srcP; rw [if_neg (by omega)]; rfl
  · unfold landE; rw [if_neg (by omega), hdr]
    exact ex_mono fun f => Entails.of_eq (hdstE f).symm
  · intro fd
    unfold landP; rw [if_neg (by omega), hdr]
    refine Entails.of_eq (pts_write cc0_scratch9 (Rect.unit (s := S8x256x512) off' (Sl n).size inb'') (peer i s c) hset' (G := sumC I) fun k => ?_)
    refine (read_sqz cc0_scratch9 (Rect.unit (s := S8x256x512) off (Sl n).size inb) (sumC I) k).trans ?_
    rw [emb_slab hoff, emb_slab hoff']

/-- The end of a send is awaited. -/
theorem tr_waitS {n : ℕ} {src dst : Memref sig .tc .vmem (Sf n) .bf16} {sS : DmaSem sig} (hsS : sS = sendS i s) {h1 : src.view.WordExact} {h2 : dst.view.WordExact} (hN : amt s = dst.view.dmaCredit) (hp : σ.ph i = base s + 1) :
    Tr I K c σ (σ.setP i (base s + 2)) (Prog.lift (.waitDma2 sS src dst h1 h2)) (fun _ => True) := by
  by_cases hs : s.val < 4
  · obtain ⟨e1, e2, e3, e4, e5, e6⟩ := lo_num s hs
    refine swait_core i s hsS hN.symm hp ?_ (MR_congr i fun n => by omega)
    unfold srcP; rw [if_pos hs]; exact lo_join hs
  · obtain ⟨e1, e2, e3, e4, e5, e6, e7⟩ := hi_num s (by omega)
    refine swait_core i s hsS hN.symm hp ?_ (MR_hi (by omega) (by omega))
    unfold srcP; rw [if_neg hs]; exact hi_join (by omega)

/-- What a peer sends is awaited. -/
theorem tr_waitR {n : ℕ} {src dst : Memref sig .tc .vmem (Sf n) .bf16} {rS : DmaSem sig} (hrS : rS = recvS i s) {h1 : src.view.WordExact} {h2 : dst.view.WordExact} (hN : amt s = dst.view.dmaCredit) (hp : σ.ph i = base s + 2)
    (hord : ∀ i' s' : Fin 8, stg s' (σ.ph i') = 0 → rnd i s < rnd i' s') :
    Tr I K c σ (σ.setP i (base s + 3)) (Prog.lift (.waitDma2 rS src dst h1 h2)) (fun _ => True) := by
  by_cases hs : s.val < 4
  · obtain ⟨e1, e2, e3, e4, e5, e6⟩ := lo_num s hs
    refine rwait_core i s hrS hN.symm hp hord (Entails.of_eq ?_) (lo_land hs)
    have hS : accS c i (base s + 2) = rows i 0 256 := if_neg (by omega)
    have hS' : accS c i (base s + 3) = rows i 0 256 := if_neg (by omega)
    unfold MA; rw [hS, hS', e4, e5]
    simp only [show 0 < base s + 2 by omega, show 0 < base s + 3 by omega]
  · obtain ⟨e1, e2, e3, e4, e5, e6, e7⟩ := hi_num s (by omega)
    exact rwait_core i s hrS hN.symm hp hord (Entails.of_eq (MA_late (by omega) (by omega))) (hi_land (by omega))
end Ops

end Cert.Ring

end
-- ==== Proof.Inputs.lean ====
/-
# The loads of the staged inputs
-/
module

public import proofs.«01_k».proof.Proof.Send

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Ins F} {K : Dev nD × Fin 129 → ℕ} {c : Dev nD} {σ : St}

variable (I) in
/-- The staged weights. -/
def wOf (j : Fin 4) : S1024x1024.Idx → Elt F .f32 := match j with
  | 0 => I.wq c
  | 1 => I.wk c
  | 2 => I.wv c
  | 3 => I.wo c
def wM (j : Fin 4) : Memref sig .tc .vmem S1024x1024 .f32 := match j with
  | 0 => Memref.whole cc0_stg1_0
  | 1 => Memref.whole cc0_stg2_0
  | 2 => Memref.whole cc0_stg3_0
  | 3 => Memref.whole cc0_stg4_0

theorem foc_w (j : Fin 4) : Sm I K c σ ⊢ iprop(AgB c (wM j) (fun _ => True) (wOf (c := c) I j) ∗ (AgB c (wM j) (fun _ => True) (wOf (c := c) I j) -∗ Sm I K c σ)) := by
  refine BIBase.Entails.trans (Sm_inp I K c σ) ?_
  unfold Inp
  iintro ⟨⟨H0, H1, H2, H3, H4⟩, Hk⟩
  match j with
  | 0 =>
    isplitl [H1]; · iexact H1
    iintro H; iapply Hk
    isplitl [H0]; · iexact H0
    isplitl [H]; · iexact H
    isplitl [H2]; · iexact H2
    isplitl [H3]; · iexact H3
    iexact H4
  | 1 =>
    isplitl [H2]; · iexact H2
    iintro H; iapply Hk
    isplitl [H0]; · iexact H0
    isplitl [H1]; · iexact H1
    isplitl [H]; · iexact H
    isplitl [H3]; · iexact H3
    iexact H4
  | 2 =>
    isplitl [H3]; · iexact H3
    iintro H; iapply Hk
    isplitl [H0]; · iexact H0
    isplitl [H1]; · iexact H1
    isplitl [H2]; · iexact H2
    isplitl [H]; · iexact H
    iexact H4
  | 3 =>
    isplitl [H4]; · iexact H4
    iintro H; iapply Hk
    isplitl [H0]; · iexact H0
    isplitl [H1]; · iexact H1
    isplitl [H2]; · iexact H2
    isplitl [H3]; · iexact H3
    iexact H
theorem foc_x : Sm I K c σ ⊢ iprop(AgB c (Memref.whole cc0_stg0_0) (fun _ => True) (I.x c) ∗ (AgB c (Memref.whole cc0_stg0_0) (fun _ => True) (I.x c) -∗ Sm I K c σ)) := by
  refine BIBase.Entails.trans (Sm_inp I K c σ) ?_
  unfold Inp
  iintro ⟨⟨H0, Hr⟩, Hk⟩
  isplitl [H0]; · iexact H0
  iintro H; iapply Hk
  isplitl [H]; · iexact H
  iexact Hr

/-- A whole staged weight. -/
theorem tr_ldIw {M : Memref sig .tc .vmem S1024x1024 .f32} (j : Fin 4) (hM : M = wM j) {off inb} {hl : M.view.LoadsAt (Rect.unit (s := S1024x1024) off S1024x1024.size inb).toLoadRect}
    (hoff : off = ![0, 0]) :
    Tr I K c σ σ (Prog.lift (.load M (Rect.unit (s := S1024x1024) off S1024x1024.size inb).toLoadRect hl)) (fun x => x = wOf (c := c) I j) := by
  subst hM
  refine ld_AgB (foc_w j) (fun _ => trivial) fun k => ?_
  rw [emb_sq hoff, Nat.zero_add, Nat.zero_add]; exact congrArg _ (sq_self k)

/-- One batch of the staged activations. -/
theorem tr_ldX (b : Fin 4) {off inb} {hl : (Memref.whole cc0_stg0_0).view.LoadsAt (Rect.unit (s := S4x256x1024) off S1x256x1024.size inb).toLoadRect}
    (hoff : off = ![b.val, 0, 0]) :
    Tr I K c σ σ (Prog.lift (.load (Memref.whole cc0_stg0_0) (Rect.unit (s := S4x256x1024) off S1x256x1024.size inb).toLoadRect hl)) (fun x => x = xBlk (I.x c) b) := by
  refine ld_AgB foc_x (fun _ => trivial) fun k => ?_
  unfold xBlk
  refine congrArg (I.x c) ?_
  subst hoff
  have h (d) := Rect.emb_apply (Rect.unit (s := S4x256x1024) ![b.val, 0, 0] S1x256x1024.size inb) k d
  have h0 : (k 0).val < 1 := (k 0).isLt
  funext d; apply Fin.ext
  fin_cases d
  · have e0 : ((Rect.unit (s := S4x256x1024) ![b.val, 0, 0] S1x256x1024.size inb).emb k 0).val = b.val + (k 0).val := by rw [h 0]; show b.val + 1 * _ = _; rw [one_mul]
    show ((Rect.unit (s := S4x256x1024) ![b.val, 0, 0] S1x256x1024.size inb).emb k 0).val = b.val % 4
    rw [e0]; omega
  · show ((Rect.unit (s := S4x256x1024) ![b.val, 0, 0] S1x256x1024.size inb).emb k 1).val = (k 1).val
    rw [h 1]; show 0 + 1 * _ = _; rw [one_mul, Nat.zero_add]
  · show ((Rect.unit (s := S4x256x1024) ![b.val, 0, 0] S1x256x1024.size inb).emb k 2).val = (k 2).val
    rw [h 2]; show 0 + 1 * _ = _; rw [one_mul, Nat.zero_add]

end Cert.Ring

end
-- ==== Proof.States.lean ====
/-
# The states between the parts of the body
-/
module

public import proofs.«01_k».proof.Proof.Inputs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! The buffers in the order of the body's arguments. -/

abbrev b0 := Memref.whole cc0_stg0_0
abbrev w0 : b0.IsWhole := Memref.isWhole_whole _
abbrev b1 := Memref.whole cc0_stg1_0
abbrev w1 : b1.IsWhole := Memref.isWhole_whole _
abbrev b2 := Memref.whole cc0_stg2_0
abbrev w2 : b2.IsWhole := Memref.isWhole_whole _
abbrev b3 := Memref.whole cc0_stg3_0
abbrev w3 : b3.IsWhole := Memref.isWhole_whole _
abbrev b4 := Memref.whole cc0_stg4_0
abbrev w4 : b4.IsWhole := Memref.isWhole_whole _
abbrev b5 := Memref.whole cc0_stg5_0
abbrev w5 : b5.IsWhole := Memref.isWhole_whole _
abbrev b6 := Memref.whole cc0_scratch0
abbrev w6 : b6.IsWhole := Memref.isWhole_whole _
abbrev b7 := Memref.whole cc0_scratch1
abbrev w7 : b7.IsWhole := Memref.isWhole_whole _
abbrev b8 := Memref.whole cc0_scratch2
abbrev w8 : b8.IsWhole := Memref.isWhole_whole _
abbrev b9 := Memref.whole cc0_scratch3
abbrev w9 : b9.IsWhole := Memref.isWhole_whole _
abbrev b10 := Memref.whole cc0_scratch4
abbrev w10 : b10.IsWhole := Memref.isWhole_whole _
abbrev b11 := Memref.whole cc0_scratch5
abbrev w11 : b11.IsWhole := Memref.isWhole_whole _
abbrev b12 := Memref.whole cc0_scratch6
abbrev w12 : b12.IsWhole := Memref.isWhole_whole _
abbrev b13 := Memref.whole cc0_scratch7
abbrev w13 : b13.IsWhole := Memref.isWhole_whole _
abbrev b14 := Memref.whole cc0_scratch8
abbrev w14 : b14.IsWhole := Memref.isWhole_whole _
abbrev b15 := Memref.whole cc0_scratch9
abbrev w15 : b15.IsWhole := Memref.isWhole_whole _
abbrev b16 := Memref.whole cc0_scratch10
abbrev w16 : b16.IsWhole := Memref.isWhole_whole _

/-! The states between the parts of the body. -/

abbrev σ0 : St := ⟨![0, 0, 0, 0, 0, 0, 0, 0], ![0, 0, 0, 0, 0, 0, 0, 0], ![0, 0, 0, 0, 0, 0, 0, 0]⟩
abbrev σ1 : St := ⟨![1, 1, 1, 1, 1, 0, 0, 0], ![0, 0, 0, 0, 0, 0, 0, 0], ![0, 0, 0, 0, 0, 0, 0, 0]⟩
abbrev σ2 : St := ⟨![1, 1, 1, 1, 1, 1, 1, 1], ![0, 0, 0, 0, 0, 0, 0, 0], ![0, 0, 0, 0, 0, 0, 0, 0]⟩
abbrev σ3 : St := ⟨![1, 1, 1, 1, 1, 1, 1, 2], ![0, 0, 0, 0, 0, 0, 0, 0], ![0, 0, 0, 0, 0, 0, 0, 0]⟩
abbrev σ4 : St := ⟨![1, 1, 1, 1, 1, 1, 1, 4], ![0, 0, 0, 0, 0, 0, 0, 0], ![0, 0, 0, 0, 0, 0, 0, 0]⟩
abbrev σ5 : St := ⟨![1, 1, 1, 1, 1, 1, 1, 6], ![0, 0, 0, 0, 0, 0, 0, 0], ![0, 0, 0, 0, 0, 0, 0, 0]⟩
abbrev σ6 : St := ⟨![1, 1, 1, 1, 1, 1, 1, 7], ![0, 0, 0, 0, 0, 0, 0, 0], ![0, 0, 0, 0, 0, 0, 0, 0]⟩
abbrev σ7 : St := ⟨![1, 1, 1, 1, 1, 1, 1, 8], ![1, 1, 0, 0, 0, 0, 0, 0], ![0, 0, 0, 0, 0, 0, 0, 0]⟩
abbrev σ8 : St := ⟨![1, 1, 1, 1, 2, 2, 1, 8], ![2, 2, 0, 0, 0, 0, 0, 0], ![0, 0, 0, 0, 0, 0, 0, 0]⟩
abbrev σ9 : St := ⟨![1, 1, 1, 1, 2, 2, 2, 9], ![2, 2, 0, 0, 0, 0, 0, 0], ![0, 0, 0, 0, 0, 0, 0, 0]⟩
abbrev σ10 : St := ⟨![1, 1, 1, 1, 2, 2, 2, 11], ![2, 2, 0, 0, 0, 0, 0, 0], ![0, 0, 0, 0, 0, 0, 0, 0]⟩
abbrev σ11 : St := ⟨![1, 1, 1, 1, 2, 2, 2, 12], ![2, 2, 0, 0, 0, 0, 0, 0], ![0, 0, 0, 0, 0, 0, 0, 0]⟩
abbrev σ12 : St := ⟨![1, 1, 1, 1, 2, 2, 2, 14], ![2, 2, 0, 0, 0, 0, 0, 0], ![0, 0, 0, 0, 0, 0, 0, 0]⟩
abbrev σ13 : St := ⟨![1, 1, 1, 1, 2, 2, 2, 16], ![2, 2, 0, 0, 0, 0, 0, 0], ![0, 0, 0, 0, 0, 0, 0, 0]⟩
abbrev σ14 : St := ⟨![1, 1, 1, 1, 2, 2, 2, 16], ![2, 2, 2, 1, 0, 0, 0, 0], ![0, 0, 0, 0, 0, 0, 0, 0]⟩
abbrev σ15 : St := ⟨![1, 1, 1, 1, 2, 2, 2, 16], ![4, 2, 2, 2, 0, 0, 0, 0], ![0, 0, 0, 0, 0, 0, 0, 0]⟩
abbrev σ16 : St := ⟨![1, 1, 1, 1, 2, 2, 2, 16], ![6, 3, 2, 2, 0, 0, 0, 0], ![0, 0, 0, 0, 0, 0, 0, 0]⟩
abbrev σ17 : St := ⟨![1, 1, 1, 1, 2, 2, 2, 16], ![6, 6, 2, 2, 0, 0, 0, 0], ![0, 0, 0, 0, 0, 0, 0, 0]⟩
abbrev σ18 : St := ⟨![1, 1, 1, 1, 3, 3, 3, 16], ![6, 6, 2, 2, 0, 0, 0, 0], ![0, 0, 0, 0, 0, 0, 0, 0]⟩
abbrev σ19 : St := ⟨![1, 1, 1, 1, 3, 3, 3, 18], ![6, 6, 2, 2, 0, 0, 0, 0], ![0, 0, 0, 0, 0, 0, 0, 0]⟩
abbrev σ20 : St := ⟨![1, 1, 1, 1, 3, 3, 3, 19], ![6, 6, 2, 2, 0, 0, 0, 0], ![0, 0, 0, 0, 0, 0, 0, 0]⟩
abbrev σ21 : St := ⟨![1, 1, 1, 1, 3, 3, 3, 21], ![6, 6, 2, 2, 0, 0, 0, 0], ![0, 0, 0, 0, 0, 0, 0, 0]⟩
abbrev σ22 : St := ⟨![1, 1, 1, 1, 3, 3, 3, 23], ![6, 6, 2, 2, 0, 0, 0, 0], ![0, 0, 0, 0, 0, 0, 0, 0]⟩
abbrev σ23 : St := ⟨![1, 1, 1, 1, 3, 3, 3, 24], ![6, 6, 2, 2, 1, 1, 0, 0], ![0, 0, 0, 0, 0, 0, 0, 0]⟩
abbrev σ24 : St := ⟨![1, 1, 1, 1, 3, 3, 3, 24], ![7, 6, 2, 2, 2, 2, 0, 0], ![0, 0, 0, 0, 0, 0, 0, 0]⟩
abbrev σ25 : St := ⟨![1, 1, 1, 1, 3, 3, 3, 24], ![9, 6, 2, 2, 2, 2, 0, 0], ![0, 0, 0, 0, 0, 0, 0, 0]⟩
abbrev σ26 : St := ⟨![1, 1, 1, 1, 3, 3, 3, 24], ![10, 8, 2, 2, 2, 2, 0, 0], ![0, 0, 0, 0, 0, 0, 0, 0]⟩
abbrev σ27 : St := ⟨![1, 1, 1, 1, 3, 3, 3, 24], ![10, 10, 3, 2, 2, 2, 0, 0], ![0, 0, 0, 0, 0, 0, 0, 0]⟩
abbrev σ28 : St := ⟨![1, 1, 1, 1, 3, 3, 3, 24], ![10, 10, 6, 2, 2, 2, 0, 0], ![0, 0, 0, 0, 0, 0, 0, 0]⟩
abbrev σ29 : St := ⟨![1, 1, 1, 1, 3, 3, 3, 24], ![10, 10, 6, 5, 2, 2, 0, 0], ![0, 0, 0, 0, 0, 0, 0, 0]⟩
abbrev σ30 : St := ⟨![1, 1, 1, 1, 4, 4, 4, 24], ![10, 10, 6, 6, 2, 2, 0, 0], ![0, 0, 0, 0, 0, 0, 0, 0]⟩
abbrev σ31 : St := ⟨![1, 1, 1, 1, 4, 4, 4, 25], ![10, 10, 6, 6, 2, 2, 0, 0], ![0, 0, 0, 0, 0, 0, 0, 0]⟩
abbrev σ32 : St := ⟨![1, 1, 1, 1, 4, 4, 4, 27], ![10, 10, 6, 6, 2, 2, 0, 0], ![0, 0, 0, 0, 0, 0, 0, 0]⟩
abbrev σ33 : St := ⟨![1, 1, 1, 1, 4, 4, 4, 29], ![10, 10, 6, 6, 2, 2, 0, 0], ![0, 0, 0, 0, 0, 0, 0, 0]⟩
abbrev σ34 : St := ⟨![1, 1, 1, 1, 4, 4, 4, 30], ![10, 10, 6, 6, 2, 2, 0, 0], ![0, 0, 0, 0, 0, 0, 0, 0]⟩
abbrev σ35 : St := ⟨![1, 1, 1, 1, 4, 4, 4, 32], ![10, 10, 6, 6, 2, 2, 1, 0], ![0, 0, 0, 0, 0, 0, 0, 0]⟩
abbrev σ36 : St := ⟨![1, 1, 1, 1, 4, 4, 4, 32], ![10, 10, 6, 6, 2, 2, 2, 1], ![0, 0, 0, 0, 0, 0, 0, 0]⟩
abbrev σ37 : St := ⟨![1, 1, 1, 1, 4, 4, 4, 32], ![13, 10, 6, 6, 2, 2, 2, 2], ![0, 0, 0, 0, 0, 0, 0, 0]⟩
abbrev σ38 : St := ⟨![1, 1, 1, 1, 4, 4, 4, 32], ![14, 12, 6, 6, 2, 2, 2, 2], ![0, 0, 0, 0, 0, 0, 0, 0]⟩
abbrev σ39 : St := ⟨![1, 1, 1, 1, 4, 4, 4, 32], ![14, 14, 7, 6, 2, 2, 2, 2], ![0, 0, 0, 0, 0, 0, 0, 0]⟩
abbrev σ40 : St := ⟨![1, 1, 1, 1, 4, 4, 4, 32], ![14, 14, 9, 6, 2, 2, 2, 2], ![0, 0, 0, 0, 0, 0, 0, 0]⟩
abbrev σ41 : St := ⟨![1, 1, 1, 1, 4, 4, 4, 32], ![14, 14, 10, 8, 2, 2, 2, 2], ![0, 0, 0, 0, 0, 0, 0, 0]⟩
abbrev σ42 : St := ⟨![1, 1, 1, 1, 4, 4, 4, 32], ![14, 14, 10, 10, 3, 2, 2, 2], ![0, 0, 0, 0, 0, 0, 0, 0]⟩
abbrev σ43 : St := ⟨![1, 1, 1, 1, 4, 4, 4, 32], ![14, 14, 10, 10, 6, 2, 2, 2], ![0, 0, 0, 0, 0, 0, 0, 0]⟩
abbrev σ44 : St := ⟨![1, 1, 1, 1, 4, 4, 4, 32], ![14, 14, 10, 10, 6, 5, 2, 2], ![0, 0, 0, 0, 0, 0, 0, 0]⟩
abbrev σ45 : St := ⟨![1, 1, 1, 1, 4, 4, 4, 32], ![14, 14, 10, 10, 6, 6, 4, 2], ![0, 0, 0, 0, 0, 0, 0, 0]⟩
abbrev σ46 : St := ⟨![1, 1, 1, 1, 4, 4, 4, 32], ![14, 14, 10, 10, 6, 6, 6, 3], ![0, 0, 0, 0, 0, 0, 0, 0]⟩
abbrev σ47 : St := ⟨![1, 1, 1, 1, 4, 4, 4, 32], ![14, 14, 10, 10, 6, 6, 6, 5], ![0, 0, 0, 0, 0, 0, 0, 0]⟩
abbrev σ48 : St := ⟨![1, 1, 1, 1, 4, 4, 4, 32], ![14, 14, 10, 10, 9, 6, 6, 6], ![0, 0, 0, 0, 0, 0, 0, 0]⟩
abbrev σ49 : St := ⟨![1, 1, 1, 1, 4, 4, 4, 32], ![14, 14, 10, 10, 10, 8, 6, 6], ![0, 0, 0, 0, 0, 0, 0, 0]⟩
abbrev σ50 : St := ⟨![1, 1, 1, 1, 4, 4, 4, 32], ![14, 14, 11, 10, 10, 10, 6, 6], ![0, 0, 0, 0, 0, 0, 0, 0]⟩
abbrev σ51 : St := ⟨![1, 1, 1, 1, 4, 4, 4, 32], ![14, 14, 13, 10, 10, 10, 6, 6], ![0, 0, 0, 0, 0, 0, 0, 0]⟩
abbrev σ52 : St := ⟨![1, 1, 1, 1, 4, 4, 4, 32], ![14, 14, 14, 12, 10, 10, 6, 6], ![0, 0, 0, 0, 0, 0, 0, 0]⟩
abbrev σ53 : St := ⟨![1, 1, 1, 1, 4, 4, 4, 32], ![15, 14, 14, 14, 10, 10, 6, 6], ![0, 0, 0, 0, 0, 0, 0, 0]⟩
abbrev σ54 : St := ⟨![1, 1, 1, 1, 4, 4, 4, 32], ![19, 14, 14, 14, 10, 10, 6, 6], ![0, 0, 0, 0, 0, 0, 0, 0]⟩
abbrev σ55 : St := ⟨![1, 1, 1, 1, 4, 4, 4, 32], ![19, 17, 14, 14, 10, 10, 6, 6], ![0, 0, 0, 0, 0, 0, 0, 0]⟩
abbrev σ56 : St := ⟨![1, 1, 1, 1, 4, 4, 4, 32], ![19, 19, 14, 14, 10, 10, 6, 6], ![1, 1, 0, 0, 0, 0, 0, 0]⟩
abbrev σ57 : St := ⟨![1, 1, 1, 1, 4, 4, 4, 32], ![19, 19, 14, 14, 10, 10, 9, 6], ![1, 1, 0, 0, 0, 0, 0, 0]⟩
abbrev σ58 : St := ⟨![1, 1, 1, 1, 4, 4, 4, 32], ![19, 19, 14, 14, 10, 10, 10, 8], ![1, 1, 0, 0, 0, 0, 0, 0]⟩
abbrev σ59 : St := ⟨![1, 1, 1, 1, 4, 4, 4, 32], ![19, 19, 14, 14, 11, 10, 10, 10], ![1, 1, 0, 0, 0, 0, 0, 0]⟩
abbrev σ60 : St := ⟨![1, 1, 1, 1, 4, 4, 4, 32], ![19, 19, 14, 14, 14, 10, 10, 10], ![1, 1, 0, 0, 0, 0, 0, 0]⟩
abbrev σ61 : St := ⟨![1, 1, 1, 1, 4, 4, 4, 32], ![19, 19, 14, 14, 14, 13, 10, 10], ![1, 1, 0, 0, 0, 0, 0, 0]⟩
abbrev σ62 : St := ⟨![1, 1, 1, 1, 4, 4, 4, 32], ![19, 19, 16, 14, 14, 14, 10, 10], ![1, 1, 0, 0, 0, 0, 0, 0]⟩
abbrev σ63 : St := ⟨![1, 1, 1, 1, 4, 4, 4, 32], ![19, 19, 19, 15, 14, 14, 10, 10], ![1, 1, 0, 0, 0, 0, 0, 0]⟩
abbrev σ64 : St := ⟨![1, 1, 1, 1, 4, 4, 4, 32], ![19, 19, 19, 18, 14, 14, 10, 10], ![1, 1, 0, 0, 0, 0, 0, 0]⟩
abbrev σ65 : St := ⟨![1, 1, 1, 1, 4, 4, 4, 32], ![21, 19, 19, 19, 14, 14, 10, 10], ![1, 1, 0, 0, 0, 0, 0, 0]⟩
abbrev σ66 : St := ⟨![1, 1, 1, 1, 4, 4, 4, 32], ![22, 21, 19, 19, 14, 14, 10, 10], ![1, 1, 0, 0, 0, 0, 0, 0]⟩
abbrev σ67 : St := ⟨![1, 1, 1, 1, 4, 4, 4, 32], ![22, 22, 19, 19, 14, 14, 10, 10], ![2, 1, 1, 1, 0, 0, 0, 0]⟩
abbrev σ68 : St := ⟨![1, 1, 1, 1, 4, 4, 4, 32], ![22, 22, 19, 19, 14, 14, 13, 10], ![2, 2, 1, 1, 0, 0, 0, 0]⟩
abbrev σ69 : St := ⟨![1, 1, 1, 1, 4, 4, 4, 32], ![22, 22, 19, 19, 14, 14, 14, 12], ![2, 2, 1, 1, 0, 0, 0, 0]⟩
abbrev σ70 : St := ⟨![1, 1, 1, 1, 4, 4, 4, 32], ![22, 22, 19, 19, 15, 14, 14, 14], ![2, 2, 1, 1, 0, 0, 0, 0]⟩
abbrev σ71 : St := ⟨![1, 1, 1, 1, 4, 4, 4, 32], ![22, 22, 19, 19, 18, 14, 14, 14], ![2, 2, 1, 1, 0, 0, 0, 0]⟩
abbrev σ72 : St := ⟨![1, 1, 1, 1, 4, 4, 4, 32], ![22, 22, 19, 19, 19, 16, 14, 14], ![2, 2, 1, 1, 0, 0, 0, 0]⟩
abbrev σ73 : St := ⟨![1, 1, 1, 1, 4, 4, 4, 32], ![22, 22, 20, 19, 19, 19, 14, 14], ![2, 2, 1, 1, 0, 0, 0, 0]⟩
abbrev σ74 : St := ⟨![1, 1, 1, 1, 4, 4, 4, 32], ![22, 22, 22, 20, 19, 19, 14, 14], ![2, 2, 1, 1, 0, 0, 0, 0]⟩
abbrev σ75 : St := ⟨![1, 1, 1, 1, 4, 4, 4, 32], ![23, 22, 22, 22, 19, 19, 14, 14], ![2, 2, 1, 1, 0, 0, 0, 0]⟩
abbrev σ76 : St := ⟨![1, 1, 1, 1, 4, 4, 4, 32], ![25, 23, 22, 22, 19, 19, 14, 14], ![2, 2, 1, 1, 0, 0, 0, 0]⟩
abbrev σ77 : St := ⟨![1, 1, 1, 1, 4, 4, 4, 32], ![25, 25, 22, 22, 19, 19, 14, 14], ![2, 2, 1, 1, 1, 0, 0, 0]⟩
abbrev σ78 : St := ⟨![1, 1, 1, 1, 4, 4, 4, 32], ![25, 25, 22, 22, 19, 19, 14, 14], ![3, 3, 2, 2, 1, 1, 0, 0]⟩
abbrev σ79 : St := ⟨![1, 1, 1, 1, 4, 4, 4, 32], ![25, 25, 22, 22, 19, 19, 17, 14], ![3, 3, 2, 2, 1, 1, 0, 0]⟩
abbrev σ80 : St := ⟨![1, 1, 1, 1, 4, 4, 4, 32], ![25, 25, 22, 22, 19, 19, 19, 16], ![3, 3, 2, 2, 1, 1, 0, 0]⟩
abbrev σ81 : St := ⟨![1, 1, 1, 1, 4, 4, 4, 32], ![25, 25, 22, 22, 19, 19, 19, 19], ![3, 3, 2, 2, 1, 1, 0, 0]⟩
abbrev σ82 : St := ⟨![1, 1, 1, 1, 4, 4, 4, 32], ![25, 25, 22, 22, 22, 19, 19, 19], ![3, 3, 2, 2, 1, 1, 0, 0]⟩
abbrev σ83 : St := ⟨![1, 1, 1, 1, 4, 4, 4, 32], ![25, 25, 22, 22, 22, 22, 19, 19], ![3, 3, 2, 2, 1, 1, 0, 0]⟩
abbrev σ84 : St := ⟨![1, 1, 1, 1, 4, 4, 4, 32], ![25, 25, 25, 22, 22, 22, 19, 19], ![3, 3, 2, 2, 1, 1, 0, 0]⟩
abbrev σ85 : St := ⟨![1, 1, 1, 1, 4, 4, 4, 32], ![25, 25, 25, 25, 22, 22, 19, 19], ![3, 3, 2, 2, 1, 1, 0, 0]⟩
abbrev σ86 : St := ⟨![1, 1, 1, 1, 4, 4, 4, 32], ![28, 25, 25, 25, 22, 22, 19, 19], ![3, 3, 2, 2, 1, 1, 0, 0]⟩
abbrev σ87 : St := ⟨![1, 1, 1, 1, 4, 4, 4, 32], ![28, 28, 25, 25, 22, 22, 19, 19], ![3, 3, 2, 2, 1, 1, 0, 0]⟩
abbrev σ88 : St := ⟨![1, 1, 1, 1, 4, 4, 4, 32], ![28, 28, 25, 25, 22, 22, 19, 19], ![3, 3, 3, 2, 2, 2, 1, 1]⟩
abbrev σ89 : St := ⟨![1, 1, 1, 1, 4, 4, 4, 32], ![28, 28, 25, 25, 22, 22, 21, 19], ![4, 4, 3, 3, 2, 2, 1, 1]⟩
abbrev σ90 : St := ⟨![1, 1, 1, 1, 4, 4, 4, 32], ![28, 28, 25, 25, 22, 22, 22, 21], ![4, 4, 3, 3, 2, 2, 1, 1]⟩
abbrev σ91 : St := ⟨![1, 1, 1, 1, 4, 4, 4, 32], ![28, 28, 25, 25, 24, 22, 22, 22], ![4, 4, 3, 3, 2, 2, 1, 1]⟩
abbrev σ92 : St := ⟨![1, 1, 1, 1, 4, 4, 4, 32], ![28, 28, 25, 25, 25, 24, 22, 22], ![4, 4, 3, 3, 2, 2, 1, 1]⟩
abbrev σ93 : St := ⟨![1, 1, 1, 1, 4, 4, 4, 32], ![28, 28, 27, 25, 25, 25, 22, 22], ![4, 4, 3, 3, 2, 2, 1, 1]⟩
abbrev σ94 : St := ⟨![1, 1, 1, 1, 4, 4, 4, 32], ![28, 28, 28, 27, 25, 25, 22, 22], ![4, 4, 3, 3, 2, 2, 1, 1]⟩
abbrev σ95 : St := ⟨![1, 1, 1, 1, 4, 4, 4, 32], ![30, 28, 28, 28, 25, 25, 22, 22], ![4, 4, 3, 3, 2, 2, 1, 1]⟩
abbrev σ96 : St := ⟨![1, 1, 1, 1, 4, 4, 4, 32], ![30, 30, 28, 28, 25, 25, 22, 22], ![4, 4, 3, 3, 2, 2, 2, 1]⟩
abbrev σ97 : St := ⟨![1, 1, 1, 1, 4, 4, 4, 32], ![30, 30, 28, 28, 25, 25, 22, 22], ![4, 4, 4, 4, 3, 3, 2, 2]⟩
abbrev σ98 : St := ⟨![1, 1, 1, 1, 4, 4, 4, 32], ![30, 30, 28, 28, 25, 25, 24, 22], ![5, 5, 4, 4, 3, 3, 2, 2]⟩
abbrev σ99 : St := ⟨![1, 1, 1, 1, 4, 4, 4, 32], ![30, 30, 28, 28, 25, 25, 25, 24], ![5, 5, 4, 4, 3, 3, 2, 2]⟩
abbrev σ100 : St := ⟨![1, 1, 1, 1, 4, 4, 4, 32], ![30, 30, 28, 28, 27, 25, 25, 25], ![5, 5, 4, 4, 3, 3, 2, 2]⟩
abbrev σ101 : St := ⟨![1, 1, 1, 1, 4, 4, 4, 32], ![30, 30, 28, 28, 28, 27, 25, 25], ![5, 5, 4, 4, 3, 3, 2, 2]⟩
abbrev σ102 : St := ⟨![1, 1, 1, 1, 4, 4, 4, 32], ![30, 30, 30, 28, 28, 28, 25, 25], ![5, 5, 4, 4, 3, 3, 2, 2]⟩
abbrev σ103 : St := ⟨![1, 1, 1, 1, 4, 4, 4, 32], ![30, 30, 30, 30, 28, 28, 25, 25], ![5, 5, 4, 4, 3, 3, 3, 3]⟩
abbrev σ104 : St := ⟨![1, 1, 1, 1, 4, 4, 4, 32], ![30, 30, 30, 30, 28, 28, 26, 25], ![5, 5, 5, 5, 4, 4, 3, 3]⟩
abbrev σ105 : St := ⟨![1, 1, 1, 1, 4, 4, 4, 32], ![30, 30, 30, 30, 28, 28, 28, 26], ![5, 5, 5, 5, 4, 4, 3, 3]⟩
abbrev σ106 : St := ⟨![1, 1, 1, 1, 4, 4, 4, 32], ![30, 30, 30, 30, 29, 28, 28, 28], ![5, 5, 5, 5, 4, 4, 3, 3]⟩
abbrev σ107 : St := ⟨![1, 1, 1, 1, 4, 4, 4, 32], ![30, 30, 30, 30, 30, 30, 28, 28], ![5, 5, 5, 5, 4, 4, 3, 3]⟩
abbrev σ108 : St := ⟨![1, 1, 1, 1, 4, 4, 4, 32], ![30, 30, 30, 30, 30, 30, 28, 28], ![5, 5, 5, 5, 5, 5, 4, 4]⟩
abbrev σ109 : St := ⟨![1, 1, 1, 1, 4, 4, 4, 32], ![30, 30, 30, 30, 30, 30, 30, 30], ![5, 5, 5, 5, 5, 5, 4, 4]⟩
abbrev σ110 : St := ⟨![1, 1, 1, 1, 4, 4, 4, 32], ![30, 30, 30, 30, 30, 30, 30, 30], ![5, 5, 5, 5, 5, 5, 5, 5]⟩

end Cert.Ring

end
-- ==== Proof.Offsets.lean ====
/-
# Closed forms of the offsets and of the devices addressed
-/
module

public import proofs.«01_k».proof.Proof.Slab

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! The credit of a transfer of `n` rows. -/

theorem tile_credit : ∀ k : Fin 4, RefSig.tileCredit (Sf (16 * 2 ^ k.val)) .bf16 = 512 * 2 ^ k.val := by decide +kernel
theorem credit {n m : ℕ} (k : Fin 4) (hn : n = 16 * 2 ^ k.val) (hm : m = 512 * 2 ^ k.val) (v : View sig .tc .vmem (Sf n) .bf16) : m = v.dmaCredit := by
  subst hn hm; exact (tile_credit k).symm

/-! Rows and columns of the views. -/

theorem off1 (c : Dev nD) : k0_off1 c = ![(0 : Fin 8).val, srow (0 : Fin 8).val (0 : Fin 8).val c, 0] := by revert c; decide +kernel
theorem off2 (c : Dev nD) : k0_off2 c = ![(1 : Fin 8).val, srow (1 : Fin 8).val (0 : Fin 8).val c, 0] := by revert c; decide +kernel
theorem off3 (c : Dev nD) : k0_off3 c = ![(2 : Fin 8).val, srow (2 : Fin 8).val (0 : Fin 8).val c, 0] := by revert c; decide +kernel
theorem off4 (c : Dev nD) : k0_off4 c = ![(3 : Fin 8).val, srow (3 : Fin 8).val (0 : Fin 8).val c, 0] := by revert c; decide +kernel
theorem off5 (c : Dev nD) : k0_off5 c = ![(0 : Fin 8).val, klo (0 : Fin 8).val ((0 : Fin 4).val + 1) c, 0] := by revert c; decide +kernel
theorem off6 (c : Dev nD) : k0_off6 c = ![(0 : Fin 8).val, srow (0 : Fin 8).val (1 : Fin 8).val c, 0] := by revert c; decide +kernel
theorem off7 (c : Dev nD) : k0_off7 c = ![(1 : Fin 8).val, klo (1 : Fin 8).val ((0 : Fin 4).val + 1) c, 0] := by revert c; decide +kernel
theorem off8 (c : Dev nD) : k0_off8 c = ![(1 : Fin 8).val, srow (1 : Fin 8).val (1 : Fin 8).val c, 0] := by revert c; decide +kernel
theorem off9 (c : Dev nD) : k0_off9 c = ![(4 : Fin 8).val, srow (4 : Fin 8).val (0 : Fin 8).val c, 0] := by revert c; decide +kernel
theorem off10 (c : Dev nD) : k0_off10 c = ![(5 : Fin 8).val, srow (5 : Fin 8).val (0 : Fin 8).val c, 0] := by revert c; decide +kernel
theorem off11 (c : Dev nD) : k0_off11 c = ![(0 : Fin 8).val, klo (0 : Fin 8).val ((1 : Fin 4).val + 1) c, 0] := by revert c; decide +kernel
theorem off12 (c : Dev nD) : k0_off12 c = ![(0 : Fin 8).val, srow (0 : Fin 8).val (2 : Fin 8).val c, 0] := by revert c; decide +kernel
theorem off13 (c : Dev nD) : k0_off13 c = ![(1 : Fin 8).val, klo (1 : Fin 8).val ((1 : Fin 4).val + 1) c, 0] := by revert c; decide +kernel
theorem off14 (c : Dev nD) : k0_off14 c = ![(1 : Fin 8).val, srow (1 : Fin 8).val (2 : Fin 8).val c, 0] := by revert c; decide +kernel
theorem off15 (c : Dev nD) : k0_off15 c = ![(2 : Fin 8).val, klo (2 : Fin 8).val ((0 : Fin 4).val + 1) c, 0] := by revert c; decide +kernel
theorem off16 (c : Dev nD) : k0_off16 c = ![(2 : Fin 8).val, srow (2 : Fin 8).val (1 : Fin 8).val c, 0] := by revert c; decide +kernel
theorem off17 (c : Dev nD) : k0_off17 c = ![(3 : Fin 8).val, klo (3 : Fin 8).val ((0 : Fin 4).val + 1) c, 0] := by revert c; decide +kernel
theorem off18 (c : Dev nD) : k0_off18 c = ![(3 : Fin 8).val, srow (3 : Fin 8).val (1 : Fin 8).val c, 0] := by revert c; decide +kernel
theorem off19 (c : Dev nD) : k0_off19 c = ![(6 : Fin 8).val, srow (6 : Fin 8).val (0 : Fin 8).val c, 0] := by revert c; decide +kernel
theorem off20 (c : Dev nD) : k0_off20 c = ![(7 : Fin 8).val, srow (7 : Fin 8).val (0 : Fin 8).val c, 0] := by revert c; decide +kernel
theorem off21 (c : Dev nD) : k0_off21 c = ![(0 : Fin 8).val, klo (0 : Fin 8).val ((2 : Fin 4).val + 1) c, 0] := by revert c; decide +kernel
theorem off22 (c : Dev nD) : k0_off22 c = ![(0 : Fin 8).val, srow (0 : Fin 8).val (3 : Fin 8).val c, 0] := by revert c; decide +kernel
theorem off23 (c : Dev nD) : k0_off23 c = ![(1 : Fin 8).val, klo (1 : Fin 8).val ((2 : Fin 4).val + 1) c, 0] := by revert c; decide +kernel
theorem off24 (c : Dev nD) : k0_off24 c = ![(1 : Fin 8).val, srow (1 : Fin 8).val (3 : Fin 8).val c, 0] := by revert c; decide +kernel
theorem off25 (c : Dev nD) : k0_off25 c = ![(2 : Fin 8).val, klo (2 : Fin 8).val ((1 : Fin 4).val + 1) c, 0] := by revert c; decide +kernel
theorem off26 (c : Dev nD) : k0_off26 c = ![(2 : Fin 8).val, srow (2 : Fin 8).val (2 : Fin 8).val c, 0] := by revert c; decide +kernel
theorem off27 (c : Dev nD) : k0_off27 c = ![(3 : Fin 8).val, klo (3 : Fin 8).val ((1 : Fin 4).val + 1) c, 0] := by revert c; decide +kernel
theorem off28 (c : Dev nD) : k0_off28 c = ![(3 : Fin 8).val, srow (3 : Fin 8).val (2 : Fin 8).val c, 0] := by revert c; decide +kernel
theorem off29 (c : Dev nD) : k0_off29 c = ![(4 : Fin 8).val, klo (4 : Fin 8).val ((0 : Fin 4).val + 1) c, 0] := by revert c; decide +kernel
theorem off30 (c : Dev nD) : k0_off30 c = ![(4 : Fin 8).val, srow (4 : Fin 8).val (1 : Fin 8).val c, 0] := by revert c; decide +kernel
theorem off31 (c : Dev nD) : k0_off31 c = ![(5 : Fin 8).val, klo (5 : Fin 8).val ((0 : Fin 4).val + 1) c, 0] := by revert c; decide +kernel
theorem off32 (c : Dev nD) : k0_off32 c = ![(5 : Fin 8).val, srow (5 : Fin 8).val (1 : Fin 8).val c, 0] := by revert c; decide +kernel
theorem off33 (c : Dev nD) : k0_off33 c = ![(6 : Fin 8).val, klo (6 : Fin 8).val ((0 : Fin 4).val + 1) c, 0] := by revert c; decide +kernel
theorem off34 (c : Dev nD) : k0_off34 c = ![(6 : Fin 8).val, srow (6 : Fin 8).val (1 : Fin 8).val c, 0] := by revert c; decide +kernel
theorem off35 (c : Dev nD) : k0_off35 c = ![(7 : Fin 8).val, klo (7 : Fin 8).val ((0 : Fin 4).val + 1) c, 0] := by revert c; decide +kernel
theorem off36 (c : Dev nD) : k0_off36 c = ![(7 : Fin 8).val, srow (7 : Fin 8).val (1 : Fin 8).val c, 0] := by revert c; decide +kernel
theorem off37 (c : Dev nD) : k0_off37 c = ![(4 : Fin 8).val, klo (4 : Fin 8).val ((1 : Fin 4).val + 1) c, 0] := by revert c; decide +kernel
theorem off38 (c : Dev nD) : k0_off38 c = ![(4 : Fin 8).val, srow (4 : Fin 8).val (2 : Fin 8).val c, 0] := by revert c; decide +kernel
theorem off39 (c : Dev nD) : k0_off39 c = ![(5 : Fin 8).val, klo (5 : Fin 8).val ((1 : Fin 4).val + 1) c, 0] := by revert c; decide +kernel
theorem off40 (c : Dev nD) : k0_off40 c = ![(5 : Fin 8).val, srow (5 : Fin 8).val (2 : Fin 8).val c, 0] := by revert c; decide +kernel
theorem off41 (c : Dev nD) : k0_off41 c = ![(2 : Fin 8).val, klo (2 : Fin 8).val ((2 : Fin 4).val + 1) c, 0] := by revert c; decide +kernel
theorem off42 (c : Dev nD) : k0_off42 c = ![(2 : Fin 8).val, srow (2 : Fin 8).val (3 : Fin 8).val c, 0] := by revert c; decide +kernel
theorem off43 (c : Dev nD) : k0_off43 c = ![(3 : Fin 8).val, klo (3 : Fin 8).val ((2 : Fin 4).val + 1) c, 0] := by revert c; decide +kernel
theorem off44 (c : Dev nD) : k0_off44 c = ![(3 : Fin 8).val, srow (3 : Fin 8).val (3 : Fin 8).val c, 0] := by revert c; decide +kernel
theorem off45 (c : Dev nD) : k0_off45 c = ![(0 : Fin 8).val, klo (0 : Fin 8).val ((3 : Fin 4).val + 1) c, 0] := by revert c; decide +kernel
theorem off45' (c : Dev nD) : k0_off45 c = ![(0 : Fin 8).val, klo (0 : Fin 8).val 4 c, 0] := by revert c; decide +kernel
theorem off46 (c : Dev nD) : k0_off46 c = ![(0 : Fin 8).val, srow (0 : Fin 8).val (4 : Fin 8).val c, 0] := by revert c; decide +kernel
theorem off47 (c : Dev nD) : k0_off47 c = ![(1 : Fin 8).val, klo (1 : Fin 8).val ((3 : Fin 4).val + 1) c, 0] := by revert c; decide +kernel
theorem off47' (c : Dev nD) : k0_off47 c = ![(1 : Fin 8).val, klo (1 : Fin 8).val 4 c, 0] := by revert c; decide +kernel
theorem off48 (c : Dev nD) : k0_off48 c = ![(1 : Fin 8).val, srow (1 : Fin 8).val (4 : Fin 8).val c, 0] := by revert c; decide +kernel
theorem off45'' (c : Dev nD) : k0_off45 c = ![(0 : Fin 8).val, wlo (0 : Fin 8).val (0 : Fin 5).val c, 0] := by revert c; decide +kernel
theorem off49_0 (c : Dev nD) : k0_off49 c 0#32 = ![256 * ((0 : Fin 8).val / 2) + wlo (0 : Fin 8).val (0 : Fin 5).val c, 512 * ((0 : Fin 8).val % 2)] := by revert c; decide +kernel
theorem off47'' (c : Dev nD) : k0_off47 c = ![(1 : Fin 8).val, wlo (1 : Fin 8).val (0 : Fin 5).val c, 0] := by revert c; decide +kernel
theorem off50_0 (c : Dev nD) : k0_off50 c 0#32 = ![256 * ((1 : Fin 8).val / 2) + wlo (1 : Fin 8).val (0 : Fin 5).val c, 512 * ((1 : Fin 8).val % 2)] := by revert c; decide +kernel
theorem off51 (c : Dev nD) : k0_off51 c = ![(6 : Fin 8).val, klo (6 : Fin 8).val ((1 : Fin 4).val + 1) c, 0] := by revert c; decide +kernel
theorem off52 (c : Dev nD) : k0_off52 c = ![(6 : Fin 8).val, srow (6 : Fin 8).val (2 : Fin 8).val c, 0] := by revert c; decide +kernel
theorem off53 (c : Dev nD) : k0_off53 c = ![(7 : Fin 8).val, klo (7 : Fin 8).val ((1 : Fin 4).val + 1) c, 0] := by revert c; decide +kernel
theorem off54 (c : Dev nD) : k0_off54 c = ![(7 : Fin 8).val, srow (7 : Fin 8).val (2 : Fin 8).val c, 0] := by revert c; decide +kernel
theorem off55 (c : Dev nD) : k0_off55 c = ![(4 : Fin 8).val, klo (4 : Fin 8).val ((2 : Fin 4).val + 1) c, 0] := by revert c; decide +kernel
theorem off56 (c : Dev nD) : k0_off56 c = ![(4 : Fin 8).val, srow (4 : Fin 8).val (3 : Fin 8).val c, 0] := by revert c; decide +kernel
theorem off57 (c : Dev nD) : k0_off57 c = ![(5 : Fin 8).val, klo (5 : Fin 8).val ((2 : Fin 4).val + 1) c, 0] := by revert c; decide +kernel
theorem off58 (c : Dev nD) : k0_off58 c = ![(5 : Fin 8).val, srow (5 : Fin 8).val (3 : Fin 8).val c, 0] := by revert c; decide +kernel
theorem off59 (c : Dev nD) : k0_off59 c = ![(2 : Fin 8).val, klo (2 : Fin 8).val ((3 : Fin 4).val + 1) c, 0] := by revert c; decide +kernel
theorem off59' (c : Dev nD) : k0_off59 c = ![(2 : Fin 8).val, klo (2 : Fin 8).val 4 c, 0] := by revert c; decide +kernel
theorem off60 (c : Dev nD) : k0_off60 c = ![(2 : Fin 8).val, srow (2 : Fin 8).val (4 : Fin 8).val c, 0] := by revert c; decide +kernel
theorem off61 (c : Dev nD) : k0_off61 c = ![(3 : Fin 8).val, klo (3 : Fin 8).val ((3 : Fin 4).val + 1) c, 0] := by revert c; decide +kernel
theorem off61' (c : Dev nD) : k0_off61 c = ![(3 : Fin 8).val, klo (3 : Fin 8).val 4 c, 0] := by revert c; decide +kernel
theorem off62 (c : Dev nD) : k0_off62 c = ![(3 : Fin 8).val, srow (3 : Fin 8).val (4 : Fin 8).val c, 0] := by revert c; decide +kernel
theorem off63 (c : Dev nD) : k0_off63 c = ![(0 : Fin 8).val, srow (0 : Fin 8).val (5 : Fin 8).val c, 0] := by revert c; decide +kernel
theorem off64 (c : Dev nD) : k0_off64 c = ![(1 : Fin 8).val, srow (1 : Fin 8).val (5 : Fin 8).val c, 0] := by revert c; decide +kernel
theorem off59'' (c : Dev nD) : k0_off59 c = ![(2 : Fin 8).val, wlo (2 : Fin 8).val (0 : Fin 5).val c, 0] := by revert c; decide +kernel
theorem off49_256 (c : Dev nD) : k0_off49 c 256#32 = ![256 * ((2 : Fin 8).val / 2) + wlo (2 : Fin 8).val (0 : Fin 5).val c, 512 * ((2 : Fin 8).val % 2)] := by revert c; decide +kernel
theorem off61'' (c : Dev nD) : k0_off61 c = ![(3 : Fin 8).val, wlo (3 : Fin 8).val (0 : Fin 5).val c, 0] := by revert c; decide +kernel
theorem off50_256 (c : Dev nD) : k0_off50 c 256#32 = ![256 * ((3 : Fin 8).val / 2) + wlo (3 : Fin 8).val (0 : Fin 5).val c, 512 * ((3 : Fin 8).val % 2)] := by revert c; decide +kernel
theorem off65 (c : Dev nD) : k0_off65 c = ![(0 : Fin 8).val, wlo (0 : Fin 8).val (1 : Fin 5).val c, 0] := by revert c; decide +kernel
theorem off66_0 (c : Dev nD) : k0_off66 c 0#32 = ![256 * ((0 : Fin 8).val / 2) + wlo (0 : Fin 8).val (1 : Fin 5).val c, 512 * ((0 : Fin 8).val % 2)] := by revert c; decide +kernel
theorem off67 (c : Dev nD) : k0_off67 c = ![(1 : Fin 8).val, wlo (1 : Fin 8).val (1 : Fin 5).val c, 0] := by revert c; decide +kernel
theorem off68_0 (c : Dev nD) : k0_off68 c 0#32 = ![256 * ((1 : Fin 8).val / 2) + wlo (1 : Fin 8).val (1 : Fin 5).val c, 512 * ((1 : Fin 8).val % 2)] := by revert c; decide +kernel
theorem off69 (c : Dev nD) : k0_off69 c = ![(6 : Fin 8).val, klo (6 : Fin 8).val ((2 : Fin 4).val + 1) c, 0] := by revert c; decide +kernel
theorem off70 (c : Dev nD) : k0_off70 c = ![(6 : Fin 8).val, srow (6 : Fin 8).val (3 : Fin 8).val c, 0] := by revert c; decide +kernel
theorem off71 (c : Dev nD) : k0_off71 c = ![(7 : Fin 8).val, klo (7 : Fin 8).val ((2 : Fin 4).val + 1) c, 0] := by revert c; decide +kernel
theorem off72 (c : Dev nD) : k0_off72 c = ![(7 : Fin 8).val, srow (7 : Fin 8).val (3 : Fin 8).val c, 0] := by revert c; decide +kernel
theorem off73 (c : Dev nD) : k0_off73 c = ![(4 : Fin 8).val, klo (4 : Fin 8).val ((3 : Fin 4).val + 1) c, 0] := by revert c; decide +kernel
theorem off73' (c : Dev nD) : k0_off73 c = ![(4 : Fin 8).val, klo (4 : Fin 8).val 4 c, 0] := by revert c; decide +kernel
theorem off74 (c : Dev nD) : k0_off74 c = ![(4 : Fin 8).val, srow (4 : Fin 8).val (4 : Fin 8).val c, 0] := by revert c; decide +kernel
theorem off75 (c : Dev nD) : k0_off75 c = ![(5 : Fin 8).val, klo (5 : Fin 8).val ((3 : Fin 4).val + 1) c, 0] := by revert c; decide +kernel
theorem off75' (c : Dev nD) : k0_off75 c = ![(5 : Fin 8).val, klo (5 : Fin 8).val 4 c, 0] := by revert c; decide +kernel
theorem off76 (c : Dev nD) : k0_off76 c = ![(5 : Fin 8).val, srow (5 : Fin 8).val (4 : Fin 8).val c, 0] := by revert c; decide +kernel
theorem off77 (c : Dev nD) : k0_off77 c = ![(2 : Fin 8).val, srow (2 : Fin 8).val (5 : Fin 8).val c, 0] := by revert c; decide +kernel
theorem off78 (c : Dev nD) : k0_off78 c = ![(3 : Fin 8).val, srow (3 : Fin 8).val (5 : Fin 8).val c, 0] := by revert c; decide +kernel
theorem off79 (c : Dev nD) : k0_off79 c = ![(0 : Fin 8).val, srow (0 : Fin 8).val (6 : Fin 8).val c, 0] := by revert c; decide +kernel
theorem off80 (c : Dev nD) : k0_off80 c = ![(1 : Fin 8).val, srow (1 : Fin 8).val (6 : Fin 8).val c, 0] := by revert c; decide +kernel
theorem off73'' (c : Dev nD) : k0_off73 c = ![(4 : Fin 8).val, wlo (4 : Fin 8).val (0 : Fin 5).val c, 0] := by revert c; decide +kernel
theorem off49_512 (c : Dev nD) : k0_off49 c 512#32 = ![256 * ((4 : Fin 8).val / 2) + wlo (4 : Fin 8).val (0 : Fin 5).val c, 512 * ((4 : Fin 8).val % 2)] := by revert c; decide +kernel
theorem off75'' (c : Dev nD) : k0_off75 c = ![(5 : Fin 8).val, wlo (5 : Fin 8).val (0 : Fin 5).val c, 0] := by revert c; decide +kernel
theorem off50_512 (c : Dev nD) : k0_off50 c 512#32 = ![256 * ((5 : Fin 8).val / 2) + wlo (5 : Fin 8).val (0 : Fin 5).val c, 512 * ((5 : Fin 8).val % 2)] := by revert c; decide +kernel
theorem off81 (c : Dev nD) : k0_off81 c = ![(2 : Fin 8).val, wlo (2 : Fin 8).val (1 : Fin 5).val c, 0] := by revert c; decide +kernel
theorem off66_256 (c : Dev nD) : k0_off66 c 256#32 = ![256 * ((2 : Fin 8).val / 2) + wlo (2 : Fin 8).val (1 : Fin 5).val c, 512 * ((2 : Fin 8).val % 2)] := by revert c; decide +kernel
theorem off82 (c : Dev nD) : k0_off82 c = ![(3 : Fin 8).val, wlo (3 : Fin 8).val (1 : Fin 5).val c, 0] := by revert c; decide +kernel
theorem off68_256 (c : Dev nD) : k0_off68 c 256#32 = ![256 * ((3 : Fin 8).val / 2) + wlo (3 : Fin 8).val (1 : Fin 5).val c, 512 * ((3 : Fin 8).val % 2)] := by revert c; decide +kernel
theorem off83 (c : Dev nD) : k0_off83 c = ![(0 : Fin 8).val, wlo (0 : Fin 8).val (2 : Fin 5).val c, 0] := by revert c; decide +kernel
theorem off84_0 (c : Dev nD) : k0_off84 c 0#32 = ![256 * ((0 : Fin 8).val / 2) + wlo (0 : Fin 8).val (2 : Fin 5).val c, 512 * ((0 : Fin 8).val % 2)] := by revert c; decide +kernel
theorem off85 (c : Dev nD) : k0_off85 c = ![(1 : Fin 8).val, wlo (1 : Fin 8).val (2 : Fin 5).val c, 0] := by revert c; decide +kernel
theorem off86_0 (c : Dev nD) : k0_off86 c 0#32 = ![256 * ((1 : Fin 8).val / 2) + wlo (1 : Fin 8).val (2 : Fin 5).val c, 512 * ((1 : Fin 8).val % 2)] := by revert c; decide +kernel
theorem off87 (c : Dev nD) : k0_off87 c = ![(6 : Fin 8).val, klo (6 : Fin 8).val ((3 : Fin 4).val + 1) c, 0] := by revert c; decide +kernel
theorem off87' (c : Dev nD) : k0_off87 c = ![(6 : Fin 8).val, klo (6 : Fin 8).val 4 c, 0] := by revert c; decide +kernel
theorem off88 (c : Dev nD) : k0_off88 c = ![(6 : Fin 8).val, srow (6 : Fin 8).val (4 : Fin 8).val c, 0] := by revert c; decide +kernel
theorem off89 (c : Dev nD) : k0_off89 c = ![(7 : Fin 8).val, klo (7 : Fin 8).val ((3 : Fin 4).val + 1) c, 0] := by revert c; decide +kernel
theorem off89' (c : Dev nD) : k0_off89 c = ![(7 : Fin 8).val, klo (7 : Fin 8).val 4 c, 0] := by revert c; decide +kernel
theorem off90 (c : Dev nD) : k0_off90 c = ![(7 : Fin 8).val, srow (7 : Fin 8).val (4 : Fin 8).val c, 0] := by revert c; decide +kernel
theorem off91 (c : Dev nD) : k0_off91 c = ![(4 : Fin 8).val, srow (4 : Fin 8).val (5 : Fin 8).val c, 0] := by revert c; decide +kernel
theorem off92 (c : Dev nD) : k0_off92 c = ![(5 : Fin 8).val, srow (5 : Fin 8).val (5 : Fin 8).val c, 0] := by revert c; decide +kernel
theorem off93 (c : Dev nD) : k0_off93 c = ![(2 : Fin 8).val, srow (2 : Fin 8).val (6 : Fin 8).val c, 0] := by revert c; decide +kernel
theorem off94 (c : Dev nD) : k0_off94 c = ![(3 : Fin 8).val, srow (3 : Fin 8).val (6 : Fin 8).val c, 0] := by revert c; decide +kernel
theorem off95 (c : Dev nD) : k0_off95 c = ![(0 : Fin 8).val, srow (0 : Fin 8).val (7 : Fin 8).val c, 0] := by revert c; decide +kernel
theorem off96 (c : Dev nD) : k0_off96 c = ![(1 : Fin 8).val, srow (1 : Fin 8).val (7 : Fin 8).val c, 0] := by revert c; decide +kernel
theorem off87'' (c : Dev nD) : k0_off87 c = ![(6 : Fin 8).val, wlo (6 : Fin 8).val (0 : Fin 5).val c, 0] := by revert c; decide +kernel
theorem off49_768 (c : Dev nD) : k0_off49 c 768#32 = ![256 * ((6 : Fin 8).val / 2) + wlo (6 : Fin 8).val (0 : Fin 5).val c, 512 * ((6 : Fin 8).val % 2)] := by revert c; decide +kernel
theorem off89'' (c : Dev nD) : k0_off89 c = ![(7 : Fin 8).val, wlo (7 : Fin 8).val (0 : Fin 5).val c, 0] := by revert c; decide +kernel
theorem off50_768 (c : Dev nD) : k0_off50 c 768#32 = ![256 * ((7 : Fin 8).val / 2) + wlo (7 : Fin 8).val (0 : Fin 5).val c, 512 * ((7 : Fin 8).val % 2)] := by revert c; decide +kernel
theorem off97 (c : Dev nD) : k0_off97 c = ![(4 : Fin 8).val, wlo (4 : Fin 8).val (1 : Fin 5).val c, 0] := by revert c; decide +kernel
theorem off66_512 (c : Dev nD) : k0_off66 c 512#32 = ![256 * ((4 : Fin 8).val / 2) + wlo (4 : Fin 8).val (1 : Fin 5).val c, 512 * ((4 : Fin 8).val % 2)] := by revert c; decide +kernel
theorem off98 (c : Dev nD) : k0_off98 c = ![(5 : Fin 8).val, wlo (5 : Fin 8).val (1 : Fin 5).val c, 0] := by revert c; decide +kernel
theorem off68_512 (c : Dev nD) : k0_off68 c 512#32 = ![256 * ((5 : Fin 8).val / 2) + wlo (5 : Fin 8).val (1 : Fin 5).val c, 512 * ((5 : Fin 8).val % 2)] := by revert c; decide +kernel
theorem off99 (c : Dev nD) : k0_off99 c = ![(2 : Fin 8).val, wlo (2 : Fin 8).val (2 : Fin 5).val c, 0] := by revert c; decide +kernel
theorem off84_256 (c : Dev nD) : k0_off84 c 256#32 = ![256 * ((2 : Fin 8).val / 2) + wlo (2 : Fin 8).val (2 : Fin 5).val c, 512 * ((2 : Fin 8).val % 2)] := by revert c; decide +kernel
theorem off100 (c : Dev nD) : k0_off100 c = ![(3 : Fin 8).val, wlo (3 : Fin 8).val (2 : Fin 5).val c, 0] := by revert c; decide +kernel
theorem off86_256 (c : Dev nD) : k0_off86 c 256#32 = ![256 * ((3 : Fin 8).val / 2) + wlo (3 : Fin 8).val (2 : Fin 5).val c, 512 * ((3 : Fin 8).val % 2)] := by revert c; decide +kernel
theorem off101 (c : Dev nD) : k0_off101 c = ![(0 : Fin 8).val, wlo (0 : Fin 8).val (3 : Fin 5).val c, 0] := by revert c; decide +kernel
theorem off102_0 (c : Dev nD) : k0_off102 c 0#32 = ![256 * ((0 : Fin 8).val / 2) + wlo (0 : Fin 8).val (3 : Fin 5).val c, 512 * ((0 : Fin 8).val % 2)] := by revert c; decide +kernel
theorem off103 (c : Dev nD) : k0_off103 c = ![(1 : Fin 8).val, wlo (1 : Fin 8).val (3 : Fin 5).val c, 0] := by revert c; decide +kernel
theorem off104_0 (c : Dev nD) : k0_off104 c 0#32 = ![256 * ((1 : Fin 8).val / 2) + wlo (1 : Fin 8).val (3 : Fin 5).val c, 512 * ((1 : Fin 8).val % 2)] := by revert c; decide +kernel
theorem off105 (c : Dev nD) : k0_off105 c = ![(6 : Fin 8).val, srow (6 : Fin 8).val (5 : Fin 8).val c, 0] := by revert c; decide +kernel
theorem off106 (c : Dev nD) : k0_off106 c = ![(7 : Fin 8).val, srow (7 : Fin 8).val (5 : Fin 8).val c, 0] := by revert c; decide +kernel
theorem off107 (c : Dev nD) : k0_off107 c = ![(4 : Fin 8).val, srow (4 : Fin 8).val (6 : Fin 8).val c, 0] := by revert c; decide +kernel
theorem off108 (c : Dev nD) : k0_off108 c = ![(5 : Fin 8).val, srow (5 : Fin 8).val (6 : Fin 8).val c, 0] := by revert c; decide +kernel
theorem off109 (c : Dev nD) : k0_off109 c = ![(2 : Fin 8).val, srow (2 : Fin 8).val (7 : Fin 8).val c, 0] := by revert c; decide +kernel
theorem off110 (c : Dev nD) : k0_off110 c = ![(3 : Fin 8).val, srow (3 : Fin 8).val (7 : Fin 8).val c, 0] := by revert c; decide +kernel
theorem off111 (c : Dev nD) : k0_off111 c = ![(6 : Fin 8).val, wlo (6 : Fin 8).val (1 : Fin 5).val c, 0] := by revert c; decide +kernel
theorem off66_768 (c : Dev nD) : k0_off66 c 768#32 = ![256 * ((6 : Fin 8).val / 2) + wlo (6 : Fin 8).val (1 : Fin 5).val c, 512 * ((6 : Fin 8).val % 2)] := by revert c; decide +kernel
theorem off112 (c : Dev nD) : k0_off112 c = ![(7 : Fin 8).val, wlo (7 : Fin 8).val (1 : Fin 5).val c, 0] := by revert c; decide +kernel
theorem off68_768 (c : Dev nD) : k0_off68 c 768#32 = ![256 * ((7 : Fin 8).val / 2) + wlo (7 : Fin 8).val (1 : Fin 5).val c, 512 * ((7 : Fin 8).val % 2)] := by revert c; decide +kernel
theorem off113 (c : Dev nD) : k0_off113 c = ![(4 : Fin 8).val, wlo (4 : Fin 8).val (2 : Fin 5).val c, 0] := by revert c; decide +kernel
theorem off84_512 (c : Dev nD) : k0_off84 c 512#32 = ![256 * ((4 : Fin 8).val / 2) + wlo (4 : Fin 8).val (2 : Fin 5).val c, 512 * ((4 : Fin 8).val % 2)] := by revert c; decide +kernel
theorem off114 (c : Dev nD) : k0_off114 c = ![(5 : Fin 8).val, wlo (5 : Fin 8).val (2 : Fin 5).val c, 0] := by revert c; decide +kernel
theorem off86_512 (c : Dev nD) : k0_off86 c 512#32 = ![256 * ((5 : Fin 8).val / 2) + wlo (5 : Fin 8).val (2 : Fin 5).val c, 512 * ((5 : Fin 8).val % 2)] := by revert c; decide +kernel
theorem off115 (c : Dev nD) : k0_off115 c = ![(2 : Fin 8).val, wlo (2 : Fin 8).val (3 : Fin 5).val c, 0] := by revert c; decide +kernel
theorem off102_256 (c : Dev nD) : k0_off102 c 256#32 = ![256 * ((2 : Fin 8).val / 2) + wlo (2 : Fin 8).val (3 : Fin 5).val c, 512 * ((2 : Fin 8).val % 2)] := by revert c; decide +kernel
theorem off116 (c : Dev nD) : k0_off116 c = ![(3 : Fin 8).val, wlo (3 : Fin 8).val (3 : Fin 5).val c, 0] := by revert c; decide +kernel
theorem off104_256 (c : Dev nD) : k0_off104 c 256#32 = ![256 * ((3 : Fin 8).val / 2) + wlo (3 : Fin 8).val (3 : Fin 5).val c, 512 * ((3 : Fin 8).val % 2)] := by revert c; decide +kernel
theorem off117 (c : Dev nD) : k0_off117 c = ![(0 : Fin 8).val, wlo (0 : Fin 8).val (4 : Fin 5).val c, 0] := by revert c; decide +kernel
theorem off118_0 (c : Dev nD) : k0_off118 c 0#32 = ![256 * ((0 : Fin 8).val / 2) + wlo (0 : Fin 8).val (4 : Fin 5).val c, 512 * ((0 : Fin 8).val % 2)] := by revert c; decide +kernel
theorem off119 (c : Dev nD) : k0_off119 c = ![(1 : Fin 8).val, wlo (1 : Fin 8).val (4 : Fin 5).val c, 0] := by revert c; decide +kernel
theorem off120_0 (c : Dev nD) : k0_off120 c 0#32 = ![256 * ((1 : Fin 8).val / 2) + wlo (1 : Fin 8).val (4 : Fin 5).val c, 512 * ((1 : Fin 8).val % 2)] := by revert c; decide +kernel
theorem off121 (c : Dev nD) : k0_off121 c = ![(6 : Fin 8).val, srow (6 : Fin 8).val (6 : Fin 8).val c, 0] := by revert c; decide +kernel
theorem off122 (c : Dev nD) : k0_off122 c = ![(7 : Fin 8).val, srow (7 : Fin 8).val (6 : Fin 8).val c, 0] := by revert c; decide +kernel
theorem off123 (c : Dev nD) : k0_off123 c = ![(4 : Fin 8).val, srow (4 : Fin 8).val (7 : Fin 8).val c, 0] := by revert c; decide +kernel
theorem off124 (c : Dev nD) : k0_off124 c = ![(5 : Fin 8).val, srow (5 : Fin 8).val (7 : Fin 8).val c, 0] := by revert c; decide +kernel
theorem off125 (c : Dev nD) : k0_off125 c = ![(6 : Fin 8).val, wlo (6 : Fin 8).val (2 : Fin 5).val c, 0] := by revert c; decide +kernel
theorem off84_768 (c : Dev nD) : k0_off84 c 768#32 = ![256 * ((6 : Fin 8).val / 2) + wlo (6 : Fin 8).val (2 : Fin 5).val c, 512 * ((6 : Fin 8).val % 2)] := by revert c; decide +kernel
theorem off126 (c : Dev nD) : k0_off126 c = ![(7 : Fin 8).val, wlo (7 : Fin 8).val (2 : Fin 5).val c, 0] := by revert c; decide +kernel
theorem off86_768 (c : Dev nD) : k0_off86 c 768#32 = ![256 * ((7 : Fin 8).val / 2) + wlo (7 : Fin 8).val (2 : Fin 5).val c, 512 * ((7 : Fin 8).val % 2)] := by revert c; decide +kernel
theorem off127 (c : Dev nD) : k0_off127 c = ![(4 : Fin 8).val, wlo (4 : Fin 8).val (3 : Fin 5).val c, 0] := by revert c; decide +kernel
theorem off102_512 (c : Dev nD) : k0_off102 c 512#32 = ![256 * ((4 : Fin 8).val / 2) + wlo (4 : Fin 8).val (3 : Fin 5).val c, 512 * ((4 : Fin 8).val % 2)] := by revert c; decide +kernel
theorem off128 (c : Dev nD) : k0_off128 c = ![(5 : Fin 8).val, wlo (5 : Fin 8).val (3 : Fin 5).val c, 0] := by revert c; decide +kernel
theorem off104_512 (c : Dev nD) : k0_off104 c 512#32 = ![256 * ((5 : Fin 8).val / 2) + wlo (5 : Fin 8).val (3 : Fin 5).val c, 512 * ((5 : Fin 8).val % 2)] := by revert c; decide +kernel
theorem off129 (c : Dev nD) : k0_off129 c = ![(2 : Fin 8).val, wlo (2 : Fin 8).val (4 : Fin 5).val c, 0] := by revert c; decide +kernel
theorem off118_256 (c : Dev nD) : k0_off118 c 256#32 = ![256 * ((2 : Fin 8).val / 2) + wlo (2 : Fin 8).val (4 : Fin 5).val c, 512 * ((2 : Fin 8).val % 2)] := by revert c; decide +kernel
theorem off130 (c : Dev nD) : k0_off130 c = ![(3 : Fin 8).val, wlo (3 : Fin 8).val (4 : Fin 5).val c, 0] := by revert c; decide +kernel
theorem off120_256 (c : Dev nD) : k0_off120 c 256#32 = ![256 * ((3 : Fin 8).val / 2) + wlo (3 : Fin 8).val (4 : Fin 5).val c, 512 * ((3 : Fin 8).val % 2)] := by revert c; decide +kernel
theorem off131 (c : Dev nD) : k0_off131 c = ![(6 : Fin 8).val, srow (6 : Fin 8).val (7 : Fin 8).val c, 0] := by revert c; decide +kernel
theorem off132 (c : Dev nD) : k0_off132 c = ![(7 : Fin 8).val, srow (7 : Fin 8).val (7 : Fin 8).val c, 0] := by revert c; decide +kernel
theorem off133 (c : Dev nD) : k0_off133 c = ![(6 : Fin 8).val, wlo (6 : Fin 8).val (3 : Fin 5).val c, 0] := by revert c; decide +kernel
theorem off102_768 (c : Dev nD) : k0_off102 c 768#32 = ![256 * ((6 : Fin 8).val / 2) + wlo (6 : Fin 8).val (3 : Fin 5).val c, 512 * ((6 : Fin 8).val % 2)] := by revert c; decide +kernel
theorem off134 (c : Dev nD) : k0_off134 c = ![(7 : Fin 8).val, wlo (7 : Fin 8).val (3 : Fin 5).val c, 0] := by revert c; decide +kernel
theorem off104_768 (c : Dev nD) : k0_off104 c 768#32 = ![256 * ((7 : Fin 8).val / 2) + wlo (7 : Fin 8).val (3 : Fin 5).val c, 512 * ((7 : Fin 8).val % 2)] := by revert c; decide +kernel
theorem off135 (c : Dev nD) : k0_off135 c = ![(4 : Fin 8).val, wlo (4 : Fin 8).val (4 : Fin 5).val c, 0] := by revert c; decide +kernel
theorem off118_512 (c : Dev nD) : k0_off118 c 512#32 = ![256 * ((4 : Fin 8).val / 2) + wlo (4 : Fin 8).val (4 : Fin 5).val c, 512 * ((4 : Fin 8).val % 2)] := by revert c; decide +kernel
theorem off136 (c : Dev nD) : k0_off136 c = ![(5 : Fin 8).val, wlo (5 : Fin 8).val (4 : Fin 5).val c, 0] := by revert c; decide +kernel
theorem off120_512 (c : Dev nD) : k0_off120 c 512#32 = ![256 * ((5 : Fin 8).val / 2) + wlo (5 : Fin 8).val (4 : Fin 5).val c, 512 * ((5 : Fin 8).val % 2)] := by revert c; decide +kernel
theorem off137 (c : Dev nD) : k0_off137 c = ![(6 : Fin 8).val, wlo (6 : Fin 8).val (4 : Fin 5).val c, 0] := by revert c; decide +kernel
theorem off118_768 (c : Dev nD) : k0_off118 c 768#32 = ![256 * ((6 : Fin 8).val / 2) + wlo (6 : Fin 8).val (4 : Fin 5).val c, 512 * ((6 : Fin 8).val % 2)] := by revert c; decide +kernel
theorem off138 (c : Dev nD) : k0_off138 c = ![(7 : Fin 8).val, wlo (7 : Fin 8).val (4 : Fin 5).val c, 0] := by revert c; decide +kernel
theorem off120_768 (c : Dev nD) : k0_off120 c 768#32 = ![256 * ((7 : Fin 8).val / 2) + wlo (7 : Fin 8).val (4 : Fin 5).val c, 512 * ((7 : Fin 8).val % 2)] := by revert c; decide +kernel

/-! The devices addressed. -/

theorem dev5 (c : Dev nD) : (⟨k0_dev5 c, k0_dev5_lt c⟩ : Dev nD) = peer (0 : Fin 8).val (0 : Fin 8).val c := by revert c; decide +kernel
theorem dev6 (c : Dev nD) : (⟨k0_dev6 c, k0_dev6_lt c⟩ : Dev nD) = peer (1 : Fin 8).val (0 : Fin 8).val c := by revert c; decide +kernel
theorem dev7 (c : Dev nD) : (⟨k0_dev7 c, k0_dev7_lt c⟩ : Dev nD) = peer (2 : Fin 8).val (0 : Fin 8).val c := by revert c; decide +kernel
theorem dev8 (c : Dev nD) : (⟨k0_dev8 c, k0_dev8_lt c⟩ : Dev nD) = peer (3 : Fin 8).val (0 : Fin 8).val c := by revert c; decide +kernel
theorem dev9 (c : Dev nD) : (⟨k0_dev9 c, k0_dev9_lt c⟩ : Dev nD) = peer (0 : Fin 8).val (1 : Fin 8).val c := by revert c; decide +kernel
theorem dev10 (c : Dev nD) : (⟨k0_dev10 c, k0_dev10_lt c⟩ : Dev nD) = peer (1 : Fin 8).val (1 : Fin 8).val c := by revert c; decide +kernel
theorem dev11 (c : Dev nD) : (⟨k0_dev11 c, k0_dev11_lt c⟩ : Dev nD) = peer (4 : Fin 8).val (0 : Fin 8).val c := by revert c; decide +kernel
theorem dev12 (c : Dev nD) : (⟨k0_dev12 c, k0_dev12_lt c⟩ : Dev nD) = peer (5 : Fin 8).val (0 : Fin 8).val c := by revert c; decide +kernel
theorem dev13 (c : Dev nD) : (⟨k0_dev13 c, k0_dev13_lt c⟩ : Dev nD) = peer (0 : Fin 8).val (2 : Fin 8).val c := by revert c; decide +kernel
theorem dev14 (c : Dev nD) : (⟨k0_dev14 c, k0_dev14_lt c⟩ : Dev nD) = peer (1 : Fin 8).val (2 : Fin 8).val c := by revert c; decide +kernel
theorem dev15 (c : Dev nD) : (⟨k0_dev15 c, k0_dev15_lt c⟩ : Dev nD) = peer (2 : Fin 8).val (1 : Fin 8).val c := by revert c; decide +kernel
theorem dev16 (c : Dev nD) : (⟨k0_dev16 c, k0_dev16_lt c⟩ : Dev nD) = peer (3 : Fin 8).val (1 : Fin 8).val c := by revert c; decide +kernel
theorem dev17 (c : Dev nD) : (⟨k0_dev17 c, k0_dev17_lt c⟩ : Dev nD) = peer (6 : Fin 8).val (0 : Fin 8).val c := by revert c; decide +kernel
theorem dev18 (c : Dev nD) : (⟨k0_dev18 c, k0_dev18_lt c⟩ : Dev nD) = peer (7 : Fin 8).val (0 : Fin 8).val c := by revert c; decide +kernel
theorem dev19 (c : Dev nD) : (⟨k0_dev19 c, k0_dev19_lt c⟩ : Dev nD) = peer (0 : Fin 8).val (3 : Fin 8).val c := by revert c; decide +kernel
theorem dev20 (c : Dev nD) : (⟨k0_dev20 c, k0_dev20_lt c⟩ : Dev nD) = peer (1 : Fin 8).val (3 : Fin 8).val c := by revert c; decide +kernel
theorem dev21 (c : Dev nD) : (⟨k0_dev21 c, k0_dev21_lt c⟩ : Dev nD) = peer (2 : Fin 8).val (2 : Fin 8).val c := by revert c; decide +kernel
theorem dev22 (c : Dev nD) : (⟨k0_dev22 c, k0_dev22_lt c⟩ : Dev nD) = peer (3 : Fin 8).val (2 : Fin 8).val c := by revert c; decide +kernel
theorem dev23 (c : Dev nD) : (⟨k0_dev23 c, k0_dev23_lt c⟩ : Dev nD) = peer (4 : Fin 8).val (1 : Fin 8).val c := by revert c; decide +kernel
theorem dev24 (c : Dev nD) : (⟨k0_dev24 c, k0_dev24_lt c⟩ : Dev nD) = peer (5 : Fin 8).val (1 : Fin 8).val c := by revert c; decide +kernel
theorem dev25 (c : Dev nD) : (⟨k0_dev25 c, k0_dev25_lt c⟩ : Dev nD) = peer (6 : Fin 8).val (1 : Fin 8).val c := by revert c; decide +kernel
theorem dev26 (c : Dev nD) : (⟨k0_dev26 c, k0_dev26_lt c⟩ : Dev nD) = peer (7 : Fin 8).val (1 : Fin 8).val c := by revert c; decide +kernel
theorem dev27 (c : Dev nD) : (⟨k0_dev27 c, k0_dev27_lt c⟩ : Dev nD) = peer (4 : Fin 8).val (2 : Fin 8).val c := by revert c; decide +kernel
theorem dev28 (c : Dev nD) : (⟨k0_dev28 c, k0_dev28_lt c⟩ : Dev nD) = peer (5 : Fin 8).val (2 : Fin 8).val c := by revert c; decide +kernel
theorem dev29 (c : Dev nD) : (⟨k0_dev29 c, k0_dev29_lt c⟩ : Dev nD) = peer (2 : Fin 8).val (3 : Fin 8).val c := by revert c; decide +kernel
theorem dev30 (c : Dev nD) : (⟨k0_dev30 c, k0_dev30_lt c⟩ : Dev nD) = peer (3 : Fin 8).val (3 : Fin 8).val c := by revert c; decide +kernel
theorem dev31 (c : Dev nD) : (⟨k0_dev31 c, k0_dev31_lt c⟩ : Dev nD) = peer (0 : Fin 8).val (4 : Fin 8).val c := by revert c; decide +kernel
theorem dev32 (c : Dev nD) : (⟨k0_dev32 c, k0_dev32_lt c⟩ : Dev nD) = peer (1 : Fin 8).val (4 : Fin 8).val c := by revert c; decide +kernel
theorem dev33 (c : Dev nD) : (⟨k0_dev33 c, k0_dev33_lt c⟩ : Dev nD) = peer (6 : Fin 8).val (2 : Fin 8).val c := by revert c; decide +kernel
theorem dev34 (c : Dev nD) : (⟨k0_dev34 c, k0_dev34_lt c⟩ : Dev nD) = peer (7 : Fin 8).val (2 : Fin 8).val c := by revert c; decide +kernel
theorem dev35 (c : Dev nD) : (⟨k0_dev35 c, k0_dev35_lt c⟩ : Dev nD) = peer (4 : Fin 8).val (3 : Fin 8).val c := by revert c; decide +kernel
theorem dev36 (c : Dev nD) : (⟨k0_dev36 c, k0_dev36_lt c⟩ : Dev nD) = peer (5 : Fin 8).val (3 : Fin 8).val c := by revert c; decide +kernel
theorem dev37 (c : Dev nD) : (⟨k0_dev37 c, k0_dev37_lt c⟩ : Dev nD) = peer (2 : Fin 8).val (4 : Fin 8).val c := by revert c; decide +kernel
theorem dev38 (c : Dev nD) : (⟨k0_dev38 c, k0_dev38_lt c⟩ : Dev nD) = peer (3 : Fin 8).val (4 : Fin 8).val c := by revert c; decide +kernel
theorem dev39 (c : Dev nD) : (⟨k0_dev39 c, k0_dev39_lt c⟩ : Dev nD) = peer (0 : Fin 8).val (5 : Fin 8).val c := by revert c; decide +kernel
theorem dev40 (c : Dev nD) : (⟨k0_dev40 c, k0_dev40_lt c⟩ : Dev nD) = peer (1 : Fin 8).val (5 : Fin 8).val c := by revert c; decide +kernel
theorem dev41 (c : Dev nD) : (⟨k0_dev41 c, k0_dev41_lt c⟩ : Dev nD) = peer (6 : Fin 8).val (3 : Fin 8).val c := by revert c; decide +kernel
theorem dev42 (c : Dev nD) : (⟨k0_dev42 c, k0_dev42_lt c⟩ : Dev nD) = peer (7 : Fin 8).val (3 : Fin 8).val c := by revert c; decide +kernel
theorem dev43 (c : Dev nD) : (⟨k0_dev43 c, k0_dev43_lt c⟩ : Dev nD) = peer (4 : Fin 8).val (4 : Fin 8).val c := by revert c; decide +kernel
theorem dev44 (c : Dev nD) : (⟨k0_dev44 c, k0_dev44_lt c⟩ : Dev nD) = peer (5 : Fin 8).val (4 : Fin 8).val c := by revert c; decide +kernel
theorem dev45 (c : Dev nD) : (⟨k0_dev45 c, k0_dev45_lt c⟩ : Dev nD) = peer (2 : Fin 8).val (5 : Fin 8).val c := by revert c; decide +kernel
theorem dev46 (c : Dev nD) : (⟨k0_dev46 c, k0_dev46_lt c⟩ : Dev nD) = peer (3 : Fin 8).val (5 : Fin 8).val c := by revert c; decide +kernel
theorem dev47 (c : Dev nD) : (⟨k0_dev47 c, k0_dev47_lt c⟩ : Dev nD) = peer (0 : Fin 8).val (6 : Fin 8).val c := by revert c; decide +kernel
theorem dev48 (c : Dev nD) : (⟨k0_dev48 c, k0_dev48_lt c⟩ : Dev nD) = peer (1 : Fin 8).val (6 : Fin 8).val c := by revert c; decide +kernel
theorem dev49 (c : Dev nD) : (⟨k0_dev49 c, k0_dev49_lt c⟩ : Dev nD) = peer (6 : Fin 8).val (4 : Fin 8).val c := by revert c; decide +kernel
theorem dev50 (c : Dev nD) : (⟨k0_dev50 c, k0_dev50_lt c⟩ : Dev nD) = peer (7 : Fin 8).val (4 : Fin 8).val c := by revert c; decide +kernel
theorem dev51 (c : Dev nD) : (⟨k0_dev51 c, k0_dev51_lt c⟩ : Dev nD) = peer (4 : Fin 8).val (5 : Fin 8).val c := by revert c; decide +kernel
theorem dev52 (c : Dev nD) : (⟨k0_dev52 c, k0_dev52_lt c⟩ : Dev nD) = peer (5 : Fin 8).val (5 : Fin 8).val c := by revert c; decide +kernel
theorem dev53 (c : Dev nD) : (⟨k0_dev53 c, k0_dev53_lt c⟩ : Dev nD) = peer (2 : Fin 8).val (6 : Fin 8).val c := by revert c; decide +kernel
theorem dev54 (c : Dev nD) : (⟨k0_dev54 c, k0_dev54_lt c⟩ : Dev nD) = peer (3 : Fin 8).val (6 : Fin 8).val c := by revert c; decide +kernel
theorem dev55 (c : Dev nD) : (⟨k0_dev55 c, k0_dev55_lt c⟩ : Dev nD) = peer (0 : Fin 8).val (7 : Fin 8).val c := by revert c; decide +kernel
theorem dev56 (c : Dev nD) : (⟨k0_dev56 c, k0_dev56_lt c⟩ : Dev nD) = peer (1 : Fin 8).val (7 : Fin 8).val c := by revert c; decide +kernel
theorem dev57 (c : Dev nD) : (⟨k0_dev57 c, k0_dev57_lt c⟩ : Dev nD) = peer (6 : Fin 8).val (5 : Fin 8).val c := by revert c; decide +kernel
theorem dev58 (c : Dev nD) : (⟨k0_dev58 c, k0_dev58_lt c⟩ : Dev nD) = peer (7 : Fin 8).val (5 : Fin 8).val c := by revert c; decide +kernel
theorem dev59 (c : Dev nD) : (⟨k0_dev59 c, k0_dev59_lt c⟩ : Dev nD) = peer (4 : Fin 8).val (6 : Fin 8).val c := by revert c; decide +kernel
theorem dev60 (c : Dev nD) : (⟨k0_dev60 c, k0_dev60_lt c⟩ : Dev nD) = peer (5 : Fin 8).val (6 : Fin 8).val c := by revert c; decide +kernel
theorem dev61 (c : Dev nD) : (⟨k0_dev61 c, k0_dev61_lt c⟩ : Dev nD) = peer (2 : Fin 8).val (7 : Fin 8).val c := by revert c; decide +kernel
theorem dev62 (c : Dev nD) : (⟨k0_dev62 c, k0_dev62_lt c⟩ : Dev nD) = peer (3 : Fin 8).val (7 : Fin 8).val c := by revert c; decide +kernel
theorem dev63 (c : Dev nD) : (⟨k0_dev63 c, k0_dev63_lt c⟩ : Dev nD) = peer (6 : Fin 8).val (6 : Fin 8).val c := by revert c; decide +kernel
theorem dev64 (c : Dev nD) : (⟨k0_dev64 c, k0_dev64_lt c⟩ : Dev nD) = peer (7 : Fin 8).val (6 : Fin 8).val c := by revert c; decide +kernel
theorem dev65 (c : Dev nD) : (⟨k0_dev65 c, k0_dev65_lt c⟩ : Dev nD) = peer (4 : Fin 8).val (7 : Fin 8).val c := by revert c; decide +kernel
theorem dev66 (c : Dev nD) : (⟨k0_dev66 c, k0_dev66_lt c⟩ : Dev nD) = peer (5 : Fin 8).val (7 : Fin 8).val c := by revert c; decide +kernel
theorem dev67 (c : Dev nD) : (⟨k0_dev67 c, k0_dev67_lt c⟩ : Dev nD) = peer (6 : Fin 8).val (7 : Fin 8).val c := by revert c; decide +kernel
theorem dev68 (c : Dev nD) : (⟨k0_dev68 c, k0_dev68_lt c⟩ : Dev nD) = peer (7 : Fin 8).val (7 : Fin 8).val c := by revert c; decide +kernel
theorem dev1 (c : Dev nD) : (⟨k0_dev1 c, k0_dev1_lt c⟩ : Dev nD) = via 0 c := by revert c; decide +kernel
theorem dev2 (c : Dev nD) : (⟨k0_dev2 c, k0_dev2_lt c⟩ : Dev nD) = via 1 c := by revert c; decide +kernel
theorem dev3 (c : Dev nD) : (⟨k0_dev3 c, k0_dev3_lt c⟩ : Dev nD) = via 2 c := by revert c; decide +kernel
theorem dev4 (c : Dev nD) : (⟨k0_dev4 c, k0_dev4_lt c⟩ : Dev nD) = via 3 c := by revert c; decide +kernel

end Cert.Ring

end
-- ==== Proof.Run1.lean ====
/-
# Parts 2 to 18 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t2 : Tr I K c σ0 σ1 (k0_part2 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (wOf (c := c) I 0))
    (fun r => r = (k0_pay7 (F := F) (xBlk (I.x c) (0 : Fin 4).val))) := by
  rw [k0_part2_eq_skeleton]; unfold k0_part2_skel
  refine Tr.bindu (tr_deadC 0 rfl) fun _ => ?_
  refine Tr.bindu (tr_stW 0 rfl rfl rfl) fun _ => ?_
  refine Tr.bindv (tr_ldIw 1 rfl rfl) ?_
  refine Tr.bindu (tr_deadC 1 rfl) fun _ => ?_
  refine Tr.bindu (tr_stW 1 rfl rfl rfl) fun _ => ?_
  refine Tr.bindv (tr_ldIw 2 rfl rfl) ?_
  refine Tr.bindu (tr_deadC 2 rfl) fun _ => ?_
  refine Tr.bindu (tr_stW 2 rfl rfl rfl) fun _ => ?_
  refine Tr.bindv (tr_ldIw 3 rfl rfl) ?_
  refine Tr.bindu (tr_deadC 3 rfl) fun _ => ?_
  refine Tr.bindu (tr_stW 3 rfl rfl rfl) fun _ => ?_
  refine Tr.bindv (tr_ldX 0 rfl) ?_
  refine Tr.bindv (tr_ldW 0 rfl rfl (by decide) (by decide +kernel)) ?_
  refine Tr.bindu (tr_deadC 4 rfl) fun _ => ?_
  refine Tr.bindu (tr_stP 4 0 (by decide) rfl rfl (by decide) (by decide +kernel) (rowBlk_proj _ _ (by decide)).symm) fun _ => ?_
  refine Tr.ret ?_ (St.eq (by decide +kernel) (by decide +kernel) (by decide +kernel))
  exact rfl

theorem t3 : Tr I K c σ1 σ2 (k0_part3 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay7 (F := F) (xBlk (I.x c) (0 : Fin 4).val)))
    (fun _ => True) := by
  rw [k0_part3_eq_skeleton]; unfold k0_part3_skel
  refine Tr.bindv (tr_ldW 1 rfl rfl (by decide) (by decide +kernel)) ?_
  refine Tr.bindu (tr_deadC 5 rfl) fun _ => ?_
  refine Tr.bindu (tr_stP 5 0 (by decide) rfl rfl (by decide) (by decide +kernel) (rowBlk_proj _ _ (by decide)).symm) fun _ => ?_
  refine Tr.bindv (tr_ldW 2 rfl rfl (by decide) (by decide +kernel)) ?_
  refine Tr.bindu (tr_deadC 6 rfl) fun _ => ?_
  refine Tr.bindu (tr_stP 6 0 (by decide) rfl rfl (by decide) (by decide +kernel) (rowBlk_proj _ _ (by decide)).symm) fun _ => ?_
  refine Tr.bindv (tr_ldH 4 0 0 (by decide) (by decide) rfl rfl (by decide) (by decide +kernel)) ?_
  refine Tr.bindv (tr_ldH 5 0 0 (by decide) (by decide) rfl rfl (by decide) (by decide +kernel)) ?_
  refine Tr.bindv (tr_ldH 6 0 0 (by decide) (by decide) rfl rfl (by decide) (by decide +kernel)) ?_
  refine Tr.bindu (tr_deadC 7 rfl) fun _ => ?_
  refine Tr.bindu (tr_stO 0 0 (by decide) (by decide) rfl rfl (by decide +kernel) rfl) fun _ => ?_
  refine Tr.ret ?_ (St.eq (by decide +kernel) (by decide +kernel) (by decide +kernel))
  exact trivial

theorem t4 : Tr I K c σ2 σ3 (k0_part4 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
    (fun r => r.1 = (headBlk (bufG I c (6 : Fin 8).val) 0 2) ∧ r.2.1 = (k0_pay13 (F := F) (headBlk (bufG I c (4 : Fin 8).val) 0 2) (headBlk (bufG I c (5 : Fin 8).val) 0 2)) ∧ r.2.2 = (constant S256x128 .f32 0x00000000#32 : FVec F S256x128 .f32)) := by
  rw [k0_part4_eq_skeleton]; unfold k0_part4_skel
  refine Tr.bindv (tr_ldH 4 0 1 (by decide) (by decide) rfl rfl (by decide) (by decide +kernel)) ?_
  refine Tr.bindv (tr_ldH 5 0 1 (by decide) (by decide) rfl rfl (by decide) (by decide +kernel)) ?_
  refine Tr.bindv (tr_ldH 6 0 1 (by decide) (by decide) rfl rfl (by decide) (by decide +kernel)) ?_
  refine Tr.bindu (tr_deadC 7 rfl) fun _ => ?_
  refine Tr.bindu (tr_stO 0 1 (by decide) (by decide) rfl rfl (by decide +kernel) rfl) fun _ => ?_
  refine Tr.bindv (tr_ldH 4 0 2 (by decide) (by decide) rfl rfl (by decide) (by decide +kernel)) ?_
  refine Tr.bindv (tr_ldH 5 0 2 (by decide) (by decide) rfl rfl (by decide) (by decide +kernel)) ?_
  refine Tr.bindv (tr_ldH 6 0 2 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t5 : Tr I K c σ3 σ4 (k0_part5 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 0 2) (k0_pay13 (F := F) (headBlk (bufG I c (4 : Fin 8).val) 0 2) (headBlk (bufG I c (5 : Fin 8).val) 0 2)) (constant S256x128 .f32 0x00000000#32 : FVec F S256x128 .f32))
    (fun r => r.1 = (headBlk (bufG I c (6 : Fin 8).val) 0 4) ∧ r.2.1 = (k0_pay16 (F := F) (headBlk (bufG I c (4 : Fin 8).val) 0 4) (headBlk (bufG I c (5 : Fin 8).val) 0 4)) ∧ r.2.2 = (k0_pay17 (F := F) (headBlk (bufG I c (4 : Fin 8).val) 0 4) (headBlk (bufG I c (5 : Fin 8).val) 0 4))) := by
  rw [k0_part5_eq_skeleton]; unfold k0_part5_skel
  refine Tr.bindu (tr_deadC 7 rfl) fun _ => ?_
  refine Tr.bindu (tr_stO 0 2 (by decide) (by decide) rfl rfl (by decide +kernel) rfl) fun _ => ?_
  refine Tr.bindv (tr_ldH 4 0 3 (by decide) (by decide) rfl rfl (by decide) (by decide +kernel)) ?_
  refine Tr.bindv (tr_ldH 5 0 3 (by decide) (by decide) rfl rfl (by decide) (by decide +kernel)) ?_
  refine Tr.bindv (tr_ldH 6 0 3 (by decide) (by decide) rfl rfl (by decide) (by decide +kernel)) ?_
  refine Tr.bindu (tr_deadC 7 rfl) fun _ => ?_
  refine Tr.bindu (tr_stO 0 3 (by decide) (by decide) rfl rfl (by decide +kernel) rfl) fun _ => ?_
  refine Tr.bindv (tr_ldH 4 0 4 (by decide) (by decide) rfl rfl (by decide) (by decide +kernel)) ?_
  refine Tr.bindv (tr_ldH 5 0 4 (by decide) (by decide) rfl rfl (by decide) (by decide +kernel)) ?_
  refine Tr.bindv (tr_ldH 6 0 4 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t6 : Tr I K c σ4 σ5 (k0_part6 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 0 4) (k0_pay16 (F := F) (headBlk (bufG I c (4 : Fin 8).val) 0 4) (headBlk (bufG I c (5 : Fin 8).val) 0 4)) (k0_pay17 (F := F) (headBlk (bufG I c (4 : Fin 8).val) 0 4) (headBlk (bufG I c (5 : Fin 8).val) 0 4)))
    (fun r => r.1 = (headBlk (bufG I c (4 : Fin 8).val) 0 6) ∧ r.2 = (headBlk (bufG I c (5 : Fin 8).val) 0 6)) := by
  rw [k0_part6_eq_skeleton]; unfold k0_part6_skel
  refine Tr.bindu (tr_deadC 7 rfl) fun _ => ?_
  refine Tr.bindu (tr_stO 0 4 (by decide) (by decide) rfl rfl (by decide +kernel) rfl) fun _ => ?_
  refine Tr.bindv (tr_ldH 4 0 5 (by decide) (by decide) rfl rfl (by decide) (by decide +kernel)) ?_
  refine Tr.bindv (tr_ldH 5 0 5 (by decide) (by decide) rfl rfl (by decide) (by decide +kernel)) ?_
  refine Tr.bindv (tr_ldH 6 0 5 (by decide) (by decide) rfl rfl (by decide) (by decide +kernel)) ?_
  refine Tr.bindu (tr_deadC 7 rfl) fun _ => ?_
  refine Tr.bindu (tr_stO 0 5 (by decide) (by decide) rfl rfl (by decide +kernel) rfl) fun _ => ?_
  refine Tr.bindv (tr_ldH 4 0 6 (by decide) (by decide) rfl rfl (by decide) (by decide +kernel)) ?_
  refine Tr.bindv (tr_ldH 5 0 6 (by decide) (by decide) rfl rfl (by decide) (by decide +kernel)) ?_
  refine Tr.ret ?_ (St.eq (by decide +kernel) (by decide +kernel) (by decide +kernel))
  exact ⟨by with_reducible rfl, by with_reducible rfl⟩

theorem t7 : Tr I K c σ5 σ6 (k0_part7 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (4 : Fin 8).val) 0 6) (headBlk (bufG I c (5 : Fin 8).val) 0 6))
    (fun r => r.1 = (k0_pay21 (F := F) (headBlk (bufG I c (4 : Fin 8).val) 0 7) (headBlk (bufG I c (5 : Fin 8).val) 0 7) (headBlk (bufG I c (6 : Fin 8).val) 0 7))) := by
  rw [k0_part7_eq_skeleton]; unfold k0_part7_skel
  refine Tr.bindv (tr_ldH 6 0 6 (by decide) (by decide) rfl rfl (by decide) (by decide +kernel)) ?_
  refine Tr.bindu (tr_deadC 7 rfl) fun _ => ?_
  refine Tr.bindu (tr_stO 0 6 (by decide) (by decide) rfl rfl (by decide +kernel) rfl) fun _ => ?_
  refine Tr.bindv (tr_ldH 4 0 7 (by decide) (by decide) rfl rfl (by decide) (by decide +kernel)) ?_
  refine Tr.bindv (tr_ldH 5 0 7 (by decide) (by decide) rfl rfl (by decide) (by decide +kernel)) ?_
  refine Tr.bindv (tr_ldH 6 0 7 (by decide) (by decide) rfl rfl (by decide) (by decide +kernel)) ?_
  refine Tr.bindu (tr_deadC 7 rfl) fun _ => ?_
  refine Tr.ret ?_ (St.eq (by decide +kernel) (by decide +kernel) (by decide +kernel))
  exact rfl

theorem t8 (v10 : BitVec 32) (v11 : BitVec 32) (v234 : Vec F S256x128 .bf16) : Tr I K c σ6 σ7 (k0_part8 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 (k0_pay21 (F := F) (headBlk (bufG I c (4 : Fin 8).val) 0 7) (headBlk (bufG I c (5 : Fin 8).val) 0 7) (headBlk (bufG I c (6 : Fin 8).val) 0 7)) v234)
    (fun _ => True) := by
  rw [k0_part8_eq_skeleton]; unfold k0_part8_skel
  refine Tr.bindu (tr_stO 0 7 (by decide) (by decide) rfl rfl (by decide +kernel) rfl) fun _ => ?_
  refine Tr.bindv (tr_ldO 0 (by decide) rfl rfl (by decide +kernel)) ?_
  refine Tr.bindv (tr_ldWo 0 (by decide) rfl rfl (by decide +kernel)) ?_
  refine Tr.bindu (tr_deadA 0 0 256 rfl (by decide +kernel)) fun _ => ?_
  refine Tr.bindu (tr_stA0 0 rfl (by decide +kernel) rfl) fun _ => ?_
  refine Tr.bindv (tr_ldO 0 (by decide) rfl rfl (by decide +kernel)) ?_
  refine Tr.bindv (tr_ldWo 1 (by decide) rfl rfl (by decide +kernel)) ?_
  refine Tr.bindu (tr_deadA 1 0 256 rfl (by decide +kernel)) fun _ => ?_
  refine Tr.bindu (tr_stA0 1 rfl (by decide +kernel) rfl) fun _ => ?_
  refine Tr.ret ?_ (St.eq (by decide +kernel) (by decide +kernel) (by decide +kernel))
  exact trivial

theorem t9 (v7 : BitVec 32) (v13 : BitVec 32) : Tr I K c σ7 σ8 (k0_part9 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v13)
    (fun r => r.1 = (k0_pay25 (F := F) (xBlk (I.x c) (1 : Fin 4).val)) ∧ r.2 = (bufG I c (2 : Fin 8).val)) := by
  rw [k0_part9_eq_skeleton]; unfold k0_part9_skel
  refine Tr.bindu (tr_sendL 0 0 (n := 128) (by decide) (by decide) (off1 c) rfl (dev5 c) rfl rfl (credit 3 rfl rfl _) (by decide +kernel)) fun _ => ?_
  refine Tr.bindu (tr_sendL 1 0 (n := 128) (by decide) (by decide) (off2 c) rfl (dev6 c) rfl rfl (credit 3 rfl rfl _) (by decide +kernel)) fun _ => ?_
  refine Tr.bindv (tr_ldX 1 rfl) ?_
  refine Tr.bindv (tr_ldW 0 rfl rfl (by decide) (by decide +kernel)) ?_
  refine Tr.bindu (tr_deadC 4 rfl) fun _ => ?_
  refine Tr.bindu (tr_stP 4 1 (by decide) rfl rfl (by decide) (by decide +kernel) (rowBlk_proj _ _ (by decide)).symm) fun _ => ?_
  refine Tr.bindv (tr_ldW 1 rfl rfl (by decide) (by decide +kernel)) ?_
  refine Tr.bindu (tr_deadC 5 rfl) fun _ => ?_
  refine Tr.bindu (tr_stP 5 1 (by decide) rfl rfl (by decide) (by decide +kernel) (rowBlk_proj _ _ (by decide)).symm) fun _ => ?_
  refine Tr.bindv (tr_ldW 2 rfl rfl (by decide) (by decide +kernel)) ?_
  refine Tr.ret ?_ (St.eq (by decide +kernel) (by decide +kernel) (by decide +kernel))
  exact ⟨by with_reducible rfl, by with_reducible rfl⟩

theorem t10 : Tr I K c σ8 σ9 (k0_part10 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay25 (F := F) (xBlk (I.x c) (1 : Fin 4).val)) (bufG I c (2 : Fin 8).val))
    (fun r => r.1 = (headBlk (bufG I c (6 : Fin 8).val) 1 1) ∧ r.2.1 = (k0_pay30 (F := F) (headBlk (bufG I c (4 : Fin 8).val) 1 1) (headBlk (bufG I c (5 : Fin 8).val) 1 1)) ∧ r.2.2 = (k0_pay31 (F := F) (headBlk (bufG I c (4 : Fin 8).val) 1 1) (headBlk (bufG I c (5 : Fin 8).val) 1 1))) := by
  rw [k0_part10_eq_skeleton]; unfold k0_part10_skel
  refine Tr.bindu (tr_deadC 6 rfl) fun _ => ?_
  refine Tr.bindu (tr_stP 6 1 (by decide) rfl rfl (by decide) (by decide +kernel) (rowBlk_proj _ _ (by decide)).symm) fun _ => ?_
  refine Tr.bindv (tr_ldH 4 1 0 (by decide) (by decide) rfl rfl (by decide) (by decide +kernel)) ?_
  refine Tr.bindv (tr_ldH 5 1 0 (by decide) (by decide) rfl rfl (by decide) (by decide +kernel)) ?_
  refine Tr.bindv (tr_ldH 6 1 0 (by decide) (by decide) rfl rfl (by decide) (by decide +kernel)) ?_
  refine Tr.bindu (tr_deadC 7 rfl) fun _ => ?_
  refine Tr.bindu (tr_stO 1 0 (by decide) (by decide) rfl rfl (by decide +kernel) rfl) fun _ => ?_
  refine Tr.bindv (tr_ldH 4 1 1 (by decide) (by decide) rfl rfl (by decide) (by decide +kernel)) ?_
  refine Tr.bindv (tr_ldH 5 1 1 (by decide) (by decide) rfl rfl (by decide) (by decide +kernel)) ?_
  refine Tr.bindv (tr_ldH 6 1 1 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t11 : Tr I K c σ9 σ10 (k0_part11 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 1 1) (k0_pay30 (F := F) (headBlk (bufG I c (4 : Fin 8).val) 1 1) (headBlk (bufG I c (5 : Fin 8).val) 1 1)) (k0_pay31 (F := F) (headBlk (bufG I c (4 : Fin 8).val) 1 1) (headBlk (bufG I c (5 : Fin 8).val) 1 1)))
    (fun r => r.1 = (headBlk (bufG I c (4 : Fin 8).val) 1 3) ∧ r.2 = (headBlk (bufG I c (5 : Fin 8).val) 1 3)) := by
  rw [k0_part11_eq_skeleton]; unfold k0_part11_skel
  refine Tr.bindu (tr_deadC 7 rfl) fun _ => ?_
  refine Tr.bindu (tr_stO 1 1 (by decide) (by decide) rfl rfl (by decide +kernel) rfl) fun _ => ?_
  refine Tr.bindv (tr_ldH 4 1 2 (by decide) (by decide) rfl rfl (by decide) (by decide +kernel)) ?_
  refine Tr.bindv (tr_ldH 5 1 2 (by decide) (by decide) rfl rfl (by decide) (by decide +kernel)) ?_
  refine Tr.bindv (tr_ldH 6 1 2 (by decide) (by decide) rfl rfl (by decide) (by decide +kernel)) ?_
  refine Tr.bindu (tr_deadC 7 rfl) fun _ => ?_
  refine Tr.bindu (tr_stO 1 2 (by decide) (by decide) rfl rfl (by decide +kernel) rfl) fun _ => ?_
  refine Tr.bindv (tr_ldH 4 1 3 (by decide) (by decide) rfl rfl (by decide) (by decide +kernel)) ?_
  refine Tr.bindv (tr_ldH 5 1 3 (by decide) (by decide) rfl rfl (by decide) (by decide +kernel)) ?_
  refine Tr.ret ?_ (St.eq (by decide +kernel) (by decide +kernel) (by decide +kernel))
  exact ⟨by with_reducible rfl, by with_reducible rfl⟩

theorem t12 : Tr I K c σ10 σ11 (k0_part12 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (4 : Fin 8).val) 1 3) (headBlk (bufG I c (5 : Fin 8).val) 1 3))
    (fun r => r = (k0_pay35 (F := F) (headBlk (bufG I c (4 : Fin 8).val) 1 4) (headBlk (bufG I c (5 : Fin 8).val) 1 4) (headBlk (bufG I c (6 : Fin 8).val) 1 4))) := by
  rw [k0_part12_eq_skeleton]; unfold k0_part12_skel
  refine Tr.bindv (tr_ldH 6 1 3 (by decide) (by decide) rfl rfl (by decide) (by decide +kernel)) ?_
  refine Tr.bindu (tr_deadC 7 rfl) fun _ => ?_
  refine Tr.bindu (tr_stO 1 3 (by decide) (by decide) rfl rfl (by decide +kernel) rfl) fun _ => ?_
  refine Tr.bindv (tr_ldH 4 1 4 (by decide) (by decide) rfl rfl (by decide) (by decide +kernel)) ?_
  refine Tr.bindv (tr_ldH 5 1 4 (by decide) (by decide) rfl rfl (by decide) (by decide +kernel)) ?_
  refine Tr.bindv (tr_ldH 6 1 4 (by decide) (by decide) rfl rfl (by decide) (by decide +kernel)) ?_
  refine Tr.ret ?_ (St.eq (by decide +kernel) (by decide +kernel) (by decide +kernel))
  exact rfl

theorem t13 : Tr I K c σ11 σ12 (k0_part13 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay35 (F := F) (headBlk (bufG I c (4 : Fin 8).val) 1 4) (headBlk (bufG I c (5 : Fin 8).val) 1 4) (headBlk (bufG I c (6 : Fin 8).val) 1 4)))
    (fun r => r.1 = (headBlk (bufG I c (6 : Fin 8).val) 1 6) ∧ r.2 = (k0_pay38 (F := F) (headBlk (bufG I c (4 : Fin 8).val) 1 6) (headBlk (bufG I c (5 : Fin 8).val) 1 6))) := by
  rw [k0_part13_eq_skeleton]; unfold k0_part13_skel
  refine Tr.bindu (tr_deadC 7 rfl) fun _ => ?_
  refine Tr.bindu (tr_stO 1 4 (by decide) (by decide) rfl rfl (by decide +kernel) rfl) fun _ => ?_
  refine Tr.bindv (tr_ldH 4 1 5 (by decide) (by decide) rfl rfl (by decide) (by decide +kernel)) ?_
  refine Tr.bindv (tr_ldH 5 1 5 (by decide) (by decide) rfl rfl (by decide) (by decide +kernel)) ?_
  refine Tr.bindv (tr_ldH 6 1 5 (by decide) (by decide) rfl rfl (by decide) (by decide +kernel)) ?_
  refine Tr.bindu (tr_deadC 7 rfl) fun _ => ?_
  refine Tr.bindu (tr_stO 1 5 (by decide) (by decide) rfl rfl (by decide +kernel) rfl) fun _ => ?_
  refine Tr.bindv (tr_ldH 4 1 6 (by decide) (by decide) rfl rfl (by decide) (by decide +kernel)) ?_
  refine Tr.bindv (tr_ldH 5 1 6 (by decide) (by decide) rfl rfl (by decide) (by decide +kernel)) ?_
  refine Tr.bindv (tr_ldH 6 1 6 (by decide) (by decide) rfl rfl (by decide) (by decide +kernel)) ?_
  refine Tr.ret ?_ (St.eq (by decide +kernel) (by decide +kernel) (by decide +kernel))
  exact ⟨by with_reducible rfl, by with_reducible rfl⟩

theorem t14 : Tr I K c σ12 σ13 (k0_part14 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 1 6) (k0_pay38 (F := F) (headBlk (bufG I c (4 : Fin 8).val) 1 6) (headBlk (bufG I c (5 : Fin 8).val) 1 6)))
    (fun r => r = (k0_pay41 (F := F) (rowBlk (oC I c) 1) (colBlk (wB (I.wo c)) 0))) := by
  rw [k0_part14_eq_skeleton]; unfold k0_part14_skel
  refine Tr.bindu (tr_deadC 7 rfl) fun _ => ?_
  refine Tr.bindu (tr_stO 1 6 (by decide) (by decide) rfl rfl (by decide +kernel) rfl) fun _ => ?_
  refine Tr.bindv (tr_ldH 4 1 7 (by decide) (by decide) rfl rfl (by decide) (by decide +kernel)) ?_
  refine Tr.bindv (tr_ldH 5 1 7 (by decide) (by decide) rfl rfl (by decide) (by decide +kernel)) ?_
  refine Tr.bindv (tr_ldH 6 1 7 (by decide) (by decide) rfl rfl (by decide) (by decide +kernel)) ?_
  refine Tr.bindu (tr_deadC 7 rfl) fun _ => ?_
  refine Tr.bindu (tr_stO 1 7 (by decide) (by decide) rfl rfl (by decide +kernel) rfl) fun _ => ?_
  refine Tr.bindv (tr_ldO 1 (by decide) rfl rfl (by decide +kernel)) ?_
  refine Tr.bindv (tr_ldWo 0 (by decide) rfl rfl (by decide +kernel)) ?_
  refine Tr.ret ?_ (St.eq (by decide +kernel) (by decide +kernel) (by decide +kernel))
  exact rfl

theorem t15 (v7 : BitVec 32) (v10 : BitVec 32) (v11 : BitVec 32) (v13 : BitVec 32) : Tr I K c σ13 σ14 (k0_part15 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v10 v11 v13 (k0_pay41 (F := F) (rowBlk (oC I c) 1) (colBlk (wB (I.wo c)) 0)))
    (fun r => r.2 = 0#32) := by
  rw [k0_part15_eq_skeleton]; unfold k0_part15_skel
  refine Tr.bindu (tr_deadA 2 0 256 rfl (by decide +kernel)) fun _ => ?_
  refine Tr.bindu (tr_stA0 2 rfl (by decide +kernel) rfl) fun _ => ?_
  refine Tr.bindv (tr_ldO 1 (by decide) rfl rfl (by decide +kernel)) ?_
  refine Tr.bindv (tr_ldWo 1 (by decide) rfl rfl (by decide +kernel)) ?_
  refine Tr.bindu (tr_deadA 3 0 256 rfl (by decide +kernel)) fun _ => ?_
  refine Tr.bindu (tr_stA0 3 rfl (by decide +kernel) rfl) fun _ => ?_
  refine Tr.bindu (tr_sendL 2 0 (n := 128) (by decide) (by decide) (off3 c) rfl (dev7 c) rfl rfl (credit 3 rfl rfl _) (by decide +kernel)) fun _ => ?_
  refine Tr.ret ?_ (St.eq (by decide +kernel) (by decide +kernel) (by decide +kernel))
  exact rfl

theorem t16 (v10 : BitVec 32) (v11 : BitVec 32) (v496 : BitVec 32) : Tr I K c σ14 σ15 (k0_part16 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v496 0#32)
    (fun r => r.2.1 = (k0_pay44 (F := F) (slab (accC I (0 : Fin 4).val c) (0 : Fin 8).val (klo (0 : Fin 8).val ((0 : Fin 4).val + 1) c) 128)) ∧ r.2.2 = (rslab (recC I c) (0 : Fin 8).val (roff (0 : Fin 4).val) 128)) := by
  rw [k0_part16_eq_skeleton]; unfold k0_part16_skel
  refine Tr.bindu (tr_sendL 3 0 (n := 128) (by decide) (by decide) (off4 c) rfl (dev8 c) rfl rfl (credit 3 rfl rfl _) (by decide +kernel)) fun _ => ?_
  refine Tr.bindu (tr_waitS 0 0 (n := 128) rfl (credit 3 rfl rfl _) (by decide +kernel)) fun _ => ?_
  refine Tr.bindu (tr_waitR 0 0 (n := 128) rfl (credit 3 rfl rfl _) (by decide +kernel) (by decide +kernel)) fun _ => ?_
  refine Tr.bindv (tr_ldA 0 0 128 (by decide) (off5 c) (by decide +kernel)) ?_
  refine Tr.bindv (tr_ldR 0 0 128 (by decide) rfl (by decide +kernel)) ?_
  refine Tr.ret ?_ (St.eq (by decide +kernel) (by decide +kernel) (by decide +kernel))
  exact ⟨by with_reducible rfl, by with_reducible rfl⟩

theorem t17 (v5 : BitVec 32) (v12 : BitVec 32) (v13 : BitVec 32) (v521 : BitVec 32) : Tr I K c σ15 σ16 (k0_part17 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v13 v521 (k0_pay44 (F := F) (slab (accC I (0 : Fin 4).val c) (0 : Fin 8).val (klo (0 : Fin 8).val ((0 : Fin 4).val + 1) c) 128)) (rslab (recC I c) (0 : Fin 8).val (roff (0 : Fin 4).val) 128))
    (fun _ => True) := by
  rw [k0_part17_eq_skeleton]; unfold k0_part17_skel
  refine Tr.bindu (tr_deadA 0 _ 128 (off5 c) (by decide +kernel)) fun _ => ?_
  refine Tr.bindu (tr_stA 0 0 128 _ _ (by decide) (off5 c) (by decide +kernel) rfl) fun _ => ?_
  refine Tr.bindu (tr_sendL 0 1 (n := 64) (by decide) (by decide) (off6 c) rfl (dev9 c) rfl rfl (credit 2 rfl rfl _) (by decide +kernel)) fun _ => ?_
  refine Tr.bindu (tr_waitS 1 0 (n := 128) rfl (credit 3 rfl rfl _) (by decide +kernel)) fun _ => ?_
  refine Tr.ret ?_ (St.eq (by decide +kernel) (by decide +kernel) (by decide +kernel))
  exact trivial

theorem t18 (v7 : BitVec 32) (v9 : BitVec 32) (v14 : BitVec 32) : Tr I K c σ16 σ17 (k0_part18 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v14)
    (fun _ => True) := by
  rw [k0_part18_eq_skeleton]; unfold k0_part18_skel
  refine Tr.bindu (tr_waitR 1 0 (n := 128) rfl (credit 3 rfl rfl _) (by decide +kernel) (by decide +kernel)) fun _ => ?_
  refine Tr.bindv (tr_ldA 1 0 128 (by decide) (off7 c) (by decide +kernel)) ?_
  refine Tr.bindv (tr_ldR 1 0 128 (by decide) rfl (by decide +kernel)) ?_
  refine Tr.bindu (tr_deadA 1 _ 128 (off7 c) (by decide +kernel)) fun _ => ?_
  refine Tr.bindu (tr_stA 1 0 128 _ _ (by decide) (off7 c) (by decide +kernel) rfl) fun _ => ?_
  refine Tr.bindu (tr_sendL 1 1 (n := 64) (by decide) (by decide) (off8 c) rfl (dev10 c) rfl rfl (credit 2 rfl rfl _) (by decide +kernel)) fun _ => ?_
  refine Tr.ret ?_ (St.eq (by decide +kernel) (by decide +kernel) (by decide +kernel))
  exact trivial

end Cert.Ring

end
-- ==== Proof.Run2.lean ====
/-
# Parts 19 to 37 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t19 : Tr I K c σ17 σ18 (k0_part19 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
    (fun r => r.1 = (headBlk (bufG I c (6 : Fin 8).val) 2 0) ∧ r.2 = (k0_pay51 (F := F) (headBlk (bufG I c (4 : Fin 8).val) 2 0) (headBlk (bufG I c (5 : Fin 8).val) 2 0))) := by
  rw [k0_part19_eq_skeleton]; unfold k0_part19_skel
  refine Tr.bindv (tr_ldX 2 rfl) ?_
  refine Tr.bindv (tr_ldW 0 rfl rfl (by decide) (by decide +kernel)) ?_
  refine Tr.bindu (tr_deadC 4 rfl) fun _ => ?_
  refine Tr.bindu (tr_stP 4 2 (by decide) rfl rfl (by decide) (by decide +kernel) (rowBlk_proj _ _ (by decide)).symm) fun _ => ?_
  refine Tr.bindv (tr_ldW 1 rfl rfl (by decide) (by decide +kernel)) ?_
  refine Tr.bindu (tr_deadC 5 rfl) fun _ => ?_
  refine Tr.bindu (tr_stP 5 2 (by decide) rfl rfl (by decide) (by decide +kernel) (rowBlk_proj _ _ (by decide)).symm) fun _ => ?_
  refine Tr.bindv (tr_ldW 2 rfl rfl (by decide) (by decide +kernel)) ?_
  refine Tr.bindu (tr_deadC 6 rfl) fun _ => ?_
  refine Tr.bindu (tr_stP 6 2 (by decide) rfl rfl (by decide) (by decide +kernel) (rowBlk_proj _ _ (by decide)).symm) fun _ => ?_
  refine Tr.bindv (tr_ldH 4 2 0 (by decide) (by decide) rfl rfl (by decide) (by decide +kernel)) ?_
  refine Tr.bindv (tr_ldH 5 2 0 (by decide) (by decide) rfl rfl (by decide) (by decide +kernel)) ?_
  refine Tr.bindv (tr_ldH 6 2 0 (by decide) (by decide) rfl rfl (by decide) (by decide +kernel)) ?_
  refine Tr.ret ?_ (St.eq (by decide +kernel) (by decide +kernel) (by decide +kernel))
  exact ⟨by with_reducible rfl, by with_reducible rfl⟩

theorem t20 : Tr I K c σ18 σ19 (k0_part20 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 2 0) (k0_pay51 (F := F) (headBlk (bufG I c (4 : Fin 8).val) 2 0) (headBlk (bufG I c (5 : Fin 8).val) 2 0)))
    (fun r => r.1 = (headBlk (bufG I c (4 : Fin 8).val) 2 2) ∧ r.2.1 = (headBlk (bufG I c (5 : Fin 8).val) 2 2) ∧ r.2.2 = (headBlk (bufG I c (6 : Fin 8).val) 2 2)) := by
  rw [k0_part20_eq_skeleton]; unfold k0_part20_skel
  refine Tr.bindu (tr_deadC 7 rfl) fun _ => ?_
  refine Tr.bindu (tr_stO 2 0 (by decide) (by decide) rfl rfl (by decide +kernel) rfl) fun _ => ?_
  refine Tr.bindv (tr_ldH 4 2 1 (by decide) (by decide) rfl rfl (by decide) (by decide +kernel)) ?_
  refine Tr.bindv (tr_ldH 5 2 1 (by decide) (by decide) rfl rfl (by decide) (by decide +kernel)) ?_
  refine Tr.bindv (tr_ldH 6 2 1 (by decide) (by decide) rfl rfl (by decide) (by decide +kernel)) ?_
  refine Tr.bindu (tr_deadC 7 rfl) fun _ => ?_
  refine Tr.bindu (tr_stO 2 1 (by decide) (by decide) rfl rfl (by decide +kernel) rfl) fun _ => ?_
  refine Tr.bindv (tr_ldH 4 2 2 (by decide) (by decide) rfl rfl (by decide) (by decide +kernel)) ?_
  refine Tr.bindv (tr_ldH 5 2 2 (by decide) (by decide) rfl rfl (by decide) (by decide +kernel)) ?_
  refine Tr.bindv (tr_ldH 6 2 2 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t21 : Tr I K c σ19 σ20 (k0_part21 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (4 : Fin 8).val) 2 2) (headBlk (bufG I c (5 : Fin 8).val) 2 2) (headBlk (bufG I c (6 : Fin 8).val) 2 2))
    (fun r => r = (k0_pay55 (F := F) (headBlk (bufG I c (4 : Fin 8).val) 2 3) (headBlk (bufG I c (5 : Fin 8).val) 2 3) (headBlk (bufG I c (6 : Fin 8).val) 2 3))) := by
  rw [k0_part21_eq_skeleton]; unfold k0_part21_skel
  refine Tr.bindu (tr_deadC 7 rfl) fun _ => ?_
  refine Tr.bindu (tr_stO 2 2 (by decide) (by decide) rfl rfl (by decide +kernel) rfl) fun _ => ?_
  refine Tr.bindv (tr_ldH 4 2 3 (by decide) (by decide) rfl rfl (by decide) (by decide +kernel)) ?_
  refine Tr.bindv (tr_ldH 5 2 3 (by decide) (by decide) rfl rfl (by decide) (by decide +kernel)) ?_
  refine Tr.bindv (tr_ldH 6 2 3 (by decide) (by decide) rfl rfl (by decide) (by decide +kernel)) ?_
  refine Tr.bindu (tr_deadC 7 rfl) fun _ => ?_
  refine Tr.ret ?_ (St.eq (by decide +kernel) (by decide +kernel) (by decide +kernel))
  exact rfl

theorem t22 : Tr I K c σ20 σ21 (k0_part22 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay55 (F := F) (headBlk (bufG I c (4 : Fin 8).val) 2 3) (headBlk (bufG I c (5 : Fin 8).val) 2 3) (headBlk (bufG I c (6 : Fin 8).val) 2 3)))
    (fun r => r.1 = (headBlk (bufG I c (6 : Fin 8).val) 2 5) ∧ r.2.1 = (k0_pay57 (F := F) (headBlk (bufG I c (4 : Fin 8).val) 2 5) (headBlk (bufG I c (5 : Fin 8).val) 2 5)) ∧ r.2.2 = (k0_pay58 (F := F) (headBlk (bufG I c (4 : Fin 8).val) 2 5) (headBlk (bufG I c (5 : Fin 8).val) 2 5))) := by
  rw [k0_part22_eq_skeleton]; unfold k0_part22_skel
  refine Tr.bindu (tr_stO 2 3 (by decide) (by decide) rfl rfl (by decide +kernel) rfl) fun _ => ?_
  refine Tr.bindv (tr_ldH 4 2 4 (by decide) (by decide) rfl rfl (by decide) (by decide +kernel)) ?_
  refine Tr.bindv (tr_ldH 5 2 4 (by decide) (by decide) rfl rfl (by decide) (by decide +kernel)) ?_
  refine Tr.bindv (tr_ldH 6 2 4 (by decide) (by decide) rfl rfl (by decide) (by decide +kernel)) ?_
  refine Tr.bindu (tr_deadC 7 rfl) fun _ => ?_
  refine Tr.bindu (tr_stO 2 4 (by decide) (by decide) rfl rfl (by decide +kernel) rfl) fun _ => ?_
  refine Tr.bindv (tr_ldH 4 2 5 (by decide) (by decide) rfl rfl (by decide) (by decide +kernel)) ?_
  refine Tr.bindv (tr_ldH 5 2 5 (by decide) (by decide) rfl rfl (by decide) (by decide +kernel)) ?_
  refine Tr.bindv (tr_ldH 6 2 5 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t23 : Tr I K c σ21 σ22 (k0_part23 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 2 5) (k0_pay57 (F := F) (headBlk (bufG I c (4 : Fin 8).val) 2 5) (headBlk (bufG I c (5 : Fin 8).val) 2 5)) (k0_pay58 (F := F) (headBlk (bufG I c (4 : Fin 8).val) 2 5) (headBlk (bufG I c (5 : Fin 8).val) 2 5)))
    (fun r => r.1 = (headBlk (bufG I c (6 : Fin 8).val) 2 7) ∧ r.2 = (k0_pay61 (F := F) (headBlk (bufG I c (4 : Fin 8).val) 2 7) (headBlk (bufG I c (5 : Fin 8).val) 2 7))) := by
  rw [k0_part23_eq_skeleton]; unfold k0_part23_skel
  refine Tr.bindu (tr_deadC 7 rfl) fun _ => ?_
  refine Tr.bindu (tr_stO 2 5 (by decide) (by decide) rfl rfl (by decide +kernel) rfl) fun _ => ?_
  refine Tr.bindv (tr_ldH 4 2 6 (by decide) (by decide) rfl rfl (by decide) (by decide +kernel)) ?_
  refine Tr.bindv (tr_ldH 5 2 6 (by decide) (by decide) rfl rfl (by decide) (by decide +kernel)) ?_
  refine Tr.bindv (tr_ldH 6 2 6 (by decide) (by decide) rfl rfl (by decide) (by decide +kernel)) ?_
  refine Tr.bindu (tr_deadC 7 rfl) fun _ => ?_
  refine Tr.bindu (tr_stO 2 6 (by decide) (by decide) rfl rfl (by decide +kernel) rfl) fun _ => ?_
  refine Tr.bindv (tr_ldH 4 2 7 (by decide) (by decide) rfl rfl (by decide) (by decide +kernel)) ?_
  refine Tr.bindv (tr_ldH 5 2 7 (by decide) (by decide) rfl rfl (by decide) (by decide +kernel)) ?_
  refine Tr.bindv (tr_ldH 6 2 7 (by decide) (by decide) rfl rfl (by decide) (by decide +kernel)) ?_
  refine Tr.ret ?_ (St.eq (by decide +kernel) (by decide +kernel) (by decide +kernel))
  exact ⟨by with_reducible rfl, by with_reducible rfl⟩

theorem t24 (v10 : BitVec 32) : Tr I K c σ22 σ23 (k0_part24 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 v10 (headBlk (bufG I c (6 : Fin 8).val) 2 7) (k0_pay61 (F := F) (headBlk (bufG I c (4 : Fin 8).val) 2 7) (headBlk (bufG I c (5 : Fin 8).val) 2 7)))
    (fun _ => True) := by
  rw [k0_part24_eq_skeleton]; unfold k0_part24_skel
  refine Tr.bindu (tr_deadC 7 rfl) fun _ => ?_
  refine Tr.bindu (tr_stO 2 7 (by decide) (by decide) rfl rfl (by decide +kernel) rfl) fun _ => ?_
  refine Tr.bindv (tr_ldO 2 (by decide) rfl rfl (by decide +kernel)) ?_
  refine Tr.bindv (tr_ldWo 0 (by decide) rfl rfl (by decide +kernel)) ?_
  refine Tr.bindu (tr_deadA 4 0 256 rfl (by decide +kernel)) fun _ => ?_
  refine Tr.bindu (tr_stA0 4 rfl (by decide +kernel) rfl) fun _ => ?_
  refine Tr.bindv (tr_ldO 2 (by decide) rfl rfl (by decide +kernel)) ?_
  refine Tr.bindv (tr_ldWo 1 (by decide) rfl rfl (by decide +kernel)) ?_
  refine Tr.bindu (tr_deadA 5 0 256 rfl (by decide +kernel)) fun _ => ?_
  refine Tr.bindu (tr_stA0 5 rfl (by decide +kernel) rfl) fun _ => ?_
  refine Tr.ret ?_ (St.eq (by decide +kernel) (by decide +kernel) (by decide +kernel))
  exact trivial

theorem t25 (v7 : BitVec 32) (v11 : BitVec 32) (v13 : BitVec 32) : Tr I K c σ23 σ24 (k0_part25 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v11 v13)
    (fun _ => True) := by
  rw [k0_part25_eq_skeleton]; unfold k0_part25_skel
  refine Tr.bindu (tr_sendL 4 0 (n := 128) (by decide) (by decide) (off9 c) rfl (dev11 c) rfl rfl (credit 3 rfl rfl _) (by decide +kernel)) fun _ => ?_
  refine Tr.bindu (tr_sendL 5 0 (n := 128) (by decide) (by decide) (off10 c) rfl (dev12 c) rfl rfl (credit 3 rfl rfl _) (by decide +kernel)) fun _ => ?_
  refine Tr.bindu (tr_waitS 0 1 (n := 64) rfl (credit 2 rfl rfl _) (by decide +kernel)) fun _ => ?_
  refine Tr.ret ?_ (St.eq (by decide +kernel) (by decide +kernel) (by decide +kernel))
  exact trivial

theorem t26 (v5 : BitVec 32) (v7 : BitVec 32) (v12 : BitVec 32) (v13 : BitVec 32) (v521 : BitVec 32) : Tr I K c σ24 σ25 (k0_part26 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v12 v13 v521)
    (fun _ => True) := by
  rw [k0_part26_eq_skeleton]; unfold k0_part26_skel
  refine Tr.bindu (tr_waitR 0 1 (n := 64) rfl (credit 2 rfl rfl _) (by decide +kernel) (by decide +kernel)) fun _ => ?_
  refine Tr.bindv (tr_ldA 0 1 64 (by decide) (off11 c) (by decide +kernel)) ?_
  refine Tr.bindv (tr_ldR 0 1 64 (by decide) rfl (by decide +kernel)) ?_
  refine Tr.bindu (tr_deadA 0 _ 64 (off11 c) (by decide +kernel)) fun _ => ?_
  refine Tr.bindu (tr_stA 0 1 64 _ _ (by decide) (off11 c) (by decide +kernel) rfl) fun _ => ?_
  refine Tr.ret ?_ (St.eq (by decide +kernel) (by decide +kernel) (by decide +kernel))
  exact trivial

theorem t27 (v9 : BitVec 32) (v14 : BitVec 32) (v563 : BitVec 32) : Tr I K c σ25 σ26 (k0_part27 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v563)
    (fun r => r.2 = (k0_pay66 (F := F) (slab (accC I (1 : Fin 4).val c) (1 : Fin 8).val (klo (1 : Fin 8).val ((1 : Fin 4).val + 1) c) 64) (rslab (recC I c) (1 : Fin 8).val (roff (1 : Fin 4).val) 64))) := by
  rw [k0_part27_eq_skeleton]; unfold k0_part27_skel
  refine Tr.bindu (tr_sendL 0 2 (n := 32) (by decide) (by decide) (off12 c) rfl (dev13 c) rfl rfl (credit 1 rfl rfl _) (by decide +kernel)) fun _ => ?_
  refine Tr.bindu (tr_waitS 1 1 (n := 64) rfl (credit 2 rfl rfl _) (by decide +kernel)) fun _ => ?_
  refine Tr.bindu (tr_waitR 1 1 (n := 64) rfl (credit 2 rfl rfl _) (by decide +kernel) (by decide +kernel)) fun _ => ?_
  refine Tr.bindv (tr_ldA 1 1 64 (by decide) (off13 c) (by decide +kernel)) ?_
  refine Tr.bindv (tr_ldR 1 1 64 (by decide) rfl (by decide +kernel)) ?_
  refine Tr.ret ?_ (St.eq (by decide +kernel) (by decide +kernel) (by decide +kernel))
  exact rfl

theorem t28 (v10 : BitVec 32) (v11 : BitVec 32) (v876 : BitVec 32) : Tr I K c σ26 σ27 (k0_part28 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v876 (k0_pay66 (F := F) (slab (accC I (1 : Fin 4).val c) (1 : Fin 8).val (klo (1 : Fin 8).val ((1 : Fin 4).val + 1) c) 64) (rslab (recC I c) (1 : Fin 8).val (roff (1 : Fin 4).val) 64)))
    (fun _ => True) := by
  rw [k0_part28_eq_skeleton]; unfold k0_part28_skel
  refine Tr.bindu (tr_deadA 1 _ 64 (off13 c) (by decide +kernel)) fun _ => ?_
  refine Tr.bindu (tr_stA 1 1 64 _ _ (by decide) (off13 c) (by decide +kernel) rfl) fun _ => ?_
  refine Tr.bindu (tr_sendL 1 2 (n := 32) (by decide) (by decide) (off14 c) rfl (dev14 c) rfl rfl (credit 1 rfl rfl _) (by decide +kernel)) fun _ => ?_
  refine Tr.bindu (tr_waitS 2 0 (n := 128) rfl (credit 3 rfl rfl _) (by decide +kernel)) fun _ => ?_
  refine Tr.ret ?_ (St.eq (by decide +kernel) (by decide +kernel) (by decide +kernel))
  exact trivial

theorem t29 (v5 : BitVec 32) (v10 : BitVec 32) (v12 : BitVec 32) : Tr I K c σ27 σ28 (k0_part29 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v10 v12)
    (fun _ => True) := by
  rw [k0_part29_eq_skeleton]; unfold k0_part29_skel
  refine Tr.bindu (tr_waitR 2 0 (n := 128) rfl (credit 3 rfl rfl _) (by decide +kernel) (by decide +kernel)) fun _ => ?_
  refine Tr.bindv (tr_ldA 2 0 128 (by decide) (off15 c) (by decide +kernel)) ?_
  refine Tr.bindv (tr_ldR 2 0 128 (by decide) rfl (by decide +kernel)) ?_
  refine Tr.bindu (tr_deadA 2 _ 128 (off15 c) (by decide +kernel)) fun _ => ?_
  refine Tr.bindu (tr_stA 2 0 128 _ _ (by decide) (off15 c) (by decide +kernel) rfl) fun _ => ?_
  refine Tr.bindu (tr_sendL 2 1 (n := 64) (by decide) (by decide) (off16 c) rfl (dev15 c) rfl rfl (credit 2 rfl rfl _) (by decide +kernel)) fun _ => ?_
  refine Tr.ret ?_ (St.eq (by decide +kernel) (by decide +kernel) (by decide +kernel))
  exact trivial

theorem t30 (v7 : BitVec 32) (v9 : BitVec 32) (v13 : BitVec 32) : Tr I K c σ28 σ29 (k0_part30 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v13)
    (fun r => r.2 = 1#32) := by
  rw [k0_part30_eq_skeleton]; unfold k0_part30_skel
  refine Tr.bindu (tr_waitS 3 0 (n := 128) rfl (credit 3 rfl rfl _) (by decide +kernel)) fun _ => ?_
  refine Tr.bindu (tr_waitR 3 0 (n := 128) rfl (credit 3 rfl rfl _) (by decide +kernel) (by decide +kernel)) fun _ => ?_
  refine Tr.bindv (tr_ldA 3 0 128 (by decide) (off17 c) (by decide +kernel)) ?_
  refine Tr.bindv (tr_ldR 3 0 128 (by decide) rfl (by decide +kernel)) ?_
  refine Tr.bindu (tr_deadA 3 _ 128 (off17 c) (by decide +kernel)) fun _ => ?_
  refine Tr.bindu (tr_stA 3 0 128 _ _ (by decide) (off17 c) (by decide +kernel) rfl) fun _ => ?_
  refine Tr.ret ?_ (St.eq (by decide +kernel) (by decide +kernel) (by decide +kernel))
  exact rfl

theorem t31 (v14 : BitVec 32) : Tr I K c σ29 σ30 (k0_part31 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v14 1#32)
    (fun r => r = (headBlk (bufG I c (4 : Fin 8).val) 3 0)) := by
  rw [k0_part31_eq_skeleton]; unfold k0_part31_skel
  refine Tr.bindu (tr_sendL 3 1 (n := 64) (by decide) (by decide) (off18 c) rfl (dev16 c) rfl rfl (credit 2 rfl rfl _) (by decide +kernel)) fun _ => ?_
  refine Tr.bindv (tr_ldX 3 rfl) ?_
  refine Tr.bindv (tr_ldW 0 rfl rfl (by decide) (by decide +kernel)) ?_
  refine Tr.bindu (tr_deadC 4 rfl) fun _ => ?_
  refine Tr.bindu (tr_stP 4 3 (by decide) rfl rfl (by decide) (by decide +kernel) (rowBlk_proj _ _ (by decide)).symm) fun _ => ?_
  refine Tr.bindv (tr_ldW 1 rfl rfl (by decide) (by decide +kernel)) ?_
  refine Tr.bindu (tr_deadC 5 rfl) fun _ => ?_
  refine Tr.bindu (tr_stP 5 3 (by decide) rfl rfl (by decide) (by decide +kernel) (rowBlk_proj _ _ (by decide)).symm) fun _ => ?_
  refine Tr.bindv (tr_ldW 2 rfl rfl (by decide) (by decide +kernel)) ?_
  refine Tr.bindu (tr_deadC 6 rfl) fun _ => ?_
  refine Tr.bindu (tr_stP 6 3 (by decide) rfl rfl (by decide) (by decide +kernel) (rowBlk_proj _ _ (by decide)).symm) fun _ => ?_
  refine Tr.bindv (tr_ldH 4 3 0 (by decide) (by decide) rfl rfl (by decide) (by decide +kernel)) ?_
  refine Tr.ret ?_ (St.eq (by decide +kernel) (by decide +kernel) (by decide +kernel))
  exact rfl

theorem t32 : Tr I K c σ30 σ31 (k0_part32 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (4 : Fin 8).val) 3 0))
    (fun r => r = (k0_pay75 (F := F) (headBlk (bufG I c (4 : Fin 8).val) 3 1) (headBlk (bufG I c (5 : Fin 8).val) 3 1) (headBlk (bufG I c (6 : Fin 8).val) 3 1))) := by
  rw [k0_part32_eq_skeleton]; unfold k0_part32_skel
  refine Tr.bindv (tr_ldH 5 3 0 (by decide) (by decide) rfl rfl (by decide) (by decide +kernel)) ?_
  refine Tr.bindv (tr_ldH 6 3 0 (by decide) (by decide) rfl rfl (by decide) (by decide +kernel)) ?_
  refine Tr.bindu (tr_deadC 7 rfl) fun _ => ?_
  refine Tr.bindu (tr_stO 3 0 (by decide) (by decide) rfl rfl (by decide +kernel) rfl) fun _ => ?_
  refine Tr.bindv (tr_ldH 4 3 1 (by decide) (by decide) rfl rfl (by decide) (by decide +kernel)) ?_
  refine Tr.bindv (tr_ldH 5 3 1 (by decide) (by decide) rfl rfl (by decide) (by decide +kernel)) ?_
  refine Tr.bindv (tr_ldH 6 3 1 (by decide) (by decide) rfl rfl (by decide) (by decide +kernel)) ?_
  refine Tr.ret ?_ (St.eq (by decide +kernel) (by decide +kernel) (by decide +kernel))
  exact rfl

theorem t33 : Tr I K c σ31 σ32 (k0_part33 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay75 (F := F) (headBlk (bufG I c (4 : Fin 8).val) 3 1) (headBlk (bufG I c (5 : Fin 8).val) 3 1) (headBlk (bufG I c (6 : Fin 8).val) 3 1)))
    (fun r => r.1 = (headBlk (bufG I c (6 : Fin 8).val) 3 3) ∧ r.2.1 = (k0_pay78 (F := F) (headBlk (bufG I c (4 : Fin 8).val) 3 3) (headBlk (bufG I c (5 : Fin 8).val) 3 3)) ∧ r.2.2 = (k0_pay79 (F := F) (headBlk (bufG I c (4 : Fin 8).val) 3 3) (headBlk (bufG I c (5 : Fin 8).val) 3 3))) := by
  rw [k0_part33_eq_skeleton]; unfold k0_part33_skel
  refine Tr.bindu (tr_deadC 7 rfl) fun _ => ?_
  refine Tr.bindu (tr_stO 3 1 (by decide) (by decide) rfl rfl (by decide +kernel) rfl) fun _ => ?_
  refine Tr.bindv (tr_ldH 4 3 2 (by decide) (by decide) rfl rfl (by decide) (by decide +kernel)) ?_
  refine Tr.bindv (tr_ldH 5 3 2 (by decide) (by decide) rfl rfl (by decide) (by decide +kernel)) ?_
  refine Tr.bindv (tr_ldH 6 3 2 (by decide) (by decide) rfl rfl (by decide) (by decide +kernel)) ?_
  refine Tr.bindu (tr_deadC 7 rfl) fun _ => ?_
  refine Tr.bindu (tr_stO 3 2 (by decide) (by decide) rfl rfl (by decide +kernel) rfl) fun _ => ?_
  refine Tr.bindv (tr_ldH 4 3 3 (by decide) (by decide) rfl rfl (by decide) (by decide +kernel)) ?_
  refine Tr.bindv (tr_ldH 5 3 3 (by decide) (by decide) rfl rfl (by decide) (by decide +kernel)) ?_
  refine Tr.bindv (tr_ldH 6 3 3 (by decide) (by decide) rfl rfl (by decide) (by decide +kernel)) ?_
  refine Tr.ret ?_ (St.eq (by decide +kernel) (by decide +kernel) (by decide +kernel))
  exact ⟨by with_reducible rfl, by with_reducible rfl, by with_reducible rfl⟩

theorem t34 : Tr I K c σ32 σ33 (k0_part34 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (6 : Fin 8).val) 3 3) (k0_pay78 (F := F) (headBlk (bufG I c (4 : Fin 8).val) 3 3) (headBlk (bufG I c (5 : Fin 8).val) 3 3)) (k0_pay79 (F := F) (headBlk (bufG I c (4 : Fin 8).val) 3 3) (headBlk (bufG I c (5 : Fin 8).val) 3 3)))
    (fun r => r.1 = (headBlk (bufG I c (4 : Fin 8).val) 3 5) ∧ r.2 = (headBlk (bufG I c (5 : Fin 8).val) 3 5)) := by
  rw [k0_part34_eq_skeleton]; unfold k0_part34_skel
  refine Tr.bindu (tr_deadC 7 rfl) fun _ => ?_
  refine Tr.bindu (tr_stO 3 3 (by decide) (by decide) rfl rfl (by decide +kernel) rfl) fun _ => ?_
  refine Tr.bindv (tr_ldH 4 3 4 (by decide) (by decide) rfl rfl (by decide) (by decide +kernel)) ?_
  refine Tr.bindv (tr_ldH 5 3 4 (by decide) (by decide) rfl rfl (by decide) (by decide +kernel)) ?_
  refine Tr.bindv (tr_ldH 6 3 4 (by decide) (by decide) rfl rfl (by decide) (by decide +kernel)) ?_
  refine Tr.bindu (tr_deadC 7 rfl) fun _ => ?_
  refine Tr.bindu (tr_stO 3 4 (by decide) (by decide) rfl rfl (by decide +kernel) rfl) fun _ => ?_
  refine Tr.bindv (tr_ldH 4 3 5 (by decide) (by decide) rfl rfl (by decide) (by decide +kernel)) ?_
  refine Tr.bindv (tr_ldH 5 3 5 (by decide) (by decide) rfl rfl (by decide) (by decide +kernel)) ?_
  refine Tr.ret ?_ (St.eq (by decide +kernel) (by decide +kernel) (by decide +kernel))
  exact ⟨by with_reducible rfl, by with_reducible rfl⟩

theorem t35 : Tr I K c σ33 σ34 (k0_part35 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (headBlk (bufG I c (4 : Fin 8).val) 3 5) (headBlk (bufG I c (5 : Fin 8).val) 3 5))
    (fun r => r = (k0_pay83 (F := F) (headBlk (bufG I c (4 : Fin 8).val) 3 6) (headBlk (bufG I c (5 : Fin 8).val) 3 6) (headBlk (bufG I c (6 : Fin 8).val) 3 6))) := by
  rw [k0_part35_eq_skeleton]; unfold k0_part35_skel
  refine Tr.bindv (tr_ldH 6 3 5 (by decide) (by decide) rfl rfl (by decide) (by decide +kernel)) ?_
  refine Tr.bindu (tr_deadC 7 rfl) fun _ => ?_
  refine Tr.bindu (tr_stO 3 5 (by decide) (by decide) rfl rfl (by decide +kernel) rfl) fun _ => ?_
  refine Tr.bindv (tr_ldH 4 3 6 (by decide) (by decide) rfl rfl (by decide) (by decide +kernel)) ?_
  refine Tr.bindv (tr_ldH 5 3 6 (by decide) (by decide) rfl rfl (by decide) (by decide +kernel)) ?_
  refine Tr.bindv (tr_ldH 6 3 6 (by decide) (by decide) rfl rfl (by decide) (by decide +kernel)) ?_
  refine Tr.bindu (tr_deadC 7 rfl) fun _ => ?_
  refine Tr.ret ?_ (St.eq (by decide +kernel) (by decide +kernel) (by decide +kernel))
  exact rfl

theorem t36 : Tr I K c σ34 σ35 (k0_part36 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 (k0_pay83 (F := F) (headBlk (bufG I c (4 : Fin 8).val) 3 6) (headBlk (bufG I c (5 : Fin 8).val) 3 6) (headBlk (bufG I c (6 : Fin 8).val) 3 6)))
    (fun r => r.1 = (rowBlk (oC I c) 3) ∧ r.2.1 = (colBlk (wB (I.wo c)) 1) ∧ r.2.2 = (constant S256x512 .f32 0x00000000#32 : FVec F S256x512 .f32)) := by
  rw [k0_part36_eq_skeleton]; unfold k0_part36_skel
  refine Tr.bindu (tr_stO 3 6 (by decide) (by decide) rfl rfl (by decide +kernel) rfl) fun _ => ?_
  refine Tr.bindv (tr_ldH 4 3 7 (by decide) (by decide) rfl rfl (by decide) (by decide +kernel)) ?_
  refine Tr.bindv (tr_ldH 5 3 7 (by decide) (by decide) rfl rfl (by decide) (by decide +kernel)) ?_
  refine Tr.bindv (tr_ldH 6 3 7 (by decide) (by decide) rfl rfl (by decide) (by decide +kernel)) ?_
  refine Tr.bindu (tr_deadC 7 rfl) fun _ => ?_
  refine Tr.bindu (tr_stO 3 7 (by decide) (by decide) rfl rfl (by decide +kernel) rfl) fun _ => ?_
  refine Tr.bindv (tr_ldO 3 (by decide) rfl rfl (by decide +kernel)) ?_
  refine Tr.bindv (tr_ldWo 0 (by decide) rfl rfl (by decide +kernel)) ?_
  refine Tr.bindu (tr_deadA 6 0 256 rfl (by decide +kernel)) fun _ => ?_
  refine Tr.bindu (tr_stA0 6 rfl (by decide +kernel) rfl) fun _ => ?_
  refine Tr.bindv (tr_ldO 3 (by decide) rfl rfl (by decide +kernel)) ?_
  refine Tr.bindv (tr_ldWo 1 (by decide) rfl rfl (by decide +kernel)) ?_
  refine Tr.ret ?_ (St.eq (by decide +kernel) (by decide +kernel) (by decide +kernel))
  exact ⟨by with_reducible rfl, by with_reducible rfl, by with_reducible rfl⟩

theorem t37 (v7 : BitVec 32) (v10 : BitVec 32) (v11 : BitVec 32) (v13 : BitVec 32) : Tr I K c σ35 σ36 (k0_part37 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v10 v11 v13 (rowBlk (oC I c) 3) (colBlk (wB (I.wo c)) 1) (constant S256x512 .f32 0x00000000#32 : FVec F S256x512 .f32))
    (fun _ => True) := by
  rw [k0_part37_eq_skeleton]; unfold k0_part37_skel
  refine Tr.bindu (tr_deadA 7 0 256 rfl (by decide +kernel)) fun _ => ?_
  refine Tr.bindu (tr_stA0 7 rfl (by decide +kernel) rfl) fun _ => ?_
  refine Tr.bindu (tr_sendL 6 0 (n := 128) (by decide) (by decide) (off19 c) rfl (dev17 c) rfl rfl (credit 3 rfl rfl _) (by decide +kernel)) fun _ => ?_
  refine Tr.ret ?_ (St.eq (by decide +kernel) (by decide +kernel) (by decide +kernel))
  exact trivial

end Cert.Ring

end
-- ==== Proof.Run3.lean ====
/-
# Parts 38 to 53 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t38 (v7 : BitVec 32) (v9 : BitVec 32) (v13 : BitVec 32) (v834 : BitVec 32) : Tr I K c σ36 σ37 (k0_part38 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v13 v834)
    (fun _ => True) := by
  rw [k0_part38_eq_skeleton]; unfold k0_part38_skel
  refine Tr.bindu (tr_sendL 7 0 (n := 128) (by decide) (by decide) (off20 c) rfl (dev18 c) rfl rfl (credit 3 rfl rfl _) (by decide +kernel)) fun _ => ?_
  refine Tr.bindu (tr_waitS 0 2 (n := 32) rfl (credit 1 rfl rfl _) (by decide +kernel)) fun _ => ?_
  refine Tr.bindu (tr_waitR 0 2 (n := 32) rfl (credit 1 rfl rfl _) (by decide +kernel) (by decide +kernel)) fun _ => ?_
  refine Tr.bindv (tr_ldA 0 2 32 (by decide) (off21 c) (by decide +kernel)) ?_
  refine Tr.bindv (tr_ldR 0 2 32 (by decide) rfl (by decide +kernel)) ?_
  refine Tr.bindu (tr_deadA 0 _ 32 (off21 c) (by decide +kernel)) fun _ => ?_
  refine Tr.bindu (tr_stA 0 2 32 _ _ (by decide) (off21 c) (by decide +kernel) rfl) fun _ => ?_
  refine Tr.ret ?_ (St.eq (by decide +kernel) (by decide +kernel) (by decide +kernel))
  exact trivial

theorem t39 (v10 : BitVec 32) (v11 : BitVec 32) (v14 : BitVec 32) (v876 : BitVec 32) (v1231 : BitVec 32) (v1245 : BitVec 32) : Tr I K c σ37 σ38 (k0_part39 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v14 v876 v1231 v1245)
    (fun _ => True) := by
  rw [k0_part39_eq_skeleton]; unfold k0_part39_skel
  refine Tr.bindu (tr_sendL 0 3 (n := 16) (by decide) (by decide) (off22 c) rfl (dev19 c) rfl rfl (credit 0 rfl rfl _) (by decide +kernel)) fun _ => ?_
  refine Tr.bindu (tr_waitS 1 2 (n := 32) rfl (credit 1 rfl rfl _) (by decide +kernel)) fun _ => ?_
  refine Tr.bindu (tr_waitR 1 2 (n := 32) rfl (credit 1 rfl rfl _) (by decide +kernel) (by decide +kernel)) fun _ => ?_
  refine Tr.ret ?_ (St.eq (by decide +kernel) (by decide +kernel) (by decide +kernel))
  exact trivial

theorem t40 (v5 : BitVec 32) (v12 : BitVec 32) (v1273 : BitVec 32) : Tr I K c σ38 σ39 (k0_part40 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v1273)
    (fun _ => True) := by
  rw [k0_part40_eq_skeleton]; unfold k0_part40_skel
  refine Tr.bindv (tr_ldA 1 2 32 (by decide) (off23 c) (by decide +kernel)) ?_
  refine Tr.bindv (tr_ldR 1 2 32 (by decide) rfl (by decide +kernel)) ?_
  refine Tr.bindu (tr_deadA 1 _ 32 (off23 c) (by decide +kernel)) fun _ => ?_
  refine Tr.bindu (tr_stA 1 2 32 _ _ (by decide) (off23 c) (by decide +kernel) rfl) fun _ => ?_
  refine Tr.bindu (tr_sendL 1 3 (n := 16) (by decide) (by decide) (off24 c) rfl (dev20 c) rfl rfl (credit 0 rfl rfl _) (by decide +kernel)) fun _ => ?_
  refine Tr.bindu (tr_waitS 2 1 (n := 64) rfl (credit 2 rfl rfl _) (by decide +kernel)) fun _ => ?_
  refine Tr.ret ?_ (St.eq (by decide +kernel) (by decide +kernel) (by decide +kernel))
  exact trivial

theorem t41 (v5 : BitVec 32) (v7 : BitVec 32) (v12 : BitVec 32) (v13 : BitVec 32) (v918 : BitVec 32) : Tr I K c σ39 σ40 (k0_part41 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v12 v13 v918)
    (fun _ => True) := by
  rw [k0_part41_eq_skeleton]; unfold k0_part41_skel
  refine Tr.bindu (tr_waitR 2 1 (n := 64) rfl (credit 2 rfl rfl _) (by decide +kernel) (by decide +kernel)) fun _ => ?_
  refine Tr.bindv (tr_ldA 2 1 64 (by decide) (off25 c) (by decide +kernel)) ?_
  refine Tr.bindv (tr_ldR 2 1 64 (by decide) rfl (by decide +kernel)) ?_
  refine Tr.bindu (tr_deadA 2 _ 64 (off25 c) (by decide +kernel)) fun _ => ?_
  refine Tr.bindu (tr_stA 2 1 64 _ _ (by decide) (off25 c) (by decide +kernel) rfl) fun _ => ?_
  refine Tr.ret ?_ (St.eq (by decide +kernel) (by decide +kernel) (by decide +kernel))
  exact trivial

theorem t42 (v9 : BitVec 32) (v14 : BitVec 32) (v960 : BitVec 32) : Tr I K c σ40 σ41 (k0_part42 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v960)
    (fun r => r.2 = (k0_pay91 (F := F) (slab (accC I (1 : Fin 4).val c) (3 : Fin 8).val (klo (3 : Fin 8).val ((1 : Fin 4).val + 1) c) 64) (rslab (recC I c) (3 : Fin 8).val (roff (1 : Fin 4).val) 64))) := by
  rw [k0_part42_eq_skeleton]; unfold k0_part42_skel
  refine Tr.bindu (tr_sendL 2 2 (n := 32) (by decide) (by decide) (off26 c) rfl (dev21 c) rfl rfl (credit 1 rfl rfl _) (by decide +kernel)) fun _ => ?_
  refine Tr.bindu (tr_waitS 3 1 (n := 64) rfl (credit 2 rfl rfl _) (by decide +kernel)) fun _ => ?_
  refine Tr.bindu (tr_waitR 3 1 (n := 64) rfl (credit 2 rfl rfl _) (by decide +kernel) (by decide +kernel)) fun _ => ?_
  refine Tr.bindv (tr_ldA 3 1 64 (by decide) (off27 c) (by decide +kernel)) ?_
  refine Tr.bindv (tr_ldR 3 1 64 (by decide) rfl (by decide +kernel)) ?_
  refine Tr.ret ?_ (St.eq (by decide +kernel) (by decide +kernel) (by decide +kernel))
  exact rfl

theorem t43 (v10 : BitVec 32) (v11 : BitVec 32) (v1357 : BitVec 32) : Tr I K c σ41 σ42 (k0_part43 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v1357 (k0_pay91 (F := F) (slab (accC I (1 : Fin 4).val c) (3 : Fin 8).val (klo (3 : Fin 8).val ((1 : Fin 4).val + 1) c) 64) (rslab (recC I c) (3 : Fin 8).val (roff (1 : Fin 4).val) 64)))
    (fun _ => True) := by
  rw [k0_part43_eq_skeleton]; unfold k0_part43_skel
  refine Tr.bindu (tr_deadA 3 _ 64 (off27 c) (by decide +kernel)) fun _ => ?_
  refine Tr.bindu (tr_stA 3 1 64 _ _ (by decide) (off27 c) (by decide +kernel) rfl) fun _ => ?_
  refine Tr.bindu (tr_sendL 3 2 (n := 32) (by decide) (by decide) (off28 c) rfl (dev22 c) rfl rfl (credit 1 rfl rfl _) (by decide +kernel)) fun _ => ?_
  refine Tr.bindu (tr_waitS 4 0 (n := 128) rfl (credit 3 rfl rfl _) (by decide +kernel)) fun _ => ?_
  refine Tr.ret ?_ (St.eq (by decide +kernel) (by decide +kernel) (by decide +kernel))
  exact trivial

theorem t44 (v5 : BitVec 32) (v10 : BitVec 32) (v12 : BitVec 32) : Tr I K c σ42 σ43 (k0_part44 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v10 v12)
    (fun _ => True) := by
  rw [k0_part44_eq_skeleton]; unfold k0_part44_skel
  refine Tr.bindu (tr_waitR 4 0 (n := 128) rfl (credit 3 rfl rfl _) (by decide +kernel) (by decide +kernel)) fun _ => ?_
  refine Tr.bindv (tr_ldA 4 0 128 (by decide) (off29 c) (by decide +kernel)) ?_
  refine Tr.bindv (tr_ldR 4 0 128 (by decide) rfl (by decide +kernel)) ?_
  refine Tr.bindu (tr_deadA 4 _ 128 (off29 c) (by decide +kernel)) fun _ => ?_
  refine Tr.bindu (tr_stA 4 0 128 _ _ (by decide) (off29 c) (by decide +kernel) rfl) fun _ => ?_
  refine Tr.bindu (tr_sendL 4 1 (n := 64) (by decide) (by decide) (off30 c) rfl (dev23 c) rfl rfl (credit 2 rfl rfl _) (by decide +kernel)) fun _ => ?_
  refine Tr.ret ?_ (St.eq (by decide +kernel) (by decide +kernel) (by decide +kernel))
  exact trivial

theorem t45 (v7 : BitVec 32) (v9 : BitVec 32) (v13 : BitVec 32) : Tr I K c σ43 σ44 (k0_part45 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v13)
    (fun r => r.2 = 1#32) := by
  rw [k0_part45_eq_skeleton]; unfold k0_part45_skel
  refine Tr.bindu (tr_waitS 5 0 (n := 128) rfl (credit 3 rfl rfl _) (by decide +kernel)) fun _ => ?_
  refine Tr.bindu (tr_waitR 5 0 (n := 128) rfl (credit 3 rfl rfl _) (by decide +kernel) (by decide +kernel)) fun _ => ?_
  refine Tr.bindv (tr_ldA 5 0 128 (by decide) (off31 c) (by decide +kernel)) ?_
  refine Tr.bindv (tr_ldR 5 0 128 (by decide) rfl (by decide +kernel)) ?_
  refine Tr.bindu (tr_deadA 5 _ 128 (off31 c) (by decide +kernel)) fun _ => ?_
  refine Tr.bindu (tr_stA 5 0 128 _ _ (by decide) (off31 c) (by decide +kernel) rfl) fun _ => ?_
  refine Tr.ret ?_ (St.eq (by decide +kernel) (by decide +kernel) (by decide +kernel))
  exact rfl

theorem t46 (v10 : BitVec 32) (v11 : BitVec 32) (v14 : BitVec 32) : Tr I K c σ44 σ45 (k0_part46 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v14 1#32)
    (fun r => r.2 = (k0_pay95 (F := F) (slab (accC I (0 : Fin 4).val c) (6 : Fin 8).val (klo (6 : Fin 8).val ((0 : Fin 4).val + 1) c) 128))) := by
  rw [k0_part46_eq_skeleton]; unfold k0_part46_skel
  refine Tr.bindu (tr_sendL 5 1 (n := 64) (by decide) (by decide) (off32 c) rfl (dev24 c) rfl rfl (credit 2 rfl rfl _) (by decide +kernel)) fun _ => ?_
  refine Tr.bindu (tr_waitS 6 0 (n := 128) rfl (credit 3 rfl rfl _) (by decide +kernel)) fun _ => ?_
  refine Tr.bindu (tr_waitR 6 0 (n := 128) rfl (credit 3 rfl rfl _) (by decide +kernel) (by decide +kernel)) fun _ => ?_
  refine Tr.bindv (tr_ldA 6 0 128 (by decide) (off33 c) (by decide +kernel)) ?_
  refine Tr.ret ?_ (St.eq (by decide +kernel) (by decide +kernel) (by decide +kernel))
  exact rfl

theorem t47 (v5 : BitVec 32) (v12 : BitVec 32) (v13 : BitVec 32) (v1483 : BitVec 32) : Tr I K c σ45 σ46 (k0_part47 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v13 v1483 (k0_pay95 (F := F) (slab (accC I (0 : Fin 4).val c) (6 : Fin 8).val (klo (6 : Fin 8).val ((0 : Fin 4).val + 1) c) 128)))
    (fun r => r.2 = 0#32) := by
  rw [k0_part47_eq_skeleton]; unfold k0_part47_skel
  refine Tr.bindv (tr_ldR 6 0 128 (by decide) rfl (by decide +kernel)) ?_
  refine Tr.bindu (tr_deadA 6 _ 128 (off33 c) (by decide +kernel)) fun _ => ?_
  refine Tr.bindu (tr_stA 6 0 128 _ _ (by decide) (off33 c) (by decide +kernel) rfl) fun _ => ?_
  refine Tr.bindu (tr_sendL 6 1 (n := 64) (by decide) (by decide) (off34 c) rfl (dev25 c) rfl rfl (credit 2 rfl rfl _) (by decide +kernel)) fun _ => ?_
  refine Tr.bindu (tr_waitS 7 0 (n := 128) rfl (credit 3 rfl rfl _) (by decide +kernel)) fun _ => ?_
  refine Tr.ret ?_ (St.eq (by decide +kernel) (by decide +kernel) (by decide +kernel))
  exact rfl

theorem t48 (v7 : BitVec 32) (v9 : BitVec 32) (v14 : BitVec 32) (v1516 : BitVec 32) : Tr I K c σ46 σ47 (k0_part48 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v14 v1516 0#32)
    (fun _ => True) := by
  rw [k0_part48_eq_skeleton]; unfold k0_part48_skel
  refine Tr.bindu (tr_waitR 7 0 (n := 128) rfl (credit 3 rfl rfl _) (by decide +kernel) (by decide +kernel)) fun _ => ?_
  refine Tr.bindv (tr_ldA 7 0 128 (by decide) (off35 c) (by decide +kernel)) ?_
  refine Tr.bindv (tr_ldR 7 0 128 (by decide) rfl (by decide +kernel)) ?_
  refine Tr.bindu (tr_deadA 7 _ 128 (off35 c) (by decide +kernel)) fun _ => ?_
  refine Tr.bindu (tr_stA 7 0 128 _ _ (by decide) (off35 c) (by decide +kernel) rfl) fun _ => ?_
  refine Tr.ret ?_ (St.eq (by decide +kernel) (by decide +kernel) (by decide +kernel))
  exact trivial

theorem t49 (v5 : BitVec 32) (v7 : BitVec 32) (v12 : BitVec 32) (v1399 : BitVec 32) : Tr I K c σ47 σ48 (k0_part49 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v12 v1399)
    (fun _ => True) := by
  rw [k0_part49_eq_skeleton]; unfold k0_part49_skel
  refine Tr.bindu (tr_sendL 7 1 (n := 64) (by decide) (by decide) (off36 c) rfl (dev26 c) rfl rfl (credit 2 rfl rfl _) (by decide +kernel)) fun _ => ?_
  refine Tr.bindu (tr_waitS 4 1 (n := 64) rfl (credit 2 rfl rfl _) (by decide +kernel)) fun _ => ?_
  refine Tr.bindu (tr_waitR 4 1 (n := 64) rfl (credit 2 rfl rfl _) (by decide +kernel) (by decide +kernel)) fun _ => ?_
  refine Tr.bindv (tr_ldA 4 1 64 (by decide) (off37 c) (by decide +kernel)) ?_
  refine Tr.bindv (tr_ldR 4 1 64 (by decide) rfl (by decide +kernel)) ?_
  refine Tr.bindu (tr_deadA 4 _ 64 (off37 c) (by decide +kernel)) fun _ => ?_
  refine Tr.bindu (tr_stA 4 1 64 _ _ (by decide) (off37 c) (by decide +kernel) rfl) fun _ => ?_
  refine Tr.ret ?_ (St.eq (by decide +kernel) (by decide +kernel) (by decide +kernel))
  exact trivial

theorem t50 (v9 : BitVec 32) (v13 : BitVec 32) (v14 : BitVec 32) (v1441 : BitVec 32) (v1567 : BitVec 32) (v1581 : BitVec 32) : Tr I K c σ48 σ49 (k0_part50 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v1441 v1567 v1581)
    (fun _ => True) := by
  rw [k0_part50_eq_skeleton]; unfold k0_part50_skel
  refine Tr.bindu (tr_sendL 4 2 (n := 32) (by decide) (by decide) (off38 c) rfl (dev27 c) rfl rfl (credit 1 rfl rfl _) (by decide +kernel)) fun _ => ?_
  refine Tr.bindu (tr_waitS 5 1 (n := 64) rfl (credit 2 rfl rfl _) (by decide +kernel)) fun _ => ?_
  refine Tr.bindu (tr_waitR 5 1 (n := 64) rfl (credit 2 rfl rfl _) (by decide +kernel) (by decide +kernel)) fun _ => ?_
  refine Tr.ret ?_ (St.eq (by decide +kernel) (by decide +kernel) (by decide +kernel))
  exact trivial

theorem t51 (v10 : BitVec 32) (v11 : BitVec 32) (v1609 : BitVec 32) : Tr I K c σ49 σ50 (k0_part51 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v1609)
    (fun _ => True) := by
  rw [k0_part51_eq_skeleton]; unfold k0_part51_skel
  refine Tr.bindv (tr_ldA 5 1 64 (by decide) (off39 c) (by decide +kernel)) ?_
  refine Tr.bindv (tr_ldR 5 1 64 (by decide) rfl (by decide +kernel)) ?_
  refine Tr.bindu (tr_deadA 5 _ 64 (off39 c) (by decide +kernel)) fun _ => ?_
  refine Tr.bindu (tr_stA 5 1 64 _ _ (by decide) (off39 c) (by decide +kernel) rfl) fun _ => ?_
  refine Tr.bindu (tr_sendL 5 2 (n := 32) (by decide) (by decide) (off40 c) rfl (dev28 c) rfl rfl (credit 1 rfl rfl _) (by decide +kernel)) fun _ => ?_
  refine Tr.bindu (tr_waitS 2 2 (n := 32) rfl (credit 1 rfl rfl _) (by decide +kernel)) fun _ => ?_
  refine Tr.ret ?_ (St.eq (by decide +kernel) (by decide +kernel) (by decide +kernel))
  exact trivial

theorem t52 (v7 : BitVec 32) (v9 : BitVec 32) (v13 : BitVec 32) (v14 : BitVec 32) (v1315 : BitVec 32) : Tr I K c σ50 σ51 (k0_part52 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v13 v14 v1315)
    (fun _ => True) := by
  rw [k0_part52_eq_skeleton]; unfold k0_part52_skel
  refine Tr.bindu (tr_waitR 2 2 (n := 32) rfl (credit 1 rfl rfl _) (by decide +kernel) (by decide +kernel)) fun _ => ?_
  refine Tr.bindv (tr_ldA 2 2 32 (by decide) (off41 c) (by decide +kernel)) ?_
  refine Tr.bindv (tr_ldR 2 2 32 (by decide) rfl (by decide +kernel)) ?_
  refine Tr.bindu (tr_deadA 2 _ 32 (off41 c) (by decide +kernel)) fun _ => ?_
  refine Tr.bindu (tr_stA 2 2 32 _ _ (by decide) (off41 c) (by decide +kernel) rfl) fun _ => ?_
  refine Tr.ret ?_ (St.eq (by decide +kernel) (by decide +kernel) (by decide +kernel))
  exact trivial

theorem t53 (v10 : BitVec 32) (v11 : BitVec 32) (v1357 : BitVec 32) : Tr I K c σ51 σ52 (k0_part53 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v1357)
    (fun r => r.2 = (k0_pay101 (F := F) (slab (accC I (2 : Fin 4).val c) (3 : Fin 8).val (klo (3 : Fin 8).val ((2 : Fin 4).val + 1) c) 32) (rslab (recC I c) (3 : Fin 8).val (roff (2 : Fin 4).val) 32))) := by
  rw [k0_part53_eq_skeleton]; unfold k0_part53_skel
  refine Tr.bindu (tr_sendL 2 3 (n := 16) (by decide) (by decide) (off42 c) rfl (dev29 c) rfl rfl (credit 0 rfl rfl _) (by decide +kernel)) fun _ => ?_
  refine Tr.bindu (tr_waitS 3 2 (n := 32) rfl (credit 1 rfl rfl _) (by decide +kernel)) fun _ => ?_
  refine Tr.bindu (tr_waitR 3 2 (n := 32) rfl (credit 1 rfl rfl _) (by decide +kernel) (by decide +kernel)) fun _ => ?_
  refine Tr.bindv (tr_ldA 3 2 32 (by decide) (off43 c) (by decide +kernel)) ?_
  refine Tr.bindv (tr_ldR 3 2 32 (by decide) rfl (by decide +kernel)) ?_
  refine Tr.ret ?_ (St.eq (by decide +kernel) (by decide +kernel) (by decide +kernel))
  exact rfl

end Cert.Ring

end
-- ==== Proof.Run4.lean ====
/-
# Parts 54 to 68 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t54 (v5 : BitVec 32) (v12 : BitVec 32) (v14 : BitVec 32) (v1693 : BitVec 32) : Tr I K c σ52 σ53 (k0_part54 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v14 v1693 (k0_pay101 (F := F) (slab (accC I (2 : Fin 4).val c) (3 : Fin 8).val (klo (3 : Fin 8).val ((2 : Fin 4).val + 1) c) 32) (rslab (recC I c) (3 : Fin 8).val (roff (2 : Fin 4).val) 32)))
    (fun _ => True) := by
  rw [k0_part54_eq_skeleton]; unfold k0_part54_skel
  refine Tr.bindu (tr_deadA 3 _ 32 (off43 c) (by decide +kernel)) fun _ => ?_
  refine Tr.bindu (tr_stA 3 2 32 _ _ (by decide) (off43 c) (by decide +kernel) rfl) fun _ => ?_
  refine Tr.bindu (tr_sendL 3 3 (n := 16) (by decide) (by decide) (off44 c) rfl (dev30 c) rfl rfl (credit 0 rfl rfl _) (by decide +kernel)) fun _ => ?_
  refine Tr.bindu (tr_waitS 0 3 (n := 16) rfl (credit 0 rfl rfl _) (by decide +kernel)) fun _ => ?_
  refine Tr.ret ?_ (St.eq (by decide +kernel) (by decide +kernel) (by decide +kernel))
  exact trivial

theorem t55 (v9 : BitVec 32) (v14 : BitVec 32) (v1231 : BitVec 32) : Tr I K c σ53 σ54 (k0_part55 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v1231)
    (fun _ => True) := by
  rw [k0_part55_eq_skeleton]; unfold k0_part55_skel
  refine Tr.bindu (tr_waitR 0 3 (n := 16) rfl (credit 0 rfl rfl _) (by decide +kernel) (by decide +kernel)) fun _ => ?_
  refine Tr.bindv (tr_ldA 0 3 16 (by decide) (off45 c) (by decide +kernel)) ?_
  refine Tr.bindv (tr_ldR 0 3 16 (by decide) rfl (by decide +kernel)) ?_
  refine Tr.bindu (tr_deadA 0 _ 16 (off45 c) (by decide +kernel)) fun _ => ?_
  refine Tr.bindu (tr_stA 0 3 16 _ _ (by decide) (off45 c) (by decide +kernel) rfl) fun _ => ?_
  refine Tr.bindv (tr_ldA4 0 (off45' c) (by decide +kernel)) ?_
  refine Tr.bindu (tr_deadG 0 (off45' c) (by decide +kernel)) fun _ => ?_
  refine Tr.bindu (tr_stG 0 16 _ _ rfl (off45' c) (by decide +kernel) rfl) fun _ => ?_
  refine Tr.bindu (tr_sendH 0 4 (n := 16) (by decide) (by decide) (off46 c) (off46 c) (dev31 c) rfl rfl (credit 0 rfl rfl _) (by decide +kernel)) fun _ => ?_
  refine Tr.ret ?_ (St.eq (by decide +kernel) (by decide +kernel) (by decide +kernel))
  exact trivial

theorem t56 (v5 : BitVec 32) (v12 : BitVec 32) (v1273 : BitVec 32) : Tr I K c σ54 σ55 (k0_part56 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v1273)
    (fun r => r.2 = (k0_pay106 (F := F) (slab (accC I 4 c) (1 : Fin 8).val (klo (1 : Fin 8).val 4 c) 16))) := by
  rw [k0_part56_eq_skeleton]; unfold k0_part56_skel
  refine Tr.bindu (tr_waitS 1 3 (n := 16) rfl (credit 0 rfl rfl _) (by decide +kernel)) fun _ => ?_
  refine Tr.bindu (tr_waitR 1 3 (n := 16) rfl (credit 0 rfl rfl _) (by decide +kernel) (by decide +kernel)) fun _ => ?_
  refine Tr.bindv (tr_ldA 1 3 16 (by decide) (off47 c) (by decide +kernel)) ?_
  refine Tr.bindv (tr_ldR 1 3 16 (by decide) rfl (by decide +kernel)) ?_
  refine Tr.bindu (tr_deadA 1 _ 16 (off47 c) (by decide +kernel)) fun _ => ?_
  refine Tr.bindu (tr_stA 1 3 16 _ _ (by decide) (off47 c) (by decide +kernel) rfl) fun _ => ?_
  refine Tr.bindv (tr_ldA4 1 (off47' c) (by decide +kernel)) ?_
  refine Tr.ret ?_ (St.eq (by decide +kernel) (by decide +kernel) (by decide +kernel))
  exact rfl

theorem t57 (v12 : BitVec 32) (v1735 : BitVec 32) (v1781 : BitVec 32) : Tr I K c σ55 σ56 (k0_part57 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v12 v1735 v1781 (k0_pay106 (F := F) (slab (accC I 4 c) (1 : Fin 8).val (klo (1 : Fin 8).val 4 c) 16)))
    (fun _ => True) := by
  rw [k0_part57_eq_skeleton]; unfold k0_part57_skel
  refine Tr.bindu (tr_deadG 1 (off47' c) (by decide +kernel)) fun _ => ?_
  refine Tr.bindu (tr_stG 1 16 _ _ rfl (off47' c) (by decide +kernel) rfl) fun _ => ?_
  refine Tr.bindu (tr_sendH 1 4 (n := 16) (by decide) (by decide) (off48 c) (off48 c) (dev32 c) rfl rfl (credit 0 rfl rfl _) (by decide +kernel)) fun _ => ?_
  refine Tr.bindv (tr_ldG 0 0 16 (by decide) (off45'' c) (by decide +kernel) (by decide +kernel)) ?_
  refine Tr.bindu (tr_deadT) fun _ => ?_
  refine Tr.bindu (tr_stT 0 0 16 _ (by decide) (off49_0 c) (by decide +kernel) rfl) fun _ => ?_
  refine Tr.bindv (tr_ldG 1 0 16 (by decide) (off47'' c) (by decide +kernel) (by decide +kernel)) ?_
  refine Tr.bindu (tr_deadT) fun _ => ?_
  refine Tr.bindu (tr_stT 1 0 16 _ (by decide) (off50_0 c) (by decide +kernel) rfl) fun _ => ?_
  refine Tr.ret ?_ (St.eq (by decide +kernel) (by decide +kernel) (by decide +kernel))
  exact trivial

theorem t58 (v5 : BitVec 32) (v7 : BitVec 32) (v12 : BitVec 32) (v13 : BitVec 32) (v1483 : BitVec 32) : Tr I K c σ56 σ57 (k0_part58 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v12 v13 v1483)
    (fun _ => True) := by
  rw [k0_part58_eq_skeleton]; unfold k0_part58_skel
  refine Tr.bindu (tr_waitS 6 1 (n := 64) rfl (credit 2 rfl rfl _) (by decide +kernel)) fun _ => ?_
  refine Tr.bindu (tr_waitR 6 1 (n := 64) rfl (credit 2 rfl rfl _) (by decide +kernel) (by decide +kernel)) fun _ => ?_
  refine Tr.bindv (tr_ldA 6 1 64 (by decide) (off51 c) (by decide +kernel)) ?_
  refine Tr.bindv (tr_ldR 6 1 64 (by decide) rfl (by decide +kernel)) ?_
  refine Tr.bindu (tr_deadA 6 _ 64 (off51 c) (by decide +kernel)) fun _ => ?_
  refine Tr.bindu (tr_stA 6 1 64 _ _ (by decide) (off51 c) (by decide +kernel) rfl) fun _ => ?_
  refine Tr.ret ?_ (St.eq (by decide +kernel) (by decide +kernel) (by decide +kernel))
  exact trivial

theorem t59 (v9 : BitVec 32) (v14 : BitVec 32) (v1525 : BitVec 32) : Tr I K c σ57 σ58 (k0_part59 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v1525)
    (fun r => r.2 = (k0_pay111 (F := F) (slab (accC I (1 : Fin 4).val c) (7 : Fin 8).val (klo (7 : Fin 8).val ((1 : Fin 4).val + 1) c) 64) (rslab (recC I c) (7 : Fin 8).val (roff (1 : Fin 4).val) 64))) := by
  rw [k0_part59_eq_skeleton]; unfold k0_part59_skel
  refine Tr.bindu (tr_sendL 6 2 (n := 32) (by decide) (by decide) (off52 c) rfl (dev33 c) rfl rfl (credit 1 rfl rfl _) (by decide +kernel)) fun _ => ?_
  refine Tr.bindu (tr_waitS 7 1 (n := 64) rfl (credit 2 rfl rfl _) (by decide +kernel)) fun _ => ?_
  refine Tr.bindu (tr_waitR 7 1 (n := 64) rfl (credit 2 rfl rfl _) (by decide +kernel) (by decide +kernel)) fun _ => ?_
  refine Tr.bindv (tr_ldA 7 1 64 (by decide) (off53 c) (by decide +kernel)) ?_
  refine Tr.bindv (tr_ldR 7 1 64 (by decide) rfl (by decide +kernel)) ?_
  refine Tr.ret ?_ (St.eq (by decide +kernel) (by decide +kernel) (by decide +kernel))
  exact rfl

theorem t60 (v10 : BitVec 32) (v11 : BitVec 32) (v13 : BitVec 32) (v1883 : BitVec 32) : Tr I K c σ58 σ59 (k0_part60 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v13 v1883 (k0_pay111 (F := F) (slab (accC I (1 : Fin 4).val c) (7 : Fin 8).val (klo (7 : Fin 8).val ((1 : Fin 4).val + 1) c) 64) (rslab (recC I c) (7 : Fin 8).val (roff (1 : Fin 4).val) 64)))
    (fun _ => True) := by
  rw [k0_part60_eq_skeleton]; unfold k0_part60_skel
  refine Tr.bindu (tr_deadA 7 _ 64 (off53 c) (by decide +kernel)) fun _ => ?_
  refine Tr.bindu (tr_stA 7 1 64 _ _ (by decide) (off53 c) (by decide +kernel) rfl) fun _ => ?_
  refine Tr.bindu (tr_sendL 7 2 (n := 32) (by decide) (by decide) (off54 c) rfl (dev34 c) rfl rfl (credit 1 rfl rfl _) (by decide +kernel)) fun _ => ?_
  refine Tr.bindu (tr_waitS 4 2 (n := 32) rfl (credit 1 rfl rfl _) (by decide +kernel)) fun _ => ?_
  refine Tr.ret ?_ (St.eq (by decide +kernel) (by decide +kernel) (by decide +kernel))
  exact trivial

theorem t61 (v7 : BitVec 32) (v9 : BitVec 32) (v14 : BitVec 32) (v1567 : BitVec 32) : Tr I K c σ59 σ60 (k0_part61 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v14 v1567)
    (fun _ => True) := by
  rw [k0_part61_eq_skeleton]; unfold k0_part61_skel
  refine Tr.bindu (tr_waitR 4 2 (n := 32) rfl (credit 1 rfl rfl _) (by decide +kernel) (by decide +kernel)) fun _ => ?_
  refine Tr.bindv (tr_ldA 4 2 32 (by decide) (off55 c) (by decide +kernel)) ?_
  refine Tr.bindv (tr_ldR 4 2 32 (by decide) rfl (by decide +kernel)) ?_
  refine Tr.bindu (tr_deadA 4 _ 32 (off55 c) (by decide +kernel)) fun _ => ?_
  refine Tr.bindu (tr_stA 4 2 32 _ _ (by decide) (off55 c) (by decide +kernel) rfl) fun _ => ?_
  refine Tr.bindu (tr_sendL 4 3 (n := 16) (by decide) (by decide) (off56 c) rfl (dev35 c) rfl rfl (credit 0 rfl rfl _) (by decide +kernel)) fun _ => ?_
  refine Tr.ret ?_ (St.eq (by decide +kernel) (by decide +kernel) (by decide +kernel))
  exact trivial

theorem t62 (v5 : BitVec 32) (v10 : BitVec 32) (v11 : BitVec 32) (v1609 : BitVec 32) : Tr I K c σ60 σ61 (k0_part62 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v10 v11 v1609)
    (fun _ => True) := by
  rw [k0_part62_eq_skeleton]; unfold k0_part62_skel
  refine Tr.bindu (tr_waitS 5 2 (n := 32) rfl (credit 1 rfl rfl _) (by decide +kernel)) fun _ => ?_
  refine Tr.bindu (tr_waitR 5 2 (n := 32) rfl (credit 1 rfl rfl _) (by decide +kernel) (by decide +kernel)) fun _ => ?_
  refine Tr.bindv (tr_ldA 5 2 32 (by decide) (off57 c) (by decide +kernel)) ?_
  refine Tr.bindv (tr_ldR 5 2 32 (by decide) rfl (by decide +kernel)) ?_
  refine Tr.bindu (tr_deadA 5 _ 32 (off57 c) (by decide +kernel)) fun _ => ?_
  refine Tr.bindu (tr_stA 5 2 32 _ _ (by decide) (off57 c) (by decide +kernel) rfl) fun _ => ?_
  refine Tr.ret ?_ (St.eq (by decide +kernel) (by decide +kernel) (by decide +kernel))
  exact trivial

theorem t63 (v9 : BitVec 32) (v12 : BitVec 32) (v14 : BitVec 32) (v1651 : BitVec 32) : Tr I K c σ61 σ62 (k0_part63 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v12 v14 v1651)
    (fun r => r.2 = (k0_pay115 (F := F) (slab (accC I (3 : Fin 4).val c) (2 : Fin 8).val (klo (2 : Fin 8).val ((3 : Fin 4).val + 1) c) 16))) := by
  rw [k0_part63_eq_skeleton]; unfold k0_part63_skel
  refine Tr.bindu (tr_sendL 5 3 (n := 16) (by decide) (by decide) (off58 c) rfl (dev36 c) rfl rfl (credit 0 rfl rfl _) (by decide +kernel)) fun _ => ?_
  refine Tr.bindu (tr_waitS 2 3 (n := 16) rfl (credit 0 rfl rfl _) (by decide +kernel)) fun _ => ?_
  refine Tr.bindu (tr_waitR 2 3 (n := 16) rfl (credit 0 rfl rfl _) (by decide +kernel) (by decide +kernel)) fun _ => ?_
  refine Tr.bindv (tr_ldA 2 3 16 (by decide) (off59 c) (by decide +kernel)) ?_
  refine Tr.ret ?_ (St.eq (by decide +kernel) (by decide +kernel) (by decide +kernel))
  exact rfl

theorem t64 (v14 : BitVec 32) (v2009 : BitVec 32) : Tr I K c σ62 σ63 (k0_part64 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v14 v2009 (k0_pay115 (F := F) (slab (accC I (3 : Fin 4).val c) (2 : Fin 8).val (klo (2 : Fin 8).val ((3 : Fin 4).val + 1) c) 16)))
    (fun _ => True) := by
  rw [k0_part64_eq_skeleton]; unfold k0_part64_skel
  refine Tr.bindv (tr_ldR 2 3 16 (by decide) rfl (by decide +kernel)) ?_
  refine Tr.bindu (tr_deadA 2 _ 16 (off59 c) (by decide +kernel)) fun _ => ?_
  refine Tr.bindu (tr_stA 2 3 16 _ _ (by decide) (off59 c) (by decide +kernel) rfl) fun _ => ?_
  refine Tr.bindv (tr_ldA4 2 (off59' c) (by decide +kernel)) ?_
  refine Tr.bindu (tr_deadG 2 (off59' c) (by decide +kernel)) fun _ => ?_
  refine Tr.bindu (tr_stG 2 16 _ _ rfl (off59' c) (by decide +kernel) rfl) fun _ => ?_
  refine Tr.bindu (tr_sendH 2 4 (n := 16) (by decide) (by decide) (off60 c) (off60 c) (dev37 c) rfl rfl (credit 0 rfl rfl _) (by decide +kernel)) fun _ => ?_
  refine Tr.bindu (tr_waitS 3 3 (n := 16) rfl (credit 0 rfl rfl _) (by decide +kernel)) fun _ => ?_
  refine Tr.ret ?_ (St.eq (by decide +kernel) (by decide +kernel) (by decide +kernel))
  exact trivial

theorem t65 (v5 : BitVec 32) (v12 : BitVec 32) (v1693 : BitVec 32) : Tr I K c σ63 σ64 (k0_part65 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v1693)
    (fun _ => True) := by
  rw [k0_part65_eq_skeleton]; unfold k0_part65_skel
  refine Tr.bindu (tr_waitR 3 3 (n := 16) rfl (credit 0 rfl rfl _) (by decide +kernel) (by decide +kernel)) fun _ => ?_
  refine Tr.bindv (tr_ldA 3 3 16 (by decide) (off61 c) (by decide +kernel)) ?_
  refine Tr.bindv (tr_ldR 3 3 16 (by decide) rfl (by decide +kernel)) ?_
  refine Tr.bindu (tr_deadA 3 _ 16 (off61 c) (by decide +kernel)) fun _ => ?_
  refine Tr.bindu (tr_stA 3 3 16 _ _ (by decide) (off61 c) (by decide +kernel) rfl) fun _ => ?_
  refine Tr.bindv (tr_ldA4 3 (off61' c) (by decide +kernel)) ?_
  refine Tr.bindu (tr_deadG 3 (off61' c) (by decide +kernel)) fun _ => ?_
  refine Tr.bindu (tr_stG 3 16 _ _ rfl (off61' c) (by decide +kernel) rfl) fun _ => ?_
  refine Tr.ret ?_ (St.eq (by decide +kernel) (by decide +kernel) (by decide +kernel))
  exact trivial

theorem t66 (v9 : BitVec 32) (v13 : BitVec 32) (v14 : BitVec 32) (v1735 : BitVec 32) (v2076 : BitVec 32) : Tr I K c σ64 σ65 (k0_part66 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v1735 v2076)
    (fun _ => True) := by
  rw [k0_part66_eq_skeleton]; unfold k0_part66_skel
  refine Tr.bindu (tr_sendH 3 4 (n := 16) (by decide) (by decide) (off62 c) (off62 c) (dev38 c) rfl rfl (credit 0 rfl rfl _) (by decide +kernel)) fun _ => ?_
  refine Tr.bindu (tr_waitS 0 4 (n := 16) rfl (credit 0 rfl rfl _) (by decide +kernel)) fun _ => ?_
  refine Tr.bindu (tr_waitR 0 4 (n := 16) rfl (credit 0 rfl rfl _) (by decide +kernel) (by decide +kernel)) fun _ => ?_
  refine Tr.ret ?_ (St.eq (by decide +kernel) (by decide +kernel) (by decide +kernel))
  exact trivial

theorem t67 (v5 : BitVec 32) (v11 : BitVec 32) (v12 : BitVec 32) (v1781 : BitVec 32) (v2106 : BitVec 32) : Tr I K c σ65 σ66 (k0_part67 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v11 v12 v1781 v2106)
    (fun _ => True) := by
  rw [k0_part67_eq_skeleton]; unfold k0_part67_skel
  refine Tr.bindu (tr_sendH 0 5 (n := 32) (by decide) (by decide) (off63 c) (off63 c) (dev39 c) rfl rfl (credit 1 rfl rfl _) (by decide +kernel)) fun _ => ?_
  refine Tr.bindu (tr_waitS 1 4 (n := 16) rfl (credit 0 rfl rfl _) (by decide +kernel)) fun _ => ?_
  refine Tr.bindu (tr_waitR 1 4 (n := 16) rfl (credit 0 rfl rfl _) (by decide +kernel) (by decide +kernel)) fun _ => ?_
  refine Tr.ret ?_ (St.eq (by decide +kernel) (by decide +kernel) (by decide +kernel))
  exact trivial

theorem t68 (v2009 : BitVec 32) (v2055 : BitVec 32) (v2103 : BitVec 32) (v2133 : BitVec 32) (v2136 : BitVec 32) : Tr I K c σ66 σ67 (k0_part68 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v2009 v2055 v2103 v2133 v2136)
    (fun r => r = (k0_pay123 (F := F) (slab (sumC I) (1 : Fin 8).val (wlo (1 : Fin 8).val (1 : Fin 5).val c) 16))) := by
  rw [k0_part68_eq_skeleton]; unfold k0_part68_skel
  refine Tr.bindu (tr_sendH 1 5 (n := 32) (by decide) (by decide) (off64 c) (off64 c) (dev40 c) rfl rfl (credit 1 rfl rfl _) (by decide +kernel)) fun _ => ?_
  refine Tr.bindv (tr_ldG 2 0 16 (by decide) (off59'' c) (by decide +kernel) (by decide +kernel)) ?_
  refine Tr.bindu (tr_deadT) fun _ => ?_
  refine Tr.bindu (tr_stT 2 0 16 _ (by decide) (off49_256 c) (by decide +kernel) rfl) fun _ => ?_
  refine Tr.bindv (tr_ldG 3 0 16 (by decide) (off61'' c) (by decide +kernel) (by decide +kernel)) ?_
  refine Tr.bindu (tr_deadT) fun _ => ?_
  refine Tr.bindu (tr_stT 3 0 16 _ (by decide) (off50_256 c) (by decide +kernel) rfl) fun _ => ?_
  refine Tr.bindv (tr_ldG 0 1 16 (by decide) (off65 c) (by decide +kernel) (by decide +kernel)) ?_
  refine Tr.bindu (tr_deadT) fun _ => ?_
  refine Tr.bindu (tr_stT 0 1 16 _ (by decide) (off66_0 c) (by decide +kernel) rfl) fun _ => ?_
  refine Tr.bindv (tr_ldG 1 1 16 (by decide) (off67 c) (by decide +kernel) (by decide +kernel)) ?_
  refine Tr.bindu (tr_deadT) fun _ => ?_
  refine Tr.ret ?_ (St.eq (by decide +kernel) (by decide +kernel) (by decide +kernel))
  exact rfl

end Cert.Ring

end
-- ==== Proof.Run5.lean ====
/-
# Parts 69 to 84 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t69 (v7 : BitVec 32) (v9 : BitVec 32) (v13 : BitVec 32) (v1841 : BitVec 32) : Tr I K c σ67 σ68 (k0_part69 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v9 v13 v1841 (k0_pay123 (F := F) (slab (sumC I) (1 : Fin 8).val (wlo (1 : Fin 8).val (1 : Fin 5).val c) 16)))
    (fun _ => True) := by
  rw [k0_part69_eq_skeleton]; unfold k0_part69_skel
  refine Tr.bindu (tr_stT 1 1 16 _ (by decide) (off68_0 c) (by decide +kernel) rfl) fun _ => ?_
  refine Tr.bindu (tr_waitS 6 2 (n := 32) rfl (credit 1 rfl rfl _) (by decide +kernel)) fun _ => ?_
  refine Tr.bindu (tr_waitR 6 2 (n := 32) rfl (credit 1 rfl rfl _) (by decide +kernel) (by decide +kernel)) fun _ => ?_
  refine Tr.bindv (tr_ldA 6 2 32 (by decide) (off69 c) (by decide +kernel)) ?_
  refine Tr.bindv (tr_ldR 6 2 32 (by decide) rfl (by decide +kernel)) ?_
  refine Tr.bindu (tr_deadA 6 _ 32 (off69 c) (by decide +kernel)) fun _ => ?_
  refine Tr.bindu (tr_stA 6 2 32 _ _ (by decide) (off69 c) (by decide +kernel) rfl) fun _ => ?_
  refine Tr.ret ?_ (St.eq (by decide +kernel) (by decide +kernel) (by decide +kernel))
  exact trivial

theorem t70 (v10 : BitVec 32) (v11 : BitVec 32) (v14 : BitVec 32) (v1883 : BitVec 32) (v2189 : BitVec 32) (v2203 : BitVec 32) : Tr I K c σ68 σ69 (k0_part70 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v14 v1883 v2189 v2203)
    (fun _ => True) := by
  rw [k0_part70_eq_skeleton]; unfold k0_part70_skel
  refine Tr.bindu (tr_sendL 6 3 (n := 16) (by decide) (by decide) (off70 c) rfl (dev41 c) rfl rfl (credit 0 rfl rfl _) (by decide +kernel)) fun _ => ?_
  refine Tr.bindu (tr_waitS 7 2 (n := 32) rfl (credit 1 rfl rfl _) (by decide +kernel)) fun _ => ?_
  refine Tr.bindu (tr_waitR 7 2 (n := 32) rfl (credit 1 rfl rfl _) (by decide +kernel) (by decide +kernel)) fun _ => ?_
  refine Tr.ret ?_ (St.eq (by decide +kernel) (by decide +kernel) (by decide +kernel))
  exact trivial

theorem t71 (v5 : BitVec 32) (v12 : BitVec 32) (v2231 : BitVec 32) : Tr I K c σ69 σ70 (k0_part71 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v2231)
    (fun _ => True) := by
  rw [k0_part71_eq_skeleton]; unfold k0_part71_skel
  refine Tr.bindv (tr_ldA 7 2 32 (by decide) (off71 c) (by decide +kernel)) ?_
  refine Tr.bindv (tr_ldR 7 2 32 (by decide) rfl (by decide +kernel)) ?_
  refine Tr.bindu (tr_deadA 7 _ 32 (off71 c) (by decide +kernel)) fun _ => ?_
  refine Tr.bindu (tr_stA 7 2 32 _ _ (by decide) (off71 c) (by decide +kernel) rfl) fun _ => ?_
  refine Tr.bindu (tr_sendL 7 3 (n := 16) (by decide) (by decide) (off72 c) rfl (dev42 c) rfl rfl (credit 0 rfl rfl _) (by decide +kernel)) fun _ => ?_
  refine Tr.bindu (tr_waitS 4 3 (n := 16) rfl (credit 0 rfl rfl _) (by decide +kernel)) fun _ => ?_
  refine Tr.ret ?_ (St.eq (by decide +kernel) (by decide +kernel) (by decide +kernel))
  exact trivial

theorem t72 (v9 : BitVec 32) (v14 : BitVec 32) (v1925 : BitVec 32) : Tr I K c σ70 σ71 (k0_part72 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v1925)
    (fun _ => True) := by
  rw [k0_part72_eq_skeleton]; unfold k0_part72_skel
  refine Tr.bindu (tr_waitR 4 3 (n := 16) rfl (credit 0 rfl rfl _) (by decide +kernel) (by decide +kernel)) fun _ => ?_
  refine Tr.bindv (tr_ldA 4 3 16 (by decide) (off73 c) (by decide +kernel)) ?_
  refine Tr.bindv (tr_ldR 4 3 16 (by decide) rfl (by decide +kernel)) ?_
  refine Tr.bindu (tr_deadA 4 _ 16 (off73 c) (by decide +kernel)) fun _ => ?_
  refine Tr.bindu (tr_stA 4 3 16 _ _ (by decide) (off73 c) (by decide +kernel) rfl) fun _ => ?_
  refine Tr.bindv (tr_ldA4 4 (off73' c) (by decide +kernel)) ?_
  refine Tr.bindu (tr_deadG 4 (off73' c) (by decide +kernel)) fun _ => ?_
  refine Tr.bindu (tr_stG 4 16 _ _ rfl (off73' c) (by decide +kernel) rfl) fun _ => ?_
  refine Tr.ret ?_ (St.eq (by decide +kernel) (by decide +kernel) (by decide +kernel))
  exact trivial

theorem t73 (v5 : BitVec 32) (v12 : BitVec 32) (v1967 : BitVec 32) (v2294 : BitVec 32) : Tr I K c σ71 σ72 (k0_part73 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v1967 v2294)
    (fun r => r.2.1 = (k0_pay128 (F := F) (slab (accC I (3 : Fin 4).val c) (5 : Fin 8).val (klo (5 : Fin 8).val ((3 : Fin 4).val + 1) c) 16)) ∧ r.2.2 = (k0_pay129 (F := F) (rslab (recC I c) (5 : Fin 8).val (roff (3 : Fin 4).val) 16))) := by
  rw [k0_part73_eq_skeleton]; unfold k0_part73_skel
  refine Tr.bindu (tr_sendH 4 4 (n := 16) (by decide) (by decide) (off74 c) (off74 c) (dev43 c) rfl rfl (credit 0 rfl rfl _) (by decide +kernel)) fun _ => ?_
  refine Tr.bindu (tr_waitS 5 3 (n := 16) rfl (credit 0 rfl rfl _) (by decide +kernel)) fun _ => ?_
  refine Tr.bindu (tr_waitR 5 3 (n := 16) rfl (credit 0 rfl rfl _) (by decide +kernel) (by decide +kernel)) fun _ => ?_
  refine Tr.bindv (tr_ldA 5 3 16 (by decide) (off75 c) (by decide +kernel)) ?_
  refine Tr.bindv (tr_ldR 5 3 16 (by decide) rfl (by decide +kernel)) ?_
  refine Tr.ret ?_ (St.eq (by decide +kernel) (by decide +kernel) (by decide +kernel))
  exact ⟨by with_reducible rfl, by with_reducible rfl⟩

theorem t74 (v12 : BitVec 32) (v2319 : BitVec 32) : Tr I K c σ72 σ73 (k0_part74 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v12 v2319 (k0_pay128 (F := F) (slab (accC I (3 : Fin 4).val c) (5 : Fin 8).val (klo (5 : Fin 8).val ((3 : Fin 4).val + 1) c) 16)) (k0_pay129 (F := F) (rslab (recC I c) (5 : Fin 8).val (roff (3 : Fin 4).val) 16)))
    (fun r => r = 1#32) := by
  rw [k0_part74_eq_skeleton]; unfold k0_part74_skel
  refine Tr.bindu (tr_deadA 5 _ 16 (off75 c) (by decide +kernel)) fun _ => ?_
  refine Tr.bindu (tr_stA 5 3 16 _ _ (by decide) (off75 c) (by decide +kernel) rfl) fun _ => ?_
  refine Tr.bindv (tr_ldA4 5 (off75' c) (by decide +kernel)) ?_
  refine Tr.bindu (tr_deadG 5 (off75' c) (by decide +kernel)) fun _ => ?_
  refine Tr.bindu (tr_stG 5 16 _ _ rfl (off75' c) (by decide +kernel) rfl) fun _ => ?_
  refine Tr.bindu (tr_sendH 5 4 (n := 16) (by decide) (by decide) (off76 c) (off76 c) (dev44 c) rfl rfl (credit 0 rfl rfl _) (by decide +kernel)) fun _ => ?_
  refine Tr.bindu (tr_waitS 2 4 (n := 16) rfl (credit 0 rfl rfl _) (by decide +kernel)) fun _ => ?_
  refine Tr.ret ?_ (St.eq (by decide +kernel) (by decide +kernel) (by decide +kernel))
  exact rfl

theorem t75 (v9 : BitVec 32) (v13 : BitVec 32) (v14 : BitVec 32) (v2009 : BitVec 32) : Tr I K c σ73 σ74 (k0_part75 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v2009 1#32)
    (fun r => r.2.2 = 1#32) := by
  rw [k0_part75_eq_skeleton]; unfold k0_part75_skel
  refine Tr.bindu (tr_waitR 2 4 (n := 16) rfl (credit 0 rfl rfl _) (by decide +kernel) (by decide +kernel)) fun _ => ?_
  refine Tr.bindu (tr_sendH 2 5 (n := 32) (by decide) (by decide) (off77 c) (off77 c) (dev45 c) rfl rfl (credit 1 rfl rfl _) (by decide +kernel)) fun _ => ?_
  refine Tr.bindu (tr_waitS 3 4 (n := 16) rfl (credit 0 rfl rfl _) (by decide +kernel)) fun _ => ?_
  refine Tr.ret ?_ (St.eq (by decide +kernel) (by decide +kernel) (by decide +kernel))
  exact rfl

theorem t76 (v5 : BitVec 32) (v11 : BitVec 32) (v12 : BitVec 32) (v2055 : BitVec 32) : Tr I K c σ74 σ75 (k0_part76 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v11 v12 v2055 1#32)
    (fun r => r.2.2 = 1#32) := by
  rw [k0_part76_eq_skeleton]; unfold k0_part76_skel
  refine Tr.bindu (tr_waitR 3 4 (n := 16) rfl (credit 0 rfl rfl _) (by decide +kernel) (by decide +kernel)) fun _ => ?_
  refine Tr.bindu (tr_sendH 3 5 (n := 32) (by decide) (by decide) (off78 c) (off78 c) (dev46 c) rfl rfl (credit 1 rfl rfl _) (by decide +kernel)) fun _ => ?_
  refine Tr.bindu (tr_waitS 0 5 (n := 32) rfl (credit 1 rfl rfl _) (by decide +kernel)) fun _ => ?_
  refine Tr.ret ?_ (St.eq (by decide +kernel) (by decide +kernel) (by decide +kernel))
  exact rfl

theorem t77 (v7 : BitVec 32) (v12 : BitVec 32) (v13 : BitVec 32) (v2105 : BitVec 32) : Tr I K c σ75 σ76 (k0_part77 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v12 v13 v2105 1#32)
    (fun r => r.2.2 = 1#32) := by
  rw [k0_part77_eq_skeleton]; unfold k0_part77_skel
  refine Tr.bindu (tr_waitR 0 5 (n := 32) rfl (credit 1 rfl rfl _) (by decide +kernel) (by decide +kernel)) fun _ => ?_
  refine Tr.bindu (tr_sendH 0 6 (n := 64) (by decide) (by decide) (off79 c) (off79 c) (dev47 c) rfl rfl (credit 2 rfl rfl _) (by decide +kernel)) fun _ => ?_
  refine Tr.bindu (tr_waitS 1 5 (n := 32) rfl (credit 1 rfl rfl _) (by decide +kernel)) fun _ => ?_
  refine Tr.ret ?_ (St.eq (by decide +kernel) (by decide +kernel) (by decide +kernel))
  exact rfl

theorem t78 (v10 : BitVec 32) (v11 : BitVec 32) (v14 : BitVec 32) (v2135 : BitVec 32) (v2273 : BitVec 32) (v2319 : BitVec 32) : Tr I K c σ76 σ77 (k0_part78 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v14 v2135 v2273 v2319 1#32)
    (fun r => r.2.2.1 = (k0_pay133 (F := F) (slab (sumC I) (5 : Fin 8).val (wlo (5 : Fin 8).val (0 : Fin 5).val c) 16)) ∧ r.2.2.2 = 512#32) := by
  rw [k0_part78_eq_skeleton]; unfold k0_part78_skel
  refine Tr.bindu (tr_waitR 1 5 (n := 32) rfl (credit 1 rfl rfl _) (by decide +kernel) (by decide +kernel)) fun _ => ?_
  refine Tr.bindu (tr_sendH 1 6 (n := 64) (by decide) (by decide) (off80 c) (off80 c) (dev48 c) rfl rfl (credit 2 rfl rfl _) (by decide +kernel)) fun _ => ?_
  refine Tr.bindv (tr_ldG 4 0 16 (by decide) (off73'' c) (by decide +kernel) (by decide +kernel)) ?_
  refine Tr.bindu (tr_deadT) fun _ => ?_
  refine Tr.bindu (tr_stT 4 0 16 _ (by decide) (off49_512 c) (by decide +kernel) rfl) fun _ => ?_
  refine Tr.bindv (tr_ldG 5 0 16 (by decide) (off75'' c) (by decide +kernel) (by decide +kernel)) ?_
  refine Tr.ret ?_ (St.eq (by decide +kernel) (by decide +kernel) (by decide +kernel))
  exact ⟨by with_reducible rfl, by with_reducible rfl⟩

theorem t79 (v2319 : BitVec 32) (v2367 : BitVec 32) (v2397 : BitVec 32) (v2427 : BitVec 32) (v2457 : BitVec 32) : Tr I K c σ77 σ78 (k0_part79 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v2319 v2367 v2397 v2427 v2457 (k0_pay133 (F := F) (slab (sumC I) (5 : Fin 8).val (wlo (5 : Fin 8).val (0 : Fin 5).val c) 16)) 512#32)
    (fun _ => True) := by
  rw [k0_part79_eq_skeleton]; unfold k0_part79_skel
  refine Tr.bindu (tr_deadT) fun _ => ?_
  refine Tr.bindu (tr_stT 5 0 16 _ (by decide) (off50_512 c) (by decide +kernel) rfl) fun _ => ?_
  refine Tr.bindv (tr_ldG 2 1 16 (by decide) (off81 c) (by decide +kernel) (by decide +kernel)) ?_
  refine Tr.bindu (tr_deadT) fun _ => ?_
  refine Tr.bindu (tr_stT 2 1 16 _ (by decide) (off66_256 c) (by decide +kernel) rfl) fun _ => ?_
  refine Tr.bindv (tr_ldG 3 1 16 (by decide) (off82 c) (by decide +kernel) (by decide +kernel)) ?_
  refine Tr.bindu (tr_deadT) fun _ => ?_
  refine Tr.bindu (tr_stT 3 1 16 _ (by decide) (off68_256 c) (by decide +kernel) rfl) fun _ => ?_
  refine Tr.bindv (tr_ldG 0 2 32 (by decide) (off83 c) (by decide +kernel) (by decide +kernel)) ?_
  refine Tr.bindu (tr_deadT) fun _ => ?_
  refine Tr.bindu (tr_stT 0 2 32 _ (by decide) (off84_0 c) (by decide +kernel) rfl) fun _ => ?_
  refine Tr.bindv (tr_ldG 1 2 32 (by decide) (off85 c) (by decide +kernel) (by decide +kernel)) ?_
  refine Tr.bindu (tr_deadT) fun _ => ?_
  refine Tr.bindu (tr_stT 1 2 32 _ (by decide) (off86_0 c) (by decide +kernel) rfl) fun _ => ?_
  refine Tr.ret ?_ (St.eq (by decide +kernel) (by decide +kernel) (by decide +kernel))
  exact trivial

theorem t80 (v9 : BitVec 32) (v14 : BitVec 32) (v2189 : BitVec 32) : Tr I K c σ78 σ79 (k0_part80 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v2189)
    (fun r => r.2 = (k0_pay139 (F := F) (slab (accC I 4 c) (6 : Fin 8).val (klo (6 : Fin 8).val 4 c) 16))) := by
  rw [k0_part80_eq_skeleton]; unfold k0_part80_skel
  refine Tr.bindu (tr_waitS 6 3 (n := 16) rfl (credit 0 rfl rfl _) (by decide +kernel)) fun _ => ?_
  refine Tr.bindu (tr_waitR 6 3 (n := 16) rfl (credit 0 rfl rfl _) (by decide +kernel) (by decide +kernel)) fun _ => ?_
  refine Tr.bindv (tr_ldA 6 3 16 (by decide) (off87 c) (by decide +kernel)) ?_
  refine Tr.bindv (tr_ldR 6 3 16 (by decide) rfl (by decide +kernel)) ?_
  refine Tr.bindu (tr_deadA 6 _ 16 (off87 c) (by decide +kernel)) fun _ => ?_
  refine Tr.bindu (tr_stA 6 3 16 _ _ (by decide) (off87 c) (by decide +kernel) rfl) fun _ => ?_
  refine Tr.bindv (tr_ldA4 6 (off87' c) (by decide +kernel)) ?_
  refine Tr.bindu (tr_deadG 6 (off87' c) (by decide +kernel)) fun _ => ?_
  refine Tr.ret ?_ (St.eq (by decide +kernel) (by decide +kernel) (by decide +kernel))
  exact rfl

theorem t81 (v5 : BitVec 32) (v12 : BitVec 32) (v14 : BitVec 32) (v2231 : BitVec 32) : Tr I K c σ79 σ80 (k0_part81 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v14 v2231 (k0_pay139 (F := F) (slab (accC I 4 c) (6 : Fin 8).val (klo (6 : Fin 8).val 4 c) 16)))
    (fun _ => True) := by
  rw [k0_part81_eq_skeleton]; unfold k0_part81_skel
  refine Tr.bindu (tr_stG 6 16 _ _ rfl (off87' c) (by decide +kernel) rfl) fun _ => ?_
  refine Tr.bindu (tr_sendH 6 4 (n := 16) (by decide) (by decide) (off88 c) (off88 c) (dev49 c) rfl rfl (credit 0 rfl rfl _) (by decide +kernel)) fun _ => ?_
  refine Tr.bindu (tr_waitS 7 3 (n := 16) rfl (credit 0 rfl rfl _) (by decide +kernel)) fun _ => ?_
  refine Tr.bindu (tr_waitR 7 3 (n := 16) rfl (credit 0 rfl rfl _) (by decide +kernel) (by decide +kernel)) fun _ => ?_
  refine Tr.ret ?_ (St.eq (by decide +kernel) (by decide +kernel) (by decide +kernel))
  exact trivial

theorem t82 (v12 : BitVec 32) (v2573 : BitVec 32) : Tr I K c σ80 σ81 (k0_part82 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v12 v2573)
    (fun _ => True) := by
  rw [k0_part82_eq_skeleton]; unfold k0_part82_skel
  refine Tr.bindv (tr_ldA 7 3 16 (by decide) (off89 c) (by decide +kernel)) ?_
  refine Tr.bindv (tr_ldR 7 3 16 (by decide) rfl (by decide +kernel)) ?_
  refine Tr.bindu (tr_deadA 7 _ 16 (off89 c) (by decide +kernel)) fun _ => ?_
  refine Tr.bindu (tr_stA 7 3 16 _ _ (by decide) (off89 c) (by decide +kernel) rfl) fun _ => ?_
  refine Tr.bindv (tr_ldA4 7 (off89' c) (by decide +kernel)) ?_
  refine Tr.bindu (tr_deadG 7 (off89' c) (by decide +kernel)) fun _ => ?_
  refine Tr.bindu (tr_stG 7 16 _ _ rfl (off89' c) (by decide +kernel) rfl) fun _ => ?_
  refine Tr.bindu (tr_sendH 7 4 (n := 16) (by decide) (by decide) (off90 c) (off90 c) (dev50 c) rfl rfl (credit 0 rfl rfl _) (by decide +kernel)) fun _ => ?_
  refine Tr.ret ?_ (St.eq (by decide +kernel) (by decide +kernel) (by decide +kernel))
  exact trivial

theorem t83 (v9 : BitVec 32) (v13 : BitVec 32) (v14 : BitVec 32) (v2273 : BitVec 32) : Tr I K c σ81 σ82 (k0_part83 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v2273)
    (fun _ => True) := by
  rw [k0_part83_eq_skeleton]; unfold k0_part83_skel
  refine Tr.bindu (tr_waitS 4 4 (n := 16) rfl (credit 0 rfl rfl _) (by decide +kernel)) fun _ => ?_
  refine Tr.bindu (tr_waitR 4 4 (n := 16) rfl (credit 0 rfl rfl _) (by decide +kernel) (by decide +kernel)) fun _ => ?_
  refine Tr.bindu (tr_sendH 4 5 (n := 32) (by decide) (by decide) (off91 c) (off91 c) (dev51 c) rfl rfl (credit 1 rfl rfl _) (by decide +kernel)) fun _ => ?_
  refine Tr.ret ?_ (St.eq (by decide +kernel) (by decide +kernel) (by decide +kernel))
  exact trivial

theorem t84 (v5 : BitVec 32) (v11 : BitVec 32) (v12 : BitVec 32) (v2319 : BitVec 32) : Tr I K c σ82 σ83 (k0_part84 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v11 v12 v2319)
    (fun _ => True) := by
  rw [k0_part84_eq_skeleton]; unfold k0_part84_skel
  refine Tr.bindu (tr_waitS 5 4 (n := 16) rfl (credit 0 rfl rfl _) (by decide +kernel)) fun _ => ?_
  refine Tr.bindu (tr_waitR 5 4 (n := 16) rfl (credit 0 rfl rfl _) (by decide +kernel) (by decide +kernel)) fun _ => ?_
  refine Tr.bindu (tr_sendH 5 5 (n := 32) (by decide) (by decide) (off92 c) (off92 c) (dev52 c) rfl rfl (credit 1 rfl rfl _) (by decide +kernel)) fun _ => ?_
  refine Tr.ret ?_ (St.eq (by decide +kernel) (by decide +kernel) (by decide +kernel))
  exact trivial

end Cert.Ring

end
-- ==== Proof.Run6.lean ====
/-
# Parts 85 to 97 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t85 (v7 : BitVec 32) (v12 : BitVec 32) (v13 : BitVec 32) (v2369 : BitVec 32) : Tr I K c σ83 σ84 (k0_part85 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v12 v13 v2369)
    (fun _ => True) := by
  rw [k0_part85_eq_skeleton]; unfold k0_part85_skel
  refine Tr.bindu (tr_waitS 2 5 (n := 32) rfl (credit 1 rfl rfl _) (by decide +kernel)) fun _ => ?_
  refine Tr.bindu (tr_waitR 2 5 (n := 32) rfl (credit 1 rfl rfl _) (by decide +kernel) (by decide +kernel)) fun _ => ?_
  refine Tr.bindu (tr_sendH 2 6 (n := 64) (by decide) (by decide) (off93 c) (off93 c) (dev53 c) rfl rfl (credit 2 rfl rfl _) (by decide +kernel)) fun _ => ?_
  refine Tr.ret ?_ (St.eq (by decide +kernel) (by decide +kernel) (by decide +kernel))
  exact trivial

theorem t86 (v10 : BitVec 32) (v11 : BitVec 32) (v14 : BitVec 32) (v2399 : BitVec 32) : Tr I K c σ84 σ85 (k0_part86 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v14 v2399)
    (fun _ => True) := by
  rw [k0_part86_eq_skeleton]; unfold k0_part86_skel
  refine Tr.bindu (tr_waitS 3 5 (n := 32) rfl (credit 1 rfl rfl _) (by decide +kernel)) fun _ => ?_
  refine Tr.bindu (tr_waitR 3 5 (n := 32) rfl (credit 1 rfl rfl _) (by decide +kernel) (by decide +kernel)) fun _ => ?_
  refine Tr.bindu (tr_sendH 3 6 (n := 64) (by decide) (by decide) (off94 c) (off94 c) (dev54 c) rfl rfl (credit 2 rfl rfl _) (by decide +kernel)) fun _ => ?_
  refine Tr.ret ?_ (St.eq (by decide +kernel) (by decide +kernel) (by decide +kernel))
  exact trivial

theorem t87 (v5 : BitVec 32) (v11 : BitVec 32) (v12 : BitVec 32) (v2429 : BitVec 32) : Tr I K c σ85 σ86 (k0_part87 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v11 v12 v2429)
    (fun _ => True) := by
  rw [k0_part87_eq_skeleton]; unfold k0_part87_skel
  refine Tr.bindu (tr_waitS 0 6 (n := 64) rfl (credit 2 rfl rfl _) (by decide +kernel)) fun _ => ?_
  refine Tr.bindu (tr_waitR 0 6 (n := 64) rfl (credit 2 rfl rfl _) (by decide +kernel) (by decide +kernel)) fun _ => ?_
  refine Tr.bindu (tr_sendH 0 7 (n := 128) (by decide) (by decide) (off95 c) (off95 c) (dev55 c) rfl rfl (credit 3 rfl rfl _) (by decide +kernel)) fun _ => ?_
  refine Tr.ret ?_ (St.eq (by decide +kernel) (by decide +kernel) (by decide +kernel))
  exact trivial

theorem t88 (v9 : BitVec 32) (v13 : BitVec 32) (v14 : BitVec 32) (v2459 : BitVec 32) (v2527 : BitVec 32) : Tr I K c σ86 σ87 (k0_part88 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v2459 v2527)
    (fun r => r.2.2 = (k0_pay143 (F := F) (slab (sumC I) (6 : Fin 8).val (wlo (6 : Fin 8).val (0 : Fin 5).val c) 16))) := by
  rw [k0_part88_eq_skeleton]; unfold k0_part88_skel
  refine Tr.bindu (tr_waitS 1 6 (n := 64) rfl (credit 2 rfl rfl _) (by decide +kernel)) fun _ => ?_
  refine Tr.bindu (tr_waitR 1 6 (n := 64) rfl (credit 2 rfl rfl _) (by decide +kernel) (by decide +kernel)) fun _ => ?_
  refine Tr.bindu (tr_sendH 1 7 (n := 128) (by decide) (by decide) (off96 c) (off96 c) (dev56 c) rfl rfl (credit 3 rfl rfl _) (by decide +kernel)) fun _ => ?_
  refine Tr.bindv (tr_ldG 6 0 16 (by decide) (off87'' c) (by decide +kernel) (by decide +kernel)) ?_
  refine Tr.bindu (tr_deadT) fun _ => ?_
  refine Tr.ret ?_ (St.eq (by decide +kernel) (by decide +kernel) (by decide +kernel))
  exact rfl

theorem t89 (v2573 : BitVec 32) (v2621 : BitVec 32) (v2651 : BitVec 32) (v2681 : BitVec 32) (v2711 : BitVec 32) : Tr I K c σ87 σ88 (k0_part89 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v2573 v2621 v2651 v2681 v2711 (k0_pay143 (F := F) (slab (sumC I) (6 : Fin 8).val (wlo (6 : Fin 8).val (0 : Fin 5).val c) 16)))
    (fun r => r = (k0_pay148 (F := F) (slab (sumC I) (3 : Fin 8).val (wlo (3 : Fin 8).val (2 : Fin 5).val c) 32))) := by
  rw [k0_part89_eq_skeleton]; unfold k0_part89_skel
  refine Tr.bindu (tr_stT 6 0 16 _ (by decide) (off49_768 c) (by decide +kernel) rfl) fun _ => ?_
  refine Tr.bindv (tr_ldG 7 0 16 (by decide) (off89'' c) (by decide +kernel) (by decide +kernel)) ?_
  refine Tr.bindu (tr_deadT) fun _ => ?_
  refine Tr.bindu (tr_stT 7 0 16 _ (by decide) (off50_768 c) (by decide +kernel) rfl) fun _ => ?_
  refine Tr.bindv (tr_ldG 4 1 16 (by decide) (off97 c) (by decide +kernel) (by decide +kernel)) ?_
  refine Tr.bindu (tr_deadT) fun _ => ?_
  refine Tr.bindu (tr_stT 4 1 16 _ (by decide) (off66_512 c) (by decide +kernel) rfl) fun _ => ?_
  refine Tr.bindv (tr_ldG 5 1 16 (by decide) (off98 c) (by decide +kernel) (by decide +kernel)) ?_
  refine Tr.bindu (tr_deadT) fun _ => ?_
  refine Tr.bindu (tr_stT 5 1 16 _ (by decide) (off68_512 c) (by decide +kernel) rfl) fun _ => ?_
  refine Tr.bindv (tr_ldG 2 2 32 (by decide) (off99 c) (by decide +kernel) (by decide +kernel)) ?_
  refine Tr.bindu (tr_deadT) fun _ => ?_
  refine Tr.bindu (tr_stT 2 2 32 _ (by decide) (off84_256 c) (by decide +kernel) rfl) fun _ => ?_
  refine Tr.bindv (tr_ldG 3 2 32 (by decide) (off100 c) (by decide +kernel) (by decide +kernel)) ?_
  refine Tr.bindu (tr_deadT) fun _ => ?_
  refine Tr.ret ?_ (St.eq (by decide +kernel) (by decide +kernel) (by decide +kernel))
  exact rfl

theorem t90 (v9 : BitVec 32) (v14 : BitVec 32) (v2741 : BitVec 32) (v2771 : BitVec 32) : Tr I K c σ88 σ89 (k0_part90 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v14 v2741 v2771 (k0_pay148 (F := F) (slab (sumC I) (3 : Fin 8).val (wlo (3 : Fin 8).val (2 : Fin 5).val c) 32)))
    (fun _ => True) := by
  rw [k0_part90_eq_skeleton]; unfold k0_part90_skel
  refine Tr.bindu (tr_stT 3 2 32 _ (by decide) (off86_256 c) (by decide +kernel) rfl) fun _ => ?_
  refine Tr.bindv (tr_ldG 0 3 64 (by decide) (off101 c) (by decide +kernel) (by decide +kernel)) ?_
  refine Tr.bindu (tr_deadT) fun _ => ?_
  refine Tr.bindu (tr_stT 0 3 64 _ (by decide) (off102_0 c) (by decide +kernel) rfl) fun _ => ?_
  refine Tr.bindv (tr_ldG 1 3 64 (by decide) (off103 c) (by decide +kernel) (by decide +kernel)) ?_
  refine Tr.bindu (tr_deadT) fun _ => ?_
  refine Tr.bindu (tr_stT 1 3 64 _ (by decide) (off104_0 c) (by decide +kernel) rfl) fun _ => ?_
  refine Tr.bindu (tr_waitS 6 4 (n := 16) rfl (credit 0 rfl rfl _) (by decide +kernel)) fun _ => ?_
  refine Tr.bindu (tr_waitR 6 4 (n := 16) rfl (credit 0 rfl rfl _) (by decide +kernel) (by decide +kernel)) fun _ => ?_
  refine Tr.ret ?_ (St.eq (by decide +kernel) (by decide +kernel) (by decide +kernel))
  exact trivial

theorem t91 (v5 : BitVec 32) (v9 : BitVec 32) (v12 : BitVec 32) (v13 : BitVec 32) (v2527 : BitVec 32) (v2855 : BitVec 32) : Tr I K c σ89 σ90 (k0_part91 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v9 v12 v13 v2527 v2855)
    (fun _ => True) := by
  rw [k0_part91_eq_skeleton]; unfold k0_part91_skel
  refine Tr.bindu (tr_sendH 6 5 (n := 32) (by decide) (by decide) (off105 c) (off105 c) (dev57 c) rfl rfl (credit 1 rfl rfl _) (by decide +kernel)) fun _ => ?_
  refine Tr.bindu (tr_waitS 7 4 (n := 16) rfl (credit 0 rfl rfl _) (by decide +kernel)) fun _ => ?_
  refine Tr.bindu (tr_waitR 7 4 (n := 16) rfl (credit 0 rfl rfl _) (by decide +kernel) (by decide +kernel)) fun _ => ?_
  refine Tr.ret ?_ (St.eq (by decide +kernel) (by decide +kernel) (by decide +kernel))
  exact trivial

theorem t92 (v5 : BitVec 32) (v7 : BitVec 32) (v11 : BitVec 32) (v13 : BitVec 32) (v2573 : BitVec 32) (v2885 : BitVec 32) : Tr I K c σ90 σ91 (k0_part92 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v11 v13 v2573 v2885)
    (fun _ => True) := by
  rw [k0_part92_eq_skeleton]; unfold k0_part92_skel
  refine Tr.bindu (tr_sendH 7 5 (n := 32) (by decide) (by decide) (off106 c) (off106 c) (dev58 c) rfl rfl (credit 1 rfl rfl _) (by decide +kernel)) fun _ => ?_
  refine Tr.bindu (tr_waitS 4 5 (n := 32) rfl (credit 1 rfl rfl _) (by decide +kernel)) fun _ => ?_
  refine Tr.bindu (tr_waitR 4 5 (n := 32) rfl (credit 1 rfl rfl _) (by decide +kernel) (by decide +kernel)) fun _ => ?_
  refine Tr.ret ?_ (St.eq (by decide +kernel) (by decide +kernel) (by decide +kernel))
  exact trivial

theorem t93 (v7 : BitVec 32) (v10 : BitVec 32) (v11 : BitVec 32) (v12 : BitVec 32) (v2623 : BitVec 32) (v2915 : BitVec 32) : Tr I K c σ91 σ92 (k0_part93 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v10 v11 v12 v2623 v2915)
    (fun _ => True) := by
  rw [k0_part93_eq_skeleton]; unfold k0_part93_skel
  refine Tr.bindu (tr_sendH 4 6 (n := 64) (by decide) (by decide) (off107 c) (off107 c) (dev59 c) rfl rfl (credit 2 rfl rfl _) (by decide +kernel)) fun _ => ?_
  refine Tr.bindu (tr_waitS 5 5 (n := 32) rfl (credit 1 rfl rfl _) (by decide +kernel)) fun _ => ?_
  refine Tr.bindu (tr_waitR 5 5 (n := 32) rfl (credit 1 rfl rfl _) (by decide +kernel) (by decide +kernel)) fun _ => ?_
  refine Tr.ret ?_ (St.eq (by decide +kernel) (by decide +kernel) (by decide +kernel))
  exact trivial

theorem t94 (v5 : BitVec 32) (v10 : BitVec 32) (v12 : BitVec 32) (v14 : BitVec 32) (v2653 : BitVec 32) (v2945 : BitVec 32) : Tr I K c σ92 σ93 (k0_part94 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v10 v12 v14 v2653 v2945)
    (fun _ => True) := by
  rw [k0_part94_eq_skeleton]; unfold k0_part94_skel
  refine Tr.bindu (tr_sendH 5 6 (n := 64) (by decide) (by decide) (off108 c) (off108 c) (dev60 c) rfl rfl (credit 2 rfl rfl _) (by decide +kernel)) fun _ => ?_
  refine Tr.bindu (tr_waitS 2 6 (n := 64) rfl (credit 2 rfl rfl _) (by decide +kernel)) fun _ => ?_
  refine Tr.bindu (tr_waitR 2 6 (n := 64) rfl (credit 2 rfl rfl _) (by decide +kernel) (by decide +kernel)) fun _ => ?_
  refine Tr.ret ?_ (St.eq (by decide +kernel) (by decide +kernel) (by decide +kernel))
  exact trivial

theorem t95 (v5 : BitVec 32) (v9 : BitVec 32) (v11 : BitVec 32) (v14 : BitVec 32) (v2683 : BitVec 32) (v2975 : BitVec 32) : Tr I K c σ93 σ94 (k0_part95 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v9 v11 v14 v2683 v2975)
    (fun _ => True) := by
  rw [k0_part95_eq_skeleton]; unfold k0_part95_skel
  refine Tr.bindu (tr_sendH 2 7 (n := 128) (by decide) (by decide) (off109 c) (off109 c) (dev61 c) rfl rfl (credit 3 rfl rfl _) (by decide +kernel)) fun _ => ?_
  refine Tr.bindu (tr_waitS 3 6 (n := 64) rfl (credit 2 rfl rfl _) (by decide +kernel)) fun _ => ?_
  refine Tr.bindu (tr_waitR 3 6 (n := 64) rfl (credit 2 rfl rfl _) (by decide +kernel) (by decide +kernel)) fun _ => ?_
  refine Tr.ret ?_ (St.eq (by decide +kernel) (by decide +kernel) (by decide +kernel))
  exact trivial

theorem t96 (v9 : BitVec 32) (v10 : BitVec 32) (v11 : BitVec 32) (v13 : BitVec 32) (v2713 : BitVec 32) (v3005 : BitVec 32) : Tr I K c σ94 σ95 (k0_part96 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v10 v11 v13 v2713 v3005)
    (fun _ => True) := by
  rw [k0_part96_eq_skeleton]; unfold k0_part96_skel
  refine Tr.bindu (tr_sendH 3 7 (n := 128) (by decide) (by decide) (off110 c) (off110 c) (dev62 c) rfl rfl (credit 3 rfl rfl _) (by decide +kernel)) fun _ => ?_
  refine Tr.bindu (tr_waitS 0 7 (n := 128) rfl (credit 3 rfl rfl _) (by decide +kernel)) fun _ => ?_
  refine Tr.bindu (tr_waitR 0 7 (n := 128) rfl (credit 3 rfl rfl _) (by decide +kernel) (by decide +kernel)) fun _ => ?_
  refine Tr.ret ?_ (St.eq (by decide +kernel) (by decide +kernel) (by decide +kernel))
  exact trivial

theorem t97 (v7 : BitVec 32) (v13 : BitVec 32) (v2743 : BitVec 32) (v2773 : BitVec 32) (v2857 : BitVec 32) (v2887 : BitVec 32) (v3035 : BitVec 32) : Tr I K c σ95 σ96 (k0_part97 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v13 v2743 v2773 v2857 v2887 v3035)
    (fun r => r.2.2.1 = (k0_pay152 (F := F) (slab (sumC I) (7 : Fin 8).val (wlo (7 : Fin 8).val (1 : Fin 5).val c) 16)) ∧ r.2.2.2 = 768#32) := by
  rw [k0_part97_eq_skeleton]; unfold k0_part97_skel
  refine Tr.bindu (tr_waitS 1 7 (n := 128) rfl (credit 3 rfl rfl _) (by decide +kernel)) fun _ => ?_
  refine Tr.bindu (tr_waitR 1 7 (n := 128) rfl (credit 3 rfl rfl _) (by decide +kernel) (by decide +kernel)) fun _ => ?_
  refine Tr.bindv (tr_ldG 6 1 16 (by decide) (off111 c) (by decide +kernel) (by decide +kernel)) ?_
  refine Tr.bindu (tr_deadT) fun _ => ?_
  refine Tr.bindu (tr_stT 6 1 16 _ (by decide) (off66_768 c) (by decide +kernel) rfl) fun _ => ?_
  refine Tr.bindv (tr_ldG 7 1 16 (by decide) (off112 c) (by decide +kernel) (by decide +kernel)) ?_
  refine Tr.ret ?_ (St.eq (by decide +kernel) (by decide +kernel) (by decide +kernel))
  exact ⟨by with_reducible rfl, by with_reducible rfl⟩

end Cert.Ring

end
-- ==== Proof.Run7.lean ====
/-
# Parts 98 to 110 of the body
-/
module

public import proofs.«01_k».proof.Proof.States
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Ins F) (K : Dev nD × Fin 129 → ℕ) (c : Dev nD)

theorem t98 (v2887 : BitVec 32) (v2917 : BitVec 32) (v2947 : BitVec 32) (v2977 : BitVec 32) (v3007 : BitVec 32) (v3037 : BitVec 32) : Tr I K c σ96 σ97 (k0_part98 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v2887 v2917 v2947 v2977 v3007 v3037 (k0_pay152 (F := F) (slab (sumC I) (7 : Fin 8).val (wlo (7 : Fin 8).val (1 : Fin 5).val c) 16)) 768#32)
    (fun r => r.1 = (k0_pay157 (F := F) (slab (sumC I) (0 : Fin 8).val (wlo (0 : Fin 8).val (4 : Fin 5).val c) 128)) ∧ r.2 = 0#32) := by
  rw [k0_part98_eq_skeleton]; unfold k0_part98_skel
  refine Tr.bindu (tr_deadT) fun _ => ?_
  refine Tr.bindu (tr_stT 7 1 16 _ (by decide) (off68_768 c) (by decide +kernel) rfl) fun _ => ?_
  refine Tr.bindv (tr_ldG 4 2 32 (by decide) (off113 c) (by decide +kernel) (by decide +kernel)) ?_
  refine Tr.bindu (tr_deadT) fun _ => ?_
  refine Tr.bindu (tr_stT 4 2 32 _ (by decide) (off84_512 c) (by decide +kernel) rfl) fun _ => ?_
  refine Tr.bindv (tr_ldG 5 2 32 (by decide) (off114 c) (by decide +kernel) (by decide +kernel)) ?_
  refine Tr.bindu (tr_deadT) fun _ => ?_
  refine Tr.bindu (tr_stT 5 2 32 _ (by decide) (off86_512 c) (by decide +kernel) rfl) fun _ => ?_
  refine Tr.bindv (tr_ldG 2 3 64 (by decide) (off115 c) (by decide +kernel) (by decide +kernel)) ?_
  refine Tr.bindu (tr_deadT) fun _ => ?_
  refine Tr.bindu (tr_stT 2 3 64 _ (by decide) (off102_256 c) (by decide +kernel) rfl) fun _ => ?_
  refine Tr.bindv (tr_ldG 3 3 64 (by decide) (off116 c) (by decide +kernel) (by decide +kernel)) ?_
  refine Tr.bindu (tr_deadT) fun _ => ?_
  refine Tr.bindu (tr_stT 3 3 64 _ (by decide) (off104_256 c) (by decide +kernel) rfl) fun _ => ?_
  refine Tr.bindv (tr_ldG 0 4 128 (by decide) (off117 c) (by decide +kernel) (by decide +kernel)) ?_
  refine Tr.ret ?_ (St.eq (by decide +kernel) (by decide +kernel) (by decide +kernel))
  exact ⟨by with_reducible rfl, by with_reducible rfl⟩

theorem t99 (v7 : BitVec 32) (v13 : BitVec 32) (v2859 : BitVec 32) (v3037 : BitVec 32) (v3055 : BitVec 32) : Tr I K c σ97 σ98 (k0_part99 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v13 v2859 v3037 v3055 (k0_pay157 (F := F) (slab (sumC I) (0 : Fin 8).val (wlo (0 : Fin 8).val (4 : Fin 5).val c) 128)) 0#32)
    (fun _ => True) := by
  rw [k0_part99_eq_skeleton]; unfold k0_part99_skel
  refine Tr.bindu (tr_deadT) fun _ => ?_
  refine Tr.bindu (tr_stT 0 4 128 _ (by decide) (off118_0 c) (by decide +kernel) rfl) fun _ => ?_
  refine Tr.bindv (tr_ldG 1 4 128 (by decide) (off119 c) (by decide +kernel) (by decide +kernel)) ?_
  refine Tr.bindu (tr_deadT) fun _ => ?_
  refine Tr.bindu (tr_stT 1 4 128 _ (by decide) (off120_0 c) (by decide +kernel) rfl) fun _ => ?_
  refine Tr.bindu (tr_waitS 6 5 (n := 32) rfl (credit 1 rfl rfl _) (by decide +kernel)) fun _ => ?_
  refine Tr.bindu (tr_waitR 6 5 (n := 32) rfl (credit 1 rfl rfl _) (by decide +kernel) (by decide +kernel)) fun _ => ?_
  refine Tr.ret ?_ (St.eq (by decide +kernel) (by decide +kernel) (by decide +kernel))
  exact trivial

theorem t100 (v10 : BitVec 32) (v11 : BitVec 32) (v12 : BitVec 32) (v2889 : BitVec 32) : Tr I K c σ98 σ99 (k0_part100 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v12 v2889)
    (fun _ => True) := by
  rw [k0_part100_eq_skeleton]; unfold k0_part100_skel
  refine Tr.bindu (tr_sendH 6 6 (n := 64) (by decide) (by decide) (off121 c) (off121 c) (dev63 c) rfl rfl (credit 2 rfl rfl _) (by decide +kernel)) fun _ => ?_
  refine Tr.bindu (tr_waitS 7 5 (n := 32) rfl (credit 1 rfl rfl _) (by decide +kernel)) fun _ => ?_
  refine Tr.bindu (tr_waitR 7 5 (n := 32) rfl (credit 1 rfl rfl _) (by decide +kernel) (by decide +kernel)) fun _ => ?_
  refine Tr.ret ?_ (St.eq (by decide +kernel) (by decide +kernel) (by decide +kernel))
  exact trivial

theorem t101 (v5 : BitVec 32) (v12 : BitVec 32) (v14 : BitVec 32) (v2919 : BitVec 32) : Tr I K c σ99 σ100 (k0_part101 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v12 v14 v2919)
    (fun _ => True) := by
  rw [k0_part101_eq_skeleton]; unfold k0_part101_skel
  refine Tr.bindu (tr_sendH 7 6 (n := 64) (by decide) (by decide) (off122 c) (off122 c) (dev64 c) rfl rfl (credit 2 rfl rfl _) (by decide +kernel)) fun _ => ?_
  refine Tr.bindu (tr_waitS 4 6 (n := 64) rfl (credit 2 rfl rfl _) (by decide +kernel)) fun _ => ?_
  refine Tr.bindu (tr_waitR 4 6 (n := 64) rfl (credit 2 rfl rfl _) (by decide +kernel) (by decide +kernel)) fun _ => ?_
  refine Tr.ret ?_ (St.eq (by decide +kernel) (by decide +kernel) (by decide +kernel))
  exact trivial

theorem t102 (v9 : BitVec 32) (v11 : BitVec 32) (v14 : BitVec 32) (v2949 : BitVec 32) : Tr I K c σ100 σ101 (k0_part102 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v11 v14 v2949)
    (fun _ => True) := by
  rw [k0_part102_eq_skeleton]; unfold k0_part102_skel
  refine Tr.bindu (tr_sendH 4 7 (n := 128) (by decide) (by decide) (off123 c) (off123 c) (dev65 c) rfl rfl (credit 3 rfl rfl _) (by decide +kernel)) fun _ => ?_
  refine Tr.bindu (tr_waitS 5 6 (n := 64) rfl (credit 2 rfl rfl _) (by decide +kernel)) fun _ => ?_
  refine Tr.bindu (tr_waitR 5 6 (n := 64) rfl (credit 2 rfl rfl _) (by decide +kernel) (by decide +kernel)) fun _ => ?_
  refine Tr.ret ?_ (St.eq (by decide +kernel) (by decide +kernel) (by decide +kernel))
  exact trivial

theorem t103 (v10 : BitVec 32) (v11 : BitVec 32) (v13 : BitVec 32) (v2979 : BitVec 32) : Tr I K c σ101 σ102 (k0_part103 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v10 v11 v13 v2979)
    (fun _ => True) := by
  rw [k0_part103_eq_skeleton]; unfold k0_part103_skel
  refine Tr.bindu (tr_sendH 5 7 (n := 128) (by decide) (by decide) (off124 c) (off124 c) (dev66 c) rfl rfl (credit 3 rfl rfl _) (by decide +kernel)) fun _ => ?_
  refine Tr.bindu (tr_waitS 2 7 (n := 128) rfl (credit 3 rfl rfl _) (by decide +kernel)) fun _ => ?_
  refine Tr.bindu (tr_waitR 2 7 (n := 128) rfl (credit 3 rfl rfl _) (by decide +kernel) (by decide +kernel)) fun _ => ?_
  refine Tr.ret ?_ (St.eq (by decide +kernel) (by decide +kernel) (by decide +kernel))
  exact trivial

theorem t104 (v7 : BitVec 32) (v13 : BitVec 32) (v3009 : BitVec 32) (v3129 : BitVec 32) (v3159 : BitVec 32) (v3189 : BitVec 32) : Tr I K c σ102 σ103 (k0_part104 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v13 v3009 v3129 v3159 v3189)
    (fun _ => True) := by
  rw [k0_part104_eq_skeleton]; unfold k0_part104_skel
  refine Tr.bindu (tr_waitS 3 7 (n := 128) rfl (credit 3 rfl rfl _) (by decide +kernel)) fun _ => ?_
  refine Tr.bindu (tr_waitR 3 7 (n := 128) rfl (credit 3 rfl rfl _) (by decide +kernel) (by decide +kernel)) fun _ => ?_
  refine Tr.bindv (tr_ldG 6 2 32 (by decide) (off125 c) (by decide +kernel) (by decide +kernel)) ?_
  refine Tr.bindu (tr_deadT) fun _ => ?_
  refine Tr.bindu (tr_stT 6 2 32 _ (by decide) (off84_768 c) (by decide +kernel) rfl) fun _ => ?_
  refine Tr.bindv (tr_ldG 7 2 32 (by decide) (off126 c) (by decide +kernel) (by decide +kernel)) ?_
  refine Tr.bindu (tr_deadT) fun _ => ?_
  refine Tr.bindu (tr_stT 7 2 32 _ (by decide) (off86_768 c) (by decide +kernel) rfl) fun _ => ?_
  refine Tr.ret ?_ (St.eq (by decide +kernel) (by decide +kernel) (by decide +kernel))
  exact trivial

theorem t105 (v3189 : BitVec 32) (v3219 : BitVec 32) (v3249 : BitVec 32) (v3267 : BitVec 32) : Tr I K c σ103 σ104 (k0_part105 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v3189 v3219 v3249 v3267)
    (fun _ => True) := by
  rw [k0_part105_eq_skeleton]; unfold k0_part105_skel
  refine Tr.bindv (tr_ldG 4 3 64 (by decide) (off127 c) (by decide +kernel) (by decide +kernel)) ?_
  refine Tr.bindu (tr_deadT) fun _ => ?_
  refine Tr.bindu (tr_stT 4 3 64 _ (by decide) (off102_512 c) (by decide +kernel) rfl) fun _ => ?_
  refine Tr.bindv (tr_ldG 5 3 64 (by decide) (off128 c) (by decide +kernel) (by decide +kernel)) ?_
  refine Tr.bindu (tr_deadT) fun _ => ?_
  refine Tr.bindu (tr_stT 5 3 64 _ (by decide) (off104_512 c) (by decide +kernel) rfl) fun _ => ?_
  refine Tr.bindv (tr_ldG 2 4 128 (by decide) (off129 c) (by decide +kernel) (by decide +kernel)) ?_
  refine Tr.bindu (tr_deadT) fun _ => ?_
  refine Tr.bindu (tr_stT 2 4 128 _ (by decide) (off118_256 c) (by decide +kernel) rfl) fun _ => ?_
  refine Tr.bindv (tr_ldG 3 4 128 (by decide) (off130 c) (by decide +kernel) (by decide +kernel)) ?_
  refine Tr.bindu (tr_deadT) fun _ => ?_
  refine Tr.bindu (tr_stT 3 4 128 _ (by decide) (off120_256 c) (by decide +kernel) rfl) fun _ => ?_
  refine Tr.bindu (tr_waitS 6 6 (n := 64) rfl (credit 2 rfl rfl _) (by decide +kernel)) fun _ => ?_
  refine Tr.ret ?_ (St.eq (by decide +kernel) (by decide +kernel) (by decide +kernel))
  exact trivial

theorem t106 (v5 : BitVec 32) (v11 : BitVec 32) (v12 : BitVec 32) (v3131 : BitVec 32) : Tr I K c σ104 σ105 (k0_part106 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v11 v12 v3131)
    (fun _ => True) := by
  rw [k0_part106_eq_skeleton]; unfold k0_part106_skel
  refine Tr.bindu (tr_waitR 6 6 (n := 64) rfl (credit 2 rfl rfl _) (by decide +kernel) (by decide +kernel)) fun _ => ?_
  refine Tr.bindu (tr_sendH 6 7 (n := 128) (by decide) (by decide) (off131 c) (off131 c) (dev67 c) rfl rfl (credit 3 rfl rfl _) (by decide +kernel)) fun _ => ?_
  refine Tr.bindu (tr_waitS 7 6 (n := 64) rfl (credit 2 rfl rfl _) (by decide +kernel)) fun _ => ?_
  refine Tr.ret ?_ (St.eq (by decide +kernel) (by decide +kernel) (by decide +kernel))
  exact trivial

theorem t107 (v9 : BitVec 32) (v13 : BitVec 32) (v14 : BitVec 32) (v3161 : BitVec 32) : Tr I K c σ105 σ106 (k0_part107 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v9 v13 v14 v3161)
    (fun _ => True) := by
  rw [k0_part107_eq_skeleton]; unfold k0_part107_skel
  refine Tr.bindu (tr_waitR 7 6 (n := 64) rfl (credit 2 rfl rfl _) (by decide +kernel) (by decide +kernel)) fun _ => ?_
  refine Tr.bindu (tr_sendH 7 7 (n := 128) (by decide) (by decide) (off132 c) (off132 c) (dev68 c) rfl rfl (credit 3 rfl rfl _) (by decide +kernel)) fun _ => ?_
  refine Tr.bindu (tr_waitS 4 7 (n := 128) rfl (credit 3 rfl rfl _) (by decide +kernel)) fun _ => ?_
  refine Tr.ret ?_ (St.eq (by decide +kernel) (by decide +kernel) (by decide +kernel))
  exact trivial

theorem t108 (v7 : BitVec 32) (v10 : BitVec 32) (v11 : BitVec 32) (v13 : BitVec 32) (v3191 : BitVec 32) : Tr I K c σ106 σ107 (k0_part108 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v10 v11 v13 v3191)
    (fun _ => True) := by
  rw [k0_part108_eq_skeleton]; unfold k0_part108_skel
  refine Tr.bindu (tr_waitR 4 7 (n := 128) rfl (credit 3 rfl rfl _) (by decide +kernel) (by decide +kernel)) fun _ => ?_
  refine Tr.bindu (tr_waitS 5 7 (n := 128) rfl (credit 3 rfl rfl _) (by decide +kernel)) fun _ => ?_
  refine Tr.bindu (tr_waitR 5 7 (n := 128) rfl (credit 3 rfl rfl _) (by decide +kernel) (by decide +kernel)) fun _ => ?_
  refine Tr.ret ?_ (St.eq (by decide +kernel) (by decide +kernel) (by decide +kernel))
  exact trivial

theorem t109 (v3221 : BitVec 32) (v3327 : BitVec 32) (v3357 : BitVec 32) (v3387 : BitVec 32) (v3404 : BitVec 32) : Tr I K c σ107 σ108 (k0_part109 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v3221 v3327 v3357 v3387 v3404)
    (fun _ => True) := by
  rw [k0_part109_eq_skeleton]; unfold k0_part109_skel
  refine Tr.bindv (tr_ldG 6 3 64 (by decide) (off133 c) (by decide +kernel) (by decide +kernel)) ?_
  refine Tr.bindu (tr_deadT) fun _ => ?_
  refine Tr.bindu (tr_stT 6 3 64 _ (by decide) (off102_768 c) (by decide +kernel) rfl) fun _ => ?_
  refine Tr.bindv (tr_ldG 7 3 64 (by decide) (off134 c) (by decide +kernel) (by decide +kernel)) ?_
  refine Tr.bindu (tr_deadT) fun _ => ?_
  refine Tr.bindu (tr_stT 7 3 64 _ (by decide) (off104_768 c) (by decide +kernel) rfl) fun _ => ?_
  refine Tr.bindv (tr_ldG 4 4 128 (by decide) (off135 c) (by decide +kernel) (by decide +kernel)) ?_
  refine Tr.bindu (tr_deadT) fun _ => ?_
  refine Tr.bindu (tr_stT 4 4 128 _ (by decide) (off118_512 c) (by decide +kernel) rfl) fun _ => ?_
  refine Tr.bindv (tr_ldG 5 4 128 (by decide) (off136 c) (by decide +kernel) (by decide +kernel)) ?_
  refine Tr.bindu (tr_deadT) fun _ => ?_
  refine Tr.bindu (tr_stT 5 4 128 _ (by decide) (off120_512 c) (by decide +kernel) rfl) fun _ => ?_
  refine Tr.ret ?_ (St.eq (by decide +kernel) (by decide +kernel) (by decide +kernel))
  exact trivial

theorem t110 (v7 : BitVec 32) (v10 : BitVec 32) (v11 : BitVec 32) (v13 : BitVec 32) (v3329 : BitVec 32) : Tr I K c σ108 σ109 (k0_part110 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v7 v10 v11 v13 v3329)
    (fun _ => True) := by
  rw [k0_part110_eq_skeleton]; unfold k0_part110_skel
  refine Tr.bindu (tr_waitS 6 7 (n := 128) rfl (credit 3 rfl rfl _) (by decide +kernel)) fun _ => ?_
  refine Tr.bindu (tr_waitR 6 7 (n := 128) rfl (credit 3 rfl rfl _) (by decide +kernel) (by decide +kernel)) fun _ => ?_
  refine Tr.bindu (tr_waitS 7 7 (n := 128) rfl (credit 3 rfl rfl _) (by decide +kernel)) fun _ => ?_
  refine Tr.bindu (tr_waitR 7 7 (n := 128) rfl (credit 3 rfl rfl _) (by decide +kernel) (by decide +kernel)) fun _ => ?_
  refine Tr.ret ?_ (St.eq (by decide +kernel) (by decide +kernel) (by decide +kernel))
  exact trivial

end Cert.Ring

end
-- ==== Proof.Body.lean ====
/-
# The body after its handshake
-/
module

public import proofs.«01_k».proof.Proof.Run1
public import proofs.«01_k».proof.Proof.Run2
public import proofs.«01_k».proof.Proof.Run3
public import proofs.«01_k».proof.Proof.Run4
public import proofs.«01_k».proof.Proof.Run5
public import proofs.«01_k».proof.Proof.Run6
public import proofs.«01_k».proof.Proof.Run7

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 129 → ℕ) (c : Dev nD)

/-- A program that ends in a state, then one between states; what is left over stays. -/
theorem bind_start {α β : Type} {S B : sProp 𝕄} {σ σ' : St} {p : Prog (TpuEff nD τ sig (Elt F) Λ₀ .tc) α} {k : α → Prog (TpuEff nD τ sig (Elt F) Λ₀ .tc) β}
    {P : α → Prop} {R : β → Prop}
    (h : S ⊢ wp frame (wpE (defs₀ (F := F)) 𝒱₀ (c : Thread nD τ) none) Set.univ p (fun r => iprop(⌜P r⌝ ∗ B ∗ Sm I K c σ)))
    (hk : ∀ v, P v → Tr I K c σ σ' (k v) R) :
    S ⊢ wp frame (wpE (defs₀ (F := F)) 𝒱₀ (c : Thread nD τ) none) Set.univ (p >>= k) (fun r => iprop(⌜R r⌝ ∗ B ∗ Sm I K c σ')) := by
  rw [wp_bind]
  refine BIBase.Entails.trans h (wp_mono _ _ _ fun a => ?_)
  iintro ⟨%ha, HB, H⟩
  have hk' := hk a ha
  unfold Tr at hk'
  ihave H := hk' $$ H
  iapply (wp_mono _ _ _ fun r => (show iprop(B ∗ ⌜R r⌝ ∗ Sm I K c σ') ⊢ iprop(⌜R r⌝ ∗ B ∗ Sm I K c σ') from by
    iintro ⟨HB, %hr, H⟩; isplitr; · ipureintro; exact hr
    isplitl [HB]; · iexact HB
    iexact H))
  iapply (wp_frame_l _ _ _)
  isplitl [HB]; · iexact HB
  iexact H

set_option maxRecDepth 4000 in
/-- The first half of the body, from what part 1 ends in. -/
theorem t111 {S B : sProp 𝕄} (h : S ⊢ wp frame (wpE (defs₀ (F := F)) 𝒱₀ (c : Thread nD τ) none) Set.univ (k0_part1 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
      (fun r => iprop(⌜r.1 = c ∧ r.2.2.2.2.2.2.2.2.2 = wOf (c := c) I 0⌝ ∗ B ∗ Sm I K c σ0))) :
    S ⊢ wp frame (wpE (defs₀ (F := F)) 𝒱₀ (c : Thread nD τ) none) Set.univ (k0_part111 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12) (fun r => iprop(⌜r.1 = c⌝ ∗ B ∗ Sm I K c σ59)) := by
  rw [k0_part111_eq_skeleton]; unfold k0_part111_skel
  refine bind_start I K c h ?_
  rintro ⟨d0, v5, v7, v9, v10, v11, v12, v13, v14, v24⟩ ⟨h1, h2⟩
  replace h1 : d0 = c := h1; subst d0
  replace h2 : v24 = wOf (c := c) I 0 := h2; subst v24
  refine Tr.bindv (t2 I K c) ?_
  refine Tr.bindu (t3 I K c) fun _ => ?_
  refine Tr.bind (t4 I K c) ?_; rintro ⟨v113, v126, cst_85⟩ ⟨h0, h1, h2⟩
  obtain rfl : v113 = (headBlk (bufG I c (6 : Fin 8).val) 0 2) := h0
  obtain rfl : v126 = (k0_pay13 (F := F) (headBlk (bufG I c (4 : Fin 8).val) 0 2) (headBlk (bufG I c (5 : Fin 8).val) 0 2)) := h1
  obtain rfl : cst_85 = (constant S256x128 .f32 0x00000000#32 : FVec F S256x128 .f32) := h2
  refine Tr.bind (t5 I K c) ?_; rintro ⟨v155, v158, v160⟩ ⟨h0, h1, h2⟩
  obtain rfl : v155 = (headBlk (bufG I c (6 : Fin 8).val) 0 4) := h0
  obtain rfl : v158 = (k0_pay16 (F := F) (headBlk (bufG I c (4 : Fin 8).val) 0 4) (headBlk (bufG I c (5 : Fin 8).val) 0 4)) := h1
  obtain rfl : v160 = (k0_pay17 (F := F) (headBlk (bufG I c (4 : Fin 8).val) 0 4) (headBlk (bufG I c (5 : Fin 8).val) 0 4)) := h2
  refine Tr.bind (t6 I K c) ?_; rintro ⟨v195, v196⟩ ⟨h0, h1⟩
  obtain rfl : v195 = (headBlk (bufG I c (4 : Fin 8).val) 0 6) := h0
  obtain rfl : v196 = (headBlk (bufG I c (5 : Fin 8).val) 0 6) := h1
  refine Tr.bind (t7 I K c) ?_; rintro ⟨v233, v234⟩ h0
  obtain rfl : v233 = (k0_pay21 (F := F) (headBlk (bufG I c (4 : Fin 8).val) 0 7) (headBlk (bufG I c (5 : Fin 8).val) 0 7) (headBlk (bufG I c (6 : Fin 8).val) 0 7)) := h0
  refine Tr.bindu (t8 I K c _ _ _) fun _ => ?_
  refine Tr.bind (t9 I K c _ _) ?_; rintro ⟨v279, v292⟩ ⟨h0, h1⟩
  obtain rfl : v279 = (k0_pay25 (F := F) (xBlk (I.x c) (1 : Fin 4).val)) := h0
  obtain rfl : v292 = (bufG I c (2 : Fin 8).val) := h1
  refine Tr.bind (t10 I K c) ?_; rintro ⟨v321, v324, v325⟩ ⟨h0, h1, h2⟩
  obtain rfl : v321 = (headBlk (bufG I c (6 : Fin 8).val) 1 1) := h0
  obtain rfl : v324 = (k0_pay30 (F := F) (headBlk (bufG I c (4 : Fin 8).val) 1 1) (headBlk (bufG I c (5 : Fin 8).val) 1 1)) := h1
  obtain rfl : v325 = (k0_pay31 (F := F) (headBlk (bufG I c (4 : Fin 8).val) 1 1) (headBlk (bufG I c (5 : Fin 8).val) 1 1)) := h2
  refine Tr.bind (t11 I K c) ?_; rintro ⟨v361, v362⟩ ⟨h0, h1⟩
  obtain rfl : v361 = (headBlk (bufG I c (4 : Fin 8).val) 1 3) := h0
  obtain rfl : v362 = (headBlk (bufG I c (5 : Fin 8).val) 1 3) := h1
  refine Tr.bindv (t12 I K c) ?_
  refine Tr.bind (t13 I K c) ?_; rintro ⟨v426, v434⟩ ⟨h0, h1⟩
  obtain rfl : v426 = (headBlk (bufG I c (6 : Fin 8).val) 1 6) := h0
  obtain rfl : v434 = (k0_pay38 (F := F) (headBlk (bufG I c (4 : Fin 8).val) 1 6) (headBlk (bufG I c (5 : Fin 8).val) 1 6)) := h1
  refine Tr.bindv (t14 I K c) ?_
  refine Tr.bind (t15 I K c _ _ _ _) ?_; rintro ⟨v496, c0_i32_341⟩ h0
  obtain rfl : c0_i32_341 = 0#32 := h0
  refine Tr.bind (t16 I K c _ _ _) ?_; rintro ⟨v521, v525, v526⟩ ⟨h0, h1⟩
  obtain rfl : v525 = (k0_pay44 (F := F) (slab (accC I (0 : Fin 4).val c) (0 : Fin 8).val (klo (0 : Fin 8).val ((0 : Fin 4).val + 1) c) 128)) := h0
  obtain rfl : v526 = (rslab (recC I c) (0 : Fin 8).val (roff (0 : Fin 4).val) 128) := h1
  refine Tr.bindu (t17 I K c _ _ _ _) fun _ => ?_
  refine Tr.bindu (t18 I K c _ _ _) fun v563 => ?_
  refine Tr.bind (t19 I K c) ?_; rintro ⟨v613, v620⟩ ⟨h0, h1⟩
  obtain rfl : v613 = (headBlk (bufG I c (6 : Fin 8).val) 2 0) := h0
  obtain rfl : v620 = (k0_pay51 (F := F) (headBlk (bufG I c (4 : Fin 8).val) 2 0) (headBlk (bufG I c (5 : Fin 8).val) 2 0)) := h1
  refine Tr.bind (t20 I K c) ?_; rintro ⟨v653, v654, v655⟩ ⟨h0, h1, h2⟩
  obtain rfl : v653 = (headBlk (bufG I c (4 : Fin 8).val) 2 2) := h0
  obtain rfl : v654 = (headBlk (bufG I c (5 : Fin 8).val) 2 2) := h1
  obtain rfl : v655 = (headBlk (bufG I c (6 : Fin 8).val) 2 2) := h2
  refine Tr.bindv (t21 I K c) ?_
  refine Tr.bind (t22 I K c) ?_; rintro ⟨v718, v726, v729⟩ ⟨h0, h1, h2⟩
  obtain rfl : v718 = (headBlk (bufG I c (6 : Fin 8).val) 2 5) := h0
  obtain rfl : v726 = (k0_pay57 (F := F) (headBlk (bufG I c (4 : Fin 8).val) 2 5) (headBlk (bufG I c (5 : Fin 8).val) 2 5)) := h1
  obtain rfl : v729 = (k0_pay58 (F := F) (headBlk (bufG I c (4 : Fin 8).val) 2 5) (headBlk (bufG I c (5 : Fin 8).val) 2 5)) := h2
  refine Tr.bind (t23 I K c) ?_; rintro ⟨v760, v763⟩ ⟨h0, h1⟩
  obtain rfl : v760 = (headBlk (bufG I c (6 : Fin 8).val) 2 7) := h0
  obtain rfl : v763 = (k0_pay61 (F := F) (headBlk (bufG I c (4 : Fin 8).val) 2 7) (headBlk (bufG I c (5 : Fin 8).val) 2 7)) := h1
  refine Tr.bindu (t24 I K c _) fun _ => ?_
  refine Tr.bindu (t25 I K c _ _ _) fun _ => ?_
  refine Tr.bindu (t26 I K c _ _ _ _ _) fun v834 => ?_
  refine Tr.bind (t27 I K c _ _ _) ?_; rintro ⟨v876, v885⟩ h0
  obtain rfl : v885 = (k0_pay66 (F := F) (slab (accC I (1 : Fin 4).val c) (1 : Fin 8).val (klo (1 : Fin 8).val ((1 : Fin 4).val + 1) c) 64) (rslab (recC I c) (1 : Fin 8).val (roff (1 : Fin 4).val) 64)) := h0
  refine Tr.bindu (t28 I K c _ _ _) fun _ => ?_
  refine Tr.bindu (t29 I K c _ _ _) fun v918 => ?_
  refine Tr.bind (t30 I K c _ _ _) ?_; rintro ⟨v960, c1_i32_711⟩ h0
  obtain rfl : c1_i32_711 = 1#32 := h0
  refine Tr.bindv (t31 I K c _) ?_
  refine Tr.bindv (t32 I K c) ?_
  refine Tr.bind (t33 I K c) ?_; rintro ⟨v1073, v1076, v1079⟩ ⟨h0, h1, h2⟩
  obtain rfl : v1073 = (headBlk (bufG I c (6 : Fin 8).val) 3 3) := h0
  obtain rfl : v1076 = (k0_pay78 (F := F) (headBlk (bufG I c (4 : Fin 8).val) 3 3) (headBlk (bufG I c (5 : Fin 8).val) 3 3)) := h1
  obtain rfl : v1079 = (k0_pay79 (F := F) (headBlk (bufG I c (4 : Fin 8).val) 3 3) (headBlk (bufG I c (5 : Fin 8).val) 3 3)) := h2
  refine Tr.bind (t34 I K c) ?_; rintro ⟨v1113, v1114⟩ ⟨h0, h1⟩
  obtain rfl : v1113 = (headBlk (bufG I c (4 : Fin 8).val) 3 5) := h0
  obtain rfl : v1114 = (headBlk (bufG I c (5 : Fin 8).val) 3 5) := h1
  refine Tr.bindv (t35 I K c) ?_
  refine Tr.bind (t36 I K c) ?_; rintro ⟨v1183, v1184, cst_849⟩ ⟨h0, h1, h2⟩
  obtain rfl : v1183 = (rowBlk (oC I c) 3) := h0
  obtain rfl : v1184 = (colBlk (wB (I.wo c)) 1) := h1
  obtain rfl : cst_849 = (constant S256x512 .f32 0x00000000#32 : FVec F S256x512 .f32) := h2
  refine Tr.bindu (t37 I K c _ _ _ _) fun _ => ?_
  refine Tr.bindu (t38 I K c _ _ _ _) ?_; rintro ⟨v1231, v1245⟩
  refine Tr.bindu (t39 I K c _ _ _ _ _ _) fun v1273 => ?_
  refine Tr.bindu (t40 I K c _ _ _) fun _ => ?_
  refine Tr.bindu (t41 I K c _ _ _ _ _) fun v1315 => ?_
  refine Tr.bind (t42 I K c _ _ _) ?_; rintro ⟨v1357, v1366⟩ h0
  obtain rfl : v1366 = (k0_pay91 (F := F) (slab (accC I (1 : Fin 4).val c) (3 : Fin 8).val (klo (3 : Fin 8).val ((1 : Fin 4).val + 1) c) 64) (rslab (recC I c) (3 : Fin 8).val (roff (1 : Fin 4).val) 64)) := h0
  refine Tr.bindu (t43 I K c _ _ _) fun _ => ?_
  refine Tr.bindu (t44 I K c _ _ _) fun v1399 => ?_
  refine Tr.bind (t45 I K c _ _ _) ?_; rintro ⟨v1441, c1_i32_1078⟩ h0
  obtain rfl : c1_i32_1078 = 1#32 := h0
  refine Tr.bind (t46 I K c _ _ _) ?_; rintro ⟨v1483, v1487⟩ h0
  obtain rfl : v1487 = (k0_pay95 (F := F) (slab (accC I (0 : Fin 4).val c) (6 : Fin 8).val (klo (6 : Fin 8).val ((0 : Fin 4).val + 1) c) 128)) := h0
  refine Tr.bind (t47 I K c _ _ _ _) ?_; rintro ⟨v1516, c0_i32_1132⟩ h0
  obtain rfl : c0_i32_1132 = 0#32 := h0
  refine Tr.bindu (t48 I K c _ _ _ _) fun v1525 => ?_
  refine Tr.bindu (t49 I K c _ _ _ _) ?_; rintro ⟨v1567, v1581⟩
  refine Tr.bindu (t50 I K c _ _ _ _ _ _) fun v1609 => ?_
  refine Tr.bindu (t51 I K c _ _ _) fun _ => ?_
  refine Tr.bindu (t52 I K c _ _ _ _ _) fun v1651 => ?_
  refine Tr.bind (t53 I K c _ _ _) ?_; rintro ⟨v1693, v1702⟩ h0
  obtain rfl : v1702 = (k0_pay101 (F := F) (slab (accC I (2 : Fin 4).val c) (3 : Fin 8).val (klo (3 : Fin 8).val ((2 : Fin 4).val + 1) c) 32) (rslab (recC I c) (3 : Fin 8).val (roff (2 : Fin 4).val) 32)) := h0
  refine Tr.bindu (t54 I K c _ _ _ _) fun _ => ?_
  refine Tr.bindu (t55 I K c _ _ _) fun v1735 => ?_
  refine Tr.bind (t56 I K c _ _ _) ?_; rintro ⟨v1781, v1797⟩ h0
  obtain rfl : v1797 = (k0_pay106 (F := F) (slab (accC I 4 c) (1 : Fin 8).val (klo (1 : Fin 8).val 4 c) 16)) := h0
  refine Tr.bindu (t57 I K c _ _ _) fun _ => ?_
  refine Tr.bindu (t58 I K c _ _ _ _ _) fun v1841 => ?_
  refine Tr.bind (t59 I K c _ _ _) ?_; rintro ⟨v1883, v1891⟩ h0
  obtain rfl : v1891 = (k0_pay111 (F := F) (slab (accC I (1 : Fin 4).val c) (7 : Fin 8).val (klo (7 : Fin 8).val ((1 : Fin 4).val + 1) c) 64) (rslab (recC I c) (7 : Fin 8).val (roff (1 : Fin 4).val) 64)) := h0
  refine Tr.bindu (t60 I K c _ _ _ _) fun _ => ?_
  exact Tr.ret rfl rfl

set_option maxRecDepth 40000 in
/-- The second half, up to the result's last two pieces. -/
theorem t112 (v5 v7 v9 v10 v11 v12 v13 v14 v1567 v1609 v1651 v1693 v1735 v1781 v1841 v1883 : BitVec 32) : Tr I K c σ59 σ109 (k0_part112 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12 c v5 v7 v9 v10 v11 v12 v13 v14 v1567 v1609 v1651 v1693 v1735 v1781 v1841 v1883)
    (fun r => r.2.2 = k0_pay169 (F := F) (slab (sumC I) (6 : Fin 8).val (wlo (6 : Fin 8).val (4 : Fin 5).val c) 128)) := by
  rw [k0_part112_eq_skeleton]; unfold k0_part112_skel
  refine Tr.bindu (t61 I K c _ _ _ _) fun v1925 => ?_
  refine Tr.bindu (t62 I K c _ _ _ _) fun v1967 => ?_
  refine Tr.bind (t63 I K c _ _ _ _) ?_; rintro ⟨v2009, v2013⟩ h0
  obtain rfl : v2013 = (k0_pay115 (F := F) (slab (accC I (3 : Fin 4).val c) (2 : Fin 8).val (klo (2 : Fin 8).val ((3 : Fin 4).val + 1) c) 16)) := h0
  refine Tr.bindu (t64 I K c _ _) fun _ => ?_
  refine Tr.bindu (t65 I K c _ _ _) ?_; rintro ⟨v2055, v2076⟩
  refine Tr.bindu (t66 I K c _ _ _ _ _) ?_; rintro ⟨v2103, v2105, v2106⟩
  refine Tr.bindu (t67 I K c _ _ _ _ _) ?_; rintro ⟨v2133, v2135, v2136⟩
  refine Tr.bindv (t68 I K c _ _ _ _ _) ?_
  refine Tr.bindu (t69 I K c _ _ _ _) ?_; rintro ⟨v2189, v2203⟩
  refine Tr.bindu (t70 I K c _ _ _ _ _ _) fun v2231 => ?_
  refine Tr.bindu (t71 I K c _ _ _) fun _ => ?_
  refine Tr.bindu (t72 I K c _ _ _) ?_; rintro ⟨v2273, v2294⟩
  refine Tr.bind (t73 I K c _ _ _ _) ?_; rintro ⟨v2319, v2323, v2325⟩ ⟨h0, h1⟩
  obtain rfl : v2323 = (k0_pay128 (F := F) (slab (accC I (3 : Fin 4).val c) (5 : Fin 8).val (klo (5 : Fin 8).val ((3 : Fin 4).val + 1) c) 16)) := h0
  obtain rfl : v2325 = (k0_pay129 (F := F) (rslab (recC I c) (5 : Fin 8).val (roff (3 : Fin 4).val) 16)) := h1
  refine Tr.bindv (t74 I K c _ _) ?_
  refine Tr.bind (t75 I K c _ _ _ _) ?_; rintro ⟨v2367, v2369, c1_i32_1834⟩ h0
  obtain rfl : c1_i32_1834 = 1#32 := h0
  refine Tr.bind (t76 I K c _ _ _ _) ?_; rintro ⟨v2397, v2399, c1_i32_1860⟩ h0
  obtain rfl : c1_i32_1860 = 1#32 := h0
  refine Tr.bind (t77 I K c _ _ _ _) ?_; rintro ⟨v2427, v2429, c1_i32_1887⟩ h0
  obtain rfl : c1_i32_1887 = 1#32 := h0
  refine Tr.bind (t78 I K c _ _ _ _ _ _) ?_; rintro ⟨v2457, v2459, v2480, c512_i32_1907⟩ ⟨h0, h1⟩
  obtain rfl : v2480 = (k0_pay133 (F := F) (slab (sumC I) (5 : Fin 8).val (wlo (5 : Fin 8).val (0 : Fin 5).val c) 16)) := h0
  obtain rfl : c512_i32_1907 = 512#32 := h1
  refine Tr.bindu (t79 I K c _ _ _ _ _) fun _ => ?_
  refine Tr.bind (t80 I K c _ _ _) ?_; rintro ⟨v2527, v2543⟩ h0
  obtain rfl : v2543 = (k0_pay139 (F := F) (slab (accC I 4 c) (6 : Fin 8).val (klo (6 : Fin 8).val 4 c) 16)) := h0
  refine Tr.bindu (t81 I K c _ _ _ _) fun v2573 => ?_
  refine Tr.bindu (t82 I K c _ _) fun _ => ?_
  refine Tr.bindu (t83 I K c _ _ _ _) ?_; rintro ⟨v2621, v2623⟩
  refine Tr.bindu (t84 I K c _ _ _ _) ?_; rintro ⟨v2651, v2653⟩
  refine Tr.bindu (t85 I K c _ _ _ _) ?_; rintro ⟨v2681, v2683⟩
  refine Tr.bindu (t86 I K c _ _ _ _) ?_; rintro ⟨v2711, v2713⟩
  refine Tr.bindu (t87 I K c _ _ _ _) ?_; rintro ⟨v2741, v2743⟩
  refine Tr.bind (t88 I K c _ _ _ _ _) ?_; rintro ⟨v2771, v2773, v2787⟩ h0
  obtain rfl : v2787 = (k0_pay143 (F := F) (slab (sumC I) (6 : Fin 8).val (wlo (6 : Fin 8).val (0 : Fin 5).val c) 16)) := h0
  refine Tr.bindv (t89 I K c _ _ _ _ _) ?_
  refine Tr.bindu (t90 I K c _ _ _ _) fun v2855 => ?_
  refine Tr.bindu (t91 I K c _ _ _ _ _ _) ?_; rintro ⟨v2857, v2859, v2885⟩
  refine Tr.bindu (t92 I K c _ _ _ _ _ _) ?_; rintro ⟨v2887, v2889, v2915⟩
  refine Tr.bindu (t93 I K c _ _ _ _ _ _) ?_; rintro ⟨v2917, v2919, v2945⟩
  refine Tr.bindu (t94 I K c _ _ _ _ _ _) ?_; rintro ⟨v2947, v2949, v2975⟩
  refine Tr.bindu (t95 I K c _ _ _ _ _ _) ?_; rintro ⟨v2977, v2979, v3005⟩
  refine Tr.bindu (t96 I K c _ _ _ _ _ _) ?_; rintro ⟨v3007, v3009, v3035⟩
  refine Tr.bind (t97 I K c _ _ _ _ _ _ _) ?_; rintro ⟨v3037, v3055, v3066, c768_i32_2383⟩ ⟨h0, h1⟩
  obtain rfl : v3066 = (k0_pay152 (F := F) (slab (sumC I) (7 : Fin 8).val (wlo (7 : Fin 8).val (1 : Fin 5).val c) 16)) := h0
  obtain rfl : c768_i32_2383 = 768#32 := h1
  refine Tr.bind (t98 I K c _ _ _ _ _ _) ?_; rintro ⟨v3101, c0_i32_2403⟩ ⟨h0, h1⟩
  obtain rfl : v3101 = (k0_pay157 (F := F) (slab (sumC I) (0 : Fin 8).val (wlo (0 : Fin 8).val (4 : Fin 5).val c) 128)) := h0
  obtain rfl : c0_i32_2403 = 0#32 := h1
  refine Tr.bindu (t99 I K c _ _ _ _ _) ?_; rintro ⟨v3129, v3131⟩
  refine Tr.bindu (t100 I K c _ _ _ _) ?_; rintro ⟨v3159, v3161⟩
  refine Tr.bindu (t101 I K c _ _ _ _) ?_; rintro ⟨v3189, v3191⟩
  refine Tr.bindu (t102 I K c _ _ _ _) ?_; rintro ⟨v3219, v3221⟩
  refine Tr.bindu (t103 I K c _ _ _ _) fun v3249 => ?_
  refine Tr.bindu (t104 I K c _ _ _ _ _ _) fun v3267 => ?_
  refine Tr.bindu (t105 I K c _ _ _ _) fun _ => ?_
  refine Tr.bindu (t106 I K c _ _ _ _) ?_; rintro ⟨v3327, v3329⟩
  refine Tr.bindu (t107 I K c _ _ _ _) ?_; rintro ⟨v3357, v3359⟩
  refine Tr.bindu (t108 I K c _ _ _ _ _) ?_; rintro ⟨v3387, v3404⟩
  refine Tr.bindu (t109 I K c _ _ _ _ _) fun _ => ?_
  refine Tr.bindu (t110 I K c _ _ _ _ _) ?_; rintro ⟨v3451, v3466⟩
  refine Tr.bindv (tr_ldG 6 4 128 (by decide) (off137 c) (by decide +kernel) (by decide +kernel)) ?_
  exact Tr.ret rfl rfl

set_option maxRecDepth 40000 in
/-- The whole body, from what part 1 ends in. -/
theorem t_body {S B : sProp 𝕄} (h : S ⊢ wp frame (wpE (defs₀ (F := F)) 𝒱₀ (c : Thread nD τ) none) Set.univ (k0_part1 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
      (fun r => iprop(⌜r.1 = c ∧ r.2.2.2.2.2.2.2.2.2 = wOf (c := c) I 0⌝ ∗ B ∗ Sm I K c σ0))) :
    S ⊢ wp frame (wpE (defs₀ (F := F)) 𝒱₀ (c : Thread nD τ) none) Set.univ (cc0_body (F := F) b0 w0 b1 w1 b2 w2 b3 w3 b4 w4 b5 w5 b6 w6 b7 w7 b8 w8 b9 w9 b10 w10 b11 w11 b12 w12 b13 w13 b14 w14 b15 w15 b16 w16 cc0_scratch11 cc0_scratch12) (fun _ => iprop(⌜True⌝ ∗ B ∗ Sm I K c σ110)) := by
  rw [cc0_body_eq_skeleton]; unfold cc0_body_skel
  have h2 := t111 I K c h
  refine bind_start (R := fun _ => True) I K c h2 ?_
  rintro ⟨d0, v5, v7, v9, v10, v11, v12, v13, v14, v1567, v1609, v1651, v1693, v1735, v1781, v1841, v1883⟩ h1
  replace h1 : d0 = c := h1; subst d0
  refine Tr.bind (t112 I K c _ _ _ _ _ _ _ _ _ _ _ _ _ _ _ _) ?_; rintro ⟨v3451, v3469, v3472⟩ h0
  obtain rfl : v3472 = k0_pay169 (F := F) (slab (sumC I) (6 : Fin 8).val (wlo (6 : Fin 8).val (4 : Fin 5).val c) 128) := h0
  refine Tr.bindu (tr_deadT) fun _ => ?_
  refine Tr.bindu (tr_stT 6 4 128 _ (by decide) (off118_768 c) (by decide +kernel) rfl) fun _ => ?_
  refine Tr.bindv (tr_ldG 7 4 128 (by decide) (off138 c) (by decide +kernel) (by decide +kernel)) ?_
  refine Tr.bindu (tr_deadT) fun _ => ?_
  refine Tr.bindu (tr_stT 7 4 128 _ (by decide) (off120_768 c) (by decide +kernel) rfl) fun _ => ?_
  exact Tr.ret trivial (St.eq (by decide +kernel) (by decide +kernel) (by decide +kernel))

end Cert.Ring

end
-- ==== Proof.Mem.lean ====
/-
# Memory at the start and at the end

The scratch buffers cut into the regions the exchanges work on, and the regions put together again.
-/
module

public import proofs.«01_k».proof.Proof.State

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums -/

/-- Summands sorted by an index of theirs. -/
theorem bigSep_by {A B : Type} [Fintype A] [DecidableEq A] [Fintype B] [DecidableEq B] (d : A → B) (Φ : B → A → sProp 𝕄) :
    bigSep Finset.univ (fun j => bigSep Finset.univ (fun p => if d p = j then Φ j p else iprop(emp))) = bigSep Finset.univ (fun p => Φ (d p) p) := by
  rw [bigSep_univ_comm]
  refine bigSep_congr fun p _ => ?_
  have h := bigSep_filter (Finset.univ : Finset B) (fun j => d p = j) (fun j => Φ j p)
  rw [Finset.filter_eq, if_pos (Finset.mem_univ _), bigSep_singleton] at h
  exact h.symm

theorem bigSep_f8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_f4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Regions that make up a buffer, each at some contents, are the buffer at some contents. -/
theorem join_ex {T : Type} [Fintype T] [DecidableEq T] [Inhabited T] {ℓ : Loc nD τ sig} (Kf : T → Finset (Idx ℓ)) (hd : ∀ t t', t ≠ t' → Disjoint (Kf t) (Kf t'))
    (hc : Finset.univ.biUnion Kf = Finset.univ) :
    bigSep Finset.univ (fun t => iprop(∃ f, ℓ ↦[Kf t]{fullShare} f)) ⊢ (iprop(∃ f, ℓ ↦[Finset.univ]{fullShare} f) : sProp 𝕄) := by
  refine BIBase.Entails.trans (BI.bigSep_exists_pi Finset.univ (fun (t : T) (f : Buf (Elt F) ℓ) => (ℓ ↦[Kf t]{fullShare} f : sProp 𝕄))) ?_
  iintro ⟨%fs, H⟩
  ihave H := (pointsTo_biUnion_join Finset.univ Kf fs (fs default) (fun t _ t' _ h => hd t t' h)) $$ H
  rw [hc]
  icases H with ⟨%g, -, H⟩
  iexists g; iexact H
theorem cut_ex {T : Type} [Fintype T] [DecidableEq T] {ℓ : Loc nD τ sig} (Kf : T → Finset (Idx ℓ)) (hd : ∀ t t', t ≠ t' → Disjoint (Kf t) (Kf t'))
    (hc : Finset.univ.biUnion Kf = Finset.univ) :
    (iprop(∃ f, ℓ ↦[Finset.univ]{fullShare} f) : sProp 𝕄) ⊢ bigSep Finset.univ (fun t => iprop(∃ f, ℓ ↦[Kf t]{fullShare} f)) := by
  iintro ⟨%f, H⟩
  rw [← hc]
  ihave H := (Entails.of_eq (pointsTo_biUnion Finset.univ Kf (fun t _ t' _ h => hd t t' h))) $$ H
  have hm : bigSep Finset.univ (fun t => (ℓ ↦[Kf t]{fullShare} f : sProp 𝕄)) ⊢ bigSep Finset.univ (fun t => iprop(∃ f, ℓ ↦[Kf t]{fullShare} f)) :=
    bigSep_mono fun t _ => (show (ℓ ↦[Kf t]{fullShare} f : sProp 𝕄) ⊢ iprop(∃ f, ℓ ↦[Kf t]{fullShare} f) from by iintro H; iexists f; iexact H)
  iapply hm $$ H

/-! ## Slabs -/

theorem slabs_disj (i i' : Fin 8) (h : i ≠ i') : Disjoint (rows i 0 256) (rows i' 0 256) := by
  rw [Finset.disjoint_left]; intro x; rw [mem_rows, mem_rows]; intro h1 h2
  exact h (Fin.ext (h1.1.symm.trans h2.1))
theorem slabs_cover : (Finset.univ : Finset (Fin 8)).biUnion (fun i => rows i 0 256) = Finset.univ := by
  ext x; simp only [Finset.mem_biUnion, Finset.mem_univ, true_and, iff_true]
  refine ⟨x 0, ?_⟩; rw [mem_rows]
  have : (x 1).val < 256 := (x 1).isLt
  exact ⟨rfl, Nat.zero_le _, by omega⟩

theorem lvls_disj (p p' : Fin 8 × Fin 4) (h : p ≠ p') : Disjoint (rrows p.1 (roff p.2) (sz (p.2.val + 1))) (rrows p'.1 (roff p'.2) (sz (p'.2.val + 1))) := by
  rw [Finset.disjoint_left]; intro x; rw [mem_rrows, mem_rrows]; intro h1 h2
  have e1 : p.1 = p'.1 := Fin.ext (h1.1.symm.trans h2.1)
  have key : ∀ n n' : Fin 4, n ≠ n' → roff n + sz (n.val + 1) ≤ roff n' ∨ roff n' + sz (n'.val + 1) ≤ roff n := by decide
  rcases key p.2 p'.2 (fun e => h (Prod.ext e1 e)) with hk | hk <;> omega
theorem lvls_cover : (Finset.univ : Finset (Fin 8 × Fin 4)).biUnion (fun p => rrows p.1 (roff p.2) (sz (p.2.val + 1))) = Finset.univ := by
  ext x; simp only [Finset.mem_biUnion, Finset.mem_univ, true_and, iff_true]
  have hx : (x 1).val < 240 := (x 1).isLt
  have r0 : roff 0 = 0 := by decide
  have r1 : roff 1 = 128 := by decide
  have r2 : roff 2 = 192 := by decide
  have r3 : roff 3 = 224 := by decide
  have s1 : sz 1 = 128 := by decide
  have s2 : sz 2 = 64 := by decide
  have s3 : sz 3 = 32 := by decide
  have s4 : sz 4 = 16 := by decide
  by_cases h0 : (x 1).val < 128
  · exact ⟨(x 0, 0), mem_rrows.mpr ⟨rfl, by show roff 0 ≤ _; omega, by show _ < roff 0 + sz 1; omega⟩⟩
  by_cases h1 : (x 1).val < 192
  · exact ⟨(x 0, 1), mem_rrows.mpr ⟨rfl, by show roff 1 ≤ _; omega, by show _ < roff 1 + sz 2; omega⟩⟩
  by_cases h2 : (x 1).val < 224
  · exact ⟨(x 0, 2), mem_rrows.mpr ⟨rfl, by show roff 2 ≤ _; omega, by show _ < roff 2 + sz 3; omega⟩⟩
  · exact ⟨(x 0, 3), mem_rrows.mpr ⟨rfl, by show roff 3 ≤ _; omega, by show _ < roff 3 + sz 4; omega⟩⟩

variable (I : Ins F) (c : Dev nD)

/-! ## The reduction workspace -/

theorem acc_in : iprop(∃ f, accP (F := F) c Finset.univ f) ⊢ bigSep Finset.univ (fun i : Fin 8 => MA I c i 0) := by
  refine BIBase.Entails.trans (cut_ex (ℓ := (c : Thread nD τ).loc cc0_scratch8) (fun i : Fin 8 => rows i 0 256) slabs_disj slabs_cover) (bigSep_mono fun i _ => ?_)
  show iprop(∃ f, accP (F := F) c (rows i 0 256) f) ⊢ _
  unfold MA
  iintro ⟨%f, H⟩; iexists f
  isplitr; · ipureintro; intro h; exact absurd h (Nat.lt_irrefl 0)
  iexact H
theorem acc_out : bigSep Finset.univ (fun i : Fin 8 => MA I c i 30) ⊢ iprop(∃ f, accP (F := F) c Finset.univ f) := by
  refine BIBase.Entails.trans (bigSep_mono fun i _ => ?_) (join_ex (ℓ := (c : Thread nD τ).loc cc0_scratch8) (fun i : Fin 8 => rows i 0 256) slabs_disj slabs_cover)
  show _ ⊢ iprop(∃ f, accP (F := F) c (rows i 0 256) f)
  unfold MA
  iintro ⟨%f, -, H⟩; iexists f
  iexact H

/-! ## The receive buffer -/

theorem land_rec (i : Fin 8) (n : Fin 4) : iprop(∃ f, recP (F := F) c (rrows i (roff n) (sz (n.val + 1))) f) ⊢ landE c i n := by
  have e : lvl n.val = n.val := if_pos n.isLt
  unfold landE; rw [if_pos n.isLt]; unfold drow len; rw [if_pos n.isLt, e]
theorem rec_in : iprop(∃ f, recP (F := F) c Finset.univ f) ⊢ bigSep Finset.univ (fun i : Fin 8 => bigSep Finset.univ fun n : Fin 4 => landE (F := F) c i n) := by
  refine BIBase.Entails.trans (cut_ex (ℓ := (c : Thread nD τ).loc cc0_scratch10) (fun p : Fin 8 × Fin 4 => rrows p.1 (roff p.2) (sz (p.2.val + 1))) lvls_disj lvls_cover) ?_
  rw [← bigSep_univ_prod (fun p : Fin 8 × Fin 4 => landE (F := F) c p.1 p.2)]
  exact bigSep_mono fun p _ => land_rec c p.1 p.2
theorem rec_out : bigSep Finset.univ (fun i : Fin 8 => MR I c i 30) ⊢ iprop(∃ f, recP (F := F) c Finset.univ f) := by
  refine BIBase.Entails.trans ?_ (join_ex (ℓ := (c : Thread nD τ).loc cc0_scratch10) (fun p : Fin 8 × Fin 4 => rrows p.1 (roff p.2) (sz (p.2.val + 1))) lvls_disj lvls_cover)
  rw [bigSep_univ_prod]
  refine bigSep_mono fun i _ => ?_
  unfold MR
  refine bigSep_mono fun n _ => ?_
  rw [if_pos (by omega)]
  show _ ⊢ iprop(∃ f, recP (F := F) c (rrows i (roff n) (sz (n.val + 1))) f)
  iintro H; iexists (recC I c); iexact H

/-! ## The gather workspace -/

theorem land_ag (i : Fin 8) {n : ℕ} (hn : n < 4) (f) : agP (F := F) c (rows i (slo i n c) (sz (n + 1))) fullShare f ⊢ landE c i (7 - n) := by
  have e : lvl (7 - n) = n := (if_neg (by omega)).trans (by omega)
  unfold landE; rw [if_neg (by omega)]; unfold drow len; rw [if_neg (by omega), e]
  iintro H; iexists f; iexact H
theorem ag_half (i : Fin 8) {n : ℕ} (hn : n < 4) (f) : agP (F := F) c (rows i (klo i n c) (sz n)) fullShare f
    ⊢ iprop(agP c (rows i (klo i (n + 1) c) (sz (n + 1))) fullShare f ∗ landE c i (7 - n)) := by
  rw [rows_split i hn c]
  refine BIBase.Entails.trans (pointsTo_union (rows_disj i hn c)).1 ?_
  exact sep_mono_right (land_ag c i hn f)
theorem ag_slab (i : Fin 8) : iprop(∃ f, agP (F := F) c (rows i 0 256) fullShare f)
    ⊢ iprop(MG I c i 0 ∗ landE c i 4 ∗ landE c i 5 ∗ landE c i 6 ∗ landE c i 7) := by
  iintro ⟨%f, H⟩
  ihave H := (show agP (F := F) c (rows i 0 256) fullShare f ⊢ agP c (rows i (klo i 0 c) (sz 0)) fullShare f from BIBase.Entails.rfl) $$ H
  ihave H := (ag_half c i (n := 0) (by decide) f) $$ H
  icases H with ⟨H, H7⟩
  ihave H := (ag_half c i (n := 1) (by decide) f) $$ H
  icases H with ⟨H, H6⟩
  ihave H := (ag_half c i (n := 2) (by decide) f) $$ H
  icases H with ⟨H, H5⟩
  ihave H := (ag_half c i (n := 3) (by decide) f) $$ H
  icases H with ⟨H, H4⟩
  isplitl [H]
  · unfold MG; rw [if_pos (by decide)]; iexists f; iexact H
  isplitl [H4]; · iexact H4
  isplitl [H5]; · iexact H5
  isplitl [H6]; · iexact H6
  iexact H7
theorem ag_in : iprop(∃ f, agP (F := F) c Finset.univ fullShare f)
    ⊢ bigSep Finset.univ (fun i : Fin 8 => iprop(MG I c i 0 ∗ landE c i 4 ∗ landE c i 5 ∗ landE c i 6 ∗ landE c i 7)) := by
  refine BIBase.Entails.trans (cut_ex (ℓ := (c : Thread nD τ).loc cc0_scratch9) (fun i : Fin 8 => rows i 0 256) slabs_disj slabs_cover) (bigSep_mono fun i _ => ?_)
  exact ag_slab I c i
theorem ag_out : bigSep Finset.univ (fun i : Fin 8 => MG I c i 30) ⊢ iprop(∃ f, agP (F := F) c Finset.univ fullShare f) := by
  refine BIBase.Entails.trans (bigSep_mono fun i _ => ?_) (join_ex (ℓ := (c : Thread nD τ).loc cc0_scratch9) (fun i : Fin 8 => rows i 0 256) slabs_disj slabs_cover)
  unfold MG; rw [if_neg (by decide), show gsh 30 = fullShare from if_neg (by decide)]
  show _ ⊢ iprop(∃ f, agP (F := F) c (rows i 0 256) fullShare f)
  iintro H; iexists (sumC I); iexact H

/-- All landing regions of a device, and what else it has of the two buffers. -/
theorem land_in : iprop((∃ f, recP (F := F) c Finset.univ f) ∗ (∃ f, agP (F := F) c Finset.univ fullShare f))
    ⊢ iprop(bigSep Finset.univ (fun i : Fin 8 => MG I c i 0) ∗ bigSep Finset.univ (fun p : Fin 8 × Fin 8 => landE (F := F) c p.1 p.2)) := by
  refine BIBase.Entails.trans (show _ ⊢ iprop(bigSep Finset.univ (fun i : Fin 8 => bigSep Finset.univ fun n : Fin 4 => landE (F := F) c i n)
      ∗ bigSep Finset.univ (fun i : Fin 8 => iprop(MG I c i 0 ∗ landE c i 4 ∗ landE c i 5 ∗ landE c i 6 ∗ landE c i 7))) from ?_) ?_
  · iintro ⟨H1, H2⟩
    isplitl [H1]; · iapply (rec_in c) $$ H1
    iapply (ag_in I c) $$ H2
  rw [bigSep_univ_prod, ← bigSep_sep', ← bigSep_sep']
  refine bigSep_mono fun i _ => ?_
  rw [bigSep_f8, bigSep_f4]
  show iprop((landE c i 0 ∗ landE c i 1 ∗ landE c i 2 ∗ landE c i 3) ∗ MG I c i 0 ∗ landE c i 4 ∗ landE c i 5 ∗ landE c i 6 ∗ landE c i 7)
    ⊢ iprop(MG I c i 0 ∗ landE c i 0 ∗ landE c i 1 ∗ landE c i 2 ∗ landE c i 3 ∗ landE c i 4 ∗ landE c i 5 ∗ landE c i 6 ∗ landE c i 7)
  iintro ⟨⟨H0, H1, H2, H3⟩, HG, H4, H5, H6, H7⟩
  isplitl [HG]; · iexact HG
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## Whole buffers -/

theorem whole_in (b : Ref sig .tc) (Φ : b.ty.Contents (Elt F) → Prop) (h : ∀ X, Φ X) :
    iprop(∃ f : Buf (Elt F) ((c : Thread nD τ).loc b), ((c : Thread nD τ).loc b) ↦{fullShare} f)
      ⊢ (ownsSat (c : Thread nD τ) (Memref.whole b) fullShare Φ : sProp 𝕄) := by
  unfold ownsSat; simp only [Memref.view_whole, View.read_whole, View.set_whole]
  iintro ⟨%f, H⟩; iexists f; isplitr; · ipureintro; exact h f
  iexact H
theorem whole_at (b : Ref sig .tc) (Φ : b.ty.Contents (Elt F) → Prop) (f : Buf (Elt F) ((c : Thread nD τ).loc b)) (h : Φ f) :
    ((((c : Thread nD τ).loc b) ↦{fullShare} f) : sProp 𝕄) ⊢ ownsSat (c : Thread nD τ) (Memref.whole b) fullShare Φ := by
  unfold ownsSat; simp only [Memref.view_whole, View.read_whole, View.set_whole]
  iintro H; iexists f; isplitr; · ipureintro; exact h
  iexact H
theorem whole_out (b : Ref sig .tc) (Φ : b.ty.Contents (Elt F) → Prop) :
    (ownsSat (c : Thread nD τ) (Memref.whole b) fullShare Φ : sProp 𝕄)
      ⊢ iprop(∃ f : Buf (Elt F) ((c : Thread nD τ).loc b), ⌜Φ f⌝ ∗ (((c : Thread nD τ).loc b) ↦{fullShare} f)) := by
  unfold ownsSat; simp only [Memref.view_whole, View.read_whole, View.set_whole]
  exact BIBase.Entails.rfl

end Cert.Ring

end
-- ==== Proof.Start.lean ====
/-
# The handshake, and the whole body

A device tells its four neighbours that it has entered, lending them the landing regions they will write to, and waits for
the same of all four.
-/
module

public import proofs.«01_k».proof.Proof.Body
public import proofs.«01_k».proof.Proof.Mem

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 129 → ℕ) (c : Dev nD)

/-! ## What a device starts from -/

/-- Device `c` owes the receive credit of all its exchanges, and one unit to each neighbour's barrier cell. -/
def O₀ (c : Dev nD) : CellTallies nD τ sig Unit :=
  owedOf c (fun _ => 0) + tallyAt (barCell (via 3 c)) () 1 + tallyAt (barCell (via 2 c)) () 1 + tallyAt (barCell (via 1 c)) () 1 + tallyAt (barCell (via 0 c)) () 1

/-- The tokens of the duties it pays and its positions. -/
def Gh (c : Dev nD) : sProp 𝕄 :=
  iprop(atPos ER (barCell c) 0 ∅ 0 ∗ bigSep Finset.univ (fun j : Fin 4 => dutyTok ER (barCell (via j c)) 0 j)
    ∗ bigSep Finset.univ (fun p : Fin 8 × Fin 8 => iprop(dutyTok ER (sendCell c p.1 p.2) 0 0 ∗ dutyTok ER (recvCell (peer p.1 p.2 c) p.1 p.2) 0 0
      ∗ atPos ER (sendCell c p.1 p.2) 0 ∅ 0 ∗ atPos ER (recvCell c p.1 p.2) 0 ∅ 0)))
/-- The credits of its own cells. -/
def Cr (c : Dev nD) : sProp 𝕄 :=
  iprop(cred (tallyAt (barCell c) () 4) ∗ bigSep Finset.univ (fun p : Fin 8 × Fin 8 => cred (tallyAt (recvCell c p.1 p.2) () (amt p.2))))

/-- A buffer at some contents. -/
abbrev Any (c : Dev nD) (b : Ref sig .tc) : sProp 𝕄 := iprop(∃ f : Buf (Elt F) ((c : Thread nD τ).loc b), ((c : Thread nD τ).loc b) ↦{fullShare} f)
/-- The scratch buffers. -/
def Scr (c : Dev nD) : sProp 𝕄 :=
  iprop(Any c cc0_scratch0 ∗ Any c cc0_scratch1 ∗ Any c cc0_scratch2 ∗ Any c cc0_scratch3 ∗ Any c cc0_scratch4 ∗ Any c cc0_scratch5 ∗ Any c cc0_scratch6
    ∗ Any c cc0_scratch7 ∗ Any c cc0_scratch8 ∗ Any c cc0_scratch9 ∗ Any c cc0_scratch10)

def Begin (c : Dev nD) : sProp 𝕄 :=
  iprop(Recs I K ∗ levAts L lv ∗ (∃ W, owes (c : Thread nD τ) (O₀ c) W) ∗ Gh c ∗ Cr c ∗ Scr c ∗ Inp I c ∗ Any c cc0_stg5_0)

/-! ## The regions lent -/

theorem land_lend : bigSep Finset.univ (fun p : Fin 8 × Fin 8 => landE (F := F) c p.1 p.2) ⊢ bigSep Finset.univ (fun j : Fin 4 => barPay (via j c) j) := by
  have h := bigSep_by (F := F) (fun p : Fin 8 × Fin 8 => dir p.1 (lvl p.2)) (fun _ p => landE (F := F) c p.1 p.2)
  rw [← h]
  refine bigSep_mono fun j _ => ?_
  unfold barPay
  rw [via_via]
  exact BI.Entails.refl _
theorem land_take : bigSep Finset.univ (fun j : Fin 4 => barPay (F := F) c j) ⊢ bigSep Finset.univ (fun p : Fin 8 × Fin 8 => landE (peer p.1 p.2 c) p.1 p.2) := by
  have h := bigSep_by (F := F) (fun p : Fin 8 × Fin 8 => dir p.1 (lvl p.2)) (fun j p => landE (F := F) (via j c) p.1 p.2)
  exact Entails.of_eq h

theorem mayWait_bar (ph : Fin 8 → ℕ) : (levAts L lv : sProp 𝕄) ⊢ MayWait (c : Thread nD τ) (.reg barS) () (owedOf c ph) :=
  MayOwe.of_cut (L := Cert.Ring.L) (lev := lv) 1 (fun p hp => by rw [Finset.mem_singleton.mp hp, L_tc]; exact Finset.mem_singleton_self _)
    (fun g u hg => by obtain ⟨i', s', rfl, _⟩ := owedOf_pos hg; rw [L_tc]; exact Finset.mem_singleton_self _)
    (fun p hp => by rw [Finset.mem_singleton.mp hp]; exact le_refl 1)
    (fun g u hg => by obtain ⟨i', s', rfl, _⟩ := owedOf_pos hg; rw [lv_recv]; omega)

/-! ## The first state -/

theorem cb_in (j : Fin 8) (b : Ref sig .tc) (h : Any (F := F) c b ⊢ AgB c (bufM j) (bufT j 0) (bufG I c j)) : Any (F := F) c b ⊢ Cb I c j 0 := h
theorem bufT_0 (j : ℕ) (x : S1024x1024.Idx) : ¬ bufT j 0 x := by
  unfold bufT; split
  · exact Nat.lt_irrefl 0
  split <;> exact Nat.not_lt_zero _
theorem cbs_in : iprop(Any (F := F) c cc0_scratch0 ∗ Any c cc0_scratch1 ∗ Any c cc0_scratch2 ∗ Any c cc0_scratch3 ∗ Any c cc0_scratch4 ∗ Any c cc0_scratch5 ∗ Any c cc0_scratch6
    ∗ Any c cc0_scratch7) ⊢ bigSep Finset.univ (fun j : Fin 8 => Cb I c j 0) := by
  have h (j : Fin 8) (X : S1024x1024.Idx → Elt F .bf16) : ∀ x, bufT j 0 x → X x = bufG I c j x := fun x hx => absurd hx (bufT_0 j x)
  rw [bigSep_f8]
  have h0 : Any (F := F) c cc0_scratch4 ⊢ Cb I c 0 0 := whole_in c cc0_scratch4 _ (h 0)
  have h1 : Any (F := F) c cc0_scratch5 ⊢ Cb I c 1 0 := whole_in c cc0_scratch5 _ (h 1)
  have h2 : Any (F := F) c cc0_scratch6 ⊢ Cb I c 2 0 := whole_in c cc0_scratch6 _ (h 2)
  have h3 : Any (F := F) c cc0_scratch7 ⊢ Cb I c 3 0 := whole_in c cc0_scratch7 _ (h 3)
  have h4 : Any (F := F) c cc0_scratch0 ⊢ Cb I c 4 0 := whole_in c cc0_scratch0 _ (h 4)
  have h5 : Any (F := F) c cc0_scratch1 ⊢ Cb I c 5 0 := whole_in c cc0_scratch1 _ (h 5)
  have h6 : Any (F := F) c cc0_scratch2 ⊢ Cb I c 6 0 := whole_in c cc0_scratch2 _ (h 6)
  have h7 : Any (F := F) c cc0_scratch3 ⊢ Cb I c 7 0 := whole_in c cc0_scratch3 _ (h 7)
  iintro ⟨H4, H5, H6, H7, H0, H1, H2, H3⟩
  isplitl [H0]; · iapply h0 $$ H0
  isplitl [H1]; · iapply h1 $$ H1
  isplitl [H2]; · iapply h2 $$ H2
  isplitl [H3]; · iapply h3 $$ H3
  isplitl [H4]; · iapply h4 $$ H4
  isplitl [H5]; · iapply h5 $$ H5
  isplitl [H6]; · iapply h6 $$ H6
  iapply h7 $$ H7

theorem stg_0 : ∀ s : Fin 8, stg s 0 = 0 := by decide
theorem MR_0 (i : ℕ) : (iprop(emp) : sProp 𝕄) ⊢ MR I c i 0 := by
  unfold MR
  refine Entails.of_eq ?_
  rw [bigSep_congr (s := Finset.univ) (Ψ := fun _ => iprop(emp)) fun n _ => if_neg (by omega)]
  exact (bigSep_emp_const _).symm
theorem chs_in : iprop(bigSep Finset.univ (fun p : Fin 8 × Fin 8 => X (F := F) c p.1 p.2 0) ∗ bigSep Finset.univ (fun i : Fin 8 => MA I c i 0) ∗ bigSep Finset.univ (fun i : Fin 8 => MG I c i 0))
    ⊢ bigSep Finset.univ (fun i : Fin 8 => Ch I c i 0) := by
  rw [bigSep_univ_prod, ← bigSep_sep', ← bigSep_sep']
  refine bigSep_mono fun i _ => ?_
  unfold Ch
  simp only [stg_0]
  show iprop(bigSep Finset.univ (fun s : Fin 8 => X (F := F) c i s 0) ∗ MA I c i 0 ∗ MG I c i 0) ⊢ iprop(bigSep Finset.univ (fun s : Fin 8 => X (F := F) c i s 0) ∗ MA I c i 0 ∗ MG I c i 0 ∗ MR I c i 0)
  iintro ⟨HX, HA, HG⟩
  isplitl [HX]; · iexact HX
  isplitl [HA]; · iexact HA
  isplitl [HG]; · iexact HG
  iapply (MR_0 I c i); iempintro

theorem outT_0 (x : S1024x1024.Idx) : ¬ outT c (fun _ => 0) x := fun h => Nat.lt_irrefl 0 h.1

/-- The first state, with nothing sent and no buffer filled. -/
theorem sm0 : iprop(Recs I K ∗ levAts L lv ∗ (∃ W, owes (c : Thread nD τ) (owedOf c (fun _ => 0)) W)
      ∗ bigSep Finset.univ (fun p : Fin 8 × Fin 8 => X (F := F) c p.1 p.2 0) ∗ bigSep Finset.univ (fun i : Fin 8 => MA I c i 0) ∗ bigSep Finset.univ (fun i : Fin 8 => MG I c i 0)
      ∗ (Any (F := F) c cc0_scratch0 ∗ Any c cc0_scratch1 ∗ Any c cc0_scratch2 ∗ Any c cc0_scratch3 ∗ Any c cc0_scratch4 ∗ Any c cc0_scratch5 ∗ Any c cc0_scratch6 ∗ Any c cc0_scratch7)
      ∗ Inp I c ∗ Any c cc0_stg5_0) ⊢ Sm I K c σ0 := by
  rw [show σ0 = ⟨fun _ => 0, fun _ => 0, fun _ => 0⟩ from St.eq (by decide +kernel) (by decide +kernel) (by decide +kernel)]
  unfold Sm
  have hT : ∀ Y : S1024x1024.Idx → Elt F .f32, ∀ x, outT c (fun _ => 0) x → Y x = outC I x := fun Y x hx => absurd hx (outT_0 c x)
  have ho : Any (F := F) c cc0_stg5_0 ⊢ Out I c (fun _ => 0) := whole_in c cc0_stg5_0 _ hT
  iintro ⟨#HR, #HL, HO, HX, HA, HG, HB, HI, HT⟩
  isplitr; · iexact HR
  isplitr; · iexact HL
  isplitl [HO]; · iexact HO
  isplitl [HX HA HG]
  · iapply (chs_in I c)
    isplitl [HX]; · iexact HX
    isplitl [HA]; · iexact HA
    iexact HG
  isplitl [HB]; · iapply (cbs_in I c) $$ HB
  isplitl [HI]; · iexact HI
  iapply ho $$ HT

theorem xs_in : iprop(bigSep Finset.univ (fun p : Fin 8 × Fin 8 => iprop(dutyTok ER (sendCell c p.1 p.2) 0 0 ∗ dutyTok ER (recvCell (peer p.1 p.2 c) p.1 p.2) 0 0
      ∗ atPos ER (sendCell c p.1 p.2) 0 ∅ 0 ∗ atPos ER (recvCell c p.1 p.2) 0 ∅ 0))
    ∗ bigSep Finset.univ (fun p : Fin 8 × Fin 8 => cred (tallyAt (recvCell c p.1 p.2) () (amt p.2)))
    ∗ bigSep Finset.univ (fun p : Fin 8 × Fin 8 => landE (F := F) (peer p.1 p.2 c) p.1 p.2))
    ⊢ bigSep Finset.univ (fun p : Fin 8 × Fin 8 => X (F := F) c p.1 p.2 0) := by
  rw [← bigSep_sep', ← bigSep_sep']
  refine bigSep_mono fun p _ => ?_
  rw [X_0]
  show iprop((dutyTok ER (sendCell c p.1 p.2) 0 0 ∗ dutyTok ER (recvCell (peer p.1 p.2 c) p.1 p.2) 0 0 ∗ atPos ER (sendCell c p.1 p.2) 0 ∅ 0 ∗ atPos ER (recvCell c p.1 p.2) 0 ∅ 0)
    ∗ cred (tallyAt (recvCell c p.1 p.2) () (amt p.2)) ∗ landE (F := F) (peer p.1 p.2 c) p.1 p.2) ⊢ _
  iintro ⟨⟨H1, H2, H3, H4⟩, H5, H6⟩
  isplitl [H1]; · iexact H1
  isplitl [H2]; · iexact H2
  isplitl [H6]; · iexact H6
  isplitl [H3]; · iexact H3
  isplitl [H4]; · iexact H4
  iexact H5

/-! ## The handshake -/

theorem ld_last {α : Type} {σ : St} {hl} (f : (S1024x1024.Idx → Elt F .f32) → α) {R : α → Prop} (hR : R (f (wOf (c := c) I 0))) :
    Sm I K c σ ⊢ wp frame (wpE (defs₀ (F := F)) 𝒱₀ (c : Thread nD τ) none) Set.univ
      (.op (.load b1 (Rect.unit (s := S1024x1024) ![0, 0] S1024x1024.size inb_S1024x1024_S1024x1024_0_0).toLoadRect hl) fun v => .ret (f v))
      (fun r => iprop(⌜R r⌝ ∗ Sm I K c σ)) := by
  have h : Tr I K c σ σ (Prog.lift (.load b1 (Rect.unit (s := S1024x1024) ![0, 0] S1024x1024.size inb_S1024x1024_S1024x1024_0_0).toLoadRect hl) >>= fun v => pure (f v)) R :=
    Tr.bindv (tr_ldIw 0 rfl rfl) (Tr.ret hR rfl)
  unfold Tr at h
  simpa only [Prog.lift, Prog.bind_op, Prog.bind_ret, Prog.pure_eq_ret] using h

/-- What a program does not touch stays. -/
theorem wp_beside {α : Type} {σ : St} {p : Prog (TpuEff nD τ sig (Elt F) Λ₀ .tc) α} {R : α → Prop} {B : sProp 𝕄} :
    iprop(B ∗ wp frame (wpE (defs₀ (F := F)) 𝒱₀ (c : Thread nD τ) none) Set.univ p (fun r => iprop(⌜R r⌝ ∗ Sm I K c σ)))
      ⊢ wp frame (wpE (defs₀ (F := F)) 𝒱₀ (c : Thread nD τ) none) Set.univ p (fun r => iprop(⌜R r⌝ ∗ B ∗ Sm I K c σ)) := by
  refine BIBase.Entails.trans (wp_frame_l _ _ _) (wp_mono _ _ _ fun r => ?_)
  show iprop(B ∗ ⌜R r⌝ ∗ Sm I K c σ) ⊢ iprop(⌜R r⌝ ∗ B ∗ Sm I K c σ)
  iintro ⟨HB, %hr, H⟩; isplitr; · ipureintro; exact hr
  isplitl [HB]; · iexact HB
  iexact H

/-- `ld_last` with the condition on the value read left as an assertion. -/
theorem ld_fin {α : Type} {σ : St} {hl} (f : (S1024x1024.Idx → Elt F .f32) → α) {R : α → Prop} :
    iprop(⌜∀ v, v = wOf (c := c) I 0 → R (f v)⌝ ∗ Sm I K c σ) ⊢ wp frame (wpE (defs₀ (F := F)) 𝒱₀ (c : Thread nD τ) none) Set.univ
      (.op (.load b1 (Rect.unit (s := S1024x1024) ![0, 0] S1024x1024.size inb_S1024x1024_S1024x1024_0_0).toLoadRect hl) fun v => .ret (f v))
      (fun r => iprop(⌜R r⌝ ∗ Sm I K c σ)) := by
  iintro ⟨%h, H⟩
  iapply (ld_last I K c f (h _ rfl)) $$ H

set_option maxHeartbeats 800000 in
theorem t1 : Begin I K c ⊢ wp frame (wpE (defs₀ (F := F)) 𝒱₀ (c : Thread nD τ) none) Set.univ (k0_part1 (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
      (fun r => iprop(⌜r.1 = c ∧ r.2.2.2.2.2.2.2.2.2 = wOf (c := c) I 0⌝ ∗ semVal (barCell c) 0 ∗ Sm I K c σ0)) := by
  rw [k0_part1_eq_skeleton]; unfold k0_part1_skel
  simp only [semSignalWord, semWaitWord, Prog.lift, Prog.bind_op, Prog.bind_ret, Prog.pure_eq_ret, wp_deviceId]
  simp only [dev1 c, dev2 c, dev3 c, dev4 c]
  unfold Begin Gh Cr Scr
  iintro ⟨#HR, #HL, ⟨%W, HO⟩, ⟨HaB, Htb, HtX⟩, ⟨HcB, HcX⟩, ⟨S0, S1, S2, S3, S4, S5, S6, S7, S8, S9, S10⟩, HI, HT⟩
  ihave HA := (show Any (F := F) c cc0_scratch8 ⊢ _ from acc_in I c) $$ S8
  ihave HG := (show iprop(Any (F := F) c cc0_scratch10 ∗ Any c cc0_scratch9) ⊢ _ from land_in I c) $$ [S9 S10]
  · isplitl [S10]; · iexact S10
    iexact S9
  icases HG with ⟨HG, Hland⟩
  ihave Hland := (land_lend c) $$ Hland
  ihave Hland := (Entails.of_eq (bigSep_f4 (F := F) fun j : Fin 4 => barPay (via j c) j)) $$ Hland
  icases Hland with ⟨P0, P1, P2, P3⟩
  ihave Htb := (Entails.of_eq (bigSep_f4 (F := F) fun j : Fin 4 => dutyTok ER (barCell (via j c)) 0 j)) $$ Htb
  icases Htb with ⟨T0, T1, T2, T3⟩
  ihave H0 := (Recs_bar I K (via 0 c)) $$ HR
  icases H0 with ⟨#I0, #R0⟩
  ihave H1 := (Recs_bar I K (via 1 c)) $$ HR
  icases H1 with ⟨#I1, #R1⟩
  ihave H2 := (Recs_bar I K (via 2 c)) $$ HR
  icases H2 with ⟨#I2, #R2⟩
  ihave H3 := (Recs_bar I K (via 3 c)) $$ HR
  icases H3 with ⟨#I3, #R3⟩
  ihave HB := (Recs_bar I K c) $$ HR
  icases HB with ⟨#IB, #RB⟩
  unfold O₀
  iapply (Rounds.wp_signal 𝒱₀ ER (Rd I) (c : Thread nD τ) none (dst := (via 0 c : Thread nD τ)) (κ := K (via 0 c, 0))
      (d := 0) (by rw [duties_bar]; exact Finset.mem_univ _) ((amount_bar I (via 0 c) 0).trans (by decide)) ()
      (owedOf c (fun _ => 0) + tallyAt (barCell (via 3 c)) () 1 + tallyAt (barCell (via 2 c)) () 1 + tallyAt (barCell (via 1 c)) () 1) rfl) $$ [HO T0 P0]
  · isplitr; · iexact I0
    isplitl [HO]; · iexact HO
    isplitl [T0]; · iexact T0
    isplitl [P0]; · rw [payload_bar]; iexact P0
    iexact R0
  iintro HO
  iapply (Rounds.wp_signal 𝒱₀ ER (Rd I) (c : Thread nD τ) none (dst := (via 1 c : Thread nD τ)) (κ := K (via 1 c, 0))
      (d := 1) (by rw [duties_bar]; exact Finset.mem_univ _) ((amount_bar I (via 1 c) 1).trans (by decide)) ()
      (owedOf c (fun _ => 0) + tallyAt (barCell (via 3 c)) () 1 + tallyAt (barCell (via 2 c)) () 1) rfl) $$ [HO T1 P1]
  · isplitr; · iexact I1
    isplitl [HO]; · iexact HO
    isplitl [T1]; · iexact T1
    isplitl [P1]; · rw [payload_bar]; iexact P1
    iexact R1
  iintro HO
  iapply (Rounds.wp_signal 𝒱₀ ER (Rd I) (c : Thread nD τ) none (dst := (via 2 c : Thread nD τ)) (κ := K (via 2 c, 0))
      (d := 2) (by rw [duties_bar]; exact Finset.mem_univ _) ((amount_bar I (via 2 c) 2).trans (by decide)) ()
      (owedOf c (fun _ => 0) + tallyAt (barCell (via 3 c)) () 1) rfl) $$ [HO T2 P2]
  · isplitr; · iexact I2
    isplitl [HO]; · iexact HO
    isplitl [T2]; · iexact T2
    isplitl [P2]; · rw [payload_bar]; iexact P2
    iexact R2
  iintro HO
  iapply (Rounds.wp_signal 𝒱₀ ER (Rd I) (c : Thread nD τ) none (dst := (via 3 c : Thread nD τ)) (κ := K (via 3 c, 0))
      (d := 3) (by rw [duties_bar]; exact Finset.mem_univ _) ((amount_bar I (via 3 c) 3).trans (by decide)) ()
      (owedOf c (fun _ => 0)) rfl) $$ [HO T3 P3]
  · isplitr; · iexact I3
    isplitl [HO]; · iexact HO
    isplitl [T3]; · iexact T3
    isplitl [P3]; · rw [payload_bar]; iexact P3
    iexact R3
  iintro HO
  iapply (Rounds.wp_wait_rest_token 𝒱₀ ER (Rd I) (c : Thread nD τ) none (κ := K (c, 0))
      (wpE_semWait_eq 𝒱₀ (c : Thread nD τ) none Set.univ) (Set.mem_univ _) () (O := owedOf c (fun _ => 0)) (W := W) (R := 0) (m := 0) (T := ∅)
      (by rw [expect_bar]; decide)) $$ [HcB HO HaB]
  · isplitr; · iexact IB
    isplitl [HcB]; · iexact HcB
    isplitl [HO]; · iexact HO
    isplitr; · iapply (mayWait_bar c _); iexact HL
    iexact HaB
  iintro ⟨HO, HaB, -, Hpay⟩
  ihave Hp := (Entails.of_eq (rest_bar I c)) $$ Hpay
  ihave Hp := (land_take c) $$ Hp
  imod (Rounds.cell_close ER (Rd I) (Set.mem_univ (K (c, 0))) (fun h => h) (R := 0 + 1) (duties_later I (barCell c))) $$ [HaB] with HzB
  · isplitr; · iexact IB
    iexact HaB
  ihave HX := (xs_in c) $$ [HtX HcX Hp]
  · isplitl [HtX]; · iexact HtX
    isplitl [HcX]; · iexact HcX
    iexact Hp
  ihave HS := (sm0 I K c) $$ [HO HX HA HG S0 S1 S2 S3 S4 S5 S6 S7 HI HT]
  · isplitr; · iexact HR
    isplitr; · iexact HL
    isplitl [HO]; · iexists _; iexact HO
    isplitl [HX]; · iexact HX
    isplitl [HA]; · iexact HA
    isplitl [HG]; · iexact HG
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [HI]; · iexact HI
    iexact HT
  iapply (wp_beside I K c)
  isplitl [HzB]; · iexact HzB
  iapply (ld_fin I K c)
  isplitr [HS]
  · ipureintro; intro v hv; exact And.intro (by with_reducible rfl) hv
  iexact HS

/-- The whole body. -/
theorem run_body : Begin I K c ⊢ wp frame (wpE (defs₀ (F := F)) 𝒱₀ (c : Thread nD τ) none) Set.univ (cc0_body (F := F) b0 w0 b1 w1 b2 w2 b3 w3 b4 w4 b5 w5 b6 w6 b7 w7 b8 w8 b9 w9 b10 w10 b11 w11 b12 w12 b13 w13 b14 w14 b15 w15 b16 w16 cc0_scratch11 cc0_scratch12)
    (fun _ => iprop(⌜True⌝ ∗ semVal (barCell c) 0 ∗ Sm I K c σ110)) := t_body I K c (t1 I K c)

end Cert.Ring

end
-- ==== Proof.Exit.lean ====
/-

# What a device ends with

When every slab is through all its exchanges the device holds all its semaphores at zero, its scratch buffers whole, owes
nothing, and has the sum in the staged result.

-/
module

public import proofs.«01_k».proof.Proof.Start

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 129 → ℕ) (c : Dev nD)

theorem σ110_ph : ∀ i : Fin 8, σ110.ph i = 30 := by decide
theorem σ110_fl : ∀ i : Fin 8, σ110.fl i = 5 := by decide
theorem stg_30 : ∀ s : Fin 8, stg s 30 = 3 := by decide

/-- All own semaphores at zero. -/
def Zs (c : Dev nD) : sProp 𝕄 :=
  iprop(bigSep Finset.univ (fun p : Fin 8 × Fin 8 => semVal (sendCell c p.1 p.2) 0) ∗ bigSep Finset.univ (fun p : Fin 8 × Fin 8 => semVal (recvCell c p.1 p.2) 0))

theorem any_of (b : Ref sig .tc) (Φ : b.ty.Contents (Elt F) → Prop) :
    (ownsSat (c : Thread nD τ) (Memref.whole b) fullShare Φ : sProp 𝕄) ⊢ Any (F := F) c b := by
  refine BIBase.Entails.trans (whole_out c b Φ) ?_
  iintro ⟨%f, -, H⟩; iexists f; iexact H

theorem cbs_out (cs : Fin 8 → ℕ) : bigSep Finset.univ (fun j : Fin 8 => Cb I c j (cs j)) ⊢
    iprop(Any (F := F) c cc0_scratch0 ∗ Any c cc0_scratch1 ∗ Any c cc0_scratch2 ∗ Any c cc0_scratch3 ∗ Any c cc0_scratch4 ∗ Any c cc0_scratch5 ∗ Any c cc0_scratch6
    ∗ Any c cc0_scratch7) := by
  rw [bigSep_f8]
  have h0 : Cb I c 0 (cs 0) ⊢ Any (F := F) c cc0_scratch4 := any_of c cc0_scratch4 (fun X : S1024x1024.Idx → Elt F .bf16 => ∀ x, bufT (0 : Fin 8) (cs 0) x → X x = bufG I c (0 : Fin 8) x)
  have h1 : Cb I c 1 (cs 1) ⊢ Any (F := F) c cc0_scratch5 := any_of c cc0_scratch5 (fun X : S1024x1024.Idx → Elt F .bf16 => ∀ x, bufT (1 : Fin 8) (cs 1) x → X x = bufG I c (1 : Fin 8) x)
  have h2 : Cb I c 2 (cs 2) ⊢ Any (F := F) c cc0_scratch6 := any_of c cc0_scratch6 (fun X : S1024x1024.Idx → Elt F .bf16 => ∀ x, bufT (2 : Fin 8) (cs 2) x → X x = bufG I c (2 : Fin 8) x)
  have h3 : Cb I c 3 (cs 3) ⊢ Any (F := F) c cc0_scratch7 := any_of c cc0_scratch7 (fun X : S1024x1024.Idx → Elt F .bf16 => ∀ x, bufT (3 : Fin 8) (cs 3) x → X x = bufG I c (3 : Fin 8) x)
  have h4 : Cb I c 4 (cs 4) ⊢ Any (F := F) c cc0_scratch0 := any_of c cc0_scratch0 (fun X : S1024x1024.Idx → Elt F .bf16 => ∀ x, bufT (4 : Fin 8) (cs 4) x → X x = bufG I c (4 : Fin 8) x)
  have h5 : Cb I c 5 (cs 5) ⊢ Any (F := F) c cc0_scratch1 := any_of c cc0_scratch1 (fun X : S1024x1024.Idx → Elt F .bf16 => ∀ x, bufT (5 : Fin 8) (cs 5) x → X x = bufG I c (5 : Fin 8) x)
  have h6 : Cb I c 6 (cs 6) ⊢ Any (F := F) c cc0_scratch2 := any_of c cc0_scratch2 (fun X : S1024x1024.Idx → Elt F .bf16 => ∀ x, bufT (6 : Fin 8) (cs 6) x → X x = bufG I c (6 : Fin 8) x)
  have h7 : Cb I c 7 (cs 7) ⊢ Any (F := F) c cc0_scratch3 := any_of c cc0_scratch3 (fun X : S1024x1024.Idx → Elt F .bf16 => ∀ x, bufT (7 : Fin 8) (cs 7) x → X x = bufG I c (7 : Fin 8) x)
  iintro ⟨H0, H1, H2, H3, H4, H5, H6, H7⟩
  isplitl [H4]; · iapply h4 $$ H4
  isplitl [H5]; · iapply h5 $$ H5
  isplitl [H6]; · iapply h6 $$ H6
  isplitl [H7]; · iapply h7 $$ H7
  isplitl [H0]; · iapply h0 $$ H0
  isplitl [H1]; · iapply h1 $$ H1
  isplitl [H2]; · iapply h2 $$ H2
  iapply h3 $$ H3

theorem chs_out : bigSep Finset.univ (fun i : Fin 8 => Ch I c i 30) ⊢
    iprop(Zs (F := F) c ∗ Any c cc0_scratch8 ∗ Any c cc0_scratch9 ∗ Any c cc0_scratch10) := by
  have h : bigSep Finset.univ (fun i : Fin 8 => Ch I c i 30) ⊢ iprop(Zs (F := F) c ∗ bigSep Finset.univ (fun i : Fin 8 => MA I c i 30)
      ∗ bigSep Finset.univ (fun i : Fin 8 => MG I c i 30) ∗ bigSep Finset.univ (fun i : Fin 8 => MR I c i 30)) := by
    unfold Zs
    rw [← bigSep_sep', bigSep_univ_prod, ← bigSep_sep', ← bigSep_sep', ← bigSep_sep']
    refine bigSep_mono fun i _ => ?_
    unfold Ch
    rw [bigSep_congr (s := Finset.univ) (Ψ := fun s : Fin 8 => iprop(semVal (sendCell c i s) 0 ∗ semVal (recvCell c i s) 0)) fun s _ => by rw [stg_30]; rfl]
    exact BI.Entails.refl _
  refine BIBase.Entails.trans h ?_
  iintro ⟨HZ, HA, HG, HR⟩
  isplitl [HZ]; · iexact HZ
  isplitl [HA]
  · iapply (show _ ⊢ Any (F := F) c cc0_scratch8 from acc_out I c) $$ HA
  isplitl [HG]
  · iapply (show _ ⊢ Any (F := F) c cc0_scratch9 from ag_out I c) $$ HG
  iapply (show _ ⊢ Any (F := F) c cc0_scratch10 from rec_out I c) $$ HR

theorem owed_done : owedOf c (fun _ => 30) = 0 := by
  unfold owedOf
  exact Finset.sum_eq_zero fun q _ => if_neg (by rw [stg_30]; decide)

theorem klo_0 (i : ℕ) : klo i 0 c = 0 := rfl
theorem outT_done (fl : Fin 8 → ℕ) (h : ∀ i, fl i = 5) (x : S1024x1024.Idx) : outT c fl x := by
  unfold outT; rw [h]
  refine ⟨by decide, ?_, ?_⟩
  · show klo _ 0 c ≤ _; rw [klo_0]; exact Nat.zero_le _
  · show _ < klo _ 0 c + sz 0; rw [klo_0]; have : sz 0 = 256 := by decide
    rw [this]; unfold orow; omega

/-- A buffer at the given contents. -/
abbrev At (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The staged inputs and the result. -/
def Res (c : Dev nD) : sProp 𝕄 :=
  iprop(At c cc0_stg0_0 (I.x c) ∗ At c cc0_stg1_0 (I.wq c) ∗ At c cc0_stg2_0 (I.wk c) ∗ At c cc0_stg3_0 (I.wv c) ∗ At c cc0_stg4_0 (I.wo c)
    ∗ At c cc0_stg5_0 (outC I))

theorem inp_out : Inp I c ⊢ iprop(At (F := F) c cc0_stg0_0 (I.x c) ∗ At c cc0_stg1_0 (I.wq c) ∗ At c cc0_stg2_0 (I.wk c) ∗ At c cc0_stg3_0 (I.wv c) ∗ At c cc0_stg4_0 (I.wo c)) := by
  have h {b : Ref sig .tc} {G : b.ty.Contents (Elt F)} {T : b.ty.Contents (Elt F) → Prop} (hT : ∀ X, T X → X = G) :
      (ownsSat (c : Thread nD τ) (Memref.whole b) fullShare T : sProp 𝕄) ⊢ At (F := F) c b G := by
    refine BIBase.Entails.trans (whole_out c b T) ?_
    iintro ⟨%f, %hf, H⟩; iexists f; isplitr; · ipureintro; exact hT f hf
    iexact H
  have h0 := h (b := cc0_stg0_0) (G := I.x c) (T := fun X : S4x256x1024.Idx → Elt F .f32 => ∀ x, True → X x = I.x c x) fun X hX => funext fun x => hX x trivial
  have h1 := h (b := cc0_stg1_0) (G := I.wq c) (T := fun X : S1024x1024.Idx → Elt F .f32 => ∀ x, True → X x = I.wq c x) fun X hX => funext fun x => hX x trivial
  have h2 := h (b := cc0_stg2_0) (G := I.wk c) (T := fun X : S1024x1024.Idx → Elt F .f32 => ∀ x, True → X x = I.wk c x) fun X hX => funext fun x => hX x trivial
  have h3 := h (b := cc0_stg3_0) (G := I.wv c) (T := fun X : S1024x1024.Idx → Elt F .f32 => ∀ x, True → X x = I.wv c x) fun X hX => funext fun x => hX x trivial
  have h4 := h (b := cc0_stg4_0) (G := I.wo c) (T := fun X : S1024x1024.Idx → Elt F .f32 => ∀ x, True → X x = I.wo c x) fun X hX => funext fun x => hX x trivial
  unfold Inp
  iintro ⟨H0, H1, H2, H3, H4⟩
  isplitl [H0]; · iapply h0 $$ H0
  isplitl [H1]; · iapply h1 $$ H1
  isplitl [H2]; · iapply h2 $$ H2
  isplitl [H3]; · iapply h3 $$ H3
  iapply h4 $$ H4
theorem inp_in : iprop(At (F := F) c cc0_stg0_0 (I.x c) ∗ At c cc0_stg1_0 (I.wq c) ∗ At c cc0_stg2_0 (I.wk c) ∗ At c cc0_stg3_0 (I.wv c) ∗ At c cc0_stg4_0 (I.wo c)) ⊢ Inp I c := by
  have h {b : Ref sig .tc} {G : b.ty.Contents (Elt F)} {T : b.ty.Contents (Elt F) → Prop} (hT : T G) :
      At (F := F) c b G ⊢ (ownsSat (c : Thread nD τ) (Memref.whole b) fullShare T : sProp 𝕄) := by
    iintro ⟨%f, %hf, H⟩
    iapply (whole_at c b T f (hf ▸ hT)) $$ H
  have h0 := h (b := cc0_stg0_0) (G := I.x c) (T := fun X : S4x256x1024.Idx → Elt F .f32 => ∀ x, True → X x = I.x c x) fun x _ => rfl
  have h1 := h (b := cc0_stg1_0) (G := I.wq c) (T := fun X : S1024x1024.Idx → Elt F .f32 => ∀ x, True → X x = I.wq c x) fun x _ => rfl
  have h2 := h (b := cc0_stg2_0) (G := I.wk c) (T := fun X : S1024x1024.Idx → Elt F .f32 => ∀ x, True → X x = I.wk c x) fun x _ => rfl
  have h3 := h (b := cc0_stg3_0) (G := I.wv c) (T := fun X : S1024x1024.Idx → Elt F .f32 => ∀ x, True → X x = I.wv c x) fun x _ => rfl
  have h4 := h (b := cc0_stg4_0) (G := I.wo c) (T := fun X : S1024x1024.Idx → Elt F .f32 => ∀ x, True → X x = I.wo c x) fun x _ => rfl
  unfold Inp
  iintro ⟨H0, H1, H2, H3, H4⟩
  isplitl [H0]; · iapply h0 $$ H0
  isplitl [H1]; · iapply h1 $$ H1
  isplitl [H2]; · iapply h2 $$ H2
  isplitl [H3]; · iapply h3 $$ H3
  iapply h4 $$ H4

theorem out_out (fl : Fin 8 → ℕ) (h : ∀ i, fl i = 5) : Out I c fl ⊢ At (F := F) c cc0_stg5_0 (outC I) := by
  refine BIBase.Entails.trans (whole_out c cc0_stg5_0 (fun X : S1024x1024.Idx → Elt F .f32 => ∀ x, outT c fl x → X x = outC I x)) ?_
  iintro ⟨%f, %hf, H⟩; iexists f
  isplitr
  · ipureintro; exact funext fun x => hf x (outT_done c fl h x)
  iexact H

/-- What a device ends with. -/
theorem finish : iprop(⌜True⌝ ∗ semVal (barCell c) 0 ∗ Sm I K c σ110)
    ⊢ iprop((∃ W, owes (c : Thread nD τ) 0 W) ∗ semVal (barCell c) 0 ∗ Zs (F := F) c ∗ Scr c ∗ Res I c) := by
  have e : owedOf c σ110.ph = 0 := (congrArg _ (funext σ110_ph)).trans (owed_done c)
  unfold Sm
  rw [e, bigSep_congr (s := Finset.univ) (Φ := fun i => Ch I c i (σ110.ph i)) (Ψ := fun i => Ch I c i 30) fun i _ => by rw [σ110_ph]]
  iintro ⟨-, HzB, -, -, HO, HC, HB, HI, HT⟩
  ihave HC := (chs_out I c) $$ HC
  icases HC with ⟨HZ, H8, H9, H10⟩
  ihave HB := (cbs_out I c _) $$ HB
  icases HB with ⟨H0, H1, H2, H3, H4, H5, H6, H7⟩
  ihave HT := (out_out I c _ σ110_fl) $$ HT
  ihave HI := (inp_out I c) $$ HI
  icases HI with ⟨G0, G1, G2, G3, G4⟩
  isplitl [HO]; · iexact HO
  isplitl [HzB]; · iexact HzB
  isplitl [HZ]; · iexact HZ
  isplitl [H0 H1 H2 H3 H4 H5 H6 H7 H8 H9 H10]
  · unfold Scr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  unfold Res
  isplitl [G0]; · iexact G0
  isplitl [G1]; · iexact G1
  isplitl [G2]; · iexact G2
  isplitl [G3]; · iexact G3
  isplitl [G4]; · iexact G4
  iexact HT

end Cert.Ring

end
-- ==== Proof.Deal.lean ====
/-

# What the launch deals out

Every device starts with the positions of its own cells and the tokens of the duties it pays: those of its own send cells, of
its peers' receive cells, and one of each neighbour's barrier cell. It has the credit of its own barrier and receive cells.

-/
module

public import proofs.«01_k».proof.Proof.Exit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device -/

abbrev PP : Type := Fin 8 × Fin 8

/-- A device's cells: its barrier cell, its send cells, its receive cells. -/
def kOf : Unit ⊕ (PP ⊕ PP) → Fin 129
  | .inl _ => 0
  | .inr (.inl p) => kSend p.1 p.2
  | .inr (.inr p) => kRecv p.1 p.2
theorem kOf_inj : Function.Injective kOf := by
  rintro (_ | ⟨a, b⟩ | ⟨a, b⟩) (_ | ⟨a', b'⟩ | ⟨a', b'⟩) h
  · rfl
  all_goals
    have h' := congrArg Fin.val h
    simp only [kOf, kSend, kRecv, Fin.val_zero] at h'
  · exact absurd h' (by omega)
  · exact absurd h' (by omega)
  · exact absurd h' (by omega)
  · have ha : a = a' := Fin.ext (by omega)
    subst ha
    have hb : b = b' := Fin.ext (by omega)
    subst hb; rfl
  · exact absurd h' (by omega)
  · exact absurd h' (by omega)
  · exact absurd h' (by omega)
  · have ha : a = a' := Fin.ext (by omega)
    subst ha
    have hb : b = b' := Fin.ext (by omega)
    subst hb; rfl
def kEquiv : Unit ⊕ (PP ⊕ PP) ≃ Fin 129 :=
  Equiv.ofBijective kOf ((Fintype.bijective_iff_injective_and_card _).mpr ⟨kOf_inj, by simp [Fintype.card_sum, Fintype.card_prod]⟩)

theorem bigSep_k (Φ : Fin 129 → sProp 𝕄) :
    bigSep Finset.univ Φ = iprop(Φ 0 ∗ bigSep Finset.univ (fun p : PP => Φ (kSend p.1 p.2)) ∗ bigSep Finset.univ (fun p : PP => Φ (kRecv p.1 p.2))) := by
  rw [bigSep_univ_equiv kEquiv Φ, bigSep_univ_sum, bigSep_univ_sum, Finset.univ_unique, bigSep_singleton]
  rfl
theorem bigSep_kcell (c : Dev nD) (Φ : GSem nD τ sig → sProp 𝕄) :
    bigSep Finset.univ (fun k : Fin 129 => Φ (kcell (c, k))) = iprop(Φ (barCell c) ∗ bigSep Finset.univ (fun p : PP => Φ (sendCell c p.1 p.2))
      ∗ bigSep Finset.univ (fun p : PP => Φ (recvCell c p.1 p.2))) := by
  rw [bigSep_k (fun k : Fin 129 => Φ (kcell (c, k)))]
  simp only [kcell_send, kcell_recv]
  rfl

theorem csem_inj : Function.Injective csem := by
  intro k k' h
  unfold csem at h
  split at h <;> split at h
  · exact Fin.ext (by omega)
  · exact absurd h (fun h => by cases h)
  · exact absurd h (fun h => by cases h)
  · have h1 := congrArg (fun s : SemLoc sig => match s with | .dma q => q.val | .reg _ => 0) h
    have h2 : 5 + k.val = 5 + k'.val := h1
    exact Fin.ext (by omega)
theorem kcell_inj : Function.Injective kcell := by
  rintro ⟨c, k⟩ ⟨c', k'⟩ h
  have h1 : c = c' := by have := congrArg (fun g : GSem nD τ sig => g.1.1) h; exact this
  subst h1
  have h2 : k = k' := csem_inj (congrArg Prod.snd h)
  subst h2; rfl

/-- The exchanges' cells. -/
def allCells : Finset (GSem nD τ sig) := Finset.univ.map ⟨kcell, kcell_inj⟩
/-- A token of every duty name for every cell; the ones of duties that a cell does not have stay unused. -/
def tokOf (x : (Dev nD × Fin 129) × Fin 4) : GSem nD τ sig × ℕ × Fin 4 := (kcell x.1, 0, x.2)
theorem tokOf_inj : Function.Injective tokOf := by
  rintro ⟨a, j⟩ ⟨a', j'⟩ h
  have h1 : a = a' := kcell_inj (congrArg Prod.fst h)
  have h2 : j = j' := congrArg (fun x : GSem nD τ sig × ℕ × Fin 4 => x.2.2) h
  subst h1 h2; rfl
def allToks : Finset (GSem nD τ sig × ℕ × Fin 4) := Finset.univ.map ⟨tokOf, tokOf_inj⟩

def u₀ : UU := (initOf (Pipeline.cells cfgs cellOf_inj) (Pipeline.launchToks cfgs cellOf_inj), initOf allCells allToks)

variable (I : Ins F)

/-- The tokens of a device's own cells. -/
def toks (c : Dev nD) : sProp 𝕄 :=
  iprop(bigSep Finset.univ (fun j : Fin 4 => dutyTok ER (barCell c) 0 j) ∗ bigSep Finset.univ (fun p : PP => dutyTok ER (sendCell c p.1 p.2) 0 0)
    ∗ bigSep Finset.univ (fun p : PP => dutyTok ER (recvCell c p.1 p.2) 0 0))
/-- The tokens of the duties a device pays. -/
def payToks (c : Dev nD) : sProp 𝕄 :=
  iprop(bigSep Finset.univ (fun j : Fin 4 => dutyTok ER (barCell (via j c)) 0 j) ∗ bigSep Finset.univ (fun p : PP => dutyTok ER (sendCell c p.1 p.2) 0 0)
    ∗ bigSep Finset.univ (fun p : PP => dutyTok ER (recvCell (peer p.1 p.2 c) p.1 p.2) 0 0))

def G (c : Dev nD) : sProp 𝕄 :=
  iprop((bigSep Finset.univ fun k : Fin 129 => roundState ER (Rd I) (kcell (c, k)) 0)
    ∗ (bigSep Finset.univ fun k : Fin 129 => iprop(atPos ER (kcell (c, k)) 0 ∅ 0 ∗ reached ER (kcell (c, k)) 0)) ∗ toks c)
def G' (c : Dev nD) : sProp 𝕄 := iprop(∃ K, Recs I K ∗ Gh c)

theorem toks_of (c : Dev nD) : bigSep Finset.univ (fun k : Fin 129 => bigSep Finset.univ fun j : Fin 4 => (dutyTok ER (kcell (c, k)) 0 j : sProp 𝕄)) ⊢ toks c := by
  rw [bigSep_kcell c (fun g => bigSep Finset.univ fun j : Fin 4 => (dutyTok ER g 0 j : sProp 𝕄))]
  have h1 : bigSep Finset.univ (fun p : PP => bigSep Finset.univ fun j : Fin 4 => (dutyTok ER (sendCell c p.1 p.2) 0 j : sProp 𝕄))
      ⊢ bigSep Finset.univ (fun p : PP => dutyTok ER (sendCell c p.1 p.2) 0 0) := bigSep_mono fun p _ => bigSep_elim (Finset.mem_univ (0 : Fin 4))
  have h2 : bigSep Finset.univ (fun p : PP => bigSep Finset.univ fun j : Fin 4 => (dutyTok ER (recvCell c p.1 p.2) 0 j : sProp 𝕄))
      ⊢ bigSep Finset.univ (fun p : PP => dutyTok ER (recvCell c p.1 p.2) 0 0) := bigSep_mono fun p _ => bigSep_elim (Finset.mem_univ (0 : Fin 4))
  unfold toks
  iintro ⟨H0, H1, H2⟩
  isplitl [H0]; · iexact H0
  isplitl [H1]; · iapply h1 $$ H1
  iapply h2 $$ H2

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 129 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod, bigSep_univ_prod]
    exact bigSep_mono fun c _ => toks_of c
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## Semaphores -/

/-- The kernel's own semaphores: send and receive cells. -/
def osem : PP ⊕ PP → SemLoc sig
  | .inl p => .dma (sendS p.1 p.2)
  | .inr p => .dma (recvS p.1 p.2)

theorem osem_eq (k : PP ⊕ PP) : osem k = csem (kOf (.inr k)) := by
  rcases k with p | p
  · exact (csem_send p.1 p.2).symm
  · exact (csem_recv p.1 p.2).symm
theorem ownSemFacts : Pipeline.OwnSemFacts cfg0.spec osem where
  isScoped k := by rcases k with ⟨a, b⟩ | ⟨a, b⟩ <;> (revert a b; decide)
  inj k k' h := by
    rw [osem_eq, osem_eq] at h
    have := kOf_inj (csem_inj h)
    exact Sum.inr.inj this
  disj k w s h := by
    have hw : ∀ (w : Fin 6) (s : Fin (cfg0.spec w).nbuf), ((cfg0.spec w).sem s).val < 6 := by decide
    have h1 := congrArg (fun s : SemLoc sig => match s with | .dma q => q.val | .reg _ => 0) h
    have h2 := hw w s
    rcases k with ⟨a, b⟩ | ⟨a, b⟩
    · have h3 : 6 + 8 * a.val + b.val = ((cfg0.spec w).sem s).val := h1
      omega
    · have h3 : 70 + 8 * a.val + b.val = ((cfg0.spec w).sem s).val := h1
      omega

theorem ownSems0_eq (c : Dev nD) : (Pipeline.ownSems0 (Ix := Unit) (Name := ℕ) (U := UU) (Lvl := ℕ) (Val := Elt F) (τ := τ) osem c : sProp 𝕄) = Zs c := by
  unfold Pipeline.ownSems0 Zs
  rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 129 => semVal (kcell (c, k)) 0 : sProp 𝕄) := by
  rw [ownSems0_eq, unscopedSems0_eq, bigSep_kcell c (fun g => semVal g 0)]
  unfold Zs
  iintro ⟨⟨HS, HV⟩, HB⟩
  isplitl [HB]; · iexact HB
  isplitl [HS] <;> iassumption

/-! ## The global step -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Fin 129 => iprop(∃ κ : ℕ, cellInv ER (Rd I) κ (kcell (c, k))))
          ∗ (bigSep Finset.univ fun k : Fin 129 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 129 => semVal (kcell (c, k)) 0) ∗ bigSep Finset.univ fun k : Fin 129 => roundState ER (Rd I) (kcell (c, k)) 0)
      ⊢ (|={Set.univ}=> bigSep Finset.univ fun k : Fin 129 => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What goes to a device: its positions, and the tokens of the duties it pays. -/
def linear (c : Dev nD) : sProp 𝕄 := iprop(bigSep Finset.univ (fun k : Fin 129 => atPos ER (kcell (c, k)) 0 ∅ 0) ∗ payToks c)

theorem ghost_intro (K : Dev nD × Fin 129 → ℕ) (c : Dev nD) : iprop(Recs I K ∗ linear c) ⊢ G' I c := by
  unfold linear payToks G' Gh
  rw [bigSep_kcell c (fun g => atPos ER g 0 ∅ 0), bigSep_sep', bigSep_sep', bigSep_sep']
  iintro ⟨#HR, ⟨HaB, HaS, HaV⟩, HtB, HtS, HtV⟩
  iexists K
  isplitr; · iexact HR
  isplitl [HaB]; · iexact HaB
  isplitl [HtB]; · iexact HtB
  isplitl [HtS]; · iexact HtS
  isplitl [HtV]; · iexact HtV
  isplitl [HaS]; · iexact HaS
  iexact HaV

/-- Tokens given to the device across a direction. -/
theorem around {J : Type} [Fintype J] (d : J → Fin 4) (Φ : Dev nD → J → sProp 𝕄) :
    (bigSep Finset.univ fun c : Dev nD => bigSep Finset.univ fun p : J => Φ c p)
      = bigSep Finset.univ fun c : Dev nD => bigSep Finset.univ fun p : J => Φ (via (d p) c) p := by
  rw [bigSep_univ_comm, bigSep_univ_comm (fun (c : Dev nD) (p : J) => Φ (via (d p) c) p)]
  exact bigSep_congr fun p _ => bigSep_univ_equiv (viaEquiv (d p)) (fun c => Φ c p)

theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun j : Fin 4 => j) (fun c j => (dutyTok ER (barCell c) 0 j : sProp 𝕄)),
    around (fun p : PP => dir p.1 (lvl p.2)) (fun c p => (dutyTok ER (recvCell c p.1 p.2) 0 0 : sProp 𝕄))]
  exact BI.Entails.refl _

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 129 => iprop(∃ κ : ℕ, cellInv ER (Rd I) κ (kcell (c, k))))
          ∗ (bigSep Finset.univ fun k : Fin 129 => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × Fin 129 => iprop(∃ κ : ℕ, cellInv ER (Rd I) κ (kcell ck))),
    bigSep_congr (s := Finset.univ) (fun (c : Dev nD) _ => bigSep_sep' Finset.univ (fun k : Fin 129 => (atPos ER (kcell (c, k)) 0 ∅ 0 : sProp 𝕄)) (fun k => reached ER (kcell (c, k)) 0)),
    bigSep_sep', ← bigSep_univ_prod (fun ck : Dev nD × Fin 129 => (reached ER (kcell ck) 0 : sProp 𝕄))]
  iintro ⟨HI, ⟨Hat, #HR⟩, Htok⟩
  ihave HK := (BI.bigSep_exists_pi Finset.univ (fun (ck : Dev nD × Fin 129) (κ : ℕ) => (cellInv ER (Rd I) κ (kcell ck) : sProp 𝕄))) $$ HI
  icases HK with ⟨%K, #HI⟩
  ihave Htk := (toks_around (F := F)) $$ Htok
  iapply (bigSep_with_persistent (R := Recs I K) fun c _ => ghost_intro I K c)
  isplitr
  · unfold Recs; rw [bigSep_sep']
    isplitl; · iexact HI
    iexact HR
  · iapply (Entails.of_eq (bigSep_sep' Finset.univ (fun c : Dev nD => bigSep Finset.univ fun k : Fin 129 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

theorem bar_inj {a b : Dev nD} (h : barCell a = barCell b) : a = b := by
  have := congrArg (fun g : GSem nD τ sig => g.1.1) h; exact this
theorem recv_inj {a b : Dev nD} {i s i' s' : Fin 8} (h : recvCell a i s = recvCell b i' s') : a = b ∧ i = i' ∧ s = s' := by
  rw [← kcell_recv, ← kcell_recv] at h
  have h1 := kcell_inj h
  have h2 : kOf (.inr (.inr (i, s))) = kOf (.inr (.inr (i', s'))) := congrArg Prod.snd h1
  have h3 : ((i, s) : PP) = (i', s') := Sum.inr.inj (Sum.inr.inj (kOf_inj h2))
  exact ⟨congrArg Prod.fst h1, congrArg Prod.fst h3, congrArg Prod.snd h3⟩

theorem owed_bar (d c : Dev nD) : O₀ d (barCell c) () =
    (if d = via 3 c then 1 else 0) + (if d = via 2 c then 1 else 0) + (if d = via 1 c then 1 else 0) + (if d = via 0 c then 1 else 0) := by
  have h0 : owedOf d (fun _ => 0) (barCell c) () = 0 := by
    by_contra hne
    obtain ⟨i, s, h, -⟩ := owedOf_pos (Nat.pos_of_ne_zero hne)
    exact absurd (congrArg Prod.snd h) (fun h => by cases h)
  have h1 (j : Fin 4) : (tallyAt (barCell (via j d)) () 1 : CellTallies nD τ sig Unit) (barCell c) () = if d = via j c then 1 else 0 := by
    rw [tallyAt_apply]
    by_cases h : d = via j c
    · subst h; rw [via_via, if_pos ⟨rfl, rfl⟩, if_pos rfl]
    · rw [if_neg (fun ⟨h1, _⟩ => h (by rw [bar_inj h1, via_via])), if_neg h]
  unfold O₀
  simp only [Pi.add_apply, Finsupp.add_apply]
  rw [h0, h1, h1, h1, h1, Nat.zero_add]

theorem owed_recv (d c : Dev nD) (i s : Fin 8) : O₀ d (recvCell c i s) () = if d = peer i s c then amt s else 0 := by
  have h1 (j : Fin 4) : (tallyAt (barCell (via j d)) () 1 : CellTallies nD τ sig Unit) (recvCell c i s) () = 0 := by
    rw [tallyAt_apply]; exact if_neg fun ⟨h, _⟩ => by have := congrArg Prod.snd h; cases this
  unfold O₀
  simp only [Pi.add_apply, Finsupp.add_apply]
  rw [h1, h1, h1, h1]
  simp only [Nat.add_zero]
  unfold owedOf
  rw [Finset.sum_apply, Finsupp.finset_sum_apply, Finset.sum_eq_single (i, s)]
  · show (if stg s 0 = 0 then (tallyAt (recvCell (peer i s d) i s) () (amt s) : CellTallies nD τ sig Unit) else 0) (recvCell c i s) () = _
    rw [if_pos (stg_0 s), tallyAt_apply]
    by_cases h : d = peer i s c
    · subst h; rw [peer_peer, if_pos ⟨rfl, rfl⟩, if_pos rfl]
    · rw [if_neg (fun ⟨h1, _⟩ => h (by rw [(recv_inj h1).1, peer_peer])), if_neg h]
  · intro q _ hq
    rw [if_pos (stg_0 q.2), tallyAt_apply]
    exact if_neg fun ⟨h, _⟩ => hq (Prod.ext (recv_inj h).2.1.symm (recv_inj h).2.2.symm)
  · intro h; exact absurd (Finset.mem_univ _) h

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_recv (c : Dev nD) (i s : Fin 8) :
    tallyOn (recvCell c i s) (launchCredit (Pipeline.owing O₀) 0 (recvCell c i s)) = (tallyAt (recvCell c i s) () (amt s) : CellTallies nD τ sig Unit) := by
  unfold tallyAt; refine congrArg _ (Finsupp.ext fun u => ?_); cases u
  rw [Pipeline.launchCredit_owing, Finsupp.single_eq_same, Finset.sum_congr rfl fun d _ => owed_recv d c i s]
  simp only [Finset.sum_ite_eq', Finset.mem_univ, if_true]

/-- The receive semaphores as an embedding. -/
def recvEmb : PP ↪ SemLoc sig := ⟨fun p => .dma (recvS p.1 p.2), fun p q h => by
  have h' : recvCell 0 p.1 p.2 = recvCell 0 q.1 q.2 := congrArg (fun x => (((0 : Dev nD) : Thread nD τ), x)) h
  exact Prod.ext (recv_inj h').2.1 (recv_inj h').2.2⟩

theorem creds (c : Dev nD) : (Pipeline.launchCred O₀ c : sProp 𝕄) ⊢ Cr c := by
  unfold Pipeline.launchCred Cr
  rw [bigSep_univ_at _ (SemLoc.reg barS), launch_bar]
  refine sep_mono_right ?_
  have hs : Finset.univ.map recvEmb ⊆ Finset.univ.erase (SemLoc.reg barS : SemLoc sig) := fun x hx => by
    obtain ⟨p, -, rfl⟩ := Finset.mem_map.mp hx
    have hn : recvEmb p ≠ (SemLoc.reg barS : SemLoc sig) := by
      show (SemLoc.dma (recvS p.1 p.2) : SemLoc sig) ≠ _
      intro h; cases h
    exact Finset.mem_erase.mpr (And.intro hn (Finset.mem_univ _))
  refine BIBase.Entails.trans (bigSep_subset hs) ?_
  rw [bigSep_map]
  refine bigSep_mono fun p _ => ?_
  show cred (tallyOn (recvCell c p.1 p.2) (launchCredit (Pipeline.owing O₀) 0 (recvCell c p.1 p.2))) ⊢ _
  rw [launch_recv]

end Cert.Ring

end
-- ==== Proof.Launch.lean ====
/-

# The run of the whole program

All sixteen devices, from any memory with zero counters: the run ends, every device's argument arrays are as they were, the
result array holds the sum, and every semaphore counter is zero.

-/
module

public import proofs.«01_k».proof.Proof.Deal

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What the devices stage of their argument arrays. -/
def insOf : Ins F where
  x c := (win0_0.blk (0 : Fin 1)).view.read (Elt F) ((s₀ m ρ).mem ((c : Thread nD τ).loc main_arg0))
  wq c := (win0_1.blk (0 : Fin 1)).view.read (Elt F) ((s₀ m ρ).mem ((c : Thread nD τ).loc main_arg1))
  wk c := (win0_2.blk (0 : Fin 1)).view.read (Elt F) ((s₀ m ρ).mem ((c : Thread nD τ).loc main_arg2))
  wv c := (win0_3.blk (0 : Fin 1)).view.read (Elt F) ((s₀ m ρ).mem ((c : Thread nD τ).loc main_arg3))
  wo c := (win0_4.blk (0 : Fin 1)).view.read (Elt F) ((s₀ m ρ).mem ((c : Thread nD τ).loc main_arg4))

/-! ## The proof data of the one pipeline -/

def start (c : Dev nD) : sProp 𝕄 := iprop(G' (insOf m ρ) c ∗ Cr c ∗ levAts L lv)
def Φ₀ (c : Dev nD) : sProp 𝕄 := iprop(start m ρ c ∗ Scr c)
def Φ₁ (c : Dev nD) : sProp 𝕄 := iprop(semVal (barCell c) 0 ∗ Zs (F := F) c ∗ Scr c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (insOf m ρ).x c
    | ⟨1, _⟩ => (insOf m ρ).wq c
    | ⟨2, _⟩ => (insOf m ρ).wk c
    | ⟨3, _⟩ => (insOf m ρ).wv c
    | ⟨4, _⟩ => (insOf m ρ).wo c
    | ⟨5, _⟩ => outC (insOf m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = At c b X := by
  unfold owns; simp only [Memref.view_whole, View.read_whole, View.set_whole]

/-! ## The body obligation -/

def bodyPre (c : Dev nD) : sProp 𝕄 :=
  iprop(Φ₀ m ρ c ∗ (dats m ρ 0 c).owesAt () t0_0.castSucc
    ∗ (∃ d, At c cc0_stg0_0 ((dats m ρ 0 c).before (0 : Fin 6) t0_0 d))
    ∗ (∃ d, At c cc0_stg1_0 ((dats m ρ 0 c).before (1 : Fin 6) t0_0 d))
    ∗ (∃ d, At c cc0_stg2_0 ((dats m ρ 0 c).before (2 : Fin 6) t0_0 d))
    ∗ (∃ d, At c cc0_stg3_0 ((dats m ρ 0 c).before (3 : Fin 6) t0_0 d))
    ∗ (∃ d, At c cc0_stg4_0 ((dats m ρ 0 c).before (4 : Fin 6) t0_0 d))
    ∗ (∃ d, At c cc0_stg5_0 ((dats m ρ 0 c).before (5 : Fin 6) t0_0 d)))
def bodyPost (c : Dev nD) : sProp 𝕄 :=
  iprop(Φ₁ (F := F) c ∗ (dats m ρ 0 c).owesAt () t0_0.succ ∗ At c cc0_stg0_0 ((insOf m ρ).x c) ∗ At c cc0_stg1_0 ((insOf m ρ).wq c)
    ∗ At c cc0_stg2_0 ((insOf m ρ).wk c) ∗ At c cc0_stg3_0 ((insOf m ρ).wv c) ∗ At c cc0_stg4_0 ((insOf m ρ).wo c)
    ∗ At c cc0_stg5_0 (outC (insOf m ρ)))

theorem fetch_in : ∀ w : Fin 6, w.val < 5 → (cfg0.win w).fetch t0_0 = true := by decide

theorem begin_of (c : Dev nD) : bodyPre m ρ c ⊢ iprop(∃ K, Begin (insOf m ρ) K c) := by
  unfold bodyPre Φ₀ start G' Begin Pipeline.Dat.owesAt Pipeline.owesWithin
  rw [show (dats m ρ 0 c).owed t0_0.castSucc = O₀ c from rfl]
  iintro ⟨⟨⟨⟨%K, #HR, HG⟩, HC, #HL⟩, HS⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  have e0 : g0 = (insOf m ρ).x c := by rw [h0]; unfold Pipeline.Dat.before; rw [if_pos (fetch_in 0 (by decide))]; rfl
  have e1 : g1 = (insOf m ρ).wq c := by rw [h1]; unfold Pipeline.Dat.before; rw [if_pos (fetch_in 1 (by decide))]; rfl
  have e2 : g2 = (insOf m ρ).wk c := by rw [h2]; unfold Pipeline.Dat.before; rw [if_pos (fetch_in 2 (by decide))]; rfl
  have e3 : g3 = (insOf m ρ).wv c := by rw [h3]; unfold Pipeline.Dat.before; rw [if_pos (fetch_in 3 (by decide))]; rfl
  have e4 : g4 = (insOf m ρ).wo c := by rw [h4]; unfold Pipeline.Dat.before; rw [if_pos (fetch_in 4 (by decide))]; rfl
  iexists K
  isplitr; · iexact HR
  isplitr; · iexact HL
  isplitl [HO]; · iexists W; iexact HO
  isplitl [HG]; · iexact HG
  isplitl [HC]; · iexact HC
  isplitl [HS]; · iexact HS
  isplitl [H0 H1 H2 H3 H4]
  · iapply (inp_in (insOf m ρ) c)
    isplitl [H0]
    · iexists g0; isplitr; · ipureintro; exact e0
      iexact H0
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    iexists g4; isplitr; · ipureintro; exact e4
    iexact H4
  iexists g5; iexact H5

theorem end_of (K : Dev nD × Fin 129 → ℕ) (c : Dev nD) : iprop(⌜True⌝ ∗ semVal (barCell c) 0 ∗ Sm (insOf m ρ) K c σ110) ⊢ bodyPost m ρ c := by
  refine BIBase.Entails.trans (finish (insOf m ρ) K c) ?_
  unfold bodyPost Φ₁ Res Pipeline.Dat.owesAt Pipeline.owesWithin
  rw [show (dats m ρ 0 c).owed t0_0.succ = 0 from rfl]
  iintro ⟨⟨%W, HO⟩, HzB, HZ, HS, HR⟩
  isplitl [HzB HZ HS]
  · isplitl [HzB]; · iexact HzB
    isplitl [HZ] <;> iassumption
  isplitl [HO]
  · iexists W
    isplitr; · ipureintro; exact fun _ _ => Or.inl trivial
    iexact HO
  iexact HR

set_option maxRecDepth 40000 in
theorem body_run (c : Dev nD) : bodyPre m ρ c ⊢ wp frame (wpE (defs₀ (F := F)) 𝒱₀ (c : Thread nD τ) none) Set.univ (cc0_body (F := F) b0 w0 b1 w1 b2 w2 b3 w3 b4 w4 b5 w5 b6 w6 b7 w7 b8 w8 b9 w9 b10 w10 b11 w11 b12 w12 b13 w13 b14 w14 b15 w15 b16 w16 cc0_scratch11 cc0_scratch12) (fun _ => bodyPost m ρ c) := by
  refine BIBase.Entails.trans (begin_of m ρ c) ?_
  iintro ⟨%K, H⟩
  iapply (BIBase.Entails.trans (run_body (insOf m ρ) K c) (wp_mono _ _ _ fun _ => end_of m ρ K c)) $$ H

set_option maxRecDepth 40000 in
/-- The library's body obligation. -/
theorem body_obligation (c : Dev nD) : Pipeline.BodyObligation (dats (F := F) m ρ 0 c) (defs₀ (F := F)) 𝒱₀ () Set.univ := fun t => by
  rw [fin_N0 t]
  rw [bigSep_W, bigSep_W]
  simp only [owns_whole_eq]
  exact body_run m ρ c

end Cert.Ring

end
-- ==== Proof.RunMain.lean ====
/-

# The launch

-/
module

public import proofs.«01_k».proof.Proof.Launch
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ Scr
  exact BI.Entails.refl _

theorem O₀_pos {c : Dev nD} {g : GSem nD τ sig} {u : Unit} (h : 0 < O₀ c g u) :
    (∃ d i s, g = recvCell d i s) ∨ ∃ d, g = barCell d := by
  unfold O₀ at h
  by_contra hn
  rw [not_or] at hn
  have h1 (j : Fin 4) : (tallyAt (barCell (via j c)) () 1 : CellTallies nD τ sig Unit) g u = 0 := by
    rw [tallyAt_apply]; exact if_neg fun h => hn.2 ⟨_, h.1⟩
  have h0 : owedOf c (fun _ => 0) g u = 0 := by
    by_contra hne
    obtain ⟨i, s, h, -⟩ := owedOf_pos (Nat.pos_of_ne_zero hne)
    exact hn.1 ⟨_, _, _, h⟩
  simp only [Pi.add_apply, Finsupp.add_apply] at h
  rw [h0, h1, h1, h1, h1] at h
  exact Nat.lt_irrefl 0 h

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := Cert.Ring.L) (lev := lv) 0 (fun p hp => by rw [Finset.mem_singleton.mp hp, L_tc]; exact Finset.mem_singleton_self _)
      (fun g u hg => by rcases O₀_pos hg with ⟨d, i, s, rfl⟩ | ⟨d, rfl⟩ <;> exact Finset.mem_singleton_self _)
      (fun p hp => by
        rw [Finset.mem_singleton.mp hp]
        have : lv ((c : Thread nD τ), SemLoc.dma q) () = 0 := if_pos (by omega)
        exact le_of_eq this)
      (fun g u hg => by
        rcases O₀_pos hg with ⟨d, i, s, rfl⟩ | ⟨d, rfl⟩
        · rw [lv_recv]; omega
        · exact Nat.one_pos)
  · rw [MayWait_zero]; iintro -; iempintro

theorem stage_sem : ∀ (w : Fin 6) (s : Fin (cfg0.spec w).nbuf), ((cfg0.spec w).sem s).val < 6 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := Cert.Ring.L) (lv := lv) (hL := L_of_ne) (hwaits := waits m ρ)
    (G := G (insOf m ρ)) (G' := G' (insOf m ρ)) (u₀ := u₀)
    (hu₀ := by
      unfold u₀
      iintro Hu
      ihave H := (ownU_pair _ _) $$ Hu
      icases H with ⟨HP, HX⟩
      imod (fund_all (insOf m ρ)) $$ HX with HG
      imodintro
      isplitl [HP] <;> iassumption)
    (hglob := glob (insOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array after the run holds what it held. -/
theorem finalA_in (c : Dev nD) (w : Fin 6) (hw : (cfg0.win w).isOut = false) : finalA m ρ c w = (s₀ m ρ).mem ((cfg0.win w).arr.view.loc (c : Thread nD τ)) :=
  (dats (F := F) m ρ 0 c).arrAt_in w hw _

/-- The five argument arrays end as they began. -/
theorem kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

end Cert.Ring

end
-- ==== Proof.Staged.lean ====
/-
# What is staged and what is written back

Each window is a whole array: what the kernel reads is the argument array, and the result array ends as the kernel's result.

-/
module

public import proofs.«01_k».proof.Proof.RunMain
public import Idealize.ShloMosaic.Lib.Pipeline.ValueKit

@[expose] public section

noncomputable section

namespace Cert.Ring

open Cert.KernelIdeal Cert.KernelIdeal.Gen
open Idealize.ShloMosaic
open Idealize.ShloMosaic.TcCoe

open Idealize.SL Idealize.SL.Sem

variable {F : FTy → Type} [FloatOps F]
variable (m : (ℓ : Loc nD τ sig) → Buf (Elt F) ℓ) (ρ : Dev nD → PrngReg)

set_option maxRecDepth 16384 in
theorem insOf_x (c : Dev nD) : (insOf m ρ).x c = m ((c.tc : Thread nD τ).loc main_arg0) := by
  have h := fun f => Memref.read_access_unit_zero (Elt F) main_arg0 (off := fun a => (win0_0.index (0 : Fin 1)) a * main_arg0.ty.shape.size a)
    (funext fun a => by fin_cases a <;> decide) (fun a => by fin_cases a <;> decide) f
  unfold insOf s₀
  exact h _
set_option maxRecDepth 16384 in
theorem insOf_wq (c : Dev nD) : (insOf m ρ).wq c = m ((c.tc : Thread nD τ).loc main_arg1) := by
  have h := fun f => Memref.read_access_unit_zero (Elt F) main_arg1 (off := fun a => (win0_1.index (0 : Fin 1)) a * main_arg1.ty.shape.size a)
    (funext fun a => by fin_cases a <;> decide) (fun a => by fin_cases a <;> decide) f
  unfold insOf s₀
  exact h _
set_option maxRecDepth 16384 in
theorem insOf_wk (c : Dev nD) : (insOf m ρ).wk c = m ((c.tc : Thread nD τ).loc main_arg2) := by
  have h := fun f => Memref.read_access_unit_zero (Elt F) main_arg2 (off := fun a => (win0_2.index (0 : Fin 1)) a * main_arg2.ty.shape.size a)
    (funext fun a => by fin_cases a <;> decide) (fun a => by fin_cases a <;> decide) f
  unfold insOf s₀
  exact h _
set_option maxRecDepth 16384 in
theorem insOf_wv (c : Dev nD) : (insOf m ρ).wv c = m ((c.tc : Thread nD τ).loc main_arg3) := by
  have h := fun f => Memref.read_access_unit_zero (Elt F) main_arg3 (off := fun a => (win0_3.index (0 : Fin 1)) a * main_arg3.ty.shape.size a)
    (funext fun a => by fin_cases a <;> decide) (fun a => by fin_cases a <;> decide) f
  unfold insOf s₀
  exact h _
set_option maxRecDepth 16384 in
theorem insOf_wo (c : Dev nD) : (insOf m ρ).wo c = m ((c.tc : Thread nD τ).loc main_arg4) := by
  have h := fun f => Memref.read_access_unit_zero (Elt F) main_arg4 (off := fun a => (win0_4.index (0 : Fin 1)) a * main_arg4.ty.shape.size a)
    (funext fun a => by fin_cases a <;> decide) (fun a => by fin_cases a <;> decide) f
  unfold insOf s₀
  exact h _

set_option maxRecDepth 16384 in
theorem finalA_out (c : Dev nD) : finalA m ρ c 5 = outC (insOf m ρ) := by
  refine (Memref.read_access_unit_zero (Elt F) main_v1 (off := fun a => (win0_5.index (0 : Fin 1)) a * main_v1.ty.shape.size a)
    (funext fun a => by fin_cases a <;> decide) (fun a => by fin_cases a <;> decide) (finalA m ρ c 5)).symm.trans
    (?_ : (win0_5.blk (0 : Fin 1)).view.read (Elt F) (finalA m ρ c (5 : Fin 6)) = _)
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Cert.Ring

end
-- ==== Proof.Softmax.lean ====
/-
# One row of attention over the extended reals

The kernel divides each exponential by their sum before the product with the values; the reference divides the product.
Both are the same number when the scores are real: the sum of the exponentials is then a positive real.

-/
module

public import Idealize.ShloMosaic.Lib.Pointwise
public import proofs.«01_k».proof.Proof.Sched

@[expose] public section

noncomputable section

namespace Cert.Ring

open Cert.KernelIdeal Cert.KernelIdeal.Gen
open Idealize.ShloMosaic
open Idealize.ShloMosaic.TcCoe

/-- The scale of the scores. -/
def scl : EReal := Ideal.ofBits .f32 0x3DB504F3#32

/-- The largest score. -/
def top (s : Fin 256 → EReal) : EReal := Finset.univ.fold max ⊥ s
/-- The exponential of a score less the largest. -/
def wgt (s : Fin 256 → EReal) (j : Fin 256) : EReal := Ideal.exp (s j - top s)
/-- A row of attention as the kernel takes it: the weights divided, then the values summed. -/
def rowK (s v : Fin 256 → EReal) : EReal := ∑ j, Ideal.div (wgt s j) (∑ i, wgt s i) * v j
/-- A row of attention as the reference takes it: the values summed, then divided. -/
def rowR (s v : Fin 256 → EReal) : EReal := Ideal.div (∑ j, v j * wgt s j) (∑ i, wgt s i)

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem scl_real : ∃ a : ℝ, scl = (a : EReal) := by
  refine ⟨scl.toReal, (EReal.coe_toReal ?_ ?_).symm⟩ <;> simp [scl, Ideal.ofBits, Ideal.ieee, -EReal.coe_mul]

/-- A sum of reals is a real. -/
theorem sum_real {ι : Type} (t : Finset ι) (f : ι → EReal) (h : ∀ i, ∃ a : ℝ, f i = a) : ∃ a : ℝ, ∑ i ∈ t, f i = (a : EReal) := by
  choose g hg using h
  refine ⟨∑ i ∈ t, g i, ?_⟩
  simp only [hg]
  induction t using Finset.cons_induction with
  | empty => simp
  | cons a s ha ih => rw [Finset.sum_cons, Finset.sum_cons, ih, EReal.coe_add]
theorem mul_real {a b : EReal} (ha : ∃ x : ℝ, a = x) (hb : ∃ x : ℝ, b = x) : ∃ x : ℝ, a * b = (x : EReal) := by
  obtain ⟨x, rfl⟩ := ha; obtain ⟨y, rfl⟩ := hb
  exact ⟨x * y, (EReal.coe_mul x y).symm⟩

/-- The largest of real scores is one of them. -/
theorem top_mem (s : Fin 256 → EReal) : top s = ⊥ ∨ ∃ j, top s = s j := by
  unfold top
  suffices h : ∀ t : Finset (Fin 256), t.fold max ⊥ s = ⊥ ∨ ∃ j, t.fold max ⊥ s = s j from h _
  intro t
  induction t using Finset.cons_induction with
  | empty => exact .inl (Finset.fold_empty)
  | cons a t ha ih =>
    rw [Finset.fold_cons]
    rcases max_choice (s a) (t.fold max ⊥ s) with h | h
    · exact .inr ⟨a, h⟩
    · rw [h]; exact ih
theorem le_top' (s : Fin 256 → EReal) (j : Fin 256) : s j ≤ top s := (Finset.le_fold_max (s j)).2 (.inr ⟨j, Finset.mem_univ j, le_rfl⟩)

theorem wgt_real (s : Fin 256 → EReal) (h : ∀ j, ∃ a : ℝ, s j = a) : (∀ j, ∃ a : ℝ, 0 ≤ a ∧ wgt s j = a) ∧ ∃ j, wgt s j = 1 := by
  have hm : ∃ j, top s = s j := by
    rcases top_mem s with hb | h'
    · obtain ⟨a, ha⟩ := h 0
      have := le_top' s 0
      rw [hb, ha] at this
      exact absurd (le_bot_iff.1 this) (EReal.coe_ne_bot a)
    · exact h'
  obtain ⟨j₀, hj⟩ := hm
  obtain ⟨b, hb⟩ := h j₀
  have key : ∀ j (a : ℝ), s j = a → wgt s j = ((Real.exp (a - b) : ℝ) : EReal) := by
    intro j a ha
    unfold wgt
    rw [hj, ha, hb, ← EReal.coe_sub]
    rfl
  refine ⟨fun j => ?_, j₀, ?_⟩
  · obtain ⟨a, ha⟩ := h j
    exact ⟨_, (Real.exp_pos _).le, key j a ha⟩
  · rw [key j₀ b hb, sub_self, Real.exp_zero, EReal.coe_one]

/-- The sum of the weights of real scores is a positive real. -/
theorem den_real (s : Fin 256 → EReal) (h : ∀ j, ∃ a : ℝ, s j = a) : ∃ l : ℝ, 0 < l ∧ ∑ i, wgt s i = (l : EReal) := by
  obtain ⟨hw, j₀, h1⟩ := wgt_real s h
  obtain ⟨l, hl⟩ := sum_real Finset.univ (wgt s) fun j => (hw j).imp fun a ha => ha.2
  refine ⟨l, ?_, hl⟩
  have h0 : ∀ j ∈ Finset.univ, 0 ≤ wgt s j := fun j _ => by
    obtain ⟨a, ha, e⟩ := hw j; rw [e]; exact_mod_cast ha
  have := Finset.single_le_sum h0 (Finset.mem_univ j₀)
  rw [h1, hl] at this
  have h2 : (1 : ℝ) ≤ l := by exact_mod_cast this
  linarith

theorem sum_mul_real {ι : Type} (t : Finset ι) (f : ι → EReal) (a : ℝ) (ha : 0 ≤ a) : (∑ i ∈ t, f i) * (a : EReal) = ∑ i ∈ t, f i * (a : EReal) := by
  induction t using Finset.cons_induction with
  | empty => simp
  | cons b s hb ih =>
    rw [Finset.sum_cons, Finset.sum_cons, ← ih, EReal.right_distrib_of_nonneg_of_ne_top (by exact_mod_cast ha) (EReal.coe_ne_top a)]

theorem rowK_eq (s v : Fin 256 → EReal) (h : ∀ j, ∃ a : ℝ, s j = a) : rowK s v = rowR s v := by
  obtain ⟨l, hl, e⟩ := den_real s h
  unfold rowK rowR
  rw [e, Ideal.div_coe hl.ne', sum_mul_real _ _ _ (by positivity)]
  refine Finset.sum_congr rfl fun j _ => ?_
  rw [Ideal.div_coe hl.ne', mul_comm (v j), mul_assoc, mul_assoc, mul_comm (v j)]

end Cert.Ring

end
-- ==== Proof.KerAt.lean ====
/-
# The kernel's blocks at an index

Each of the kernel's computations over the extended reals, at an index: roundings are the identity there.

-/
module

public import proofs.«01_k».proof.Proof.Softmax

@[expose] public section

noncomputable section

namespace Cert.Ring

open Cert.KernelIdeal Cert.KernelIdeal.Gen
open Idealize.ShloMosaic
open Idealize.ShloMosaic.TcCoe

theorem wB_at (W : FVec Ideal S1024x1024 .f32) (j : S1024x1024.Idx) : wB (F := Ideal) W j = W j := by
  unfold wB
  pointwise [k0_pay3]

theorem projB_at (X : FVec Ideal S1x256x1024 .f32) (W : FVec Ideal S1024x1024 .bf16) (r : Fin 256) (n : Fin 1024) :
    projB (F := Ideal) X W (ix2 r n) = ∑ k : Fin 1024, X (ix3 0 r k) * W (ix2 k n) := by
  unfold projB
  pointwise [k0_pay8, k0_pay7]

theorem oprojB_at (o : FVec Ideal S256x1024 .bf16) (w : FVec Ideal S1024x512 .bf16) (r : Fin 256) (n : Fin 512) :
    oprojB (F := Ideal) o w (ix3 0 r n) = ∑ k : Fin 1024, o (ix2 r k) * w (ix2 k n) := by
  unfold oprojB
  pointwise [k0_pay23]

theorem attB_at (q k v : FVec Ideal S256x128 .bf16) (r : Fin 256) (d : Fin 128) :
    attB (F := Ideal) q k v (ix2 r d) = rowK (fun j => (∑ d : Fin 128, q (ix2 r d) * k (ix2 j d)) * scl) (fun j => v (ix2 j d)) := by
  unfold attB
  pointwise [k0_pay11]
  rw [ofBits_bot]
  rfl

theorem pr_ix {a b : ℕ} (r : Fin a) (k : Fin b) : pr r k = ix2 r k := by
  funext i; fin_cases i <;> rfl
theorem tr3_ix {a b c : ℕ} (p : Fin a) (r : Fin b) (k : Fin c) : tr3 p r k = ix3 p r k := by
  funext i; fin_cases i <;> rfl
theorem sq_ix {r k : ℕ} (hr : r < 1024) (hk : k < 1024) : sq r k = ix2 ⟨r, hr⟩ ⟨k, hk⟩ := by
  funext i; fin_cases i <;> exact Fin.ext (Nat.mod_eq_of_lt ‹_›)

/-- A projection of a device, at an index. -/
theorem proj_at (X : FVec Ideal S4x256x1024 .f32) (W : FVec Ideal S1024x1024 .f32) (r n : Fin 1024) :
    proj (F := Ideal) X W (ix2 r n) = ∑ k : Fin 1024, X (ix3 ⟨r.val / 256, by omega⟩ ⟨r.val % 256, by omega⟩ k) * W (ix2 k n) := by
  refine (congrArg (projB _ _) (pr_ix (⟨r.val % 256, by omega⟩ : Fin 256) n)).trans ((projB_at _ _ _ _).trans (Finset.sum_congr rfl fun k _ => ?_))
  rw [wB_at]
  refine congrArg (· * W (ix2 k n)) ?_
  refine congrArg X ((tr3_ix (⟨r.val / 256 % 4, Nat.mod_lt _ (by decide)⟩ : Fin 4) (⟨r.val % 256, by omega⟩ : Fin 256) k).trans ?_)
  have hb : (⟨r.val / 256 % 4, Nat.mod_lt _ (by decide)⟩ : Fin 4) = ⟨r.val / 256, by omega⟩ := Fin.ext (by show r.val / 256 % 4 = r.val / 256; omega)
  rw [hb]

/-- The attention of a device, at an index. -/
theorem att_at (q k v : FVec Ideal S1024x1024 .bf16) (r n : Fin 1024) :
    att (F := Ideal) q k v (ix2 r n)
      = rowK (fun j => (∑ d : Fin 128, q (ix2 r ⟨n.val / 128 * 128 + d.val, by omega⟩) * k (ix2 ⟨r.val / 256 * 256 + j.val, by omega⟩ ⟨n.val / 128 * 128 + d.val, by omega⟩)) * scl)
          (fun j => v (ix2 ⟨r.val / 256 * 256 + j.val, by omega⟩ n)) := by
  have hh : ∀ (A : FVec Ideal S1024x1024 .bf16) (j : Fin 256) (d : Fin 128),
      headBlk (F := Ideal) (e := .bf16) A (r.val / 256) (n.val / 128) (ix2 j d) = A (ix2 ⟨r.val / 256 * 256 + j.val, by omega⟩ ⟨n.val / 128 * 128 + d.val, by omega⟩) := fun A j d => by
    show A (sq (256 * (r.val / 256) + j.val) (128 * (n.val / 128) + d.val)) = _
    refine congrArg A ((sq_ix (r := 256 * (r.val / 256) + j.val) (k := 128 * (n.val / 128) + d.val) (by omega) (by omega)).trans ?_)
    congr 1 <;> exact Fin.ext (by dsimp only; omega)
  refine (congrArg (attB _ _ _) (pr_ix (⟨r.val % 256, by omega⟩ : Fin 256) (⟨n.val % 128, by omega⟩ : Fin 128))).trans ((attB_at _ _ _ _ _).trans ?_)
  have hr : (⟨r.val / 256 * 256 + r.val % 256, by omega⟩ : Fin 1024) = r := Fin.ext (by dsimp only; omega)
  have hn : (⟨n.val / 128 * 128 + n.val % 128, by omega⟩ : Fin 1024) = n := Fin.ext (by dsimp only; omega)
  congr 1
  · funext j
    congr 1
    refine Finset.sum_congr rfl fun d _ => ?_
    refine congr (congrArg _ ((hh q _ _).trans ?_)) (hh k _ _)
    exact congrArg (fun z => q (ix2 z _)) hr
  · funext j
    refine (hh v _ _).trans ?_
    exact congrArg (fun z => v (ix2 _ z)) hn

end Cert.Ring

end
-- ==== Proof.Butterfly.lean ====
/-
# The halving levels sum the partial results of all the devices

After `n` levels a device holds, on the rows it keeps, the sum over the `2 ^ n` devices its peers lead to; after four, over
all sixteen. Which devices those are depends on the slab through its parity only.

-/
module

public import proofs.«01_k».proof.Proof.KerAt

@[expose] public section

noncomputable section

namespace Cert.Ring

open Cert.KernelIdeal Cert.KernelIdeal.Gen
open Idealize.ShloMosaic
open Idealize.ShloMosaic.TcCoe

/-- The devices whose partial results device `c` has summed after `n` levels, in a slab of parity `st`. -/
def grp (st : ℕ) : ℕ → Dev nD → Finset (Dev nD)
  | 0, c => {c}
  | n + 1, c => grp st n c ∪ grp st n (ptr st n c)

theorem grp_disj : ∀ (st : Fin 2) (n : Fin 4) (c : Dev nD), grp st.val n.val c ∩ grp st.val n.val (ptr st.val n.val c) = ∅ := by decide +kernel
theorem grp_all : ∀ (st : Fin 2) (c : Dev nD), grp st.val 4 c = Finset.univ := by decide +kernel

theorem ptr_parity (i n : ℕ) (c : Dev nD) : ptr i n c = ptr (i % 2) n c := by
  unfold ptr dir
  exact congrArg (via · c) (Fin.ext (by show (n + 2 * (i % 2)) % 4 = (n + 2 * (i % 2 % 2)) % 4; rw [Nat.mod_mod]))

theorem addE_at (a b : Elt Ideal .bf16) : addE (F := Ideal) a b = (a + b : EReal) := rfl

variable (I : Ins Ideal)

theorem accC_grp (x : S8x256x512.Idx) : ∀ (n : ℕ), n ≤ 4 → ∀ c : Dev nD, accC I n c x = ∑ d ∈ grp ((x 0).val % 2) n c, (partC I d x : EReal)
  | 0, _, c => (Finset.sum_singleton _ _).symm
  | n + 1, hn, c => by
    have h := fun c => accC_grp x n (by omega) c
    have hd := grp_disj ⟨(x 0).val % 2, Nat.mod_lt _ (by decide)⟩ ⟨n, by omega⟩ c
    show addE (accC I n c x) (accC I n (ptr (x 0).val n c) x) = _
    rw [addE_at, h, h, ptr_parity]
    exact (Finset.sum_union (Finset.disjoint_iff_inter_eq_empty.2 hd)).symm

theorem accC_all (x : S8x256x512.Idx) (c : Dev nD) : accC I 4 c x = ∑ d : Dev nD, (partC I d x : EReal) := by
  rw [accC_grp I x 4 le_rfl c]
  exact Finset.sum_congr (grp_all ⟨(x 0).val % 2, Nat.mod_lt _ (by decide)⟩ c) fun _ _ => rfl

theorem ix_ix {i r : ℕ} (hi : i < 8) (hr : r < 256) (k : Fin 512) : ix i r k = ix3 ⟨i, hi⟩ ⟨r, hr⟩ k := by
  funext a; fin_cases a
  · exact Fin.ext (Nat.mod_eq_of_lt hi)
  · exact Fin.ext (Nat.mod_eq_of_lt hr)
  · rfl

/-- A device's partial result, at an index. -/
theorem partC_at (c : Dev nD) (i : Fin 8) (r : Fin 256) (k : Fin 512) :
    partC I c (ix3 i r k) = ∑ j : Fin 1024, oC I c (ix2 ⟨i.val / 2 * 256 + r.val, by omega⟩ j) * (I.wo c (ix2 j ⟨i.val % 2 * 512 + k.val, by omega⟩) : EReal) := by
  show oprojB (rowBlk (oC I c) (i.val / 2)) (colBlk (wB (I.wo c)) (i.val % 2)) (tr3 (0 : Fin 1) r k) = _
  refine (congrArg (oprojB _ _) (tr3_ix (0 : Fin 1) r k)).trans ((oprojB_at _ _ _ _).trans (Finset.sum_congr rfl fun j _ => ?_))
  refine congr (congrArg HMul.hMul ?_) ?_
  · show oC I c (sq (256 * (i.val / 2) + r.val) j.val) = _
    refine congrArg (oC I c) ((sq_ix (by omega) j.isLt).trans ?_)
    congr 1
    exact Fin.ext (by dsimp only; omega)
  · show wB (I.wo c) (sq j.val (512 * (i.val % 2) + k.val)) = _
    refine (wB_at _ _).trans (congrArg (I.wo c) ((sq_ix j.isLt (by omega)).trans ?_))
    congr 1
    exact Fin.ext (by dsimp only; omega)

/-- The kernel's result, at an index. -/
theorem outC_at (r n : Fin 1024) :
    outC I (ix2 r n) = ∑ c : Dev nD, ∑ j : Fin 1024, oC I c (ix2 r j) * (I.wo c (ix2 j n) : EReal) := by
  show extE (sumC I (ix (2 * (r.val / 256) + n.val / 512) (r.val % 256) ⟨n.val % 512, _⟩)) = _
  show sumC I (ix (2 * (r.val / 256) + n.val / 512) (r.val % 256) ⟨n.val % 512, _⟩) = (_ : EReal)
  rw [ix_ix (by omega) (by omega)]
  refine (accC_all I _ _).trans (Finset.sum_congr rfl fun c _ => (partC_at I c _ _ _).trans (Finset.sum_congr rfl fun j _ => ?_))
  have hr : (⟨(2 * (r.val / 256) + n.val / 512) / 2 * 256 + r.val % 256, by omega⟩ : Fin 1024) = r := Fin.ext (by dsimp only; omega)
  have hn : (⟨(2 * (r.val / 256) + n.val / 512) % 2 * 512 + n.val % 512, by omega⟩ : Fin 1024) = n := Fin.ext (by dsimp only; omega)
  refine congr (congrArg HMul.hMul ?_) ?_
  · exact congrArg (fun z => oC I c (ix2 z j)) hr
  · exact congrArg (fun z => I.wo c (ix2 j z)) hn

end Cert.Ring

end
-- ==== Proof.RefAt.lean ====
/-
# The reference at an index

The reference's term in stages, each read at an index: the projections by head, the scores, their maxima, the weights, the
attention, the output projection.

-/
module

public import proofs.«01_k».proof.Proof.Softmax
public import proofs.«01_k».proof.Proof.Gen.ReferenceIdeal.Run

@[expose] public section

noncomputable section

namespace Cert.Ring

open Idealize.ShloMosaic
open Idealize.ShloMosaic.TcCoe

namespace Ref
open Cert.ReferenceIdeal Cert.ReferenceIdeal.Gen
open Cert.ReferenceIdeal.Facts

/-- A projection, by head. -/
def head (X : FVec Ideal S4x256x1024 .f32) (W : FVec Ideal S1024x16384 .f32) : FVec Ideal S4x256x128x128 .f32 :=
  shapeCast _ (Host.dotGeneral dot_S4x256x1024_S1024x16384_S4x256x16384_2_0_01_1_n_n none X W) shapeCasts_S4x256x16384_S4x256x128x128
/-- The scores. -/
def score (q k : FVec Ideal S4x256x128x128 .f32) : FVec Ideal S4x128x256x256 .f32 :=
  mulf (Host.dotGeneral dot_S4x256x128x128_S4x256x128x128_S4x128x256x256_3_3_1_1_02_02 none q k) (broadcastInDim S4x128x256x256 ![] bcast_S_S4x128x256x256 (constant S_ .f32 0x3DB504F3#32))
def low : FVec Ideal S4x128x256x1 .f32 := broadcastInDim S4x128x256x1 ![] bcast_S_S4x128x256x1 (constant S_ .f32 0xFF800000#32)
/-- The largest score of each row. -/
def red (s : FVec Ideal S4x128x256x256 .f32) : FVec Ideal S4x128x256 .f32 :=
  Host.reduce FloatOps.maximumf s (constant S_ .f32 0xFF800000#32) reducesTo_S4x128x256x256_S4x128x256_d3 h_S_
/-- The running maxima after a block whose maxima are `r`. -/
def lift (r : FVec Ideal S4x128x256 .f32) : FVec Ideal S4x128x256x1 .f32 :=
  maximumf low (broadcastInDim S4x128x256x1 ![0, 1, 2] bcast_S4x128x256_S4x128x256x1_0_1_2 r)
def big (s : FVec Ideal S4x128x256x256 .f32) : FVec Ideal S4x128x256x1 .f32 := lift (red s)
/-- The weights. -/
def wt (s : FVec Ideal S4x128x256x256 .f32) (b : FVec Ideal S4x128x256x1 .f32) : FVec Ideal S4x128x256x256 .f32 :=
  Host.exp (subf s (broadcastInDim S4x128x256x256 ![0, 1, 2, 3] bcast_S4x128x256x1_S4x128x256x256_0_1_2_3 b))
/-- The factor of the running values before the only block: they are zero. -/
def old (b : FVec Ideal S4x128x256x1 .f32) : FVec Ideal S4x128x256x1 .f32 := Host.exp (subf low b)
/-- The attention. -/
def atn (o : FVec Ideal S4x128x256x1 .f32) (v : FVec Ideal S4x256x128x128 .f32) (e : FVec Ideal S4x128x256x256 .f32) : FVec Ideal S4x256x128x128 .f32 :=
  Host.divf (addf (mulf (broadcastInDim S4x256x128x128 ![] bcast_S_S4x256x128x128 (constant S_ .f32 0x00000000#32))
      (broadcastInDim S4x256x128x128 ![0, 1, 2, 3] bcast_S4x256x128x1_S4x256x128x128_0_1_2_3 (transpose S4x256x128x1 [0, 2, 1, 3] o transposes_S4x128x256x1_S4x256x128x1_0_2_1_3)))
      (transpose S4x256x128x128 [0, 3, 1, 2] (Host.dotGeneral dot_S4x256x128x128_S4x128x256x256_S4x128x128x256_1_3_3_2_02_01 none v e) transposes_S4x128x128x256_S4x256x128x128_0_3_1_2))
    (broadcastInDim S4x256x128x128 ![0, 1, 2, 3] bcast_S4x256x128x1_S4x256x128x128_0_1_2_3
      (transpose S4x256x128x1 [0, 2, 1, 3] (addf (mulf (broadcastInDim S4x128x256x1 ![] bcast_S_S4x128x256x1 (constant S_ .f32 0x00000000#32)) o)
        (broadcastInDim S4x128x256x1 ![0, 1, 2] bcast_S4x128x256_S4x128x256x1_0_1_2 (Host.reduceAdd e (constant S_ .f32 0x00000000#32) reducesTo_S4x128x256x256_S4x128x256_d3 h_S_)))
        transposes_S4x128x256x1_S4x256x128x1_0_2_1_3))
/-- The output projection. -/
def fin (a : FVec Ideal S4x256x128x128 .f32) (W : FVec Ideal S16384x1024 .f32) : FVec Ideal S1024x1024 .f32 :=
  shapeCast _ (Host.dotGeneral dot_S4x256x16384_S16384x1024_S4x256x1024_2_0_01_1_n_n none (shapeCast _ a shapeCasts_S4x256x128x128_S4x256x16384) W) shapeCasts_S4x256x1024_S1024x1024

theorem head_at (X W) (b : Fin 4) (r : Fin 256) (h d : Fin 128) :
    head X W (ix4 b r h d) = ∑ k : Fin 1024, X (ix3 b r k) * W (ix2 k ⟨h.val * 128 + d.val, by omega⟩) := by
  pointwise [head]
theorem score_at (q k) (b : Fin 4) (h : Fin 128) (r j : Fin 256) :
    score q k (ix4 b h r j) = (∑ d : Fin 128, q (ix4 b r h d) * k (ix4 b j h d)) * scl := by
  pointwise [score]; rfl
theorem red_at (s) (b : Fin 4) (h : Fin 128) (r : Fin 256) : red s (ix3 b h r) = top fun j => s (ix4 b h r j) := by
  unfold top
  pointwise [red]
  rw [ofBits_bot]
theorem lift_at (a) (b : Fin 4) (h : Fin 128) (r : Fin 256) : lift a (ix4 b h r 0) = a (ix3 b h r) := by
  pointwise [lift, low]
  rw [ofBits_bot, max_eq_right bot_le]
theorem big_at (s) (b : Fin 4) (h : Fin 128) (r : Fin 256) : big s (ix4 b h r 0) = top fun j => s (ix4 b h r j) :=
  (lift_at (red s) b h r).trans (red_at s b h r)
theorem wt_at (s m) (b : Fin 4) (h : Fin 128) (r j : Fin 256) : wt s m (ix4 b h r j) = Ideal.exp (s (ix4 b h r j) - m (ix4 b h r 0)) := by
  pointwise [wt]
theorem atn_at (o v e) (b : Fin 4) (r : Fin 256) (h d : Fin 128) :
    atn o v e (ix4 b r h d) = Ideal.div (∑ j : Fin 256, v (ix4 b j h d) * e (ix4 b h r j)) (∑ j : Fin 256, e (ix4 b h r j)) := by
  pointwise [atn]
  rw [zero_mul, zero_add, zero_add]
theorem fin_at (a W) (r n : Fin 1024) :
    fin a W (ix2 r n) = ∑ N : Fin 16384, a (ix4 ⟨r.val / 256, by omega⟩ ⟨r.val % 256, by omega⟩ ⟨N.val / 128, by omega⟩ ⟨N.val % 128, by omega⟩) * W (ix2 N n) := by
  pointwise [fin]

set_option maxRecDepth 16384 in
theorem res_eq (m : (ℓ : Loc nD τ sig) → Buf (Elt Ideal) ℓ) (c : Dev nD) :
    Cert.ReferenceIdeal.Value.res_main_v35 m c
      = (let X : FVec Ideal S4x256x1024 .f32 := m ((c.tc : Thread nD τ).loc main_arg0)
         let s := score (head X (m ((c.tc : Thread nD τ).loc main_arg1))) (head X (m ((c.tc : Thread nD τ).loc main_arg2)))
         fin (atn (old (big s)) (head X (m ((c.tc : Thread nD τ).loc main_arg3))) (wt s (big s))) (m ((c.tc : Thread nD τ).loc main_arg4))) := rfl
end Ref

/-- A projection at batch `b`, row `r`, column `n`. -/
def pj (X : FVec Ideal ⟨3, ![4, 256, 1024]⟩ .f32) (W : FVec Ideal ⟨2, ![1024, 16384]⟩ .f32) (b : Fin 4) (r : Fin 256) (n : Fin 16384) : EReal :=
  ∑ k : Fin 1024, X (ix3 b r k) * W (ix2 k n)
/-- A row's scores in one head. -/
def sc (X : FVec Ideal ⟨3, ![4, 256, 1024]⟩ .f32) (WQ WK : FVec Ideal ⟨2, ![1024, 16384]⟩ .f32) (b : Fin 4) (r : Fin 256) (h : Fin 128) (j : Fin 256) : EReal :=
  (∑ d : Fin 128, pj X WQ b r ⟨h.val * 128 + d.val, by omega⟩ * pj X WK b j ⟨h.val * 128 + d.val, by omega⟩) * scl

/-- The result at row `r`, column `n`. -/
def refAt (X : FVec Ideal ⟨3, ![4, 256, 1024]⟩ .f32) (WQ WK WV : FVec Ideal ⟨2, ![1024, 16384]⟩ .f32) (WO : FVec Ideal ⟨2, ![16384, 1024]⟩ .f32)
    (r n : Fin 1024) : EReal :=
  ∑ N : Fin 16384, rowR (sc X WQ WK ⟨r.val / 256, by omega⟩ ⟨r.val % 256, by omega⟩ ⟨N.val / 128, by omega⟩)
    (fun j => pj X WV ⟨r.val / 256, by omega⟩ j N) * WO (ix2 N n)

theorem wt_sc (X : FVec Ideal ⟨3, ![4, 256, 1024]⟩ .f32) (WQ WK : FVec Ideal ⟨2, ![1024, 16384]⟩ .f32) (b : Fin 4) (h : Fin 128) (r j : Fin 256) :
    Ref.wt (Ref.score (Ref.head X WQ) (Ref.head X WK)) (Ref.big (Ref.score (Ref.head X WQ) (Ref.head X WK))) (ix4 b h r j) = wgt (sc X WQ WK b r h) j := by
  have hs : ∀ j, Ref.score (Ref.head X WQ) (Ref.head X WK) (ix4 b h r j) = sc X WQ WK b r h j := fun j => by
    rw [Ref.score_at]
    unfold sc
    congr 1
    exact Finset.sum_congr rfl fun d _ => congr (congrArg _ (Ref.head_at X WQ b r h d)) (Ref.head_at X WK b j h d)
  rw [Ref.wt_at, Ref.big_at, hs, funext hs]
  rfl

theorem ref_whole (X : FVec Ideal ⟨3, ![4, 256, 1024]⟩ .f32) (WQ WK WV : FVec Ideal ⟨2, ![1024, 16384]⟩ .f32) (WO : FVec Ideal ⟨2, ![16384, 1024]⟩ .f32)
    (r n : Fin 1024) :
    Ref.fin (Ref.atn (Ref.old (Ref.big (Ref.score (Ref.head X WQ) (Ref.head X WK)))) (Ref.head X WV)
      (Ref.wt (Ref.score (Ref.head X WQ) (Ref.head X WK)) (Ref.big (Ref.score (Ref.head X WQ) (Ref.head X WK))))) WO (ix2 r n) = refAt X WQ WK WV WO r n := by
  rw [Ref.fin_at]
  unfold refAt
  refine Finset.sum_congr rfl fun N _ => congrArg (· * WO (ix2 N n)) ?_
  rw [Ref.atn_at]
  have hN : (⟨N.val / 128 * 128 + N.val % 128, by omega⟩ : Fin 16384) = N := Fin.ext (by show N.val / 128 * 128 + N.val % 128 = N.val; omega)
  have hv : ∀ j, Ref.head X WV (ix4 ⟨r.val / 256, by omega⟩ j ⟨N.val / 128, by omega⟩ ⟨N.val % 128, by omega⟩) = pj X WV ⟨r.val / 256, by omega⟩ j N := fun j =>
    (Ref.head_at X WV _ j _ _).trans (congrArg (pj X WV _ j) hN)
  unfold rowR
  refine congr (congrArg _ (Finset.sum_congr rfl fun j _ => ?_)) (Finset.sum_congr rfl fun j _ => wt_sc X WQ WK _ _ _ j)
  rw [hv, wt_sc]

theorem ref_at (m : (ℓ : Loc Cert.ReferenceIdeal.nD Cert.ReferenceIdeal.τ Cert.ReferenceIdeal.sig) → Buf (Elt Ideal) ℓ) (c : Dev Cert.ReferenceIdeal.nD)
    (r n : Fin 1024) :
    Cert.ReferenceIdeal.Value.res_main_v35 m c (ix2 r n)
      = refAt (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) r n := by
  rw [Ref.res_eq]
  exact ref_whole _ _ _ _ _ r n

end Cert.Ring

end
-- ==== Proof.Whole.lean ====
/-
# The kernel's result is the reference's

Device `c` holds columns `1024 c …` of the query, key and value weights and the same rows of the output weight: its heads are
eight of the reference's, and its sum over its own columns is its part of the reference's sum over all of them.

-/
module

public import proofs.«01_k».proof.Proof.Butterfly
public import proofs.«01_k».proof.Proof.RefAt
public import Idealize.ShloMosaic.Lib.LayoutAt

@[expose] public section

noncomputable section

namespace Cert.Ring

open Cert.KernelIdeal Cert.KernelIdeal.Gen
open Idealize.ShloMosaic
open Idealize.ShloMosaic.TcCoe

abbrev Wide : Shape := ⟨2, ![1024, 16384]⟩
abbrev Tall : Shape := ⟨2, ![16384, 1024]⟩

/-- Column `n` of device `c` among all the columns. -/
def col (c : Dev nD) (n : Fin 1024) : Fin 16384 := ⟨c.val * 1024 + n.val, by have h : c.val < 16 := c.isLt; have := n.isLt; omega⟩

theorem block_col (W : FVec Ideal Wide .f32) (c : Dev nD) (k n : Fin 1024) :
    Layout.block ⟨2, ![1024, 1024]⟩ Wide 1 16 c W (by decide) (ix2 k n) = W (ix2 k (col c n)) :=
  congrArg W (funext fun a => by fin_cases a <;> rfl)
theorem block_row (W : FVec Ideal Tall .f32) (c : Dev nD) (k n : Fin 1024) :
    Layout.block ⟨2, ![1024, 1024]⟩ Tall 0 16 c W (by decide) (ix2 k n) = W (ix2 (col c k) n) :=
  congrArg W (funext fun a => by fin_cases a <;> rfl)

/-- A sum over all the columns is the sum over the devices of the sums over their columns. -/
theorem sum_col (f : Fin 16384 → EReal) : ∑ N, f N = ∑ c : Dev nD, ∑ n : Fin 1024, f (col c n) := by
  rw [← Fintype.sum_prod_type']
  refine (Fintype.sum_equiv (finProdFinEquiv (m := 16) (n := 1024)) _ f fun p => congrArg f (Fin.ext ?_)).symm
  show p.1.val * 1024 + p.2.val = p.2.val + 1024 * p.1.val
  omega

variable (I : Ins Ideal) (X : FVec Ideal ⟨3, ![4, 256, 1024]⟩ .f32) (WQ WK WV : FVec Ideal Wide .f32) (WO : FVec Ideal Tall .f32)

/-- What the devices stage is what the whole arrays say. -/
structure Agree : Prop where
  x : ∀ c, I.x c = X
  wq : ∀ c k n, I.wq c (ix2 k n) = WQ (ix2 k (col c n))
  wk : ∀ c k n, I.wk c (ix2 k n) = WK (ix2 k (col c n))
  wv : ∀ c k n, I.wv c (ix2 k n) = WV (ix2 k (col c n))
  wo : ∀ c k n, I.wo c (ix2 k n) = WO (ix2 (col c k) n)

variable {I X WQ WK WV WO}

theorem proj_pj (W : FVec Ideal Wide .f32) (Wc : FVec Ideal S1024x1024 .f32) (c : Dev nD) (h : ∀ k n, Wc (ix2 k n) = W (ix2 k (col c n))) (r n : Fin 1024) :
    proj (F := Ideal) X Wc (ix2 r n) = pj X W ⟨r.val / 256, by omega⟩ ⟨r.val % 256, by omega⟩ (col c n) := by
  rw [proj_at]
  exact Finset.sum_congr rfl fun k _ => congrArg (X _ * ·) (h k n)

/-- A device's attention is the reference's at its columns, but for the place of the division. -/
theorem oC_at (h : Agree I X WQ WK WV WO) (c : Dev nD) (r n : Fin 1024) :
    oC I c (ix2 r n) = rowK (sc X WQ WK ⟨r.val / 256, by omega⟩ ⟨r.val % 256, by omega⟩ ⟨(col c n).val / 128, by have := (col c n).isLt; omega⟩)
      (fun j => pj X WV ⟨r.val / 256, by omega⟩ j (col c n)) := by
  have hq : qC I c = proj X (I.wq c) := congrArg (proj · (I.wq c)) (h.x c)
  have hk : kC I c = proj X (I.wk c) := congrArg (proj · (I.wk c)) (h.x c)
  have hv : vC I c = proj X (I.wv c) := congrArg (proj · (I.wv c)) (h.x c)
  have hb : ∀ j : Fin 256, (⟨(r.val / 256 * 256 + j.val) / 256, by omega⟩ : Fin 4) = ⟨r.val / 256, by omega⟩ := fun j => Fin.ext (by dsimp only; omega)
  have hj : ∀ j : Fin 256, (⟨(r.val / 256 * 256 + j.val) % 256, by omega⟩ : Fin 256) = j := fun j => Fin.ext (by dsimp only; omega)
  have hd : ∀ d : Fin 128, col c ⟨n.val / 128 * 128 + d.val, by omega⟩ = ⟨(col c n).val / 128 * 128 + d.val, by have := (col c n).isLt; omega⟩ := fun d =>
    Fin.ext (by show c.val * 1024 + (n.val / 128 * 128 + d.val) = (c.val * 1024 + n.val) / 128 * 128 + d.val; omega)
  show att (qC I c) (kC I c) (vC I c) (ix2 r n) = _
  rw [hq, hk, hv, att_at]
  refine congr (congrArg rowK (funext fun j => ?_)) (funext fun j => ?_)
  · unfold sc
    refine congrArg (· * scl) (Finset.sum_congr rfl fun d _ => congr (congrArg HMul.hMul ?_) ?_)
    · exact (proj_pj WQ _ c (h.wq c) _ _).trans (congrArg (pj X WQ _ _) (hd d))
    · refine (proj_pj WK _ c (h.wk c) _ _).trans ?_
      rw [hb, hj, hd]
  · refine (proj_pj WV _ c (h.wv c) _ _).trans ?_
    rw [hb, hj]

/-- The scores of finite inputs are real. -/
theorem sc_real (hX : ∀ i, ∃ a : ℝ, X i = a) (hQ : ∀ k N, ∃ a : ℝ, WQ (ix2 k N) = a) (hK : ∀ k N, ∃ a : ℝ, WK (ix2 k N) = a)
    (b : Fin 4) (r : Fin 256) (g : Fin 128) (j : Fin 256) : ∃ a : ℝ, sc X WQ WK b r g j = a :=
  mul_real (sum_real _ _ fun d => mul_real (sum_real _ _ fun k => mul_real (hX _) (hQ _ _)) (sum_real _ _ fun k => mul_real (hX _) (hK _ _))) scl_real

/-- Every column is one of some device's. -/
theorem col_surj (N : Fin 16384) : ∃ c n, N = col c n :=
  ⟨⟨N.val / 1024, by have := N.isLt; show _ < 16; omega⟩, ⟨N.val % 1024, by omega⟩, Fin.ext (by show N.val = N.val / 1024 * 1024 + N.val % 1024; omega)⟩

theorem outC_eq (h : Agree I X WQ WK WV WO) (hX : ∀ c i, ∃ a : ℝ, I.x c i = a) (hQ : ∀ c i, ∃ a : ℝ, I.wq c i = a) (hK : ∀ c i, ∃ a : ℝ, I.wk c i = a)
    (r n : Fin 1024) : outC I (ix2 r n) = refAt X WQ WK WV WO r n := by
  rw [outC_at]
  unfold refAt
  rw [sum_col]
  refine Finset.sum_congr rfl fun c _ => Finset.sum_congr rfl fun j _ => congr (congrArg HMul.hMul ?_) (h.wo c j n)
  refine (oC_at h c r j).trans (rowK_eq _ _ (sc_real (fun i => h.x 0 ▸ hX 0 i) (fun k N => ?_) (fun k N => ?_) _ _ _))
  · obtain ⟨c, n, rfl⟩ := col_surj N
    exact h.wq c k n ▸ hQ c _
  · obtain ⟨c, n, rfl⟩ := col_surj N
    exact h.wk c k n ▸ hK c _

end Cert.Ring

end
-- ==== Proof.Finite.lean ====
/-
# The precondition read

A device's blocks satisfy the precondition when their activations, query and key weights are all real numbers.
-/
module

public import proofs.«01_k».proof.Pre_finite_inputs_KernelIdeal
public import proofs.«01_k».proof.Pre_finite_inputs_ReferenceIdeal
public import proofs.«01_k».proof.Proof.Softmax
public import Idealize.ShloMosaic.Lib.ReduceAll
public import Idealize.ShloMosaic.Lib.Affine

@[expose] public section

noncomputable section

namespace Cert.Ring

open Idealize.ShloMosaic

instance facts_pre : Cert.Pre_finite_inputs_KernelIdeal.Facts where
  bcast_S_S4x256x1024 := by decide
  reducesTo_S4x256x1024_S_d0_1_2 := by decide
  h_S_ := by decide
  bcast_S_S1024x1024 := by decide
  reducesTo_S1024x1024_S_d0_1 := by decide
instance facts_preRef : Cert.Pre_finite_inputs_ReferenceIdeal.Facts where
  bcast_S_S4x256x1024 := by decide
  reducesTo_S4x256x1024_S_d0_1_2 := by decide
  h_S_ := by decide
  bcast_S_S1024x16384 := by decide
  reducesTo_S1024x16384_S_d0_1 := by decide

/-- An extended real of finite absolute value is a real. -/
theorem real_of_lt {x : EReal} (h : max x (-x) < ⊤) : ∃ a : ℝ, x = a := by
  have h1 : x ≠ ⊤ := fun e => by rw [e] at h; exact absurd h (not_lt.2 (le_max_left _ _))
  have h2 : x ≠ ⊥ := fun e => by rw [e, EReal.neg_bot] at h; exact absurd h (not_lt.2 (le_max_right _ _))
  exact ⟨x.toReal, (EReal.coe_toReal h1 h2).symm⟩

theorem real_of_cmp {x : EReal} (h : Ideal.cmp .olt (max x (-x)) (Ideal.ofBits .f32 0x7F800000#32) = 1#1) : ∃ a : ℝ, x = a := by
  rw [ofBits_top] at h
  refine real_of_lt ?_
  by_contra hn
  unfold Ideal.cmp at h
  simp [hn] at h

open Cert.Pre_finite_inputs_KernelIdeal in
theorem pre_real (x : FVec Ideal S4x256x1024 .f32) (wq wk wv wo : FVec Ideal S1024x1024 .f32)
    (h : fn (F := Ideal) x wq wk wv wo = fun _ => 1#1) :
    (∀ i, ∃ a : ℝ, x i = a) ∧ (∀ i, ∃ a : ℝ, wq i = a) ∧ (∀ i, ∃ a : ℝ, wk i = a) := by
  have h0 := congrFun h (fun a => a.elim0)
  dsimp only [fn] at h0
  obtain ⟨h1, h2⟩ := IntOp.andi_eq_one.1 h0
  obtain ⟨h3, h4⟩ := IntOp.andi_eq_one.1 h1
  haveI : Subsingleton S_.Idx := ⟨fun a b => funext fun i => i.elim0⟩
  exact ⟨fun i => real_of_cmp (Host.reduce_andi_all _ _ _ _ _ h3 i), fun i => real_of_cmp (Host.reduce_andi_all _ _ _ _ _ h4 i),
    fun i => real_of_cmp (Host.reduce_andi_all _ _ _ _ _ h2 i)⟩

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunMain
public import proofs.«01_k».proof.Proof.Staged
public import proofs.«01_k».proof.Proof.Whole
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The run of the ring, read at the arguments and the counters, at any elements. -/
theorem frame_ring {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => Cert.Ring.kept m ρ h.1 c, h.2⟩) (Cert.Ring.run_main (F := F) m ρ)

set_option maxRecDepth 40000 in
/-- The two prints of the kernel have the same body table: at the one label that there is, the same body. -/
theorem defs₀_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F)
    (Λ := Cert.KernelIdeal.Λ₀)) (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  show Pipeline.defs Cert.KernelIdeal.pcfgs Cert.Kernel.defs₀ = Pipeline.defs Cert.KernelIdeal.pcfgs Cert.KernelIdeal.defs₀
  rw [defs₀_eq]

/-- `Cert.quiescent_Kernel`: the run of the ring at the bit-exact elements. The two prints of the kernel are the same
    program. -/
theorem frame_kernel : Cert.quiescent_Kernel := by
  intro m ρ _
  rw [defs_eq]
  exact frame_ring (F := Bits) m ρ

/-- `Cert.quiescent_KernelIdeal`: the same run at the ideal elements. -/
theorem frame_kernelIdeal : Cert.quiescent_KernelIdeal := fun m ρ _ => frame_ring (F := Ideal) m ρ

/-- `Cert.quiescent_ReferenceIdeal`: a straight-line host program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal_pre_finite_inputs_KernelIdeal`: the run of the ring leaves `outC` of what the
    devices stage on every device, which is the reference's term at every index (`Cert.Ring.outC_eq`). -/
theorem algebraic : Cert.algebraic_KernelIdeal_ReferenceIdeal_pre_finite_inputs_KernelIdeal := by
  intro m ρ m' ρ' hpre hagree
  refine ⟨Cert.ReferenceIdeal.Value.res_main_v35 (F := Ideal) m' 0, ?_, ?_⟩
  · refine (θ_run Cert.KernelIdeal.defs _ _).mono (fun r h c => ⟨?_, Cert.Ring.kept m ρ h.1 c⟩) (Cert.Ring.run_main (F := Ideal) m ρ)
    refine (h.1 c 5).trans ((Cert.Ring.finalA_out m ρ c).trans ?_)
    have hreal := fun c => Cert.Ring.pre_real _ _ _ _ _ (hpre c)
    have hA : Cert.Ring.Agree (Cert.Ring.insOf m ρ) _ _ _ _ _ :=
      { x := fun c => (Cert.Ring.insOf_x m ρ c).trans (hagree c).1
        wq := fun c k n => (congrFun ((Cert.Ring.insOf_wq m ρ c).trans (hagree c).2.1) _).trans (Cert.Ring.block_col _ c k n)
        wk := fun c k n => (congrFun ((Cert.Ring.insOf_wk m ρ c).trans (hagree c).2.2.1) _).trans (Cert.Ring.block_col _ c k n)
        wv := fun c k n => (congrFun ((Cert.Ring.insOf_wv m ρ c).trans (hagree c).2.2.2.1) _).trans (Cert.Ring.block_col _ c k n)
        wo := fun c k n => (congrFun ((Cert.Ring.insOf_wo m ρ c).trans (hagree c).2.2.2.2) _).trans (Cert.Ring.block_row _ c k n) }
    funext j
    obtain ⟨a, b, rfl⟩ : ∃ a b : Fin 1024, j = ix2 a b := ⟨j 0, j 1, funext fun i => by fin_cases i <;> rfl⟩
    refine (Cert.Ring.outC_eq hA (fun c i => ?_) (fun c i => ?_) (fun c i => ?_) a b).trans (Cert.Ring.ref_at m' 0 a b).symm
    · exact (Cert.Ring.insOf_x m ρ c) ▸ (hreal c).1 i
    · exact (Cert.Ring.insOf_wq m ρ c) ▸ (hreal c).2.1 i
    · exact (Cert.Ring.insOf_wk m ρ c) ▸ (hreal c).2.2 i
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Ring.facts_pre, Cert.Ring.facts_preRef,
  frame_kernel, frame_kernelIdeal, fun m ρ _ => frame_kernelIdeal m ρ trivial, frame_referenceIdeal,
  fun m ρ _ => frame_referenceIdeal m ρ trivial, trivial, algebraic⟩

end Cert.Proof

end
